-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def preserves_Kernel_KernelIdeal : Prop :=
  True

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_v72) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v1)) (v1 : (c : Dev Cert.FwdIdeal.nD) → Buf (Elt Ideal) ((c.tc : Thread Cert.FwdIdeal.nD Cert.FwdIdeal.τ).loc Cert.FwdIdeal.main_v2)) (v2 : (c : Dev Cert.FwdIdeal.nD) → Buf (Elt Ideal) ((c.tc : Thread Cert.FwdIdeal.nD Cert.FwdIdeal.τ).loc Cert.FwdIdeal.main_v3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v1) = v0 c
          ∧ r.2.mem ((c.tc : Thread Cert.FwdIdeal.nD Cert.FwdIdeal.τ).loc Cert.FwdIdeal.main_v2) = v1 c
          ∧ r.2.mem ((c.tc : Thread Cert.FwdIdeal.nD Cert.FwdIdeal.τ).loc Cert.FwdIdeal.main_v3) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v45) = v0 c
          ∧ r.2.mem ((c.tc : Thread Cert.FwdRefIdeal.nD Cert.FwdRefIdeal.τ).loc Cert.FwdRefIdeal.main_v54) = v1 c
          ∧ r.2.mem ((c.tc : Thread Cert.FwdRefIdeal.nD Cert.FwdRefIdeal.τ).loc Cert.FwdRefIdeal.main_v67) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def Claim : Prop :=
  ∃ (hKernel : Cert.Kernel.Facts) (hKernelIdeal : Cert.KernelIdeal.Facts) (hReferenceIdeal : Cert.ReferenceIdeal.Facts) (hReference : Cert.Reference.Facts) (hFwd : Cert.Fwd.Facts) (hFwdIdeal : Cert.FwdIdeal.Facts) (hFwdRefIdeal : Cert.FwdRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
-- ==== Pre_finite.lean ====
abbrev S8320x1024 : Shape := ⟨2, ![8320, 1024]⟩
abbrev S8320x16 : Shape := ⟨2, ![8320, 16]⟩
abbrev S8208x1024 : Shape := ⟨2, ![8208, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S8320x16 : S_.BroadcastsInDim S8320x16 (![] : Fin 0 → Fin S8320x16.rank)
  reducesTo_S8320x16_S_d0_1 : S8320x16.ReducesTo [0, 1] S_
  bcast_S_S8208x1024 : S_.BroadcastsInDim S8208x1024 (![] : Fin 0 → Fin S8208x1024.rank)
  reducesTo_S8208x1024_S_d0_1 : S8208x1024.ReducesTo [0, 1] S_

variable [Facts]

def fn_part1 {F : FTy → Type} [FloatOps F] (main_arg4 : FVec F S8208x1024 .f32) (main_v13 : IVec S_ 1) (main_v16 : IVec S8320x16 1) : IVec S_ 1 :=
  let main_c_5 : IVec S_ 1 := constantI S_ 1 1#1
  let main_v17 : IVec S_ 1 := (fun x v => Host.reduce IntOp.andi x v reducesTo_S8320x16_S_d0_1 h_S_) main_v16 main_c_5
  let main_v18 : IVec S_ 1 := andi main_v13 main_v17
  let main_v19 : FVec F S8208x1024 .f32 := Host.absf main_arg4
  let main_cst_6 : FVec F S_ .f32 := constant S_ .f32 0x7F800000#32
  let main_v20 : FVec F S8208x1024 .f32 := broadcastInDim S8208x1024 ![] bcast_S_S8208x1024 main_cst_6
  let main_v21 : IVec S8208x1024 1 := cmpf .olt main_v19 main_v20
  let main_c_7 : IVec S_ 1 := constantI S_ 1 1#1
  let main_v22 : IVec S_ 1 := (fun x v => Host.reduce IntOp.andi x v reducesTo_S8208x1024_S_d0_1 h_S_) main_v21 main_c_7
  let main_v23 : IVec S_ 1 := andi main_v18 main_v22
  main_v23

def fn {F : FTy → Type} [FloatOps F] (main_arg0 : FVec F S8320x1024 .f32) (main_arg1 : FVec F S8320x1024 .f32) (main_arg2 : FVec F S8320x1024 .f32) (main_arg3 : FVec F S8320x16 .f32) (main_arg4 : FVec F S8208x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := Host.absf main_arg1
  let main_cst_0 : FVec F S_ .f32 := constant S_ .f32 0x7F800000#32
  let main_v5 : FVec F S8320x1024 .f32 := broadcastInDim S8320x1024 ![] bcast_S_S8320x1024 main_cst_0
  let main_v6 : IVec S8320x1024 1 := cmpf .olt main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : IVec S_ 1 := andi main_v3 main_v7
  let main_v9 : FVec F S8320x1024 .f32 := Host.absf main_arg2
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_c_3 : IVec S_ 1 := constantI S_ 1 1#1
  let main_v12 : IVec S_ 1 := (fun x v => Host.reduce IntOp.andi x v reducesTo_S8320x1024_S_d0_1 h_S_) main_v11 main_c_3
  let main_v13 : IVec S_ 1 := andi main_v8 main_v12
  let main_v14 : FVec F S8320x16 .f32 := Host.absf main_arg3
  let main_cst_4 : FVec F S_ .f32 := constant S_ .f32 0x7F800000#32
  let main_v15 : FVec F S8320x16 .f32 := broadcastInDim S8320x16 ![] bcast_S_S8320x16 main_cst_4
  let main_v16 : IVec S8320x16 1 := cmpf .olt main_v14 main_v15
  fn_part1 (F := F) main_arg4 main_v13 main_v16
-- ==== Pre_finite_fwd.lean ====
abbrev S8320x1024 : Shape := ⟨2, ![8320, 1024]⟩
abbrev S8320x4224 : Shape := ⟨2, ![8320, 4224]⟩
abbrev S8x2x8320 : Shape := ⟨3, ![8, 2, 8320]⟩
abbrev S_ : Shape := ⟨0, ![]⟩

class Facts : Prop where
  bitsLt_bf16_f32 : FTy.bits .bf16 < FTy.bits .f32
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S8x2x8320 : S_.BroadcastsInDim S8x2x8320 (![] : Fin 0 → Fin S8x2x8320.rank)
  reducesTo_S8x2x8320_S_d0_1_2 : S8x2x8320.ReducesTo [0, 1, 2] S_

variable [Facts]

def fn {F : FTy → Type} [FloatOps F] (main_arg0 : FVec F S8320x1024 .bf16) (main_arg1 : FVec F S8320x1024 .bf16) (main_arg2 : FVec F S8320x1024 .bf16) (main_arg3 : FVec F S8320x4224 .f32) (main_arg4 : FVec F S8x2x8320 .f32) : IVec S_ 1 :=
  let main_v0 : FVec F S8320x1024 .f32 := (extf .f32 · bitsLt_bf16_f32) main_arg0
  let main_v1 : FVec F S8320x1024 .f32 := Host.absf main_v0
  let main_cst : FVec F S_ .f32 := constant S_ .f32 0x7F800000#32
  let main_v2 : FVec F S8320x1024 .f32 := broadcastInDim S8320x1024 ![] bcast_S_S8320x1024 main_cst
  let main_v3 : IVec S8320x1024 1 := cmpf .olt main_v1 main_v2
  let main_c : IVec S_ 1 := constantI S_ 1 1#1
  let main_v4 : IVec S_ 1 := (fun x v => Host.reduce IntOp.andi x v reducesTo_S8320x1024_S_d0_1 h_S_) main_v3 main_c
  let main_v5 : FVec F S8320x1024 .f32 := (extf .f32 · bitsLt_bf16_f32) main_arg1
  let main_v6 : FVec F S8320x1024 .f32 := Host.absf main_v5
  let main_cst_0 : FVec F S_ .f32 := constant S_ .f32 0x7F800000#32
  let main_v7 : FVec F S8320x1024 .f32 := broadcastInDim S8320x1024 ![] bcast_S_S8320x1024 main_cst_0
  let main_v8 : IVec S8320x1024 1 := cmpf .olt main_v6 main_v7
  let main_c_1 : IVec S_ 1 := constantI S_ 1 1#1
  let main_v9 : IVec S_ 1 := (fun x v => Host.reduce IntOp.andi x v reducesTo_S8320x1024_S_d0_1 h_S_) main_v8 main_c_1
  let main_v10 : IVec S_ 1 := andi main_v4 main_v9
  let main_v11 : FVec F S8x2x8320 .f32 := Host.absf main_arg4
  let main_cst_2 : FVec F S_ .f32 := constant S_ .f32 0x7F800000#32
  let main_v12 : FVec F S8x2x8320 .f32 := broadcastInDim S8x2x8320 ![] bcast_S_S8x2x8320 main_cst_2
  let main_v13 : IVec S8x2x8320 1 := cmpf .olt main_v11 main_v12
  let main_c_3 : IVec S_ 1 := constantI S_ 1 1#1
  let main_v14 : IVec S_ 1 := (fun x v => Host.reduce IntOp.andi x v reducesTo_S8x2x8320_S_d0_1_2 h_S_) main_v13 main_c_3
  let main_v15 : IVec S_ 1 := andi main_v10 main_v14
  main_v15
-- ==== Kernel.lean ====
abbrev S8320x1024 : Shape := ⟨2, ![8320, 1024]⟩
abbrev S8320x16 : Shape := ⟨2, ![8320, 16]⟩
abbrev S8208x1024 : Shape := ⟨2, ![8208, 1024]⟩
abbrev S8320x16x64 : Shape := ⟨3, ![8320, 16, 64]⟩
abbrev S16x8320x64 : Shape := ⟨3, ![16, 8320, 64]⟩
abbrev S16x8320 : Shape := ⟨2, ![16, 8320]⟩
abbrev S8320 : Shape := ⟨1, ![8320]⟩
abbrev S16x8320x8320 : Shape := ⟨3, ![16, 8320, 8320]⟩
abbrev S_ : Shape := ⟨0, ![]⟩
abbrev S16x8320x1 : Shape := ⟨3, ![16, 8320, 1]⟩
abbrev S16x1x8320 : Shape := ⟨3, ![16, 1, 8320]⟩
abbrev S1x8320 : Shape := ⟨2, ![1, 8320]⟩
abbrev S8320x1 : Shape := ⟨2, ![8320, 1]⟩
abbrev S8320x8320 : Shape := ⟨2, ![8320, 8320]⟩
abbrev S8x2x8320 : Shape := ⟨3, ![8, 2, 8320]⟩
abbrev S640x128 : Shape := ⟨2, ![640, 128]⟩
abbrev S1x2x640 : Shape := ⟨3, ![1, 2, 640]⟩
abbrev S8320x128 : Shape := ⟨2, ![8320, 128]⟩
abbrev S640x640 : Shape := ⟨2, ![640, 640]⟩
abbrev S1x1x640 : Shape := ⟨3, ![1, 1, 640]⟩
abbrev S1x640 : Shape := ⟨2, ![1, 640]⟩
abbrev S640x1 : Shape := ⟨2, ![640, 1]⟩
abbrev S8320x8x2 : Shape := ⟨3, ![8320, 8, 2]⟩

abbrev nBuf : Space → Nat
  | .hbm => 110
  | .vmem => 27
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x16, .f32⟩
  | .hbm, ⟨4, _⟩ => ⟨S8208x1024, .f32⟩
  | .hbm, ⟨5, _⟩ => ⟨S8320x16x64, .f32⟩
  | .hbm, ⟨6, _⟩ => ⟨S16x8320x64, .f32⟩
  | .hbm, ⟨7, _⟩ => ⟨S8320x16x64, .f32⟩
  | .hbm, ⟨8, _⟩ => ⟨S16x8320x64, .f32⟩
  | .hbm, ⟨9, _⟩ => ⟨S8320x16x64, .f32⟩
  | .hbm, ⟨10, _⟩ => ⟨S16x8320x64, .f32⟩
  | .hbm, ⟨11, _⟩ => ⟨S16x8320, .f32⟩
  | .hbm, ⟨12, _⟩ => ⟨S8320, .i32⟩
  | .hbm, ⟨13, _⟩ => ⟨S16x8320x8320, .f32⟩
  | .hbm, ⟨14, _⟩ => ⟨S_, .f32⟩
  | .hbm, ⟨15, _⟩ => ⟨S16x8320x8320, .f32⟩
  | .hbm, ⟨16, _⟩ => ⟨S16x8320x8320, .f32⟩
  | .hbm, ⟨17, _⟩ => ⟨S16x8320x1, .f32⟩
  | .hbm, ⟨18, _⟩ => ⟨S16x8320x8320, .f32⟩
  | .hbm, ⟨19, _⟩ => ⟨S16x8320x8320, .f32⟩
  | .hbm, ⟨20, _⟩ => ⟨S16x1x8320, .f32⟩
  | .hbm, ⟨21, _⟩ => ⟨S16x8320x8320, .f32⟩
  | .hbm, ⟨22, _⟩ => ⟨S16x8320x8320, .f32⟩
  | .hbm, ⟨23, _⟩ => ⟨S1x8320, .i32⟩
  | .hbm, ⟨24, _⟩ => ⟨S8320x1, .i32⟩
  | .hbm, ⟨25, _⟩ => ⟨S8320x8320, .i32⟩
  | .hbm, ⟨26, _⟩ => ⟨S8320x8320, .i32⟩
  | .hbm, ⟨27, _⟩ => ⟨S8320x8320, .i1⟩
  | .hbm, ⟨28, _⟩ => ⟨S1x8320, .i32⟩
  | .hbm, ⟨29, _⟩ => ⟨S_, .i32⟩
  | .hbm, ⟨30, _⟩ => ⟨S1x8320, .i32⟩
  | .hbm, ⟨31, _⟩ => ⟨S1x8320, .i1⟩
  | .hbm, ⟨32, _⟩ => ⟨S8320x8320, .i1⟩
  | .hbm, ⟨33, _⟩ => ⟨S8320x8320, .i1⟩
  | .hbm, ⟨34, _⟩ => ⟨S_, .i32⟩
  | .hbm, ⟨35, _⟩ => ⟨S8320, .i32⟩
  | .hbm, ⟨36, _⟩ => ⟨S8320, .i1⟩
  | .hbm, ⟨37, _⟩ => ⟨S1x8320, .i1⟩
  | .hbm, ⟨38, _⟩ => ⟨S_, .f32⟩
  | .hbm, ⟨39, _⟩ => ⟨S_, .f32⟩
  | .hbm, ⟨40, _⟩ => ⟨S16x8320x8320, .i1⟩
  | .hbm, ⟨41, _⟩ => ⟨S16x8320x8320, .f32⟩
  | .hbm, ⟨42, _⟩ => ⟨S16x8320x8320, .f32⟩
  | .hbm, ⟨43, _⟩ => ⟨S_, .f32⟩
  | .hbm, ⟨44, _⟩ => ⟨S16x8320, .f32⟩
  | .hbm, ⟨45, _⟩ => ⟨S_, .f32⟩
  | .hbm, ⟨46, _⟩ => ⟨S_, .f32⟩
  | .hbm, ⟨47, _⟩ => ⟨S16x8320, .i1⟩
  | .hbm, ⟨48, _⟩ => ⟨S16x8320, .f32⟩
  | .hbm, ⟨49, _⟩ => ⟨S16x8320, .f32⟩
  | .hbm, ⟨50, _⟩ => ⟨S16x8320x1, .f32⟩
  | .hbm, ⟨51, _⟩ => ⟨S16x8320x8320, .f32⟩
  | .hbm, ⟨52, _⟩ => ⟨S16x8320x8320, .f32⟩
  | .hbm, ⟨53, _⟩ => ⟨S16x8320x8320, .f32⟩
  | .hbm, ⟨54, _⟩ => ⟨S_, .f32⟩
  | .hbm, ⟨55, _⟩ => ⟨S_, .f32⟩
  | .hbm, ⟨56, _⟩ => ⟨S16x8320x8320, .i1⟩
  | .hbm, ⟨57, _⟩ => ⟨S16x8320x8320, .f32⟩
  | .hbm, ⟨58, _⟩ => ⟨S16x8320x8320, .f32⟩
  | .hbm, ⟨59, _⟩ => ⟨S1x8320, .i1⟩
  | .hbm, ⟨60, _⟩ => ⟨S_, .f32⟩
  | .hbm, ⟨61, _⟩ => ⟨S16x8320, .f32⟩
  | .hbm, ⟨62, _⟩ => ⟨S_, .f32⟩
  | .hbm, ⟨63, _⟩ => ⟨S_, .f32⟩
  | .hbm, ⟨64, _⟩ => ⟨S16x8320, .i1⟩
  | .hbm, ⟨65, _⟩ => ⟨S16x8320, .f32⟩
  | .hbm, ⟨66, _⟩ => ⟨S16x8320, .f32⟩
  | .hbm, ⟨67, _⟩ => ⟨S16x8320x1, .f32⟩
  | .hbm, ⟨68, _⟩ => ⟨S16x8320x8320, .f32⟩
  | .hbm, ⟨69, _⟩ => ⟨S16x8320x8320, .f32⟩
  | .hbm, ⟨70, _⟩ => ⟨S16x8320x64, .f32⟩
  | .hbm, ⟨71, _⟩ => ⟨S16x8320, .f32⟩
  | .hbm, ⟨72, _⟩ => ⟨S16x8320, .f32⟩
  | .hbm, ⟨73, _⟩ => ⟨S16x8320, .f32⟩
  | .hbm, ⟨74, _⟩ => ⟨S_, .i32⟩
  | .hbm, ⟨75, _⟩ => ⟨S_, .f32⟩
  | .hbm, ⟨76, _⟩ => ⟨S8320x1024, .f32⟩
  | .hbm, ⟨77, _⟩ => ⟨S8320x16x64, .f32⟩
  | .hbm, ⟨78, _⟩ => ⟨S16x8320x64, .f32⟩
  | .hbm, ⟨79, _⟩ => ⟨S16x8320x64, .f32⟩
  | .hbm, ⟨80, _⟩ => ⟨S_, .f32⟩
  | .hbm, ⟨81, _⟩ => ⟨S16x8320, .f32⟩
  | .hbm, ⟨82, _⟩ => ⟨S8320x16, .f32⟩
  | .hbm, ⟨83, _⟩ => ⟨S8320x16x64, .f32⟩
  | .hbm, ⟨84, _⟩ => ⟨S8320x1024, .f32⟩
  | .hbm, ⟨85, _⟩ => ⟨S8320x16, .f32⟩
  | .hbm, ⟨86, _⟩ => ⟨S8320x16x64, .f32⟩
  | .hbm, ⟨87, _⟩ => ⟨S8320x1024, .f32⟩
  | .hbm, ⟨88, _⟩ => ⟨S_, .f32⟩
  | .hbm, ⟨89, _⟩ => ⟨S8320x1024, .f32⟩
  | .hbm, ⟨90, _⟩ => ⟨S8320x1024, .f32⟩
  | .hbm, ⟨91, _⟩ => ⟨S8320x1024, .bf16⟩
  | .hbm, ⟨92, _⟩ => ⟨S8320x1024, .bf16⟩
  | .hbm, ⟨93, _⟩ => ⟨S8320x1024, .bf16⟩
  | .hbm, ⟨94, _⟩ => ⟨S8320x1024, .bf16⟩
  | .hbm, ⟨95, _⟩ => ⟨S16x8320, .f32⟩
  | .hbm, ⟨96, _⟩ => ⟨S8x2x8320, .f32⟩
  | .hbm, ⟨97, _⟩ => ⟨S8320x1024, .f32⟩
  | .hbm, ⟨98, _⟩ => ⟨S8320x1024, .f32⟩
  | .hbm, ⟨99, _⟩ => ⟨S8320x1024, .f32⟩
  | .hbm, ⟨100, _⟩ => ⟨S8320x1024, .f32⟩
  | .hbm, ⟨101, _⟩ => ⟨S8320x1024, .f32⟩
  | .hbm, ⟨102, _⟩ => ⟨S8320x1024, .f32⟩
  | .hbm, ⟨103, _⟩ => ⟨S8320x16, .f32⟩
  | .hbm, ⟨104, _⟩ => ⟨S8320x8x2, .f32⟩
  | .hbm, ⟨105, _⟩ => ⟨S8320x8x2, .f32⟩
  | .hbm, ⟨106, _⟩ => ⟨S8320x16, .f32⟩
  | .hbm, ⟨107, _⟩ => ⟨S_, .f32⟩
  | .hbm, ⟨108, _⟩ => ⟨S8320x1024, .f32⟩
  | .hbm, ⟨109, _⟩ => ⟨S8320x1024, .f32⟩
  | .local _ .vmem, ⟨0, _⟩ => ⟨S640x128, .bf16⟩
  | .local _ .vmem, ⟨1, _⟩ => ⟨S640x128, .bf16⟩
  | .local _ .vmem, ⟨2, _⟩ => ⟨S640x128, .bf16⟩
  | .local _ .vmem, ⟨3, _⟩ => ⟨S640x128, .bf16⟩
  | .local _ .vmem, ⟨4, _⟩ => ⟨S640x128, .bf16⟩
  | .local _ .vmem, ⟨5, _⟩ => ⟨S640x128, .bf16⟩
  | .local _ .vmem, ⟨6, _⟩ => ⟨S640x128, .bf16⟩
  | .local _ .vmem, ⟨7, _⟩ => ⟨S640x128, .bf16⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S1x2x640, .f32⟩
  | .local _ .vmem, ⟨13, _⟩ => ⟨S1x2x640, .f32⟩
  | .local _ .vmem, ⟨14, _⟩ => ⟨S8320x128, .f32⟩
  | .local _ .vmem, ⟨15, _⟩ => ⟨S8320x128, .f32⟩
  | .local _ .vmem, ⟨16, _⟩ => ⟨S640x128, .f32⟩
  | .local _ .vmem, ⟨17, _⟩ => ⟨S640x128, .f32⟩
  | .local _ .vmem, ⟨18, _⟩ => ⟨S640x128, .f32⟩
  | .local _ .vmem, ⟨19, _⟩ => ⟨S640x128, .f32⟩
  | .local _ .vmem, ⟨20, _⟩ => ⟨S640x128, .f32⟩
  | .local _ .vmem, ⟨21, _⟩ => ⟨S640x128, .f32⟩
  | .local _ .vmem, ⟨22, _⟩ => ⟨S8320x128, .f32⟩
  | .local _ .vmem, ⟨23, _⟩ => ⟨S8320x128, .f32⟩
  | .local _ .vmem, ⟨24, _⟩ => ⟨S640x128, .f32⟩
  | .local _ .vmem, ⟨25, _⟩ => ⟨S640x128, .f32⟩
  | .local _ .vmem, ⟨26, _⟩ => ⟨S640x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_cst_6 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_7 : Ref sig .tc := ⟨.hbm, 74, rfl⟩
abbrev main_call4_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67_0 : Ref sig .tc := ⟨.hbm, 97, rfl⟩
abbrev main_v67_1 : Ref sig .tc := ⟨.hbm, 98, rfl⟩
abbrev main_v67_2 : Ref sig .tc := ⟨.hbm, 99, rfl⟩
abbrev main_v67_3 : Ref sig .tc := ⟨.hbm, 100, rfl⟩
abbrev main_v67_4 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_10 : Ref sig .tc := ⟨.hbm, 107, rfl⟩
abbrev main_v73 : Ref sig .tc := ⟨.hbm, 108, rfl⟩
abbrev main_v74 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 13, 13], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .eq arg2 arg1
  let c0_i32_3 : BitVec 32 := 0#32
  let v9 : BitVec 1 := Scalar.cmpi .eq arg1 c0_i32_3
  let v10 : BitVec 1 := Scalar.ori v8 v9
  let v11 : BitVec 1 := Scalar.cmpi .sge arg2 arg1
  let v12 : BitVec 1 := Scalar.andi v10 v11
  let v13 : BitVec 32 := Scalar.extui v12
  let c0_i32_4 : BitVec 32 := 0#32
  let v14 : BitVec 1 := Scalar.cmpi .ne v13 c0_i32_4
  v14

def k0_mult1 (i : grid0.Coords) : BitVec 32 :=
  let arg2 : BitVec 32 := BitVec.ofNat 32 (i 2).val
  let c640_i32_49 : BitVec 32 := 640#32
  let v113 : BitVec 32 := Scalar.muli arg2 c640_i32_49
  v113
def k0_off1 (i : grid0.Coords) : Fin 2 → Nat :=
  let arg2 : BitVec 32 := BitVec.ofNat 32 (i 2).val
  let c640_i32_49 : BitVec 32 := 640#32
  let v113 : BitVec 32 := Scalar.muli arg2 c640_i32_49
  let v114 : BitVec 32 := v113
  let v115 : Index := Scalar.indexCast v114
  let c0_50 : Index := 0#32
  ![v115.toNat, 0]
def k0_cond4 (i : grid0.Coords) : BitVec 1 :=
  let arg2 : BitVec 32 := BitVec.ofNat 32 (i 2).val
  let arg1 : BitVec 32 := BitVec.ofNat 32 (i 1).val
  let v8 : BitVec 1 := Scalar.cmpi .eq arg2 arg1
  let c0_i32_3 : BitVec 32 := 0#32
  let v9 : BitVec 1 := Scalar.cmpi .eq arg1 c0_i32_3
  let v10 : BitVec 1 := Scalar.ori v8 v9
  let v_true : BitVec 1 := 1#1
  let v15 : BitVec 1 := Scalar.xori v10 v_true
  let v16 : BitVec 1 := Scalar.cmpi .sgt arg2 arg1
  let v17 : BitVec 1 := Scalar.andi v15 v16
  let v18 : BitVec 32 := Scalar.extui v17
  let c0_i32_5 : BitVec 32 := 0#32
  let v19 : BitVec 1 := Scalar.cmpi .ne v18 c0_i32_5
  v19

def k0_mult2 (i : grid0.Coords) : BitVec 32 :=
  let arg2 : BitVec 32 := BitVec.ofNat 32 (i 2).val
  let c640_i32 : BitVec 32 := 640#32
  let v93 : BitVec 32 := Scalar.muli arg2 c640_i32
  v93
def k0_off2 (i : grid0.Coords) : Fin 2 → Nat :=
  let arg2 : BitVec 32 := BitVec.ofNat 32 (i 2).val
  let c640_i32 : BitVec 32 := 640#32
  let v93 : BitVec 32 := Scalar.muli arg2 c640_i32
  let v94 : BitVec 32 := v93
  let v95 : Index := Scalar.indexCast v94
  let c0_44 : Index := 0#32
  ![v95.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c12_i32 : BitVec 32 := 12#32
  let v20 : BitVec 1 := Scalar.cmpi .eq arg2 c12_i32
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8320x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S8320x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== Reference.lean ====
abbrev S8320x1024 : Shape := ⟨2, ![8320, 1024]⟩
abbrev S8320x16 : Shape := ⟨2, ![8320, 16]⟩
abbrev S8208x1024 : Shape := ⟨2, ![8208, 1024]⟩
abbrev S8320x16x64 : Shape := ⟨3, ![8320, 16, 64]⟩
abbrev S16x8320x64 : Shape := ⟨3, ![16, 8320, 64]⟩
abbrev S16x8320 : Shape := ⟨2, ![16, 8320]⟩
abbrev S8320 : Shape := ⟨1, ![8320]⟩
abbrev S16x8208x64 : Shape := ⟨3, ![16, 8208, 64]⟩
abbrev S16x8208x8320 : Shape := ⟨3, ![16, 8208, 8320]⟩
abbrev S_ : Shape := ⟨0, ![]⟩
abbrev S16x8208 : Shape := ⟨2, ![16, 8208]⟩
abbrev S16x8208x1 : Shape := ⟨3, ![16, 8208, 1]⟩
abbrev S16x1x8320 : Shape := ⟨3, ![16, 1, 8320]⟩
abbrev S1x8320 : Shape := ⟨2, ![1, 8320]⟩
abbrev S8208 : Shape := ⟨1, ![8208]⟩
abbrev S8208x1 : Shape := ⟨2, ![8208, 1]⟩
abbrev S8208x8320 : Shape := ⟨2, ![8208, 8320]⟩
abbrev S8208x16x64 : Shape := ⟨3, ![8208, 16, 64]⟩
abbrev S16x64x8320 : Shape := ⟨3, ![16, 64, 8320]⟩

abbrev nBuf : Space → Nat
  | .hbm => 135
  | .vmem => 0
  | .smem => 0
  | _ => 0

abbrev hbmTy0_0 (i : Nat) : BufTy := match i % 128 with
  | 0 => ⟨S8320x1024, .f32⟩
  | 1 => ⟨S8320x1024, .f32⟩
  | 2 => ⟨S8320x1024, .f32⟩
  | 3 => ⟨S8320x16, .f32⟩
  | 4 => ⟨S8208x1024, .f32⟩
  | 5 => ⟨S8320x16x64, .f32⟩
  | 6 => ⟨S16x8320x64, .f32⟩
  | 7 => ⟨S8320x16x64, .f32⟩
  | 8 => ⟨S16x8320x64, .f32⟩
  | 9 => ⟨S8320x16x64, .f32⟩
  | 10 => ⟨S16x8320x64, .f32⟩
  | 11 => ⟨S16x8320, .f32⟩
  | 12 => ⟨S8320, .i32⟩
  | 13 => ⟨S16x8208x64, .f32⟩
  | 14 => ⟨S16x8208x8320, .f32⟩
  | 15 => ⟨S_, .f32⟩
  | 16 => ⟨S16x8208x8320, .f32⟩
  | 17 => ⟨S16x8208x8320, .f32⟩
  | 18 => ⟨S16x8208, .f32⟩
  | 19 => ⟨S16x8208x1, .f32⟩
  | 20 => ⟨S16x8208x8320, .f32⟩
  | 21 => ⟨S16x8208x8320, .f32⟩
  | 22 => ⟨S16x1x8320, .f32⟩
  | 23 => ⟨S16x8208x8320, .f32⟩
  | 24 => ⟨S16x8208x8320, .f32⟩
  | 25 => ⟨S1x8320, .i32⟩
  | 26 => ⟨S8208, .i32⟩
  | 27 => ⟨S8208x1, .i32⟩
  | 28 => ⟨S8208x8320, .i32⟩
  | 29 => ⟨S8208x8320, .i32⟩
  | 30 => ⟨S8208x8320, .i1⟩
  | 31 => ⟨S1x8320, .i32⟩
  | 32 => ⟨S_, .i32⟩
  | 33 => ⟨S1x8320, .i32⟩
  | 34 => ⟨S1x8320, .i1⟩
  | 35 => ⟨S8208x8320, .i1⟩
  | 36 => ⟨S8208x8320, .i1⟩
  | 37 => ⟨S_, .f32⟩
  | 38 => ⟨S_, .f32⟩
  | 39 => ⟨S16x8208x8320, .i1⟩
  | 40 => ⟨S16x8208x8320, .f32⟩
  | 41 => ⟨S16x8208x8320, .f32⟩
  | 42 => ⟨S_, .f32⟩
  | 43 => ⟨S16x8208x8320, .f32⟩
  | 44 => ⟨S_, .f32⟩
  | 45 => ⟨S16x8208, .f32⟩
  | 46 => ⟨S16x8208x1, .f32⟩
  | 47 => ⟨S16x8208x8320, .f32⟩
  | 48 => ⟨S16x8208x8320, .i1⟩
  | 49 => ⟨S16x8208x8320, .f32⟩
  | 50 => ⟨S_, .f32⟩
  | 51 => ⟨S16x8208, .f32⟩
  | 52 => ⟨S_, .f32⟩
  | 53 => ⟨S16x8208, .f32⟩
  | 54 => ⟨S16x8208, .f32⟩
  | 55 => ⟨S_, .f32⟩
  | 56 => ⟨S16x8208, .f32⟩
  | 57 => ⟨S16x8208, .i1⟩
  | 58 => ⟨S_, .f32⟩
  | 59 => ⟨S16x8208, .f32⟩
  | 60 => ⟨S16x8208, .i1⟩
  | 61 => ⟨S_, .f32⟩
  | 62 => ⟨S16x8208, .f32⟩
  | 63 => ⟨S_, .f32⟩
  | 64 => ⟨S16x8208, .f32⟩
  | 65 => ⟨S_, .f32⟩
  | 66 => ⟨S16x8208, .f32⟩
  | 67 => ⟨S16x8208, .f32⟩
  | 68 => ⟨S16x8208, .f32⟩
  | 69 => ⟨S16x8208x1, .f32⟩
  | 70 => ⟨S16x8208x8320, .f32⟩
  | 71 => ⟨S16x8208x8320, .f32⟩
  | 72 => ⟨S16x8208x8320, .f32⟩
  | 73 => ⟨S_, .f32⟩
  | 74 => ⟨S16x8208, .f32⟩
  | 75 => ⟨S16x8208x1, .f32⟩
  | 76 => ⟨S16x8208x8320, .f32⟩
  | 77 => ⟨S16x8208x8320, .f32⟩
  | 78 => ⟨S16x8208x1, .f32⟩
  | 79 => ⟨S_, .f32⟩
  | 80 => ⟨S16x8208x1, .f32⟩
  | 81 => ⟨S16x8208x1, .f32⟩
  | 82 => ⟨S16x8208x64, .f32⟩
  | 83 => ⟨S8208x16x64, .f32⟩
  | 84 => ⟨S8208x1024, .f32⟩
  | 85 => ⟨S8208x16x64, .f32⟩
  | 86 => ⟨S16x8208x64, .f32⟩
  | 87 => ⟨S16x64x8320, .f32⟩
  | 88 => ⟨S16x8320x64, .f32⟩
  | 89 => ⟨S16x8208x8320, .f32⟩
  | 90 => ⟨S16x8208x8320, .f32⟩
  | 91 => ⟨S16x8208x8320, .f32⟩
  | 92 => ⟨S16x8208x8320, .f32⟩
  | 93 => ⟨S_, .f32⟩
  | 94 => ⟨S16x8208, .f32⟩
  | 95 => ⟨S16x8208x1, .f32⟩
  | 96 => ⟨S16x8208x1, .f32⟩
  | 97 => ⟨S16x8208x8320, .f32⟩
  | 98 => ⟨S16x8208x8320, .f32⟩
  | 99 => ⟨S_, .f32⟩
  | 100 => ⟨S16x8208, .f32⟩
  | 101 => ⟨S16x8208x8320, .f32⟩
  | 102 => ⟨S16x8208x8320, .f32⟩
  | 103 => ⟨S16x8208x8320, .f32⟩
  | 104 => ⟨S_, .f32⟩
  | 105 => ⟨S16x8208x8320, .f32⟩
  | 106 => ⟨S16x8208x8320, .f32⟩
  | 107 => ⟨S16x8208x8320, .f32⟩
  | 108 => ⟨S_, .f32⟩
  | 109 => ⟨S16x8320, .f32⟩
  | 110 => ⟨S16x1x8320, .f32⟩
  | 111 => ⟨S_, .f32⟩
  | 112 => ⟨S16x8320, .f32⟩
  | 113 => ⟨S_, .f32⟩
  | 114 => ⟨S16x8208, .f32⟩
  | 115 => ⟨S16x8208x1, .f32⟩
  | 116 => ⟨S_, .f32⟩
  | 117 => ⟨S16x8208, .f32⟩
  | 118 => ⟨S_, .f32⟩
  | 119 => ⟨S16x8320, .f32⟩
  | 120 => ⟨S16x8320, .f32⟩
  | 121 => ⟨S_, .f32⟩
  | 122 => ⟨S16x8208x8320, .f32⟩
  | 123 => ⟨S16x8208x8320, .f32⟩
  | 124 => ⟨S16x8320x64, .f32⟩
  | 125 => ⟨S16x8208x64, .f32⟩
  | 126 => ⟨S_, .f32⟩
  | 127 => ⟨S16x8320x64, .f32⟩
  | _ => ⟨S8320x1024, .f32⟩

abbrev hbmTy0_1 (i : Nat) : BufTy := match i % 128 with
  | 0 => ⟨S8320x16, .f32⟩
  | 1 => ⟨S8320x16x64, .f32⟩
  | 2 => ⟨S8320x1024, .f32⟩
  | 3 => ⟨S8320x16x64, .f32⟩
  | 4 => ⟨S8320x1024, .f32⟩
  | 5 => ⟨S8320x16x64, .f32⟩
  | 6 => ⟨S8320x1024, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_call0_v0 : Ref sig .tc := ⟨.hbm, 38, rfl⟩
abbrev main_v30_1 : Ref sig .tc := ⟨.hbm, 39, rfl⟩
abbrev main_call0_v2 : Ref sig .tc := ⟨.hbm, 40, rfl⟩
abbrev main_v30_0 : Ref sig .tc := ⟨.hbm, 41, rfl⟩
abbrev main_call0_cst : Ref sig .tc := ⟨.hbm, 42, rfl⟩
abbrev main_v30_2 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call1_cst : Ref sig .tc := ⟨.hbm, 104, rfl⟩
abbrev main_call1_v0 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]
-- ==== Fwd.lean ====
abbrev S8320x1024 : Shape := ⟨2, ![8320, 1024]⟩
abbrev S8320x4224 : Shape := ⟨2, ![8320, 4224]⟩
abbrev S8x2x8320 : Shape := ⟨3, ![8, 2, 8320]⟩
abbrev S640x128 : Shape := ⟨2, ![640, 128]⟩
abbrev S1x2x640 : Shape := ⟨3, ![1, 2, 640]⟩
abbrev S2x640x128 : Shape := ⟨3, ![2, 640, 128]⟩
abbrev S640x640 : Shape := ⟨2, ![640, 640]⟩
abbrev S1x1x640 : Shape := ⟨3, ![1, 1, 640]⟩
abbrev S1x640 : Shape := ⟨2, ![1, 640]⟩
abbrev S1x640x128 : Shape := ⟨3, ![1, 640, 128]⟩
abbrev S640 : Shape := ⟨1, ![640]⟩
abbrev S640x1 : Shape := ⟨2, ![640, 1]⟩
abbrev S8208x1024 : Shape := ⟨2, ![8208, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x4224, .f32⟩
  | .hbm, ⟨4, _⟩ => ⟨S8x2x8320, .f32⟩
  | .hbm, ⟨5, _⟩ => ⟨S8320x1024, .f32⟩
  | .hbm, ⟨6, _⟩ => ⟨S8320x1024, .bf16⟩
  | .hbm, ⟨7, _⟩ => ⟨S8320x1024, .f32⟩
  | .hbm, ⟨8, _⟩ => ⟨S8208x1024, .f32⟩
  | .hbm, ⟨9, _⟩ => ⟨S8208x1024, .bf16⟩
  | .hbm, ⟨10, _⟩ => ⟨S8208x1024, .f32⟩
  | .local _ .vmem, ⟨0, _⟩ => ⟨S640x128, .bf16⟩
  | .local _ .vmem, ⟨1, _⟩ => ⟨S640x128, .bf16⟩
  | .local _ .vmem, ⟨2, _⟩ => ⟨S640x128, .bf16⟩
  | .local _ .vmem, ⟨3, _⟩ => ⟨S640x128, .bf16⟩
  | .local _ .vmem, ⟨4, _⟩ => ⟨S640x128, .bf16⟩
  | .local _ .vmem, ⟨5, _⟩ => ⟨S640x128, .bf16⟩
  | .local _ .vmem, ⟨6, _⟩ => ⟨S640x128, .f32⟩
  | .local _ .vmem, ⟨7, _⟩ => ⟨S640x128, .f32⟩
  | .local _ .vmem, ⟨8, _⟩ => ⟨S1x2x640, .f32⟩
  | .local _ .vmem, ⟨9, _⟩ => ⟨S1x2x640, .f32⟩
  | .local _ .vmem, ⟨10, _⟩ => ⟨S640x128, .f32⟩
  | .local _ .vmem, ⟨11, _⟩ => ⟨S640x128, .f32⟩
  | .local _ .vmem, ⟨12, _⟩ => ⟨S640x128, .bf16⟩
  | .local _ .vmem, ⟨13, _⟩ => ⟨S640x128, .bf16⟩
  | .local _ .vmem, ⟨14, _⟩ => ⟨S640x128, .f32⟩
  | .local _ .vmem, ⟨15, _⟩ => ⟨S640x128, .f32⟩
  | .local _ .vmem, ⟨16, _⟩ => ⟨S2x640x128, .f32⟩
  | .local _ .vmem, ⟨17, _⟩ => ⟨S2x640x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 13, 13], ![false, false, false]⟩

def k0_cond4 (i : grid0.Coords) : BitVec 1 :=
  let arg2 : BitVec 32 := BitVec.ofNat 32 (i 2).val
  let arg1 : BitVec 32 := BitVec.ofNat 32 (i 1).val
  let v15 : BitVec 1 := Scalar.cmpi .eq arg2 arg1
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S640x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FwdRefIdeal.lean ====
abbrev S8320x1024 : Shape := ⟨2, ![8320, 1024]⟩
abbrev S8320x4224 : Shape := ⟨2, ![8320, 4224]⟩
abbrev S8x2x8320 : Shape := ⟨3, ![8, 2, 8320]⟩
abbrev S8320x16x64 : Shape := ⟨3, ![8320, 16, 64]⟩
abbrev S16x8320x64 : Shape := ⟨3, ![16, 8320, 64]⟩
abbrev S16x8320 : Shape := ⟨2, ![16, 8320]⟩
abbrev S8320 : Shape := ⟨1, ![8320]⟩
abbrev S16x8208x64 : Shape := ⟨3, ![16, 8208, 64]⟩
abbrev S16x8208x8320 : Shape := ⟨3, ![16, 8208, 8320]⟩
abbrev S16x8208 : Shape := ⟨2, ![16, 8208]⟩
abbrev S16x8208x1 : Shape := ⟨3, ![16, 8208, 1]⟩
abbrev S16x1x8320 : Shape := ⟨3, ![16, 1, 8320]⟩
abbrev S1x8320 : Shape := ⟨2, ![1, 8320]⟩
abbrev S8208 : Shape := ⟨1, ![8208]⟩
abbrev S8208x1 : Shape := ⟨2, ![8208, 1]⟩
abbrev S8208x8320 : Shape := ⟨2, ![8208, 8320]⟩
abbrev S_ : Shape := ⟨0, ![]⟩
abbrev S8208x16x64 : Shape := ⟨3, ![8208, 16, 64]⟩
abbrev S8208x1024 : Shape := ⟨2, ![8208, 1024]⟩
abbrev S8208x16 : Shape := ⟨2, ![8208, 16]⟩

abbrev nBuf : Space → Nat
  | .hbm => 85
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S8320x4224, .f32⟩
  | .hbm, ⟨4, _⟩ => ⟨S8x2x8320, .f32⟩
  | .hbm, ⟨5, _⟩ => ⟨S8320x1024, .f32⟩
  | .hbm, ⟨6, _⟩ => ⟨S8320x16x64, .f32⟩
  | .hbm, ⟨7, _⟩ => ⟨S16x8320x64, .f32⟩
  | .hbm, ⟨8, _⟩ => ⟨S8320x1024, .f32⟩
  | .hbm, ⟨9, _⟩ => ⟨S8320x16x64, .f32⟩
  | .hbm, ⟨10, _⟩ => ⟨S16x8320x64, .f32⟩
  | .hbm, ⟨11, _⟩ => ⟨S8320x1024, .f32⟩
  | .hbm, ⟨12, _⟩ => ⟨S8320x16x64, .f32⟩
  | .hbm, ⟨13, _⟩ => ⟨S16x8320x64, .f32⟩
  | .hbm, ⟨14, _⟩ => ⟨S16x8320, .f32⟩
  | .hbm, ⟨15, _⟩ => ⟨S8320, .i32⟩
  | .hbm, ⟨16, _⟩ => ⟨S16x8208x64, .f32⟩
  | .hbm, ⟨17, _⟩ => ⟨S16x8208x8320, .f32⟩
  | .hbm, ⟨18, _⟩ => ⟨S16x8208, .f32⟩
  | .hbm, ⟨19, _⟩ => ⟨S16x8208x1, .f32⟩
  | .hbm, ⟨20, _⟩ => ⟨S16x8208x8320, .f32⟩
  | .hbm, ⟨21, _⟩ => ⟨S16x8208x8320, .f32⟩
  | .hbm, ⟨22, _⟩ => ⟨S16x1x8320, .f32⟩
  | .hbm, ⟨23, _⟩ => ⟨S16x8208x8320, .f32⟩
  | .hbm, ⟨24, _⟩ => ⟨S16x8208x8320, .f32⟩
  | .hbm, ⟨25, _⟩ => ⟨S1x8320, .i32⟩
  | .hbm, ⟨26, _⟩ => ⟨S8208, .i32⟩
  | .hbm, ⟨27, _⟩ => ⟨S8208x1, .i32⟩
  | .hbm, ⟨28, _⟩ => ⟨S8208x8320, .i32⟩
  | .hbm, ⟨29, _⟩ => ⟨S8208x8320, .i32⟩
  | .hbm, ⟨30, _⟩ => ⟨S8208x8320, .i1⟩
  | .hbm, ⟨31, _⟩ => ⟨S1x8320, .i32⟩
  | .hbm, ⟨32, _⟩ => ⟨S_, .i32⟩
  | .hbm, ⟨33, _⟩ => ⟨S1x8320, .i32⟩
  | .hbm, ⟨34, _⟩ => ⟨S1x8320, .i1⟩
  | .hbm, ⟨35, _⟩ => ⟨S8208x8320, .i1⟩
  | .hbm, ⟨36, _⟩ => ⟨S8208x8320, .i1⟩
  | .hbm, ⟨37, _⟩ => ⟨S_, .f32⟩
  | .hbm, ⟨38, _⟩ => ⟨S_, .f32⟩
  | .hbm, ⟨39, _⟩ => ⟨S16x8208x8320, .i1⟩
  | .hbm, ⟨40, _⟩ => ⟨S16x8208x8320, .f32⟩
  | .hbm, ⟨41, _⟩ => ⟨S16x8208x8320, .f32⟩
  | .hbm, ⟨42, _⟩ => ⟨S_, .f32⟩
  | .hbm, ⟨43, _⟩ => ⟨S16x8208, .f32⟩
  | .hbm, ⟨44, _⟩ => ⟨S_, .f32⟩
  | .hbm, ⟨45, _⟩ => ⟨S16x8208, .f32⟩
  | .hbm, ⟨46, _⟩ => ⟨S16x8208, .f32⟩
  | .hbm, ⟨47, _⟩ => ⟨S16x8208x1, .f32⟩
  | .hbm, ⟨48, _⟩ => ⟨S16x8208x8320, .f32⟩
  | .hbm, ⟨49, _⟩ => ⟨S16x8208x8320, .f32⟩
  | .hbm, ⟨50, _⟩ => ⟨S16x8208x8320, .f32⟩
  | .hbm, ⟨51, _⟩ => ⟨S_, .f32⟩
  | .hbm, ⟨52, _⟩ => ⟨S16x8208, .f32⟩
  | .hbm, ⟨53, _⟩ => ⟨S16x8208x1, .f32⟩
  | .hbm, ⟨54, _⟩ => ⟨S16x8208x8320, .f32⟩
  | .hbm, ⟨55, _⟩ => ⟨S16x8208x8320, .f32⟩
  | .hbm, ⟨56, _⟩ => ⟨S16x8208x64, .f32⟩
  | .hbm, ⟨57, _⟩ => ⟨S8208x16x64, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S8208x1024, .f32⟩
  | .hbm, ⟨62, _⟩ => ⟨S_, .f32⟩
  | .hbm, ⟨63, _⟩ => ⟨S8208x1024, .f32⟩
  | .hbm, ⟨64, _⟩ => ⟨S8208x1024, .f32⟩
  | .hbm, ⟨65, _⟩ => ⟨S_, .f32⟩
  | .hbm, ⟨66, _⟩ => ⟨S8208x1024, .f32⟩
  | .hbm, ⟨67, _⟩ => ⟨S8208x1024, .f32⟩
  | .hbm, ⟨68, _⟩ => ⟨S8208x1024, .f32⟩
  | .hbm, ⟨69, _⟩ => ⟨S8208x1024, .bf16⟩
  | .hbm, ⟨70, _⟩ => ⟨S_, .f32⟩
  | .hbm, ⟨71, _⟩ => ⟨S16x8208, .f32⟩
  | .hbm, ⟨72, _⟩ => ⟨S16x8208x1, .f32⟩
  | .hbm, ⟨73, _⟩ => ⟨S16x8208x8320, .f32⟩
  | .hbm, ⟨74, _⟩ => ⟨S16x8208x8320, .f32⟩
  | .hbm, ⟨75, _⟩ => ⟨S16x8208x8320, .f32⟩
  | .hbm, ⟨76, _⟩ => ⟨S_, .f32⟩
  | .hbm, ⟨77, _⟩ => ⟨S16x8208, .f32⟩
  | .hbm, ⟨78, _⟩ => ⟨S16x8208, .f32⟩
  | .hbm, ⟨79, _⟩ => ⟨S16x8208, .f32⟩
  | .hbm, ⟨80, _⟩ => ⟨S16x8208, .f32⟩
  | .hbm, ⟨81, _⟩ => ⟨S16x8208, .f32⟩
  | .hbm, ⟨82, _⟩ => ⟨S8208x16, .f32⟩
  | .hbm, ⟨83, _⟩ => ⟨S8208x16x64, .f32⟩
  | .hbm, ⟨84, _⟩ => ⟨S8208x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== DownDx.lean ====
abbrev S8320x1024 : Shape := ⟨2, ![8320, 1024]⟩
abbrev S2816x1024 : Shape := ⟨2, ![2816, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S8320x2816, .bf16⟩
  | .local _ .vmem, ⟨0, _⟩ => ⟨S1664x1024, .f32⟩
  | .local _ .vmem, ⟨1, _⟩ => ⟨S1664x1024, .f32⟩
  | .local _ .vmem, ⟨2, _⟩ => ⟨S1408x1024, .bf16⟩
  | .local _ .vmem, ⟨3, _⟩ => ⟨S1408x1024, .bf16⟩
  | .local _ .vmem, ⟨4, _⟩ => ⟨S1664x1408, .bf16⟩
  | .local _ .vmem, ⟨5, _⟩ => ⟨S1664x1408, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S8320x1024 : Shape := ⟨2, ![8320, 1024]⟩
abbrev S2816x1024 : Shape := ⟨2, ![2816, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S8320x2816, .bf16⟩
  | .local _ .vmem, ⟨0, _⟩ => ⟨S1664x1024, .f32⟩
  | .local _ .vmem, ⟨1, _⟩ => ⟨S1664x1024, .f32⟩
  | .local _ .vmem, ⟨2, _⟩ => ⟨S1408x1024, .bf16⟩
  | .local _ .vmem, ⟨3, _⟩ => ⟨S1408x1024, .bf16⟩
  | .local _ .vmem, ⟨4, _⟩ => ⟨S1664x1408, .bf16⟩
  | .local _ .vmem, ⟨5, _⟩ => ⟨S1664x1408, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x2816, .f32⟩
  | .hbm, ⟨7, _⟩ => ⟨S8320x2816, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S8320x5632 : Shape := ⟨2, ![8320, 5632]⟩
abbrev S1024x5632 : Shape := ⟨2, ![1024, 5632]⟩
abbrev S8320x1024 : Shape := ⟨2, ![8320, 1024]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S8320x5632 : Shape := ⟨2, ![8320, 5632]⟩
abbrev S1024x5632 : Shape := ⟨2, ![1024, 5632]⟩
abbrev S8320x1024 : Shape := ⟨2, ![8320, 1024]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8320x5632 : Shape := ⟨2, ![8320, 5632]⟩
abbrev S1024x5632 : Shape := ⟨2, ![1024, 5632]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S_, .f32⟩
  | .hbm, ⟨3, _⟩ => ⟨S8320x1024, .f32⟩
  | .hbm, ⟨4, _⟩ => ⟨S1024x5632, .f32⟩
  | .hbm, ⟨5, _⟩ => ⟨S8320x5632, .f32⟩
  | .hbm, ⟨6, _⟩ => ⟨S8320x5632, .f32⟩
  | .hbm, ⟨7, _⟩ => ⟨S8320x1024, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S8320x1024 : Shape := ⟨2, ![8320, 1024]⟩
abbrev S8320x5632 : Shape := ⟨2, ![8320, 5632]⟩
abbrev S1024x5632 : Shape := ⟨2, ![1024, 5632]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S1024x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8320x1024 : Shape := ⟨2, ![8320, 1024]⟩
abbrev S8320x5632 : Shape := ⟨2, ![8320, 5632]⟩
abbrev S1024x5632 : Shape := ⟨2, ![1024, 5632]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S1024x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8320x1024 : Shape := ⟨2, ![8320, 1024]⟩
abbrev S8320x5632 : Shape := ⟨2, ![8320, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S_, .f32⟩
  | .hbm, ⟨3, _⟩ => ⟨S1024x5632, .f32⟩
  | .hbm, ⟨4, _⟩ => ⟨S8320x1024, .f32⟩
  | .hbm, ⟨5, _⟩ => ⟨S8320x5632, .f32⟩
  | .hbm, ⟨6, _⟩ => ⟨S8320x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S8320x4224 : Shape := ⟨2, ![8320, 4224]⟩
abbrev S1024x4224 : Shape := ⟨2, ![1024, 4224]⟩
abbrev S8320x1024 : Shape := ⟨2, ![8320, 1024]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x4224, .bf16⟩
  | .hbm, ⟨1, _⟩ => ⟨S1024x4224, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxIdeal.lean ====
abbrev S8320x4224 : Shape := ⟨2, ![8320, 4224]⟩
abbrev S1024x4224 : Shape := ⟨2, ![1024, 4224]⟩
abbrev S8320x1024 : Shape := ⟨2, ![8320, 1024]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x4224, .bf16⟩
  | .hbm, ⟨1, _⟩ => ⟨S1024x4224, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8320x4224 : Shape := ⟨2, ![8320, 4224]⟩
abbrev S1024x4224 : Shape := ⟨2, ![1024, 4224]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x4224, .bf16⟩
  | .hbm, ⟨1, _⟩ => ⟨S1024x4224, .bf16⟩
  | .hbm, ⟨2, _⟩ => ⟨S_, .f32⟩
  | .hbm, ⟨3, _⟩ => ⟨S8320x1024, .f32⟩
  | .hbm, ⟨4, _⟩ => ⟨S1024x4224, .f32⟩
  | .hbm, ⟨5, _⟩ => ⟨S8320x4224, .f32⟩
  | .hbm, ⟨6, _⟩ => ⟨S8320x4224, .f32⟩
  | .hbm, ⟨7, _⟩ => ⟨S8320x1024, .f32⟩
  | _, _ => ⟨S8320x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S8320x1024 : Shape := ⟨2, ![8320, 1024]⟩
abbrev S8320x4224 : Shape := ⟨2, ![8320, 4224]⟩
abbrev S1024x4224 : Shape := ⟨2, ![1024, 4224]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x4224, .bf16⟩
  | .hbm, ⟨2, _⟩ => ⟨S1024x4224, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8320x1024 : Shape := ⟨2, ![8320, 1024]⟩
abbrev S8320x4224 : Shape := ⟨2, ![8320, 4224]⟩
abbrev S1024x4224 : Shape := ⟨2, ![1024, 4224]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x4224, .bf16⟩
  | .hbm, ⟨2, _⟩ => ⟨S1024x4224, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8320x1024 : Shape := ⟨2, ![8320, 1024]⟩
abbrev S8320x4224 : Shape := ⟨2, ![8320, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x4224, .bf16⟩
  | .hbm, ⟨2, _⟩ => ⟨S_, .f32⟩
  | .hbm, ⟨3, _⟩ => ⟨S1024x4224, .f32⟩
  | .hbm, ⟨4, _⟩ => ⟨S8320x1024, .f32⟩
  | .hbm, ⟨5, _⟩ => ⟨S8320x4224, .f32⟩
  | .hbm, ⟨6, _⟩ => ⟨S8320x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .local _ .vmem, ⟨0, _⟩ => ⟨S1664x1024, .f32⟩
  | .local _ .vmem, ⟨1, _⟩ => ⟨S1664x1024, .f32⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .local _ .vmem, ⟨0, _⟩ => ⟨S1664x1024, .f32⟩
  | .local _ .vmem, ⟨1, _⟩ => ⟨S1664x1024, .f32⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpFwd.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .bf16⟩
  | .local _ .vmem, ⟨5, _⟩ => ⟨S1664x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdIdeal.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .bf16⟩
  | .local _ .vmem, ⟨5, _⟩ => ⟨S1664x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x1024, .f32⟩
  | .hbm, ⟨3, _⟩ => ⟨S1024x5632, .f32⟩
  | .hbm, ⟨4, _⟩ => ⟨S8320x5632, .f32⟩
  | .hbm, ⟨5, _⟩ => ⟨S8320x5632, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1408x1024 : Shape := ⟨2, ![1408, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdIdeal.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1408x1024 : Shape := ⟨2, ![1408, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x2816, .f32⟩
  | .hbm, ⟨3, _⟩ => ⟨S2816x1024, .f32⟩
  | .hbm, ⟨4, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InFwd.lean ====
abbrev S8320x1024 : Shape := ⟨2, ![8320, 1024]⟩
abbrev S1024x4224 : Shape := ⟨2, ![1024, 4224]⟩
abbrev S8320x4224 : Shape := ⟨2, ![8320, 4224]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x4224, .bf16⟩
  | .hbm, ⟨2, _⟩ => ⟨S8320x4224, .f32⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdIdeal.lean ====
abbrev S8320x1024 : Shape := ⟨2, ![8320, 1024]⟩
abbrev S1024x4224 : Shape := ⟨2, ![1024, 4224]⟩
abbrev S8320x4224 : Shape := ⟨2, ![8320, 4224]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x4224, .bf16⟩
  | .hbm, ⟨2, _⟩ => ⟨S8320x4224, .f32⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8320x1024 : Shape := ⟨2, ![8320, 1024]⟩
abbrev S1024x4224 : Shape := ⟨2, ![1024, 4224]⟩
abbrev S8320x4224 : Shape := ⟨2, ![8320, 4224]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x4224, .bf16⟩
  | .hbm, ⟨2, _⟩ => ⟨S8320x1024, .f32⟩
  | .hbm, ⟨3, _⟩ => ⟨S1024x4224, .f32⟩
  | .hbm, ⟨4, _⟩ => ⟨S8320x4224, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.State.lean ====
/-
  What one grid point of `flash_bwd` does, as functions of vectors: the closed forms of the five conditions that the kernel
  branches on, the update of a masked and of an unmasked pair of blocks, and the step of the five accumulators.
-/
module

public import proofs.«01_k».proof.Proof.Gen.KernelIdeal.Frame
public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F]

/-! ## The conditions -/

/-- The dq and dcr blocks are cleared at the first point of a head pair. -/
theorem cond1_iff (i : grid0.Coords) : k0_cond1 i = 1#1 ↔ (i 1).val = 0 ∧ (i 2).val = 0 := by
  have key : ∀ a b : Fin 13, (Scalar.cmpi .ne (Scalar.extui (Scalar.andi (Scalar.cmpi .eq (BitVec.ofNat 32 a.val) 0#32) (Scalar.cmpi .eq (BitVec.ofNat 32 b.val) 0#32))) (0#32 : BitVec 32)) = 1#1 ↔ a.val = 0 ∧ b.val = 0 := by
    decide
  exact key (i 1) (i 2)

/-- The condition under which the column accumulators are cleared, as the kernel spells it. -/
def cond2 (i : grid0.Coords) : BitVec 1 :=
  Scalar.cmpi .ne (Scalar.extui (Scalar.cmpi .eq (BitVec.ofNat 32 (i 2).val) (BitVec.ofNat 32 (i 1).val))) (0#32 : BitVec 32)

/-- The column accumulators are cleared on the diagonal. -/
theorem cond2_iff (i : grid0.Coords) : cond2 i = 1#1 ↔ (i 2).val = (i 1).val := by
  have key : ∀ a b : Fin 13, (Scalar.cmpi .ne (Scalar.extui (Scalar.cmpi .eq (BitVec.ofNat 32 b.val) (BitVec.ofNat 32 a.val))) (0#32 : BitVec 32)) = 1#1 ↔ b.val = a.val := by
    decide
  exact key (i 1) (i 2)

/-- The masked update runs on the diagonal and, below it, in the first block column. -/
theorem cond3_iff (i : grid0.Coords) : k0_cond3 i = 1#1 ↔ ((i 2).val = (i 1).val ∨ (i 1).val = 0) ∧ (i 1).val ≤ (i 2).val := by
  have key : ∀ a b : Fin 13, (Scalar.cmpi .ne (Scalar.extui (Scalar.andi (Scalar.ori (Scalar.cmpi .eq (BitVec.ofNat 32 b.val) (BitVec.ofNat 32 a.val)) (Scalar.cmpi .eq (BitVec.ofNat 32 a.val) 0#32)) (Scalar.cmpi .sge (BitVec.ofNat 32 b.val) (BitVec.ofNat 32 a.val)))) (0#32 : BitVec 32)) = 1#1 ↔ (b.val = a.val ∨ a.val = 0) ∧ a.val ≤ b.val := by
    decide
  exact key (i 1) (i 2)

/-- The unmasked update runs below the diagonal outside the first block column. -/
theorem cond4_iff (i : grid0.Coords) : k0_cond4 i = 1#1 ↔ ¬((i 2).val = (i 1).val ∨ (i 1).val = 0) ∧ (i 1).val < (i 2).val := by
  have key : ∀ a b : Fin 13, (Scalar.cmpi .ne (Scalar.extui (Scalar.andi (Scalar.xori (Scalar.ori (Scalar.cmpi .eq (BitVec.ofNat 32 b.val) (BitVec.ofNat 32 a.val)) (Scalar.cmpi .eq (BitVec.ofNat 32 a.val) 0#32)) 1#1) (Scalar.cmpi .sgt (BitVec.ofNat 32 b.val) (BitVec.ofNat 32 a.val)))) (0#32 : BitVec 32)) = 1#1 ↔ ¬(b.val = a.val ∨ a.val = 0) ∧ a.val < b.val := by
    decide
  exact key (i 1) (i 2)

/-- The column accumulators are copied out in the last block row. -/
theorem cond5_iff (i : grid0.Coords) : k0_cond5 i = 1#1 ↔ (i 2).val = 12 := by
  have key : ∀ b : Fin 13, (Scalar.cmpi .ne (Scalar.extui (Scalar.cmpi .eq (BitVec.ofNat 32 b.val) 12#32)) (0#32 : BitVec 32)) = 1#1 ↔ b.val = 12 := by
    decide
  exact key (i 2)

/-- The row of the blocks dq and dcr at which the masked update lands. -/
theorem off1_eq (i : grid0.Coords) : k0_off1 i = ![640 * (i 2).val, 0] := by
  have key : ∀ b : Fin 13, (Scalar.indexCast (Scalar.muli (BitVec.ofNat 32 b.val) 640#32) : Index).toNat = 640 * b.val := by decide
  exact congrArg (fun x : ℕ => (![x, 0] : Fin 2 → ℕ)) (key (i 2))

/-- The row at which the unmasked update lands. -/
theorem off2_eq (i : grid0.Coords) : k0_off2 i = ![640 * (i 2).val, 0] := by
  have key : ∀ b : Fin 13, (Scalar.indexCast (Scalar.muli (BitVec.ofNat 32 b.val) 640#32) : Index).toNat = 640 * b.val := by decide
  exact congrArg (fun x : ℕ => (![x, 0] : Fin 2 → ℕ)) (key (i 2))

/-! ## The operands of a point and the accumulators -/

/-- The seven blocks that a point reads: queries, keys, values, output cotangents, normalisers, row sums, forget sums. -/
structure Blk (F : FTy → Type) where
  q : S640x128.Idx → Elt F .bf16
  k : S640x128.Idx → Elt F .bf16
  v : S640x128.Idx → Elt F .bf16
  d : S640x128.Idx → Elt F .bf16
  l : S640x128.Idx → Elt F .f32
  e : S640x128.Idx → Elt F .f32
  c : S1x2x640.Idx → Elt F .f32

/-- The five accumulators: dq and the row sums over a head pair's rows, dk, dv and the column sums over one block of columns. -/
structure Acc (F : FTy → Type) where
  dq : S8320x128.Idx → Elt F .f32
  dcr : S8320x128.Idx → Elt F .f32
  dk : S640x128.Idx → Elt F .f32
  dv : S640x128.Idx → Elt F .f32
  dck : S640x128.Idx → Elt F .f32

namespace Blk

variable (B : Blk F)

/-- The forget sums of the pair's two heads and the two columns that hold the heads' normalisers and row sums. -/
def c0 : Vec F S1x1x640 .f32 := VecWindow.window B.c ![0, 0, 0] S1x1x640.size inb_S1x2x640_S1x1x640_0_0_0
def c1 : Vec F S1x1x640 .f32 := VecWindow.window B.c ![0, 1, 0] S1x1x640.size inb_S1x2x640_S1x1x640_0_1_0
def l0 : Vec F S640x1 .f32 := VecWindow.window B.l ![0, 0] S640x1.size inb_S640x128_S640x1_0_0
def l1 : Vec F S640x1 .f32 := VecWindow.window B.l ![0, 64] S640x1.size inb_S640x128_S640x1_0_64
def e0 : Vec F S640x1 .f32 := VecWindow.window B.e ![0, 0] S640x1.size inb_S640x128_S640x1_0_0
def e1 : Vec F S640x1 .f32 := VecWindow.window B.e ![0, 64] S640x1.size inb_S640x128_S640x1_0_64

end Blk

/-- The masked update of the accumulated rows of dq. -/
def mdq (B : Blk F) (a1 a2 : BitVec 32) (old : Vec F S640x128 .f32) : Vec F S640x128 .f32 :=
  k0_pay39 (k0_pay15 B.v) k0_pay17 (k0_pay18 a1 a2)
    (k0_pay26 (k0_pay15 B.v) (k0_pay18 a1 a2) (k0_pay19 B.d) (k0_pay21 B.k) (k0_pay22 B.q B.k B.c0) (k0_pay23 B.l0) B.e0)
    (k0_pay30 (k0_pay16 B.d) k0_pay17) (k0_pay32 (k0_pay14 B.k) k0_pay17)
    (k0_pay33 (k0_pay13 B.q) (k0_pay14 B.k) k0_pay17 (k0_pay18 a1 a2) B.c1 B.l1) (Scalar.ofBits .f32 0x00000000#32) B.e1 old

/-- The masked update of the accumulated row sums. -/
def mdcr (B : Blk F) (a1 a2 : BitVec 32) (old : Vec F S640x128 .f32) : Vec F S640x128 .f32 :=
  k0_pay40 (k0_pay15 B.v) k0_pay17 (k0_pay18 a1 a2)
    (k0_pay26 (k0_pay15 B.v) (k0_pay18 a1 a2) (k0_pay19 B.d) (k0_pay21 B.k) (k0_pay22 B.q B.k B.c0) (k0_pay23 B.l0) B.e0)
    (k0_pay30 (k0_pay16 B.d) k0_pay17) (k0_pay32 (k0_pay14 B.k) k0_pay17)
    (k0_pay33 (k0_pay13 B.q) (k0_pay14 B.k) k0_pay17 (k0_pay18 a1 a2) B.c1 B.l1) (Scalar.ofBits .f32 0x00000000#32) B.e1 old

/-- The masked update of dk. -/
def mdk (B : Blk F) (a1 a2 : BitVec 32) (old : Vec F S640x128 .f32) : Vec F S640x128 .f32 :=
  k0_pay41 (k0_pay15 B.v) k0_pay17 (k0_pay18 a1 a2)
    (k0_pay27 (k0_pay15 B.v) (k0_pay18 a1 a2) (k0_pay19 B.d) (k0_pay20 B.q) (k0_pay22 B.q B.k B.c0) (k0_pay23 B.l0) B.e0)
    (k0_pay30 (k0_pay16 B.d) k0_pay17) (k0_pay31 (k0_pay13 B.q) k0_pay17)
    (k0_pay33 (k0_pay13 B.q) (k0_pay14 B.k) k0_pay17 (k0_pay18 a1 a2) B.c1 B.l1) (Scalar.ofBits .f32 0x00000000#32) B.e1 old

/-- The masked update of the column sums. -/
def mdck (B : Blk F) (a1 a2 : BitVec 32) (old : Vec F S640x128 .f32) : Vec F S640x128 .f32 :=
  k0_pay6 (k0_pay42 (k0_pay15 B.v) k0_pay17 (k0_pay18 a1 a2)
    (k0_pay27 (k0_pay15 B.v) (k0_pay18 a1 a2) (k0_pay19 B.d) (k0_pay20 B.q) (k0_pay22 B.q B.k B.c0) (k0_pay23 B.l0) B.e0)
    (k0_pay30 (k0_pay16 B.d) k0_pay17) (k0_pay31 (k0_pay13 B.q) k0_pay17)
    (k0_pay33 (k0_pay13 B.q) (k0_pay14 B.k) k0_pay17 (k0_pay18 a1 a2) B.c1 B.l1) (Scalar.ofBits .f32 0x00000000#32) B.e1 old)

/-- The masked update of dv. -/
def mdv (B : Blk F) (a1 a2 : BitVec 32) (old : Vec F S640x128 .f32) : Vec F S640x128 .f32 :=
  k0_pay7 k0_pay17 (k0_pay28 (k0_pay16 B.d) (k0_pay18 a1 a2) (k0_pay22 B.q B.k B.c0) (k0_pay23 B.l0))
    (k0_pay38 (k0_pay16 B.d) (k0_pay18 a1 a2)
      (k0_pay33 (k0_pay13 B.q) (k0_pay14 B.k) k0_pay17 (k0_pay18 a1 a2) B.c1 B.l1) (Scalar.ofBits .f32 0x00000000#32)) old

/-- The second head's share of dq in the unmasked update; the first head's is `udq0`. -/
def udq1 (B : Blk F) : Vec F S640x128 .f32 :=
  k0_pay59 (k0_pay43 B.q) (k0_pay44 B.k) (k0_pay45 B.v) (k0_pay46 B.d) k0_pay47 B.c1 B.l1 B.e1
def udq0 (B : Blk F) : Vec F S640x128 .f32 :=
  k0_pay53 (k0_pay49 B.k) (k0_pay51 B.q B.k B.v B.d B.c0 B.l0 B.e0) (constant S640x128 .f32 0x00000000#32)
/-- The heads' shares of dk. -/
def udk0 (B : Blk F) : Vec F S640x128 .f32 := k0_pay54 (k0_pay48 B.q) (k0_pay51 B.q B.k B.v B.d B.c0 B.l0 B.e0)
def udk1 (B : Blk F) : Vec F S640x128 .f32 :=
  k0_pay60 (k0_pay43 B.q) (k0_pay44 B.k) (k0_pay45 B.v) (k0_pay46 B.d) k0_pay47 B.c1 B.l1 B.e1
/-- The heads' shares of dv. -/
def udv0 (B : Blk F) : Vec F S640x128 .f32 := k0_pay55 (k0_pay46 B.d) (k0_pay52 B.q B.k B.c0 B.l0)
def udv1 (B : Blk F) : Vec F S640x128 .f32 := k0_pay61 (k0_pay43 B.q) (k0_pay44 B.k) (k0_pay46 B.d) k0_pay47 B.c1 B.l1

/-- The unmasked updates of the five accumulators' rows. -/
def udq (B : Blk F) (old : Vec F S640x128 .f32) : Vec F S640x128 .f32 :=
  k0_pay8 (k0_pay62 old) (k0_pay63 (k0_pay43 B.q) (k0_pay44 B.k) (k0_pay45 B.v) (k0_pay46 B.d) k0_pay47 (k0_pay49 B.k)
    (k0_pay51 B.q B.k B.v B.d B.c0 B.l0 B.e0) (constant S640x128 .f32 0x00000000#32) B.c1 B.l1 B.e1)
def udcr (B : Blk F) (old : Vec F S640x128 .f32) : Vec F S640x128 .f32 := k0_pay9 k0_pay47 (udq0 B) (udq1 B) old
def udk (B : Blk F) (old : Vec F S640x128 .f32) : Vec F S640x128 .f32 := k0_pay10 k0_pay47 (udk0 B) (udk1 B) old
def udck (B : Blk F) (old : Vec F S640x128 .f32) : Vec F S640x128 .f32 := k0_pay11 k0_pay47 (udk0 B) (udk1 B) old
def udv (B : Blk F) (old : Vec F S640x128 .f32) : Vec F S640x128 .f32 := k0_pay12 k0_pay47 (udv0 B) (udv1 B) old

/-! ## One point -/

/-- The accumulators after the clearing of the first point of a head pair. -/
def clr1 (i : grid0.Coords) (s : Acc F) : Acc F :=
  if k0_cond1 i = 1#1 then { s with dq := k0_pay1 (F := F), dcr := k0_pay2 (F := F) } else s

/-- The accumulators after the clearing on the diagonal. -/
def clr2 (i : grid0.Coords) (s : Acc F) : Acc F :=
  if cond2 i = 1#1 then { s with dk := k0_pay3 (F := F), dv := k0_pay4 (F := F), dck := k0_pay5 (F := F) } else s

/-- The accumulators after the masked update. -/
def upd3 (B : Blk F) (i : grid0.Coords) (s : Acc F) : Acc F :=
  if h : k0_cond3 i = 1#1 then
    { dq := VecWindow.put s.dq (k0_off1 i) S640x128.size
        (mdq B (BitVec.ofNat 32 (i 1).val) (BitVec.ofNat 32 (i 2).val) (VecWindow.window s.dq (k0_off1 i) S640x128.size (k0_off1_inb i h)))
      dcr := VecWindow.put s.dcr (k0_off1 i) S640x128.size
        (mdcr B (BitVec.ofNat 32 (i 1).val) (BitVec.ofNat 32 (i 2).val) (VecWindow.window s.dcr (k0_off1 i) S640x128.size (k0_off1_inb i h)))
      dk := mdk B (BitVec.ofNat 32 (i 1).val) (BitVec.ofNat 32 (i 2).val) s.dk
      dv := mdv B (BitVec.ofNat 32 (i 1).val) (BitVec.ofNat 32 (i 2).val) s.dv
      dck := mdck B (BitVec.ofNat 32 (i 1).val) (BitVec.ofNat 32 (i 2).val) s.dck }
  else s

/-- The accumulators after the unmasked update. -/
def upd4 (B : Blk F) (i : grid0.Coords) (s : Acc F) : Acc F :=
  if h : k0_cond4 i = 1#1 then
    { dq := VecWindow.put s.dq (k0_off2 i) S640x128.size (udq B (VecWindow.window s.dq (k0_off2 i) S640x128.size (k0_off2_inb i h)))
      dcr := VecWindow.put s.dcr (k0_off2 i) S640x128.size (udcr B (VecWindow.window s.dcr (k0_off2 i) S640x128.size (k0_off2_inb i h)))
      dk := udk B s.dk
      dv := udv B s.dv
      dck := udck B s.dck }
  else s

/-- The accumulators after a grid point. -/
def step (B : Blk F) (i : grid0.Coords) (s : Acc F) : Acc F := upd4 B i (upd3 B i (clr2 i (clr1 i s)))

end Cert.KernelIdeal.Hand

end
-- ==== Proof.Owned.lean ====
/-
  The buffers that the kernel's body finds and leaves, and how a load and a store read.
-/
module

public import proofs.«01_k».proof.Proof.State
public import Idealize.ShloMosaic.Lib.Pipeline.TableIdle
public import Idealize.ShloMosaic.Lib.Tactic.Stretches

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body finds: the seven input blocks, the five outputs' buffers and the three scratch buffers. -/
def pre (c : Dev nD)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32) : sProp 𝕄 :=
  iprop(owns (c : Thread nD τ) arg3 fullShare B.q ∗ owns (c : Thread nD τ) arg4 fullShare B.k ∗ owns (c : Thread nD τ) arg5 fullShare B.v
      ∗ owns (c : Thread nD τ) arg6 fullShare B.d ∗ owns (c : Thread nD τ) arg7 fullShare B.l ∗ owns (c : Thread nD τ) arg8 fullShare B.e
      ∗ owns (c : Thread nD τ) arg9 fullShare B.c ∗ owns (c : Thread nD τ) arg10 fullShare s.dq
      ∗ owns (c : Thread nD τ) arg11 fullShare x11 ∗ owns (c : Thread nD τ) arg12 fullShare x12 ∗ owns (c : Thread nD τ) arg13 fullShare x13
      ∗ owns (c : Thread nD τ) arg14 fullShare s.dcr
      ∗ owns (c : Thread nD τ) arg15 fullShare s.dk ∗ owns (c : Thread nD τ) arg16 fullShare s.dv ∗ owns (c : Thread nD τ) arg17 fullShare s.dck)

/-- The same with each buffer at the representative of what it holds, the form that the run steps from. -/
theorem pre_eq (c : Dev nD)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32) :
    (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 : sProp 𝕄) = iprop((arg3.view.loc (c : Thread nD τ) ↦[arg3.view.set]{fullShare} arg3.view.rep B.q)
      ∗ (arg4.view.loc (c : Thread nD τ) ↦[arg4.view.set]{fullShare} arg4.view.rep B.k)
      ∗ (arg5.view.loc (c : Thread nD τ) ↦[arg5.view.set]{fullShare} arg5.view.rep B.v)
      ∗ (arg6.view.loc (c : Thread nD τ) ↦[arg6.view.set]{fullShare} arg6.view.rep B.d)
      ∗ (arg7.view.loc (c : Thread nD τ) ↦[arg7.view.set]{fullShare} arg7.view.rep B.l)
      ∗ (arg8.view.loc (c : Thread nD τ) ↦[arg8.view.set]{fullShare} arg8.view.rep B.e)
      ∗ (arg9.view.loc (c : Thread nD τ) ↦[arg9.view.set]{fullShare} arg9.view.rep B.c)
      ∗ (arg10.view.loc (c : Thread nD τ) ↦[arg10.view.set]{fullShare} arg10.view.rep s.dq)
      ∗ (arg11.view.loc (c : Thread nD τ) ↦[arg11.view.set]{fullShare} arg11.view.rep x11)
      ∗ (arg12.view.loc (c : Thread nD τ) ↦[arg12.view.set]{fullShare} arg12.view.rep x12)
      ∗ (arg13.view.loc (c : Thread nD τ) ↦[arg13.view.set]{fullShare} arg13.view.rep x13)
      ∗ (arg14.view.loc (c : Thread nD τ) ↦[arg14.view.set]{fullShare} arg14.view.rep s.dcr)
      ∗ (arg15.view.loc (c : Thread nD τ) ↦[arg15.view.set]{fullShare} arg15.view.rep s.dk)
      ∗ (arg16.view.loc (c : Thread nD τ) ↦[arg16.view.set]{fullShare} arg16.view.rep s.dv)
      ∗ (arg17.view.loc (c : Thread nD τ) ↦[arg17.view.set]{fullShare} arg17.view.rep s.dck)) := by
  unfold pre
  simp only [owns_eq_rep]

theorem rep_owns (c : Thread nD τ) {sp : Space} {sh : Shape} {e : EltTy} (m : Memref sig c.2.kind sp sh e) (q : PosShare TreeShare)
    (X : sh.Idx → Elt F e) : ((m.view.loc c ↦[m.view.set]{q} m.view.rep X) : sProp 𝕄) ⊢ owns c m q X := by
  rw [owns_eq_rep]

/-- A load of a memref that holds `x` reads a window of `x`. -/
theorem readAt_win {sig : RefSig} {κ : Kind} {sp : Space} {sh : Shape} {e : EltTy} (v : View sig κ sp sh e) (x : sh.Idx → Elt F e) {off size : Fin sh.rank → ℕ}
    (inb : ∀ a, off a + size a ≤ sh.size a) :
    v.readAt (Elt F) (Rect.unit off size inb).toLoadRect (v.rep x) = VecWindow.window x off size inb :=
  View.readAt_rep_unit v x inb rfl inb

/-- The window of a whole block is the block. -/
theorem window_whole {e : EltTy} (x : S640x128.Idx → Elt F e) (h) : VecWindow.window x ![0, 0] ![640, 128] h = x :=
  funext fun y => congrArg x (Rect.emb_unit_full (s := S640x128) h y)

/-- A load of a whole block right after a store of a whole block reads what was stored. -/
theorem readCov_whole {κ : Kind} {sp : Space} {e : EltTy} (v : View sig κ sp S640x128 e) (h h')
    (w : (Rect.unit ![0, 0] ![640, 128] h : Rect S640x128).shape.Idx → Elt F e) :
    v.readCov [⟨Rect.unit ![0, 0] ![640, 128] h, w⟩] (Rect.unit ![0, 0] ![640, 128] h').toLoadRect = w :=
  View.readCov_full (s := S640x128) v h h' w []

/-- A load of some rows right after a store of the whole buffer reads those rows of what was stored. -/
theorem readAt_cleared {κ : Kind} {sp : Space} {e : EltTy} (v : View sig κ sp S8320x128 e) (f : v.ty.Contents (Elt F)) {off : Fin 2 → ℕ}
    (h h') (w : (Rect.unit ![0, 0] ![8320, 128] h' : Rect S8320x128).shape.Idx → Elt F e) :
    v.readAt (Elt F) (Rect.unit off ![640, 128] h : Rect S8320x128).toLoadRect
        (v.writes (Elt F) f [⟨Rect.unit ![0, 0] ![8320, 128] h', w⟩]) = VecWindow.window (s := S8320x128) w off ![640, 128] h :=
  (View.readAt_unit v _ h rfl h).trans (congrArg (fun x => VecWindow.window (s := S8320x128) x off ![640, 128] h)
    (View.read_writes_full (s := S8320x128) v f h' w []))

/-- A memref's buffer read back. -/
theorem owns_of_read (c : Thread nD τ) {sp : Space} {sh : Shape} {e : EltTy} (m : Memref sig c.2.kind sp sh e) (q : PosShare TreeShare)
    (f : m.view.ty.Contents (Elt F)) (X : sh.Idx → Elt F e) (h : m.view.read (Elt F) f = X) :
    ((m.view.loc c ↦[m.view.set]{q} f) : sProp 𝕄) ⊢ owns c m q X := by
  unfold owns
  iintro H
  iexists _
  isplitr
  · ipureintro; exact h
  · iexact H

end Cert.KernelIdeal.Hand

end
-- ==== Proof.BodyDiag.lean ====
/-
  The runs of the body at the points of the diagonal.
-/
module

public import proofs.«01_k».proof.Proof.Owned

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first point of a head pair: both clearings, then the masked update. -/
theorem run_first (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : k0_cond1 i = 1#1) (h2 : cond2 i = 1#1) (h3 : k0_cond3 i = 1#1) (h4 : ¬k0_cond4 i = 1#1) (h5 : ¬k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) x11 x12 x13 -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd3 B i ({ { s with dq := k0_pay1 (F := F), dcr := k0_pay2 (F := F) } with dk := k0_pay3 (F := F), dv := k0_pay4 (F := F), dck := k0_pay5 (F := F) }) := by
    unfold step clr1 clr2 upd4; rw [if_pos h1, if_pos h2', dif_neg h4]
  rw [e]
  unfold upd3; rw [dif_pos h3]
  isplitl [H10]
  · unfold owns; iexists _; isplitr; swap; · iexact H10
    ipureintro
    sl_open_run
    refine (View.read_writes_cons_put _ _ _ _ _ rfl).trans ?_
    refine (congrArg (fun x => VecWindow.put x _ _ _) (View.read_writes_full _ _ _ _ _)).trans ?_
    dsimp only
    unfold mdq
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readAt_cleared]
    all_goals rfl
  isplitl [H11]; · iapply (rep_owns _ _ _ _); iexact H11
  isplitl [H12]; · iapply (rep_owns _ _ _ _); iexact H12
  isplitl [H13]; · iapply (rep_owns _ _ _ _); iexact H13
  isplitl [H14]
  · unfold owns; iexists _; isplitr; swap; · iexact H14
    ipureintro
    sl_open_run
    refine (View.read_writes_cons_put _ _ _ _ _ rfl).trans ?_
    refine (congrArg (fun x => VecWindow.put x _ _ _) (View.read_writes_full _ _ _ _ _)).trans ?_
    dsimp only
    unfold mdcr
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readAt_cleared]
    all_goals rfl
  isplitl [H15]
  · unfold owns; iexists _; isplitr; swap; · iexact H15
    ipureintro
    refine (View.read_writes_full _ _ _ _ _).trans ?_
    sl_open_run
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  isplitl [H16]
  · unfold owns; iexists _; isplitr; swap; · iexact H16
    ipureintro
    refine (View.read_writes_full _ _ _ _ _).trans ?_
    sl_open_run
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  unfold owns; iexists _; isplitr; swap; · iexact H17
  ipureintro
  refine (View.read_writes_full _ _ _ _ _).trans ?_
  sl_open_run
  dsimp only
  unfold mdck
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [readCov_whole]
  all_goals rfl

/-- A later point on the diagonal: the clearing of the column accumulators, then the masked update. -/
theorem run_diag (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : cond2 i = 1#1) (h3 : k0_cond3 i = 1#1) (h4 : ¬k0_cond4 i = 1#1) (h5 : ¬k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) x11 x12 x13 -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd3 B i ({ s with dk := k0_pay3 (F := F), dv := k0_pay4 (F := F), dck := k0_pay5 (F := F) }) := by
    unfold step clr1 clr2 upd4; rw [if_neg h1, if_pos h2', dif_neg h4]
  rw [e]
  unfold upd3; rw [dif_pos h3]
  isplitl [H10]
  · unfold owns; iexists _; isplitr; swap; · iexact H10
    ipureintro
    refine (View.read_writes_rep_unit _ _ _ _ rfl).trans ?_
    sl_open_run
    dsimp only
    unfold mdq
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H11]; · iapply (rep_owns _ _ _ _); iexact H11
  isplitl [H12]; · iapply (rep_owns _ _ _ _); iexact H12
  isplitl [H13]; · iapply (rep_owns _ _ _ _); iexact H13
  isplitl [H14]
  · unfold owns; iexists _; isplitr; swap; · iexact H14
    ipureintro
    refine (View.read_writes_rep_unit _ _ _ _ rfl).trans ?_
    sl_open_run
    dsimp only
    unfold mdcr
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H15]
  · unfold owns; iexists _; isplitr; swap; · iexact H15
    ipureintro
    refine (View.read_writes_full _ _ _ _ _).trans ?_
    sl_open_run
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  isplitl [H16]
  · unfold owns; iexists _; isplitr; swap; · iexact H16
    ipureintro
    refine (View.read_writes_full _ _ _ _ _).trans ?_
    sl_open_run
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  unfold owns; iexists _; isplitr; swap; · iexact H17
  ipureintro
  refine (View.read_writes_full _ _ _ _ _).trans ?_
  sl_open_run
  dsimp only
  unfold mdck
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [readCov_whole]
  all_goals rfl

/-- The last point on the diagonal: the clearing, the masked update and the storing of the column accumulators. -/
theorem run_corner (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : cond2 i = 1#1) (h3 : k0_cond3 i = 1#1) (h4 : ¬k0_cond4 i = 1#1) (h5 : k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) ((step B i s).dk) ((step B i s).dv) ((step B i s).dck) -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd3 B i ({ s with dk := k0_pay3 (F := F), dv := k0_pay4 (F := F), dck := k0_pay5 (F := F) }) := by
    unfold step clr1 clr2 upd4; rw [if_neg h1, if_pos h2', dif_neg h4]
  rw [e]
  unfold upd3; rw [dif_pos h3]
  isplitl [H10]
  · unfold owns; iexists _; isplitr; swap; · iexact H10
    ipureintro
    refine (View.read_writes_rep_unit _ _ _ _ rfl).trans ?_
    sl_open_run
    dsimp only
    unfold mdq
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H11]
  · unfold owns; iexists _; isplitr; swap; · iexact H11
    ipureintro
    refine (View.read_writes_full _ _ _ _ _).trans ?_
    sl_open_run
    refine (View.readCov_full _ _ _ _ _).trans ?_
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  isplitl [H12]
  · unfold owns; iexists _; isplitr; swap; · iexact H12
    ipureintro
    refine (View.read_writes_full _ _ _ _ _).trans ?_
    sl_open_run
    refine (View.readCov_full _ _ _ _ _).trans ?_
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  isplitl [H13]
  · unfold owns; iexists _; isplitr; swap; · iexact H13
    ipureintro
    refine (View.read_writes_full _ _ _ _ _).trans ?_
    sl_open_run
    refine (View.readCov_full _ _ _ _ _).trans ?_
    dsimp only
    unfold mdck
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  isplitl [H14]
  · unfold owns; iexists _; isplitr; swap; · iexact H14
    ipureintro
    refine (View.read_writes_rep_unit _ _ _ _ rfl).trans ?_
    sl_open_run
    dsimp only
    unfold mdcr
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H15]
  · unfold owns; iexists _; isplitr; swap; · iexact H15
    ipureintro
    refine (View.read_writes_full _ _ _ _ _).trans ?_
    sl_open_run
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  isplitl [H16]
  · unfold owns; iexists _; isplitr; swap; · iexact H16
    ipureintro
    refine (View.read_writes_full _ _ _ _ _).trans ?_
    sl_open_run
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [readCov_whole]
    all_goals rfl
  unfold owns; iexists _; isplitr; swap; · iexact H17
  ipureintro
  refine (View.read_writes_full _ _ _ _ _).trans ?_
  sl_open_run
  dsimp only
  unfold mdck
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [readCov_whole]
  all_goals rfl

end Cert.KernelIdeal.Hand

end
-- ==== Proof.BodyMasked.lean ====
/-
  The runs of the body in the first column of blocks.
-/
module

public import proofs.«01_k».proof.Proof.Owned

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A point of the first column of blocks below the diagonal: the masked update alone. -/
theorem run_left (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : ¬cond2 i = 1#1) (h3 : k0_cond3 i = 1#1) (h4 : ¬k0_cond4 i = 1#1) (h5 : ¬k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) x11 x12 x13 -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd3 B i s := by
    unfold step clr1 clr2 upd4; rw [if_neg h1, if_neg h2', dif_neg h4]
  rw [e]
  unfold upd3; rw [dif_pos h3]
  isplitl [H10]
  · unfold owns; iexists _; isplitr; swap; · iexact H10
    ipureintro
    refine (View.read_writes_rep_unit _ _ _ _ rfl).trans ?_
    sl_open_run
    dsimp only
    unfold mdq
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H11]; · iapply (rep_owns _ _ _ _); iexact H11
  isplitl [H12]; · iapply (rep_owns _ _ _ _); iexact H12
  isplitl [H13]; · iapply (rep_owns _ _ _ _); iexact H13
  isplitl [H14]
  · unfold owns; iexists _; isplitr; swap; · iexact H14
    ipureintro
    refine (View.read_writes_rep_unit _ _ _ _ rfl).trans ?_
    sl_open_run
    dsimp only
    unfold mdcr
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H15]
  · unfold owns; iexists _; isplitr; swap; · iexact H15
    ipureintro
    refine (View.read_writes_full _ _ _ _ _).trans ?_
    sl_open_run
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dk]
    all_goals rfl
  isplitl [H16]
  · unfold owns; iexists _; isplitr; swap; · iexact H16
    ipureintro
    refine (View.read_writes_full _ _ _ _ _).trans ?_
    sl_open_run
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dv]
    all_goals rfl
  unfold owns; iexists _; isplitr; swap; · iexact H17
  ipureintro
  refine (View.read_writes_full _ _ _ _ _).trans ?_
  sl_open_run
  dsimp only
  unfold mdck
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [window_whole s.dck]
  all_goals rfl

/-- The last point of the first column: the masked update and the storing. -/
theorem run_left_last (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : ¬cond2 i = 1#1) (h3 : k0_cond3 i = 1#1) (h4 : ¬k0_cond4 i = 1#1) (h5 : k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) ((step B i s).dk) ((step B i s).dv) ((step B i s).dck) -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd3 B i s := by
    unfold step clr1 clr2 upd4; rw [if_neg h1, if_neg h2', dif_neg h4]
  rw [e]
  unfold upd3; rw [dif_pos h3]
  isplitl [H10]
  · unfold owns; iexists _; isplitr; swap; · iexact H10
    ipureintro
    refine (View.read_writes_rep_unit _ _ _ _ rfl).trans ?_
    sl_open_run
    dsimp only
    unfold mdq
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H11]
  · unfold owns; iexists _; isplitr; swap; · iexact H11
    ipureintro
    refine (View.read_writes_full _ _ _ _ _).trans ?_
    sl_open_run
    refine (View.readCov_full _ _ _ _ _).trans ?_
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dk]
    all_goals rfl
  isplitl [H12]
  · unfold owns; iexists _; isplitr; swap; · iexact H12
    ipureintro
    refine (View.read_writes_full _ _ _ _ _).trans ?_
    sl_open_run
    refine (View.readCov_full _ _ _ _ _).trans ?_
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dv]
    all_goals rfl
  isplitl [H13]
  · unfold owns; iexists _; isplitr; swap; · iexact H13
    ipureintro
    refine (View.read_writes_full _ _ _ _ _).trans ?_
    sl_open_run
    refine (View.readCov_full _ _ _ _ _).trans ?_
    dsimp only
    unfold mdck
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dck]
    all_goals rfl
  isplitl [H14]
  · unfold owns; iexists _; isplitr; swap; · iexact H14
    ipureintro
    refine (View.read_writes_rep_unit _ _ _ _ rfl).trans ?_
    sl_open_run
    dsimp only
    unfold mdcr
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H15]
  · unfold owns; iexists _; isplitr; swap; · iexact H15
    ipureintro
    refine (View.read_writes_full _ _ _ _ _).trans ?_
    sl_open_run
    dsimp only
    unfold mdk
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dk]
    all_goals rfl
  isplitl [H16]
  · unfold owns; iexists _; isplitr; swap; · iexact H16
    ipureintro
    refine (View.read_writes_full _ _ _ _ _).trans ?_
    sl_open_run
    dsimp only
    unfold mdv
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dv]
    all_goals rfl
  unfold owns; iexists _; isplitr; swap; · iexact H17
  ipureintro
  refine (View.read_writes_full _ _ _ _ _).trans ?_
  sl_open_run
  dsimp only
  unfold mdck
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [window_whole s.dck]
  all_goals rfl

end Cert.KernelIdeal.Hand

end
-- ==== Proof.BodyInner.lean ====
/-
  The runs of the body away from the diagonal and the first column.
-/
module

public import proofs.«01_k».proof.Proof.Owned

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A point strictly below the diagonal: the unmasked update alone. -/
theorem run_inner (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : ¬cond2 i = 1#1) (h3 : ¬k0_cond3 i = 1#1) (h4 : k0_cond4 i = 1#1) (h5 : ¬k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) x11 x12 x13 -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd4 B i s := by
    unfold step clr1 clr2 upd3; rw [if_neg h1, if_neg h2', dif_neg h3]
  rw [e]
  unfold upd4; rw [dif_pos h4]
  isplitl [H10]
  · unfold owns; iexists _; isplitr; swap; · iexact H10
    ipureintro
    refine (View.read_writes_rep_unit _ _ _ _ rfl).trans ?_
    sl_open_run
    dsimp only
    unfold udq
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H11]; · iapply (rep_owns _ _ _ _); iexact H11
  isplitl [H12]; · iapply (rep_owns _ _ _ _); iexact H12
  isplitl [H13]; · iapply (rep_owns _ _ _ _); iexact H13
  isplitl [H14]
  · unfold owns; iexists _; isplitr; swap; · iexact H14
    ipureintro
    refine (View.read_writes_rep_unit _ _ _ _ rfl).trans ?_
    sl_open_run
    dsimp only
    unfold udcr
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H15]
  · unfold owns; iexists _; isplitr; swap; · iexact H15
    ipureintro
    refine (View.read_writes_full _ _ _ _ _).trans ?_
    sl_open_run
    dsimp only
    unfold udk
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dk]
    all_goals rfl
  isplitl [H16]
  · unfold owns; iexists _; isplitr; swap; · iexact H16
    ipureintro
    refine (View.read_writes_full _ _ _ _ _).trans ?_
    sl_open_run
    dsimp only
    unfold udv
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dv]
    all_goals rfl
  unfold owns; iexists _; isplitr; swap; · iexact H17
  ipureintro
  refine (View.read_writes_full _ _ _ _ _).trans ?_
  sl_open_run
  dsimp only
  unfold udck
  try unfold udq0
  try unfold udq1
  try unfold udk0
  try unfold udk1
  try unfold udv0
  try unfold udv1
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [window_whole s.dck]
  all_goals rfl

/-- The last such point of a column: the unmasked update and the storing. -/
theorem run_inner_last (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : ¬cond2 i = 1#1) (h3 : ¬k0_cond3 i = 1#1) (h4 : k0_cond4 i = 1#1) (h5 : k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) ((step B i s).dk) ((step B i s).dv) ((step B i s).dck) -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = upd4 B i s := by
    unfold step clr1 clr2 upd3; rw [if_neg h1, if_neg h2', dif_neg h3]
  rw [e]
  unfold upd4; rw [dif_pos h4]
  isplitl [H10]
  · unfold owns; iexists _; isplitr; swap; · iexact H10
    ipureintro
    refine (View.read_writes_rep_unit _ _ _ _ rfl).trans ?_
    sl_open_run
    dsimp only
    unfold udq
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H11]
  · unfold owns; iexists _; isplitr; swap; · iexact H11
    ipureintro
    refine (View.read_writes_full _ _ _ _ _).trans ?_
    sl_open_run
    refine (View.readCov_full _ _ _ _ _).trans ?_
    dsimp only
    unfold udk
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dk]
    all_goals rfl
  isplitl [H12]
  · unfold owns; iexists _; isplitr; swap; · iexact H12
    ipureintro
    refine (View.read_writes_full _ _ _ _ _).trans ?_
    sl_open_run
    refine (View.readCov_full _ _ _ _ _).trans ?_
    dsimp only
    unfold udv
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dv]
    all_goals rfl
  isplitl [H13]
  · unfold owns; iexists _; isplitr; swap; · iexact H13
    ipureintro
    refine (View.read_writes_full _ _ _ _ _).trans ?_
    sl_open_run
    refine (View.readCov_full _ _ _ _ _).trans ?_
    dsimp only
    unfold udck
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dck]
    all_goals rfl
  isplitl [H14]
  · unfold owns; iexists _; isplitr; swap; · iexact H14
    ipureintro
    refine (View.read_writes_rep_unit _ _ _ _ rfl).trans ?_
    sl_open_run
    dsimp only
    unfold udcr
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    all_goals rfl
  isplitl [H15]
  · unfold owns; iexists _; isplitr; swap; · iexact H15
    ipureintro
    refine (View.read_writes_full _ _ _ _ _).trans ?_
    sl_open_run
    dsimp only
    unfold udk
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dk]
    all_goals rfl
  isplitl [H16]
  · unfold owns; iexists _; isplitr; swap; · iexact H16
    ipureintro
    refine (View.read_writes_full _ _ _ _ _).trans ?_
    sl_open_run
    dsimp only
    unfold udv
    try unfold udq0
    try unfold udq1
    try unfold udk0
    try unfold udk1
    try unfold udv0
    try unfold udv1
    try unfold Blk.c0
    try unfold Blk.c1
    try unfold Blk.l0
    try unfold Blk.l1
    try unfold Blk.e0
    try unfold Blk.e1
    simp only [readAt_win]
    try rw [window_whole B.q]
    try rw [window_whole B.k]
    try rw [window_whole B.v]
    try rw [window_whole B.d]
    rw [window_whole s.dv]
    all_goals rfl
  unfold owns; iexists _; isplitr; swap; · iexact H17
  ipureintro
  refine (View.read_writes_full _ _ _ _ _).trans ?_
  sl_open_run
  dsimp only
  unfold udck
  try unfold udq0
  try unfold udq1
  try unfold udk0
  try unfold udk1
  try unfold udv0
  try unfold udv1
  try unfold Blk.c0
  try unfold Blk.c1
  try unfold Blk.l0
  try unfold Blk.l1
  try unfold Blk.e0
  try unfold Blk.e1
  simp only [readAt_win]
  try rw [window_whole B.q]
  try rw [window_whole B.k]
  try rw [window_whole B.v]
  try rw [window_whole B.d]
  rw [window_whole s.dck]
  all_goals rfl

/-- A point above the diagonal: nothing happens. -/
theorem run_above (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (h1 : ¬k0_cond1 i = 1#1) (h2 : ¬cond2 i = 1#1) (h3 : ¬k0_cond3 i = 1#1) (h4 : ¬k0_cond4 i = 1#1) (h5 : ¬k0_cond5 i = 1#1)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) x11 x12 x13 -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_flash_bwd_eq_skeleton]; unfold cc0_flash_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have h2' := h2
  unfold cond2 at h2
  rw [pre_eq (s := s)]
  iintro ⟨⟨H3, H4, H5, H6, H7, H8, H9, H10, H11, H12, H13, H14, H15, H16, H17⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  have e : step B i s = s := by
    unfold step clr1 clr2 upd3 upd4; rw [if_neg h1, if_neg h2', dif_neg h4, dif_neg h3]
  rw [e]
  isplitl [H10]; · iapply (rep_owns _ _ _ _); iexact H10
  isplitl [H11]; · iapply (rep_owns _ _ _ _); iexact H11
  isplitl [H12]; · iapply (rep_owns _ _ _ _); iexact H12
  isplitl [H13]; · iapply (rep_owns _ _ _ _); iexact H13
  isplitl [H14]; · iapply (rep_owns _ _ _ _); iexact H14
  isplitl [H15]; · iapply (rep_owns _ _ _ _); iexact H15
  isplitl [H16]; · iapply (rep_owns _ _ _ _); iexact H16
  iapply (rep_owns _ _ _ _); iexact H17

end Cert.KernelIdeal.Hand

end
-- ==== Proof.Body.lean ====
/-
  The run of the body at every grid point, by cases on its five conditions.
-/
module

public import proofs.«01_k».proof.Proof.BodyDiag
public import proofs.«01_k».proof.Proof.BodyMasked
public import proofs.«01_k».proof.Proof.BodyInner

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at any grid point: the accumulators step, and the three column results are stored at the last row block. -/
theorem run_body (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .bf16) (harg6 : arg6.IsWhole)
    (arg7 : Memref sig .tc .vmem S640x128 .f32) (harg7 : arg7.IsWhole)
    (arg8 : Memref sig .tc .vmem S640x128 .f32) (harg8 : arg8.IsWhole)
    (arg9 : Memref sig .tc .vmem S1x2x640 .f32) (harg9 : arg9.IsWhole)
    (arg10 : Memref sig .tc .vmem S8320x128 .f32) (harg10 : arg10.IsWhole)
    (arg11 : Memref sig .tc .vmem S640x128 .f32) (harg11 : arg11.IsWhole)
    (arg12 : Memref sig .tc .vmem S640x128 .f32) (harg12 : arg12.IsWhole)
    (arg13 : Memref sig .tc .vmem S640x128 .f32) (harg13 : arg13.IsWhole)
    (arg14 : Memref sig .tc .vmem S8320x128 .f32) (harg14 : arg14.IsWhole)
    (arg15 : Memref sig .tc .vmem S640x128 .f32) (harg15 : arg15.IsWhole)
    (arg16 : Memref sig .tc .vmem S640x128 .f32) (harg16 : arg16.IsWhole)
    (arg17 : Memref sig .tc .vmem S640x128 .f32) (harg17 : arg17.IsWhole)
    (B : Blk F) (s : Acc F) (x11 x12 x13 : S640x128.Idx → Elt F .f32)
    (K : PUnit → sProp 𝕄) :
    iprop(pre c arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 ∗ (pre c arg3 harg3 arg4 harg4 arg5 harg5 arg6 harg6 arg7 harg7 arg8 harg8 arg9 harg9 arg10 harg10 arg11 harg11 arg12 harg12 arg13 harg13 arg14 harg14 arg15 harg15 arg16 harg16 arg17 harg17 B (step B i s) (if k0_cond5 i = 1#1 then (step B i s).dk else x11) (if k0_cond5 i = 1#1 then (step B i s).dv else x12) (if k0_cond5 i = 1#1 then (step B i s).dck else x13) -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have b1 : (i 1).val < 13 := (i 1).isLt
  have b2 : (i 2).val < 13 := (i 2).isLt
  by_cases h5 : k0_cond5 i = 1#1
  · rw [if_pos h5, if_pos h5, if_pos h5]
    have g5 := (cond5_iff i).mp h5
    have h1 : ¬ k0_cond1 i = 1#1 := fun h => by have := (cond1_iff i).mp h; omega
    by_cases h2 : cond2 i = 1#1
    · have g2 := (cond2_iff i).mp h2
      have h3 : k0_cond3 i = 1#1 := (cond3_iff i).mpr (by omega)
      have h4 : ¬ k0_cond4 i = 1#1 := fun h => by have := (cond4_iff i).mp h; omega
      exact run_corner c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
    · have g2 := (not_congr (cond2_iff i)).mp h2
      by_cases h3 : k0_cond3 i = 1#1
      · have g3 := (cond3_iff i).mp h3
        have h4 : ¬ k0_cond4 i = 1#1 := fun h => by have := (cond4_iff i).mp h; omega
        exact run_left_last c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
      · have g3 := (not_congr (cond3_iff i)).mp h3
        have h4 : k0_cond4 i = 1#1 := (cond4_iff i).mpr (by omega)
        exact run_inner_last c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
  · rw [if_neg h5, if_neg h5, if_neg h5]
    have g5 := (not_congr (cond5_iff i)).mp h5
    by_cases h2 : cond2 i = 1#1
    · have g2 := (cond2_iff i).mp h2
      have h3 : k0_cond3 i = 1#1 := (cond3_iff i).mpr (by omega)
      have h4 : ¬ k0_cond4 i = 1#1 := fun h => by have := (cond4_iff i).mp h; omega
      by_cases h1 : k0_cond1 i = 1#1
      · exact run_first c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
      · exact run_diag c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
    · have g2 := (not_congr (cond2_iff i)).mp h2
      have h1 : ¬ k0_cond1 i = 1#1 := fun h => by have := (cond1_iff i).mp h; omega
      by_cases h3 : k0_cond3 i = 1#1
      · have g3 := (cond3_iff i).mp h3
        have h4 : ¬ k0_cond4 i = 1#1 := fun h => by have := (cond4_iff i).mp h; omega
        exact run_left c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
      · by_cases h4 : k0_cond4 i = 1#1
        · exact run_inner c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K
        · exact run_above c i arg3 harg3 arg4 harg4 arg5 harg5 arg6 harg6 arg7 harg7 arg8 harg8 arg9 harg9 arg10 harg10 arg11 harg11 arg12 harg12 arg13 harg13 arg14 harg14 arg15 harg15 arg16 harg16 arg17 harg17 B s x11 x12 x13 h1 h2 h3 h4 h5 K

end Cert.KernelIdeal.Hand

end
-- ==== Proof.Run.lean ====
/-
  The frame run: the proof data, the body obligation and the launch.
-/
module

public import proofs.«01_k».proof.Proof.Body
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem coord0 (t : Fin cfg0.N) : (grid0.coords t 0).val = t.val / 169 % 8 := Pipeline.Grid.coords_val t 0 (by decide) rfl
theorem coord1 (t : Fin cfg0.N) : (grid0.coords t 1).val = t.val / 13 % 13 := Pipeline.Grid.coords_val t 1 (by decide) rfl
theorem coord2 (t : Fin cfg0.N) : (grid0.coords t 2).val = t.val % 13 :=
  (Pipeline.Grid.coords_val t 2 (S := 1) (B := 13) (by decide) rfl).trans (by rw [Nat.div_one])

/-- The seven blocks that point `t` reads. -/
def blk (c : Dev nD) (t : Fin cfg0.N) : Blk F :=
  ⟨iblk m c 0 t, iblk m c 1 t, iblk m c 2 t, iblk m c 3 t, iblk m c 4 t, iblk m c 5 t, iblk m c 6 t⟩

/-- The accumulators before point `n`. -/
def St (c : Dev nD) : ℕ → Acc F
  | 0 => ⟨k0_pay1, k0_pay2, k0_pay3, k0_pay4, k0_pay5⟩
  | n + 1 => if h : n < cfg0.N then step (blk m c ⟨n, h⟩) (grid0.coords ⟨n, h⟩) (St c n) else St c n

theorem St_succ (c : Dev nD) (t : Fin cfg0.N) : St m c (t.val + 1) = step (blk m c t) (grid0.coords t) (St m c t.val) := by
  rw [St, dif_pos t.isLt]

/-- At the first point of a head pair nothing is left of what the accumulators held. -/
theorem step_first (B : Blk F) (i : grid0.Coords) (h1 : k0_cond1 i = 1#1) (s s' : Acc F) : step B i s = step B i s' := by
  have g := (cond1_iff i).mp h1
  have h2 : cond2 i = 1#1 := (cond2_iff i).mpr (by omega)
  unfold step clr1 clr2
  simp only [if_pos h1, if_pos h2]

/-- A point's step from what its buffers hold is the step of the recursion. -/
theorem step_St (c : Dev nD) (t : Fin cfg0.N) (s : Acc F) (h : t.val % 169 ≠ 0 → s = St m c t.val) :
    step (blk m c t) (grid0.coords t) s = St m c (t.val + 1) := by
  rw [St_succ]
  by_cases h0 : t.val % 169 = 0
  · exact step_first _ _ ((cond1_iff _).mpr (by rw [coord1, coord2]; omega)) _ _
  · rw [h h0]

/-- A point above the diagonal leaves the accumulators as they are. -/
theorem step_above (B : Blk F) (i : grid0.Coords) (h1 : ¬k0_cond1 i = 1#1) (h3 : ¬k0_cond3 i = 1#1) (h4 : ¬k0_cond4 i = 1#1) (s : Acc F) :
    step B i s = s := by
  have h2 : ¬cond2 i = 1#1 := fun h => h3 ((cond3_iff i).mpr (by have := (cond2_iff i).mp h; omega))
  unfold step clr1 clr2 upd3 upd4
  rw [if_neg h1, if_neg h2, dif_neg h3, dif_neg h4]

/-! ## The proof data -/

/-- The scratch buffers before point `n`: what the recursion says, save before the first point. -/
def Scr (c : Dev nD) (n : ℕ) : sProp 𝕄 :=
  iprop(∃ s : Acc F, ⌜n ≠ 0 → s = St m c n⌝ ∗ owns (c : Thread nD τ) (Memref.whole cc0_scratch0) fullShare s.dk
    ∗ owns (c : Thread nD τ) (Memref.whole cc0_scratch1) fullShare s.dv ∗ owns (c : Thread nD τ) (Memref.whole cc0_scratch2) fullShare s.dck)

/-- The proof data on core `c`: an input's buffer holds its block, an output's what the recursion says after the point. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => (St m c (t.val + 1)).dq
    | 8 => fun t => (St m c (t.val + 1)).dk
    | 9 => fun t => (St m c (t.val + 1)).dv
    | 10 => fun t => (St m c (t.val + 1)).dck
    | 11 => fun t => (St m c (t.val + 1)).dcr
    | ⟨_ + 12, h⟩ => absurd h (Nat.not_lt.2 (Nat.le_add_left _ _))
  Φ n := iprop(Scr m c n.val ∗ ∃ r, prngReg c r)
  q _ := fullShare
  owed _ := 0

theorem A_eq (c : Dev nD) (w : Fin cfg0.W) : (dats m 0 c).A w = V m c (Pipeline.arrRef spec0 w) := by dsimp only [dats]

/-- The buffers of dq and of the row sums are fresh at the first point of a head pair. -/
theorem fresh_pair (w : Fin cfg0.W) (hw : w = 7 ∨ w = 11) (n : ℕ) (hn : n ≤ cfg0.N) : cfg0.fresh w n = decide (n % 169 = 0) := by
  refine cfg0.fresh_tab w (fun n => decide (n % 169 = 0)) rfl (fun t => ?_) n hn
  have hfl : (cfg0.win w).flush t = decide (t.val % 169 = 168) := by
    rw [Bool.eq_iff_iff, decide_eq_true_iff]
    rcases hw with rfl | rfl
    · exact flush0_7 t
    · exact flush0_11 t
  rw [hfl]
  by_cases h0 : t.val % 169 = 0
  · have h1 : k0_cond1 (grid0.coords t) = 1#1 := (cond1_iff _).mpr (by rw [coord1, coord2]; omega)
    have hi : cfg0.idle w (cfg0.grid.coords t) = false := by
      rcases hw with rfl | rfl
      · show (!(k0_cond1 (grid0.coords t) == 1#1) && _ && _) = false
        rw [h1]; rfl
      · show (!(k0_cond1 (grid0.coords t) == 1#1) && _ && _) = false
        rw [h1]; rfl
    rw [hi, Bool.false_and, Bool.or_false, decide_eq_decide]; omega
  · rw [decide_eq_false h0, Bool.and_false, Bool.or_false, decide_eq_decide]; omega

/-- Where the buffer of dq is idle the point leaves the accumulators as they are. -/
theorem idle_pair (w : Fin cfg0.W) (hw : w = 7 ∨ w = 11) (t : Fin cfg0.N) (h : cfg0.idle w (cfg0.grid.coords t) = true) (c : Dev nD) :
    St m c (t.val + 1) = St m c t.val := by
  have h' : (!(k0_cond1 (grid0.coords t) == 1#1) && !(k0_cond3 (grid0.coords t) == 1#1) && !(k0_cond4 (grid0.coords t) == 1#1)) = true := by
    rcases hw with rfl | rfl <;> exact h
  rw [Bool.and_eq_true, Bool.and_eq_true, Bool.not_eq_true', Bool.not_eq_true', Bool.not_eq_true', beq_eq_false_iff_ne, beq_eq_false_iff_ne, beq_eq_false_iff_ne] at h'
  rw [St_succ, step_above _ _ h'.1.1 h'.1.2 h'.2]

/-- An input's buffer holds its block. -/
theorem inp0 (c : Dev nD) (t : Fin cfg0.N) (d) : (dats m 0 c).before 0 t d = iblk m c 0 t :=
  before0_0_of m (dats m 0 c) (A_eq m c 0) (fun _ => by dsimp only [dats]) t d
theorem inp1 (c : Dev nD) (t : Fin cfg0.N) (d) : (dats m 0 c).before 1 t d = iblk m c 1 t :=
  before0_1_of m (dats m 0 c) (A_eq m c 1) (fun _ => by dsimp only [dats]) t d
theorem inp2 (c : Dev nD) (t : Fin cfg0.N) (d) : (dats m 0 c).before 2 t d = iblk m c 2 t :=
  before0_2_of m (dats m 0 c) (A_eq m c 2) (fun _ => by dsimp only [dats]) t d
theorem inp3 (c : Dev nD) (t : Fin cfg0.N) (d) : (dats m 0 c).before 3 t d = iblk m c 3 t :=
  before0_3_of m (dats m 0 c) (A_eq m c 3) (fun _ => by dsimp only [dats]) t d
theorem inp4 (c : Dev nD) (t : Fin cfg0.N) (d) : (dats m 0 c).before 4 t d = iblk m c 4 t :=
  before0_4_of m (dats m 0 c) (A_eq m c 4) (fun _ => by dsimp only [dats]) t d
theorem inp5 (c : Dev nD) (t : Fin cfg0.N) (d) : (dats m 0 c).before 5 t d = iblk m c 5 t :=
  before0_5_of m (dats m 0 c) (A_eq m c 5) (fun _ => by dsimp only [dats]) t d
theorem inp6 (c : Dev nD) (t : Fin cfg0.N) (d) : (dats m 0 c).before 6 t d = iblk m c 6 t :=
  before0_6_of m (dats m 0 c) (A_eq m c 6) (fun _ => by dsimp only [dats]) t d

/-- The first point of a head pair is no idle point. -/
theorem not_first (w : Fin cfg0.W) (hw : w = 7 ∨ w = 11) (t : Fin cfg0.N) (h : cfg0.idle w (cfg0.grid.coords t) = true) : t.val % 169 ≠ 0 := fun h0 => by
  have h1 : k0_cond1 (grid0.coords t) = 1#1 := (cond1_iff _).mpr (by rw [coord1, coord2]; omega)
  have h' : (!(k0_cond1 (grid0.coords t) == 1#1) && !(k0_cond3 (grid0.coords t) == 1#1) && !(k0_cond4 (grid0.coords t) == 1#1)) = true := by
    rcases hw with rfl | rfl <;> exact h
  rw [h1] at h'
  exact Bool.noConfusion h'

theorem before_dq (c : Dev nD) (t : Fin cfg0.N) (d) (h : t.val % 169 ≠ 0) : (dats m 0 c).before 7 t d = (St m c t.val).dq := by
  have e := (dats m 0 c).before_out_traj 7 rfl (fun _ _ => rfl) (fun t ht hi _ => by
    dsimp only [dats]
    rw [idle_pair m 7 (Or.inl rfl) t hi c, Nat.sub_add_cancel (Nat.pos_of_ne_zero ht)]) t.val t rfl d
  rw [fresh_pair 7 (Or.inl rfl) t.val (Nat.le_of_lt t.isLt), decide_eq_false h, if_neg Bool.false_ne_true] at e
  rw [e]
  dsimp only [dats]
  rw [Nat.sub_add_cancel (Nat.pos_of_ne_zero (by omega))]

theorem before_dcr (c : Dev nD) (t : Fin cfg0.N) (d) (h : t.val % 169 ≠ 0) : (dats m 0 c).before 11 t d = (St m c t.val).dcr := by
  have e := (dats m 0 c).before_out_traj 11 rfl (fun _ _ => rfl) (fun t ht hi _ => by
    dsimp only [dats]
    rw [idle_pair m 11 (Or.inr rfl) t hi c, Nat.sub_add_cancel (Nat.pos_of_ne_zero ht)]) t.val t rfl d
  rw [fresh_pair 11 (Or.inr rfl) t.val (Nat.le_of_lt t.isLt), decide_eq_false h, if_neg Bool.false_ne_true] at e
  rw [e]
  dsimp only [dats]
  rw [Nat.sub_add_cancel (Nat.pos_of_ne_zero (by omega))]

/-! ## The body obligation -/

/-- What a window's buffer is left at: what the body says, or, idle and not written back, what it held. -/
def left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem left_intro (c : Dev nD) (w : Fin cfg0.W) (t : Fin cfg0.N) (X)
    (h : cfg0.idle w (cfg0.grid.coords t) = false ∨ (cfg0.win w).flush t = true → X = (dats m 0 c).after w t)
    (h' : cfg0.idle w (cfg0.grid.coords t) = true → (cfg0.win w).flush t = false → ∃ d, X = (dats m 0 c).before w t d) :
    (owns (c : Thread nD τ) ((cfg0.win w).stage (cfg0.slots t w)) fullShare X : sProp 𝕄) ⊢ left m c w t := by
  unfold left
  cases hi : cfg0.idle w (cfg0.grid.coords t)
  · rw [h (Or.inl hi)]
  · cases hf : (cfg0.win w).flush t
    · obtain ⟨d, e⟩ := h' hi hf
      rw [e]
      iintro H
      iexists d
      iexact H
    · rw [h (Or.inr hf)]

/-- An input's buffer is never idle. -/
theorem left_in (c : Dev nD) (w : Fin cfg0.W) (t : Fin cfg0.N) (X) (hi : cfg0.idle w (cfg0.grid.coords t) = false) (h : X = (dats m 0 c).after w t) :
    (owns (c : Thread nD τ) ((cfg0.win w).stage (cfg0.slots t w)) fullShare X : sProp 𝕄) ⊢ left m c w t :=
  left_intro m c w t X (fun _ => h) (fun hi' => absurd (hi.symm.trans hi') Bool.false_ne_true)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

def bodyPost (c : Dev nD) (t : Fin cfg0.N) : sProp 𝕄 :=
  iprop((dats m 0 c).Φ t.succ ∗ (dats m 0 c).owesAt () t.succ
    ∗ left m c 0 t
    ∗ left m c 1 t
    ∗ left m c 2 t
    ∗ left m c 3 t
    ∗ left m c 4 t
    ∗ left m c 5 t
    ∗ left m c 6 t
    ∗ left m c 7 t
    ∗ left m c 8 t
    ∗ left m c 9 t
    ∗ left m c 10 t
    ∗ left m c 11 t)

/-- The column results' buffers are written back where they are stored. -/
theorem store_col (w : Fin cfg0.W) (hw : w = 8 ∨ w = 9 ∨ w = 10) (t : Fin cfg0.N) :
    (cfg0.idle w (cfg0.grid.coords t) = true ↔ ¬k0_cond5 (grid0.coords t) = 1#1) ∧ ((cfg0.win w).flush t = true ↔ k0_cond5 (grid0.coords t) = 1#1) := by
  have hf : k0_cond5 (grid0.coords t) = 1#1 ↔ t.val % 13 = 12 := by rw [cond5_iff, coord2]
  have hi : (!(k0_cond5 (grid0.coords t) == 1#1)) = true ↔ ¬k0_cond5 (grid0.coords t) = 1#1 := by
    rw [Bool.not_eq_true', beq_eq_false_iff_ne]
  rcases hw with rfl | rfl | rfl
  · exact ⟨hi, (flush0_8 t).trans hf.symm⟩
  · exact ⟨hi, (flush0_9 t).trans hf.symm⟩
  · exact ⟨hi, (flush0_10 t).trans hf.symm⟩

theorem left_col (c : Dev nD) (w : Fin cfg0.W) (hw : w = 8 ∨ w = 9 ∨ w = 10) (t : Fin cfg0.N) (d Y)
    (h : Y = (dats m 0 c).after w t) :
    (owns (c : Thread nD τ) ((cfg0.win w).stage (cfg0.slots t w)) fullShare (if k0_cond5 (grid0.coords t) = 1#1 then Y else (dats m 0 c).before w t d) : sProp 𝕄)
      ⊢ left m c w t := by
  have hs := store_col w hw t
  refine left_intro m c w t _ (fun hh => ?_) (fun hi hf => ⟨d, ?_⟩)
  · have h5 : k0_cond5 (grid0.coords t) = 1#1 := by
      rcases hh with hh | hh
      · by_contra hc
        rw [hs.1.mpr hc] at hh
        exact Bool.noConfusion hh
      · exact hs.2.mp hh
    rw [if_pos h5, h]
  · rw [if_neg (hs.1.mp hi)]

set_option maxHeartbeats 2000000 in
/-- The body at a point, from what the pipeline hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = iprop(Scr m c t.val ∗ ∃ r, prngReg c r) from rfl,
    show (dats m 0 c).Φ t.succ = iprop(Scr m c (t.val + 1) ∗ ∃ r, prngReg c r) from rfl]
  unfold Scr
  simp only [inp0, inp1, inp2, inp3, inp4, inp5, inp6]
  iintro ⟨⟨⟨%s, %hs, S0, S1, S2⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hst : ∀ e : Acc F, e = ⟨(dats m 0 c).before 7 t d7, (dats m 0 c).before 11 t d11, s.dk, s.dv, s.dck⟩ →
      step (blk m c t) (grid0.coords t) e = St m c (t.val + 1) := fun e he => step_St m c t e fun h0 => by
    rw [he, hs (by omega), before_dq m c t d7 h0, before_dcr m c t d11 h0]
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (blk m c t)
    ⟨(dats m 0 c).before 7 t d7, (dats m 0 c).before 11 t d11, s.dk, s.dv, s.dck⟩
    ((dats m 0 c).before 8 t d8) ((dats m 0 c).before 9 t d9) ((dats m 0 c).before 10 t d10) _)
  rw [hst _ rfl]
  unfold pre
  dsimp only [blk]
  isplitl [S0 S1 S2 H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    iexact S2
  iintro ⟨H0, H1, H2, H3, H4, H5, H6, H7, H8, H9, H10, H11, S0, S1, S2⟩
  isplitl [S0 S1 S2 Hg]
  · isplitl [S0 S1 S2]
    · iexists (St m c (t.val + 1)); isplitr; · ipureintro; exact fun _ => rfl
      isplitl [S0]; · iexact S0
      isplitl [S1]; · iexact S1
      iexact S2
    iexact Hg
  isplitl [HO]; · iexact HO
  isplitl [H0]; · iapply (left_in m c 0 t (iblk m c 0 t) rfl (by dsimp only [dats])); iexact H0
  isplitl [H1]; · iapply (left_in m c 1 t (iblk m c 1 t) rfl (by dsimp only [dats])); iexact H1
  isplitl [H2]; · iapply (left_in m c 2 t (iblk m c 2 t) rfl (by dsimp only [dats])); iexact H2
  isplitl [H3]; · iapply (left_in m c 3 t (iblk m c 3 t) rfl (by dsimp only [dats])); iexact H3
  isplitl [H4]; · iapply (left_in m c 4 t (iblk m c 4 t) rfl (by dsimp only [dats])); iexact H4
  isplitl [H5]; · iapply (left_in m c 5 t (iblk m c 5 t) rfl (by dsimp only [dats])); iexact H5
  isplitl [H6]; · iapply (left_in m c 6 t (iblk m c 6 t) rfl (by dsimp only [dats])); iexact H6
  isplitl [H7]
  · iapply (left_intro m c 7 t (St m c (t.val + 1)).dq (fun _ => by dsimp only [dats]) (fun hi _ => ⟨d7, by
      have h0 : t.val % 169 ≠ 0 := not_first 7 (Or.inl rfl) t hi
      rw [before_dq m c t d7 h0, idle_pair m 7 (Or.inl rfl) t hi c]⟩))
    iexact H7
  isplitl [H8]
  · iapply (left_col m c 8 (Or.inl rfl) t d8 (St m c (t.val + 1)).dk (by dsimp only [dats]))
    iexact H8
  isplitl [H9]
  · iapply (left_col m c 9 (Or.inr (Or.inl rfl)) t d9 (St m c (t.val + 1)).dv (by dsimp only [dats]))
    iexact H9
  isplitl [H10]
  · iapply (left_col m c 10 (Or.inr (Or.inr rfl)) t d10 (St m c (t.val + 1)).dck (by dsimp only [dats]))
    iexact H10
  iapply (left_intro m c 11 t (St m c (t.val + 1)).dcr (fun _ => by dsimp only [dats]) (fun hi _ => ⟨d11, by
    have h0 : t.val % 169 ≠ 0 := not_first 11 (Or.inr rfl) t hi
    rw [before_dcr m c t d11 h0, idle_pair m 11 (Or.inr rfl) t hi c]⟩))
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl (fun _ => by unfold bodyPost left; exact .rfl)

/-! ## The launch -/

theorem enter (c : Dev nD) : Pipeline.ΦA spec0 c ⊢ (dats (F := F) m 0 c).Φ 0 := by
  rw [show (dats (F := F) m 0 c).Φ 0 = iprop(Scr m c 0 ∗ ∃ r, prngReg c r) from rfl]
  unfold Pipeline.ΦA Scr
  rw [scopedRest0_eq]
  simp only [owns_whole]
  iintro ⟨⟨⟨%f0, S0⟩, ⟨%f1, S1⟩, ⟨%f2, S2⟩⟩, Hg⟩
  isplitl [S0 S1 S2]
  · iexists ⟨k0_pay1, k0_pay2, f0, f1, f2⟩
    isplitr; · ipureintro; exact fun h => absurd rfl h
    isplitl [S0]; · iexact S0
    isplitl [S1]; · iexact S1
    iexact S2
  iexact Hg

theorem leave (c : Dev nD) : (dats (F := F) m 0 c).Φ (Fin.last cfg0.N) ⊢ Pipeline.ΦA spec0 c := by
  rw [show (dats (F := F) m 0 c).Φ (Fin.last cfg0.N) = iprop(Scr m c cfg0.N ∗ ∃ r, prngReg c r) from rfl]
  unfold Pipeline.ΦA Scr
  rw [scopedRest0_eq]
  simp only [owns_whole]
  iintro ⟨⟨%s, %hs, S0, S1, S2⟩, Hg⟩
  isplitl [S0 S1 S2]
  · isplitl [S0]; · iexists _; iexact S0
    isplitl [S1]; · iexists _; iexact S1
    iexists _; iexact S2
  iexact Hg

set_option backward.isDefEq.respectTransparency.types false in
/-- Every execution ends, with the arrays as the proof data say and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m) (hQ' := fun _ h => h)

/-- Every argument ends as it began and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩) (run_main m ρ)

end Cert.KernelIdeal.Hand

end
-- ==== Proof.Same.lean ====
/-
  The kernel's two programs, printed under two names, are one program: their bodies are one term, hence so are their tables of
  bodies and their main functions. The frame at the machine's floats is the run of Proof/Run.lean read at those floats.
-/
module

public import proofs.«01_k».proof.Kernel
public import proofs.«01_k».proof.Proof.Gen.Kernel
public import proofs.«01_k».proof.KernelIdeal
public import proofs.«01_k».proof.Proof.Gen.KernelIdeal
public import proofs.«01_k».proof.Proof.Run
public import proofs.«01_k».proof.Defs

@[expose] public section

noncomputable section

open Idealize.ShloMosaic Idealize.SL.Sem

namespace Cert.Proof

variable {F : FTy → Type} [FloatOps F] [Cert.Kernel.Facts] [Cert.KernelIdeal.Facts]

set_option maxHeartbeats 0

/-- The two bodies. -/
theorem body_eq : Cert.Kernel.cc0_flash_bwd (F := F) = Cert.KernelIdeal.cc0_flash_bwd (F := F) := rfl

/-- The first table's row at a point is the first body at that point's buffers. -/
theorem row_l (t : Fin Cert.Kernel.grid0.N) (s : (w : Fin 12) → Fin (Cert.Kernel.win0 w).nbuf) :
   Cert.Kernel.defs₀ (F := F) .tc (0 : Fin 1) (t, s) = Cert.Kernel.cc0_flash_bwd (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9)) (Cert.Kernel.win0_10.stage (s 10)) (Cert.Kernel.Facts₀.hstage0_10 ((s 10).cast Cert.Kernel.Facts₀.nbuf0_10)) (Cert.Kernel.win0_11.stage (s 11)) (Cert.Kernel.Facts₀.hstage0_11 ((s 11).cast Cert.Kernel.Facts₀.nbuf0_11)) (Memref.whole Cert.Kernel.cc0_scratch0) (Memref.isWhole_whole _) (Memref.whole Cert.Kernel.cc0_scratch1) (Memref.isWhole_whole _) (Memref.whole Cert.Kernel.cc0_scratch2) (Memref.isWhole_whole _) := rfl

/-- There the two bodies agree. -/
theorem row_m (t : Fin Cert.Kernel.grid0.N) (s : (w : Fin 12) → Fin (Cert.Kernel.win0 w).nbuf) :
   Cert.Kernel.cc0_flash_bwd (F := F) (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9)) (Cert.Kernel.win0_10.stage (s 10)) (Cert.Kernel.Facts₀.hstage0_10 ((s 10).cast Cert.Kernel.Facts₀.nbuf0_10)) (Cert.Kernel.win0_11.stage (s 11)) (Cert.Kernel.Facts₀.hstage0_11 ((s 11).cast Cert.Kernel.Facts₀.nbuf0_11)) (Memref.whole Cert.Kernel.cc0_scratch0) (Memref.isWhole_whole _) (Memref.whole Cert.Kernel.cc0_scratch1) (Memref.isWhole_whole _) (Memref.whole Cert.Kernel.cc0_scratch2) (Memref.isWhole_whole _) = Cert.KernelIdeal.cc0_flash_bwd (F := F) (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9)) (Cert.Kernel.win0_10.stage (s 10)) (Cert.Kernel.Facts₀.hstage0_10 ((s 10).cast Cert.Kernel.Facts₀.nbuf0_10)) (Cert.Kernel.win0_11.stage (s 11)) (Cert.Kernel.Facts₀.hstage0_11 ((s 11).cast Cert.Kernel.Facts₀.nbuf0_11)) (Memref.whole Cert.Kernel.cc0_scratch0) (Memref.isWhole_whole _) (Memref.whole Cert.Kernel.cc0_scratch1) (Memref.isWhole_whole _) (Memref.whole Cert.Kernel.cc0_scratch2) (Memref.isWhole_whole _) :=
  congrArg (fun f => f (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9)) (Cert.Kernel.win0_10.stage (s 10)) (Cert.Kernel.Facts₀.hstage0_10 ((s 10).cast Cert.Kernel.Facts₀.nbuf0_10)) (Cert.Kernel.win0_11.stage (s 11)) (Cert.Kernel.Facts₀.hstage0_11 ((s 11).cast Cert.Kernel.Facts₀.nbuf0_11)) (Memref.whole Cert.Kernel.cc0_scratch0) (Memref.isWhole_whole _) (Memref.whole Cert.Kernel.cc0_scratch1) (Memref.isWhole_whole _) (Memref.whole Cert.Kernel.cc0_scratch2) (Memref.isWhole_whole _)) (body_eq (F := F))

/-- And that is the second table's row. -/
theorem row_r (t : Fin Cert.Kernel.grid0.N) (s : (w : Fin 12) → Fin (Cert.Kernel.win0 w).nbuf) :
   Cert.KernelIdeal.cc0_flash_bwd (F := F) (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9)) (Cert.Kernel.win0_10.stage (s 10)) (Cert.Kernel.Facts₀.hstage0_10 ((s 10).cast Cert.Kernel.Facts₀.nbuf0_10)) (Cert.Kernel.win0_11.stage (s 11)) (Cert.Kernel.Facts₀.hstage0_11 ((s 11).cast Cert.Kernel.Facts₀.nbuf0_11)) (Memref.whole Cert.Kernel.cc0_scratch0) (Memref.isWhole_whole _) (Memref.whole Cert.Kernel.cc0_scratch1) (Memref.isWhole_whole _) (Memref.whole Cert.Kernel.cc0_scratch2) (Memref.isWhole_whole _) = Cert.KernelIdeal.defs₀ (F := F) .tc (0 : Fin 1) (t, s) := rfl

/-- The tables of bodies. -/
theorem bodies_eq : Cert.Kernel.defs₀ (F := F) = Cert.KernelIdeal.defs₀ (F := F) := by
  funext p ℓ a
  cases p with
  | tc =>
    match ℓ, a with
    | ⟨0, _⟩, (t, s) => exact (row_l t s).trans ((row_m t s).trans (row_r t s))
  | scScalar => rfl
  | scVector => rfl

/-- The tables of procedures. -/
theorem tables_eq : Cert.Kernel.defs (F := F) = Cert.KernelIdeal.defs (F := F) :=
  congrArg (fun d => Pipeline.defs Cert.Kernel.pcfgs d) (bodies_eq (F := F))

/-- The kernel at the machine's floats ends with its arguments unchanged and every counter at zero. -/
theorem frame_kernel : Cert.quiescent_Kernel := by
  unfold Cert.quiescent_Kernel
  intro m ρ h
  rw [tables_eq]
  exact Cert.KernelIdeal.Hand.quiescent (F := Bits) m ρ

end Cert.Proof

end
-- ==== Proof.Model.lean ====
/-
  The backward pass of the forgetting attention over the real numbers: what each result is, as a function of real
  arrays that are indexed by natural numbers. Rows are 0 … 8319, of which the first 112 are padding; column `64 h + d` of an
  array belongs to head `h`.
-/
module

public import Mathlib.Analysis.SpecialFunctions.Log.Basic
public import Mathlib.Data.EReal.Operations
public import Mathlib.Algebra.BigOperators.Field
public import Mathlib.Tactic.Field
public import Mathlib.Tactic.FieldSimp

@[expose] public section

noncomputable section

namespace Cert.Model

/-- The real arguments: queries, keys, values, output cotangents (zero on the padding rows), forget sums. -/
structure Args where
  q : ℕ → ℕ → ℝ
  k : ℕ → ℕ → ℝ
  v : ℕ → ℕ → ℝ
  g : ℕ → ℕ → ℝ
  c : ℕ → ℕ → ℝ

/-- Row `i` attends to column `j`. -/
abbrev Sees (i j : ℕ) : Prop := j ≤ i ∧ 112 ≤ j

variable (A : Args)

/-- The score of a head. -/
def score (h i j : ℕ) : ℝ := (∑ d : Fin 64, A.q i (64 * h + d.val) * A.k j (64 * h + d.val)) * (1 / 8) + A.c i h - A.c j h

/-- The normaliser of a row when the scores are shifted by `m`. -/
def mass (m : ℝ) (h i : ℕ) : ℝ := ∑ j : Fin 8320, if Sees i j.val then Real.exp (score A h i j.val - m) else 0

/-- The attention weight. -/
def weight (h i j : ℕ) : ℝ := if Sees i j then Real.exp (score A h i j) / mass A 0 h i else 0

/-- The weight's cotangent. -/
def dweight (h i j : ℕ) : ℝ := ∑ d : Fin 64, A.g i (64 * h + d.val) * A.v j (64 * h + d.val)

/-- The sum of a row's weights times their cotangents. -/
def rowSum (h i : ℕ) : ℝ := ∑ j : Fin 8320, weight A h i j.val * dweight A h i j.val

/-- The score's cotangent. -/
def dscore (h i j : ℕ) : ℝ := weight A h i j * (dweight A h i j - rowSum A h i)

/-- The four results. -/
def outQ (i x : ℕ) : ℝ := (∑ j : Fin 8320, dscore A (x / 64) i j.val * A.k j.val x) * (1 / 8)
def outK (j x : ℕ) : ℝ := ∑ i : Fin 8320, dscore A (x / 64) i.val j * (A.q i.val x * (1 / 8))
def outV (j x : ℕ) : ℝ := ∑ i : Fin 8320, weight A (x / 64) i.val j * A.g i.val x
def outC (n h : ℕ) : ℝ := (∑ j : Fin 8320, dscore A h n j.val) - ∑ i : Fin 8320, dscore A h i.val n

/-! ## Shifting the scores -/

theorem mass_shift (m : ℝ) (h i : ℕ) : mass A m h i = Real.exp (-m) * mass A 0 h i := by
  unfold mass
  rw [Finset.mul_sum]
  refine Finset.sum_congr rfl fun j _ => ?_
  split
  · rw [sub_zero, ← Real.exp_add]; congr 1; ring
  · rw [mul_zero]

/-- A row past the padding has a positive normaliser. -/
theorem mass_pos (m : ℝ) (h i : ℕ) (h1 : 112 ≤ i) (h2 : i < 8320) : 0 < mass A m h i := by
  unfold mass
  refine Finset.sum_pos' (fun j _ => ?_) ⟨⟨i, h2⟩, Finset.mem_univ _, ?_⟩
  · split
    · exact (Real.exp_pos _).le
    · exact le_rfl
  · rw [if_pos ⟨le_rfl, h1⟩]; exact Real.exp_pos _

/-- The weights computed with shifted scores. -/
theorem weight_shift (m : ℝ) (h i j : ℕ) (s : Sees i j) : weight A h i j = Real.exp (score A h i j - m) / mass A m h i := by
  unfold weight
  rw [if_pos s, mass_shift A m, sub_eq_add_neg, Real.exp_add, mul_comm (Real.exp (score A h i j)),
    mul_div_mul_left _ _ (Real.exp_pos _).ne']

/-- The weights computed with the logarithm of the normaliser, from the score without the row's forget sum. -/
theorem weight_log (m : ℝ) (h i j : ℕ) (s : Sees i j) (h2 : i < 8320) :
    Real.exp ((∑ d : Fin 64, A.q i (64 * h + d.val) * (1 / 8) * A.k j (64 * h + d.val)) - A.c j h
      - (m + Real.log (mass A m h i) - A.c i h)) = weight A h i j := by
  have hp := mass_pos A m h i (s.2.trans s.1) h2
  rw [weight_shift A m h i j s, ← Real.exp_log hp, ← Real.exp_sub, Real.exp_log hp]
  congr 1
  unfold score
  rw [Finset.sum_mul, Finset.sum_congr rfl fun d _ => show A.q i (64 * h + d.val) * (1 / 8) * A.k j (64 * h + d.val)
    = A.q i (64 * h + d.val) * A.k j (64 * h + d.val) * (1 / 8) by ring]
  ring

theorem weight_of_not (h i j : ℕ) (s : ¬ Sees i j) : weight A h i j = 0 := if_neg s

theorem dscore_of_not (h i j : ℕ) (s : ¬ Sees i j) : dscore A h i j = 0 := by
  unfold dscore; rw [weight_of_not A h i j s, zero_mul]

/-- The row sum is the product of the cotangent with the attention's output. -/
theorem rowSum_eq (h i : ℕ) : (∑ d : Fin 64, A.g i (64 * h + d.val) * ∑ j : Fin 8320, weight A h i j.val * A.v j.val (64 * h + d.val))
    = rowSum A h i := by
  unfold rowSum dweight
  simp only [Finset.mul_sum]
  rw [Finset.sum_comm]
  exact Finset.sum_congr rfl fun j _ => Finset.sum_congr rfl fun d _ => by ring

/-- The score's cotangent by the quotient rule: `e` the shifted exponential, `l` the normaliser. -/
theorem dscore_quot (m : ℝ) (h i j : ℕ) (s : Sees i j) (h2 : i < 8320) :
    (dweight A h i j / mass A m h i + -(∑ x : Fin 8320, dweight A h i x.val * (1 / (mass A m h i * mass A m h i))
      * (if Sees i x.val then Real.exp (score A h i x.val - m) else 0))) * Real.exp (score A h i j - m) = dscore A h i j := by
  have hp := (mass_pos A m h i (s.2.trans s.1) h2).ne'
  have e : (∑ x : Fin 8320, dweight A h i x.val * (1 / (mass A m h i * mass A m h i))
      * (if Sees i x.val then Real.exp (score A h i x.val - m) else 0)) = rowSum A h i / mass A m h i := by
    unfold rowSum
    rw [Finset.sum_div]
    refine Finset.sum_congr rfl fun x _ => ?_
    by_cases hx : Sees i x.val
    · rw [if_pos hx, weight_shift A m h i _ hx]; field_simp
    · rw [if_neg hx, weight_of_not A h i _ hx]; ring
  rw [e]
  unfold dscore
  rw [weight_shift A m h i j s]
  field_simp
  ring

/-- A sum over rows past the padding is the sum over all rows, where the padding rows add nothing. -/
theorem sum_rows (f : ℕ → ℝ) (h0 : ∀ i, i < 112 → f i = 0) : (∑ i : Fin 8208, f (112 + i.val)) = ∑ i : Fin 8320, f i.val := by
  rw [Fin.sum_univ_eq_sum_range (fun i => f (112 + i)) 8208, Fin.sum_univ_eq_sum_range f 8320,
    show (8320 : ℕ) = 112 + 8208 from rfl, Finset.sum_range_add, Finset.sum_eq_zero fun i hi => h0 i (Finset.mem_range.1 hi), zero_add]

/-! ## Real numbers among the extended ones -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of reals in the extended reals. -/
theorem sum_coe {ι : Type} [Fintype ι] {f : ι → EReal} {g : ι → ℝ} (h : ∀ i, f i = ((g i : ℝ) : EReal)) :
    ∑ i, f i = ((∑ i, g i : ℝ) : EReal) := by
  rw [coe_sum]; exact Finset.sum_congr rfl fun i _ => h i

end Cert.Model

end
-- ==== Proof.Num.lean ====
/-
  Real numbers among the extended ones: quotients, exponentials and logarithms of reals, sums and maxima, and the signed
  comparisons of small words.
-/
module

public import proofs.«01_k».proof.Proof.Model
public import Idealize.ShloMosaic.PureOps.Ideal.Laws
public import Idealize.ShloMosaic.Lib.WordCmp

@[expose] public section

noncomputable section

namespace Cert.Num

open Idealize.ShloMosaic

theorem div_coe (a b : ℝ) (h : b ≠ 0) : Ideal.div (a : EReal) (b : EReal) = ((a / b : ℝ) : EReal) := by
  unfold Ideal.div
  rw [if_neg (by rw [EReal.coe_eq_zero]; exact h), ← EReal.coe_inv, ← EReal.coe_mul, div_eq_mul_inv]

theorem exp_coe (a : ℝ) : Ideal.exp (a : EReal) = ((Real.exp a : ℝ) : EReal) := rfl

theorem exp_bot : Ideal.exp ⊥ = 0 := rfl

theorem log_coe (a : ℝ) (h : 0 < a) : Ideal.log (a : EReal) = ((Real.log a : ℝ) : EReal) :=
  show (if a ≤ 0 then (⊥ : EReal) else (Real.log a : EReal)) = _ from if_neg (not_le.2 h)

theorem bits_eighth : Ideal.ofBits .f32 0x3E000000#32 = ((1 / 8 : ℝ) : EReal) := by
  simp [Ideal.ofBits, Ideal.ieee]; norm_num [← EReal.coe_mul]

theorem bits_one : Ideal.ofBits .f32 0x3F800000#32 = ((1 : ℝ) : EReal) := by
  simp [Ideal.ofBits, Ideal.ieee]; norm_num [← EReal.coe_mul]

theorem bits_bot : Ideal.ofBits .f32 0xFF800000#32 = ⊥ := by simp [Ideal.ofBits, Ideal.ieee]

theorem bits_top : Ideal.ofBits .f32 0x7F800000#32 = ⊤ := by simp [Ideal.ofBits, Ideal.ieee]

theorem bits_one_bf16 : Ideal.ofBits .bf16 0x3F80#16 = ((1 : ℝ) : EReal) := by
  simp [Ideal.ofBits, Ideal.ieee]; norm_num [← EReal.coe_mul]

theorem bits_zero_bf16 : Ideal.ofBits .bf16 0x0000#16 = 0 := by
  simp [Ideal.ofBits, Ideal.ieee]

/-- A maximum of reals and `⊥`, not all `⊥`, is real. -/
theorem foldl_max_real {ι : Type} (y : ι → EReal) (hy : ∀ n, y n ≠ ⊤) (L : List ι) :
    ∀ b : EReal, b ≠ ⊤ → (b ≠ ⊥ ∨ ∃ n ∈ L, y n ≠ ⊥) → ∃ r : ℝ, L.foldl (fun r n => max r (y n)) b = (r : EReal) := by
  induction L with
  | nil =>
    intro b hb h
    have hb' : b ≠ ⊥ := h.elim id fun ⟨_, hn, _⟩ => absurd hn List.not_mem_nil
    exact ⟨b.toReal, (EReal.coe_toReal hb hb').symm⟩
  | cons a L ih =>
    intro b hb h
    rw [List.foldl_cons]
    refine ih (max b (y a)) ?_ ?_
    · intro e; rcases max_choice b (y a) with h' | h' <;> rw [h'] at e
      · exact hb e
      · exact hy a e
    · by_cases hb' : b = ⊥
      · obtain ⟨n, hn, hn'⟩ := h.resolve_left (fun h => h hb')
        rcases List.mem_cons.1 hn with rfl | hn
        · left; intro e; exact hn' (le_bot_iff.1 (e ▸ le_max_right b (y n)))
        · exact .inr ⟨n, hn, hn'⟩
      · left; intro e; exact hb' (le_bot_iff.1 (e ▸ le_max_left b (y a)))

/-- The host's maximum along an axis, from `⊥`. -/
theorem host_max_real {s t u : Shape} {axes : List (Fin s.rank)} (x : FVec Ideal s .f32) (init : FVec Ideal u .f32)
    (h : s.ReducesTo axes t) (hu : 0 < u.numel) (j : t.Idx) (hi : init (Shape.Idx.first hu) = (⊥ : EReal)) (hx : ∀ i, x i ≠ (⊤ : EReal))
    (i : s.Idx) (hd : h.drop i = j) (hr : x i ≠ (⊥ : EReal)) :
    ∃ r : ℝ, Host.reduce FloatOps.maximumf x init h hu j = (r : EReal) := by
  unfold Host.reduce
  rw [hi]
  refine foldl_max_real (fun n => x (s.rowMajor.symm n)) (fun n => hx _) _ ⊥ bot_ne_top (.inr ⟨s.rowMajor i, ?_, ?_⟩)
  · rw [List.mem_filter]; exact ⟨List.mem_finRange _, by simp [hd]⟩
  · rw [Equiv.symm_apply_apply]; exact hr

/-- Signed comparisons of words that hold small numbers, as a bit that holds 1 where a proposition holds. -/
theorem sle_bit (a b : ℕ) (ha : a < 2 ^ 31) (hb : b < 2 ^ 31) :
    IntOp.cmpi .sle (BitVec.ofNat 32 a) (BitVec.ofNat 32 b) = if a ≤ b then 1#1 else 0#1 := by
  rw [WordCmp.cmpi_sle_ofNat ha hb]; by_cases h : a ≤ b <;> simp [h]

theorem sge_bit (a b : ℕ) (ha : a < 2 ^ 31) (hb : b < 2 ^ 31) :
    IntOp.cmpi .sge (BitVec.ofNat 32 a) (BitVec.ofNat 32 b) = if b ≤ a then 1#1 else 0#1 := by
  rw [WordCmp.cmpi_sge_ofNat ha hb]; by_cases h : b ≤ a <;> simp [h]

theorem slt_bit (a b : ℕ) (ha : a < 2 ^ 31) (hb : b < 2 ^ 31) :
    IntOp.cmpi .slt (BitVec.ofNat 32 a) (BitVec.ofNat 32 b) = if a < b then 1#1 else 0#1 := by
  rw [WordCmp.cmpi_slt_ofNat ha hb]; by_cases h : a < b <;> simp [h]

theorem and_bit (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_bit {α : Type} (p : Prop) [Decidable p] (x y : α) :
    Scalar.select (if p then 1#1 else 0#1) x y = if p then x else y := by
  by_cases hp : p <;> simp [hp, Scalar.select]

end Cert.Num

end
-- ==== Proof.Host.lean ====
/-
  What the program computes before its launch, at real arguments: the launch's operands are the arguments, the queries with their
  scale, the forward pass's logarithms of normalisers and the rows' sums, each a function of its index.
-/
module

public import proofs.«01_k».proof.Proof.Num
public import proofs.«01_k».proof.Proof.Gen.KernelIdeal.Frame
public import Idealize.ShloMosaic.Lib.Pointwise
public import Idealize.ShloMosaic.Lib.Pipeline.Value

@[expose] public section

set_option maxRecDepth 16384

noncomputable section

namespace Cert.KernelIdeal.Prefix

open Cert.KernelIdeal Cert.KernelIdeal.Gen Cert.Model Cert.Num
open Idealize.ShloMosaic Idealize.ShloMosaic.TcCoe

/-- A float array and a bit array on the host. -/
abbrev Arr (s : Shape) := FVec Ideal s .f32
abbrev Bit (s : Shape) := IVec s 1

/-! ## The values -/

def heads (x : Arr S8320x1024) : Arr S16x8320x64 :=
  transpose S16x8320x64 [1, 0, 2] (shapeCast S8320x16x64 x shapeCasts_S8320x1024_S8320x16x64) transposes_S8320x16x64_S16x8320x64_1_0_2
def byHead (x : Arr S8320x16) : Arr S16x8320 := transpose S16x8320 [1, 0] x transposes_S8320x16_S16x8320_1_0
/-- A row's number along its columns, and a column's number along its rows. -/
def along (x : Arr S16x8320) : Arr S16x8320x8320 :=
  broadcastInDim S16x8320x8320 ![0, 1, 2] bcast_S16x8320x1_S16x8320x8320_0_1_2 (broadcastInDim S16x8320x1 ![0, 1] bcast_S16x8320_S16x8320x1_0_1 x)
def down (x : Arr S16x8320) : Arr S16x8320x8320 :=
  broadcastInDim S16x8320x8320 ![0, 1, 2] bcast_S16x1x8320_S16x8320x8320_0_1_2 (broadcastInDim S16x1x8320 ![0, 2] bcast_S16x8320_S16x1x8320_0_2 x)
def all3 (w : BitVec 32) : Arr S16x8320x8320 := broadcastInDim S16x8320x8320 ![] bcast_S_S16x8320x8320 (constant S_ .f32 w)
def all2 (w : BitVec 32) : Arr S16x8320 := broadcastInDim S16x8320 ![] bcast_S_S16x8320 (constant S_ .f32 w)
def allx (w : BitVec 32) : Arr S8320x1024 := broadcastInDim S8320x1024 ![] bcast_S_S8320x1024 (constant S_ .f32 w)
def scores (q k : Arr S8320x1024) (c : Arr S8320x16) : Arr S16x8320x8320 :=
  subf (addf (mulf (Host.dotGeneral dot_S16x8320x64_S16x8320x64_S16x8320x8320_2_2_1_1_0_0 none (heads q) (heads k)) (all3 0x3E000000#32))
    (along (byHead c))) (down (byHead c))
def mask : Bit S8320x8320 :=
  andi (cmpi .sle (broadcastInDim S8320x8320 ![0, 1] bcast_S1x8320_S8320x8320_0_1 (broadcastInDim S1x8320 ![1] bcast_S8320_S1x8320_1 (iotaInDim S8320 32 0)))
      (broadcastInDim S8320x8320 ![0, 1] bcast_S8320x1_S8320x8320_0_1 (broadcastInDim S8320x1 ![0] bcast_S8320_S8320x1_0 (iotaInDim S8320 32 0))))
    (broadcastInDim S8320x8320 ![0, 1] bcast_S1x8320_S8320x8320_0_1
      (cmpi .sge (broadcastInDim S1x8320 ![1] bcast_S8320_S1x8320_1 (iotaInDim S8320 32 0)) (broadcastInDim S1x8320 ![] bcast_S_S1x8320 (constantI S_ 32 112#32))))
def mask3 : Bit S16x8320x8320 := broadcastInDim S16x8320x8320 ![1, 2] bcast_S8320x8320_S16x8320x8320_1_2 mask
/-- The rows past the padding. -/
def past : Bit S16x8320 :=
  broadcastInDim S16x8320 ![0, 1] bcast_S1x8320_S16x8320_0_1 (broadcastInDim S1x8320 ![1] bcast_S8320_S1x8320_1
    (cmpi .sge (iotaInDim S8320 32 0) (broadcastInDim S8320 ![] bcast_S_S8320 (constantI S_ 32 112#32))))
def tops (q k : Arr S8320x1024) (c : Arr S8320x16) : Arr S16x8320 :=
  select past (Host.reduce FloatOps.maximumf (select mask3 (scores q k c) (all3 0xFF800000#32)) (constant S_ .f32 0xFF800000#32)
    reducesTo_S16x8320x8320_S16x8320_d2 h_S_) (all2 0x00000000#32)
def exps (q k : Arr S8320x1024) (c : Arr S8320x16) : Arr S16x8320x8320 :=
  select mask3 (Host.exp (subf (scores q k c) (along (tops q k c)))) (all3 0x00000000#32)
def norms (q k : Arr S8320x1024) (c : Arr S8320x16) : Arr S16x8320 :=
  select past (Host.reduceAdd (exps q k c) (constant S_ .f32 0x00000000#32) reducesTo_S16x8320x8320_S16x8320_d2 h_S_) (all2 0x3F800000#32)
def outs (q k v : Arr S8320x1024) (c : Arr S8320x16) : Arr S16x8320x64 :=
  Host.dotGeneral dot_S16x8320x8320_S16x8320x64_S16x8320x64_2_1_1_2_0_0 none (Host.divf (exps q k c) (along (norms q k c))) (heads v)
def logs (q k : Arr S8320x1024) (c : Arr S8320x16) : Arr S16x8320 := subf (addf (tops q k c) (Host.log (norms q k c))) (byHead c)
def padded (g : Arr S8208x1024) : Arr S8320x1024 :=
  pad S8320x1024 ![112, 0] ![0, 0] ![0, 0] g (sitofp .f32 (constantI S_ 32 0#32)) pads_S8208x1024_S8320x1024_11200_000 h_S_
def sums (q k v : Arr S8320x1024) (c : Arr S8320x16) (g : Arr S8208x1024) : Arr S16x8320 :=
  Host.reduceAdd (mulf (heads (padded g)) (outs q k v c)) (constant S_ .f32 0x00000000#32) reducesTo_S16x8320x64_S16x8320_d2 h_S_
/-- A number per row and head, once per column of the head. -/
def spread (x : Arr S16x8320) : Arr S8320x1024 :=
  shapeCast S8320x1024 (broadcastInDim S8320x16x64 ![0, 1] bcast_S8320x16_S8320x16x64_0_1 (transpose S8320x16 [1, 0] x transposes_S16x8320_S8320x16_1_0))
    shapeCasts_S8320x16x64_S8320x1024
def pairs (c : Arr S8320x16) : Arr S8x2x8320 := shapeCast S8x2x8320 (byHead c) shapeCasts_S16x8320_S8x2x8320

/-! ## The launch's operands -/

variable (m : (ℓ : Loc nD τ sig) → Buf (Elt Ideal) ℓ) (c : Dev nD)

theorem op0 : V m c main_v61 = truncf .bf16 (mulf (m ((c.tc : Thread nD τ).loc main_arg0) : Arr S8320x1024) (allx 0x3E000000#32)) bitsLt_bf16_f32 := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> rfl

theorem op1 : V m c main_v62 = (truncf .bf16 (m ((c.tc : Thread nD τ).loc main_arg1) : Arr S8320x1024) bitsLt_bf16_f32 : FVec Ideal S8320x1024 .bf16) := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> rfl <;> (unfold padded; rfl)

theorem op2 : V m c main_v63 = (truncf .bf16 (m ((c.tc : Thread nD τ).loc main_arg2) : Arr S8320x1024) bitsLt_bf16_f32 : FVec Ideal S8320x1024 .bf16) := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> rfl <;> (unfold padded; rfl)

theorem op3 : V m c main_v64 = truncf .bf16 (padded (m ((c.tc : Thread nD τ).loc main_arg4))) bitsLt_bf16_f32 := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> rfl <;> (unfold padded; rfl)

theorem op4 : V m c main_v55 = spread (logs (m ((c.tc : Thread nD τ).loc main_arg0)) (m ((c.tc : Thread nD τ).loc main_arg1)) (m ((c.tc : Thread nD τ).loc main_arg3))) := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> (unfold spread logs norms exps tops scores along down all2 all3 byHead heads mask3 mask past; rfl)

theorem op5 : V m c main_v58 = spread (sums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> (unfold spread sums outs padded norms exps tops scores along down all2 all3 byHead heads mask3 mask past; rfl)

theorem op6 : V m c main_v66 = pairs (m ((c.tc : Thread nD τ).loc main_arg3)) := by
  simp only [V, V0, hostOps0, hostOps0_1, hostOps0_2, hostOps0_3, hostOps0_4, hostOps0_5, hostOps0_6, hostOps0_7, hostOps0_8, hostOps0_9, hostOps0_10,
    List.flatten_cons, List.flatten_nil, List.cons_append, List.nil_append, List.append_nil, StableHlo.TRef.nullary, StableHlo.TRef.ternary,
    StableHlo.TRef.binary, StableHlo.TRef.unary, StableHlo.TRef.toBuf, StableHlo.TRef.ofBuf, cast_eq]
  after_results_simp <;> (unfold pairs byHead; rfl)

end Cert.KernelIdeal.Prefix

end
-- ==== Proof.HostReal.lean ====
/-
  The values before the launch, read at real arguments.
-/
module

public import proofs.«01_k».proof.Proof.Host

@[expose] public section

noncomputable section

namespace Cert.KernelIdeal.Prefix

open Cert.KernelIdeal Cert.KernelIdeal.Gen Cert.Model Cert.Num
open Idealize.ShloMosaic Idealize.ShloMosaic.TcCoe

/-- An array's elements are reals, a function of their indices. -/
abbrev Is2 {a b : ℕ} (x : FVec Ideal ⟨2, ![a, b]⟩ .f32) (f : ℕ → ℕ → ℝ) : Prop := ∀ i, x i = ((f (i 0).val (i 1).val : ℝ) : EReal)
abbrev Is3 {a b c : ℕ} (x : FVec Ideal ⟨3, ![a, b, c]⟩ .f32) (f : ℕ → ℕ → ℕ → ℝ) : Prop :=
  ∀ i, x i = ((f (i 0).val (i 1).val (i 2).val : ℝ) : EReal)

theorem eq2 (f : ℕ → ℕ → ℝ) {a b a' b' : ℕ} (h1 : a = a') (h2 : b = b') : ((f a b : ℝ) : EReal) = ((f a' b' : ℝ) : EReal) := by rw [h1, h2]

abbrev i2 {a b : ℕ} (x y : ℕ) (hx : x < a) (hy : y < b) : (⟨2, ![a, b]⟩ : Shape).Idx := fun k => match k with
  | ⟨0, _⟩ => ⟨x, hx⟩
  | ⟨1, _⟩ => ⟨y, hy⟩
abbrev i3 {a b c : ℕ} (x y z : ℕ) (hx : x < a) (hy : y < b) (hz : z < c) : (⟨3, ![a, b, c]⟩ : Shape).Idx := fun k => match k with
  | ⟨0, _⟩ => ⟨x, hx⟩
  | ⟨1, _⟩ => ⟨y, hy⟩
  | ⟨2, _⟩ => ⟨z, hz⟩

/-! ## Layout -/

theorem heads_is {x : Arr S8320x1024} {f : ℕ → ℕ → ℝ} (h : Is2 x f) : Is3 (heads x) fun p i d => f i (64 * p + d) := fun i => by
  have h0 : (i 0).val < 16 := (i 0).isLt
  have h1 : (i 1).val < 8320 := (i 1).isLt
  have h2 : (i 2).val < 64 := (i 2).isLt
  unfold heads
  rw [transpose_apply [1, 0, 2] _ transposes_S8320x16x64_S16x8320x64_1_0_2 i (i3 (i 1).val (i 0).val (i 2).val h1 h0 h2) (fun b => match b with
    | ⟨0, _⟩ => rfl
    | ⟨1, _⟩ => rfl
    | ⟨2, _⟩ => rfl),
    shapeCast_apply x _ _ (i2 (i 1).val (64 * (i 0).val + (i 2).val) h1 (by omega))
      (by rw [Shape.rowMajor_val_two, Shape.rowMajor_val_three]
          show (i 1).val * 1024 + (64 * (i 0).val + (i 2).val) = ((i 1).val * 16 + (i 0).val) * 64 + (i 2).val
          omega), h]

theorem byHead_is {x : Arr S8320x16} {f : ℕ → ℕ → ℝ} (h : Is2 x f) : Is2 (byHead x) fun p i => f i p := fun i => by
  unfold byHead
  rw [transpose_apply [1, 0] x transposes_S8320x16_S16x8320_1_0 i (i2 (i 1).val (i 0).val (i 1).isLt (i 0).isLt) (fun b => match b with
    | ⟨0, _⟩ => rfl
    | ⟨1, _⟩ => rfl), h]

theorem along_at (x : Arr S16x8320) (i : S16x8320x8320.Idx) : along x i = x (i2 (i 0).val (i 1).val (i 0).isLt (i 1).isLt) := by
  unfold along
  rw [broadcastInDim_apply _ bcast_S16x8320x1_S16x8320x8320_0_1_2 _ i (i3 (i 0).val (i 1).val 0 (i 0).isLt (i 1).isLt Nat.one_pos) (fun a => match a with
    | ⟨0, _⟩ => by show (i 0).val = if (16 : Nat) = 1 then 0 else (i 0).val; rw [if_neg (by decide)]
    | ⟨1, _⟩ => by show (i 1).val = if (8320 : Nat) = 1 then 0 else (i 1).val; rw [if_neg (by decide)]
    | ⟨2, _⟩ => by show 0 = if (1 : Nat) = 1 then 0 else (i 2).val; rw [if_pos rfl]),
    broadcastInDim_apply _ bcast_S16x8320_S16x8320x1_0_1 x _ (i2 (i 0).val (i 1).val (i 0).isLt (i 1).isLt) (fun a => match a with
    | ⟨0, _⟩ => by show (i 0).val = if (16 : Nat) = 1 then 0 else (i 0).val; rw [if_neg (by decide)]
    | ⟨1, _⟩ => by show (i 1).val = if (8320 : Nat) = 1 then 0 else (i 1).val; rw [if_neg (by decide)])]

theorem along_is {x : Arr S16x8320} {f : ℕ → ℕ → ℝ} (h : Is2 x f) : Is3 (along x) fun p i _ => f p i := fun i => by rw [along_at, h]

theorem down_is {x : Arr S16x8320} {f : ℕ → ℕ → ℝ} (h : Is2 x f) : Is3 (down x) fun p _ j => f p j := fun i => by
  unfold down
  rw [broadcastInDim_apply _ bcast_S16x1x8320_S16x8320x8320_0_1_2 _ i (i3 (i 0).val 0 (i 2).val (i 0).isLt Nat.one_pos (i 2).isLt) (fun a => match a with
    | ⟨0, _⟩ => by show (i 0).val = if (16 : Nat) = 1 then 0 else (i 0).val; rw [if_neg (by decide)]
    | ⟨1, _⟩ => by show 0 = if (1 : Nat) = 1 then 0 else (i 1).val; rw [if_pos rfl]
    | ⟨2, _⟩ => by show (i 2).val = if (8320 : Nat) = 1 then 0 else (i 2).val; rw [if_neg (by decide)]),
    broadcastInDim_apply _ bcast_S16x8320_S16x1x8320_0_2 x _ (i2 (i 0).val (i 2).val (i 0).isLt (i 2).isLt) (fun a => match a with
    | ⟨0, _⟩ => by show (i 0).val = if (16 : Nat) = 1 then 0 else (i 0).val; rw [if_neg (by decide)]
    | ⟨1, _⟩ => by show (i 2).val = if (8320 : Nat) = 1 then 0 else (i 2).val; rw [if_neg (by decide)]), h]

theorem all3_at (w : BitVec 32) (i : S16x8320x8320.Idx) : all3 w i = Ideal.ofBits .f32 w := by
  unfold all3
  rw [broadcastInDim_apply _ bcast_S_S16x8320x8320 _ i (fun a => a.elim0) (fun a => a.elim0)]; rfl
theorem all2_at (w : BitVec 32) (i : S16x8320.Idx) : all2 w i = Ideal.ofBits .f32 w := by
  unfold all2
  rw [broadcastInDim_apply _ bcast_S_S16x8320 _ i (fun a => a.elim0) (fun a => a.elim0)]; rfl
theorem allx_at (w : BitVec 32) (i : S8320x1024.Idx) : allx w i = Ideal.ofBits .f32 w := by
  unfold allx
  rw [broadcastInDim_apply _ bcast_S_S8320x1024 _ i (fun a => a.elim0) (fun a => a.elim0)]; rfl

theorem spread_is {x : Arr S16x8320} {f : ℕ → ℕ → ℝ} (h : Is2 x f) : Is2 (spread x) fun i y => f (y / 64) i := fun i => by
  have h0 : (i 0).val < 8320 := (i 0).isLt
  have h1 : (i 1).val < 1024 := (i 1).isLt
  unfold spread
  rw [shapeCast_apply _ _ i (i3 (i 0).val ((i 1).val / 64) ((i 1).val % 64) h0 (by omega) (by omega))
      (by rw [Shape.rowMajor_val_two, Shape.rowMajor_val_three]
          show ((i 0).val * 16 + (i 1).val / 64) * 64 + (i 1).val % 64 = (i 0).val * 1024 + (i 1).val
          omega),
    broadcastInDim_apply _ bcast_S8320x16_S8320x16x64_0_1 _ _ (i2 (i 0).val ((i 1).val / 64) h0 (by omega)) (fun a => match a with
    | ⟨0, _⟩ => by show (i 0).val = if (8320 : Nat) = 1 then 0 else (i 0).val; rw [if_neg (by decide)]
    | ⟨1, _⟩ => by show (i 1).val / 64 = if (16 : Nat) = 1 then 0 else (i 1).val / 64; rw [if_neg (by decide)]),
    transpose_apply [1, 0] x transposes_S16x8320_S8320x16_1_0 _ (i2 ((i 1).val / 64) (i 0).val (by omega) h0) (fun b => match b with
    | ⟨0, _⟩ => rfl
    | ⟨1, _⟩ => rfl), h]

theorem pairs_is {x : Arr S8320x16} {f : ℕ → ℕ → ℝ} (h : Is2 x f) : Is3 (pairs x) fun p e j => f j (2 * p + e) := fun i => by
  have h0 : (i 0).val < 8 := (i 0).isLt
  have h1 : (i 1).val < 2 := (i 1).isLt
  have h2 : (i 2).val < 8320 := (i 2).isLt
  unfold pairs
  rw [shapeCast_apply _ _ i (i2 (2 * (i 0).val + (i 1).val) (i 2).val (by omega) h2)
      (by rw [Shape.rowMajor_val_two, Shape.rowMajor_val_three]
          show (2 * (i 0).val + (i 1).val) * 8320 + (i 2).val = ((i 0).val * 2 + (i 1).val) * 8320 + (i 2).val
          omega), byHead_is h]

theorem padded_is {x : Arr S8208x1024} {f : ℕ → ℕ → ℝ} (h : Is2 x fun i y => f (112 + i) y) (h0 : ∀ i y, i < 112 → f i y = 0) : Is2 (padded x) f := fun i => by
  have hi0 : (i 0).val < 8320 := (i 0).isLt
  have hi1 : (i 1).val < 1024 := (i 1).isLt
  unfold padded
  rw [pad_apply]
  split
  · rename_i hin
    have hn : 112 ≤ (i 0).val := (hin (0 : Fin 2)).1
    rw [h]
    exact eq2 f (show 112 + ((i 0).val - 112) / (0 + 1) = (i 0).val by omega) (show ((i 1).val - 0) / (0 + 1) = (i 1).val by omega)
  · rename_i hin
    have hn : (i 0).val < 112 := by
      by_contra hc
      refine hin fun a => ?_
      match a with
      | ⟨0, _⟩ => exact ⟨by show 112 ≤ (i 0).val; omega, Nat.mod_one _, by show ((i 0).val - 112) / (0 + 1) < 8208; omega⟩
      | ⟨1, _⟩ => exact ⟨Nat.zero_le _, Nat.mod_one _, by show ((i 1).val - 0) / (0 + 1) < 1024; omega⟩
    rw [h0 _ _ hn]
    show (((0#32 : BitVec 32).toInt : ℝ) : EReal) = _
    simp

/-! ## The masks -/

theorem mask3_at (i : S16x8320x8320.Idx) : mask3 i = if Sees (i 1).val (i 2).val then 1#1 else 0#1 := by
  have h1 : (i 1).val < 8320 := (i 1).isLt
  have h2 : (i 2).val < 8320 := (i 2).isLt
  have e : mask3 i = IntOp.andi (IntOp.cmpi .sle (BitVec.ofNat 32 (i 2).val) (BitVec.ofNat 32 (i 1).val))
      (IntOp.cmpi .sge (BitVec.ofNat 32 (i 2).val) (BitVec.ofNat 32 112)) := by rfl
  rw [e, sle_bit _ _ (by omega) (by omega), sge_bit _ _ (by omega) (by norm_num), and_bit]

theorem past_at (i : S16x8320.Idx) : past i = if 112 ≤ (i 1).val then 1#1 else 0#1 := by
  have h1 : (i 1).val < 8320 := (i 1).isLt
  have e : past i = IntOp.cmpi .sge (BitVec.ofNat 32 (i 1).val) (BitVec.ofNat 32 112) := by rfl
  rw [e, sge_bit _ _ (by omega) (by norm_num)]

end Cert.KernelIdeal.Prefix

end
-- ==== Proof.Finite.lean ====
/-
  The precondition: every argument's elements are real numbers, so the arguments are arrays of the model.
-/
module

public import proofs.«01_k».proof.Defs
public import proofs.«01_k».proof.Proof.Gen.Pre_finite
public import proofs.«01_k».proof.Proof.HostReal
public import Idealize.ShloMosaic.Lib.ReduceAll
public import Idealize.ShloMosaic.Lib.Affine

@[expose] public section

noncomputable section

namespace Cert.Pre_finite.Real

open Cert.Pre_finite Cert.Pre_finite.Gen Cert.Model Cert.Num Cert.KernelIdeal.Prefix
open Idealize.ShloMosaic

/-- A number whose absolute value is below plus infinity is real. -/
theorem real_of_bit (x : EReal)
    (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  rw [Ideal.ofBits_def, bits_top, Ideal.cmpf_def] at h
  induction x using EReal.rec with
  | bot => exact absurd h (by show ¬ Ideal.cmp .olt (max (⊥ : EReal) (-⊥)) ⊤ = 1#1; simp [Ideal.cmp])
  | top => exact absurd h (by show ¬ Ideal.cmp .olt (max (⊤ : EReal) (-⊤)) ⊤ = 1#1; simp [Ideal.cmp])
  | coe r => rfl

instance : Subsingleton S_.Idx := ⟨fun a b => funext fun k => k.elim0⟩

variable {x0 x1 x2 : Arr S8320x1024} {x3 : Arr S8320x16} {x4 : Arr S8208x1024}

/-- Under the precondition every element is real. -/
theorem reals (h : fn (F := Ideal) x0 x1 x2 x3 x4 = fun _ => 1#1) :
    ((∀ i, x0 i = (((show EReal from x0 i).toReal : ℝ) : EReal)) ∧ (∀ i, x1 i = (((show EReal from x1 i).toReal : ℝ) : EReal))
      ∧ (∀ i, x2 i = (((show EReal from x2 i).toReal : ℝ) : EReal)))
    ∧ (∀ i, x3 i = (((show EReal from x3 i).toReal : ℝ) : EReal)) ∧ (∀ i, x4 i = (((show EReal from x4 i).toReal : ℝ) : EReal)) := by
  have e := congrFun h (Shape.Idx.first h_S_)
  dsimp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨fun i => real_of_bit _ (Host.reduce_andi_all _ _ _ _ _ e0 i), fun i => real_of_bit _ (Host.reduce_andi_all _ _ _ _ _ e1 i),
    fun i => real_of_bit _ (Host.reduce_andi_all _ _ _ _ _ e2 i)⟩,
    fun i => real_of_bit _ (Host.reduce_andi_all _ _ _ _ _ e3 i), fun i => real_of_bit _ (Host.reduce_andi_all _ _ _ _ _ e4 i)⟩

/-- The function of an array's indices, zero outside the array. -/
def reader {a b : ℕ} (x : FVec Ideal ⟨2, ![a, b]⟩ .f32) (i y : ℕ) : ℝ :=
  if h : i < a ∧ y < b then (show EReal from x (i2 i y h.1 h.2)).toReal else 0

theorem reader_is {a b : ℕ} (x : FVec Ideal ⟨2, ![a, b]⟩ .f32) (h : ∀ i, x i = (((show EReal from x i).toReal : ℝ) : EReal)) : Is2 x (reader x) := fun i => by
  have hi : (i 0).val < a ∧ (i 1).val < b := ⟨(i 0).isLt, (i 1).isLt⟩
  have e : (i2 (i 0).val (i 1).val hi.1 hi.2 : (⟨2, ![a, b]⟩ : Shape).Idx) = i := funext fun k => match k with
    | ⟨0, _⟩ => rfl
    | ⟨1, _⟩ => rfl
  unfold reader
  rw [dif_pos hi, e]
  exact h i

/-- The model's arrays. -/
def args (x0 x1 x2 : Arr S8320x1024) (x3 : Arr S8320x16) (x4 : Arr S8208x1024) : Args where
  q := reader x0
  k := reader x1
  v := reader x2
  g i y := if 112 ≤ i then reader x4 (i - 112) y else 0
  c := reader x3

theorem args_g (i y : ℕ) : (args x0 x1 x2 x3 x4).g (112 + i) y = reader x4 i y := by
  show (if 112 ≤ 112 + i then reader x4 (112 + i - 112) y else 0) = _
  rw [if_pos (by omega), Nat.add_sub_cancel_left]

theorem args_pad (i y : ℕ) (h : i < 112) : (args x0 x1 x2 x3 x4).g i y = 0 := if_neg (by omega)

end Cert.Pre_finite.Real

end
-- ==== Proof.Tile.lean ====
/-
  The vectors of one pair of blocks at real operands: the kernel's selections, products, softmax weights and score cotangents,
  each element a real number, a function of its row and column.
-/
module

public import proofs.«01_k».proof.Proof.Num
public import proofs.«01_k».proof.Proof.State
public import proofs.«01_k».proof.Proof.Model
public import Idealize.ShloMosaic.Lib.Pointwise

@[expose] public section

noncomputable section

namespace Cert.KernelIdeal.Real

open Cert.KernelIdeal Cert.KernelIdeal.Gen Cert.KernelIdeal.Hand Cert.Model Cert.Num
open Idealize.ShloMosaic Idealize.ShloMosaic.TcCoe

/-! ## Products -/

/-- Rows against rows. -/
theorem mm_nt {x y : FVec Ideal S640x128 .bf16} {f g : ℕ → ℕ → ℝ} (hx : ∀ i, x i = ((f (i 0).val (i 1).val : ℝ) : EReal))
    (hy : ∀ i, y i = ((g (i 0).val (i 1).val : ℝ) : EReal)) (j : S640x640.Idx) :
    matmul dot_S640x128_S640x128_S640x640_1_1_0_0_n_n none x y (constant (F := Ideal) S640x640 .f32 0x00000000#32) j
      = ((∑ d : Fin 128, f (j 0).val d.val * g (j 1).val d.val : ℝ) : EReal) := by
  unfold matmul
  rw [Ideal.matmul_def, Ideal.matmul_apply₁_of (K := 128) dot_S640x128_S640x128_S640x640_1_1_0_0_n_n rfl rfl x y _ j
    (fun k => ix2 (⟨(j 0).val, (j 0).isLt⟩ : Fin 640) (k : Fin 128)) (fun k => ix2 (⟨(j 1).val, (j 1).isLt⟩ : Fin 640) (k : Fin 128))
    (fun k => by simp only [pointwise]) (fun k => by simp only [pointwise])]
  rw [constant_apply, Ideal.ofBits_def, Ideal.ofBits_zero_f32, zero_add]
  exact sum_coe fun d => by rw [hx, hy, ← EReal.coe_mul]; rfl

/-- Rows against columns. -/
theorem mm_nn {x : FVec Ideal S640x640 .bf16} {y : FVec Ideal S640x128 .bf16} {f g : ℕ → ℕ → ℝ} (hx : ∀ i, x i = ((f (i 0).val (i 1).val : ℝ) : EReal))
    (hy : ∀ i, y i = ((g (i 0).val (i 1).val : ℝ) : EReal)) (j : S640x128.Idx) :
    matmul dot_S640x640_S640x128_S640x128_1_0_0_1_n_n none x y (constant (F := Ideal) S640x128 .f32 0x00000000#32) j
      = ((∑ d : Fin 640, f (j 0).val d.val * g d.val (j 1).val : ℝ) : EReal) := by
  unfold matmul
  rw [Ideal.matmul_def, Ideal.matmul_apply₁_of (K := 640) dot_S640x640_S640x128_S640x128_1_0_0_1_n_n rfl rfl x y _ j
    (fun k => ix2 (⟨(j 0).val, (j 0).isLt⟩ : Fin 640) (k : Fin 640)) (fun k => ix2 (k : Fin 640) (⟨(j 1).val, (j 1).isLt⟩ : Fin 128))
    (fun k => by simp only [pointwise]) (fun k => by simp only [pointwise])]
  rw [constant_apply, Ideal.ofBits_def, Ideal.ofBits_zero_f32, zero_add]
  exact sum_coe fun d => by rw [hx, hy, ← EReal.coe_mul]; rfl

/-- Columns against columns. -/
theorem mm_tn {x : FVec Ideal S640x640 .bf16} {y : FVec Ideal S640x128 .bf16} {f g : ℕ → ℕ → ℝ} (hx : ∀ i, x i = ((f (i 0).val (i 1).val : ℝ) : EReal))
    (hy : ∀ i, y i = ((g (i 0).val (i 1).val : ℝ) : EReal)) (j : S640x128.Idx) :
    matmul dot_S640x640_S640x128_S640x128_0_0_1_1_n_n none x y (constant (F := Ideal) S640x128 .f32 0x00000000#32) j
      = ((∑ d : Fin 640, f d.val (j 0).val * g d.val (j 1).val : ℝ) : EReal) := by
  unfold matmul
  rw [Ideal.matmul_def, Ideal.matmul_apply₁_of (K := 640) dot_S640x640_S640x128_S640x128_0_0_1_1_n_n rfl rfl x y _ j
    (fun k => ix2 (k : Fin 640) (⟨(j 0).val, (j 0).isLt⟩ : Fin 640)) (fun k => ix2 (k : Fin 640) (⟨(j 1).val, (j 1).isLt⟩ : Fin 128))
    (fun k => by simp only [pointwise]) (fun k => by simp only [pointwise])]
  rw [constant_apply, Ideal.ofBits_def, Ideal.ofBits_zero_f32, zero_add]
  exact sum_coe fun d => by rw [hx, hy, ← EReal.coe_mul]; rfl

theorem subf_ap {s : Shape} {φ : FTy} (x y : FVec Ideal s φ) (i : s.Idx) : subf x y i = FloatOps.subf (x i) (y i) := rfl

/-! ## Selections and broadcasts -/

/-- The lanes of the pair's first head. -/
theorem half0 (i : S640x128.Idx) : k0_pay17 i = if (i 1).val / 64 = 0 then 1#1 else 0#1 := by
  have h1 : (i 1).val < 128 := (i 1).isLt
  have e : k0_pay17 i = IntOp.cmpi .slt (BitVec.ofNat 32 (0 * 128 + (i 1).val)) (BitVec.ofNat 32 64) := rfl
  rw [e, slt_bit _ _ (by omega) (by omega)]
  exact if_congr (by omega) rfl rfl

/-- The lanes of its second head. -/
theorem half1 (i : S640x128.Idx) : k0_pay29 k0_pay17 i = if (i 1).val / 64 = 1 then 1#1 else 0#1 := by
  have h1 : (i 1).val < 128 := (i 1).isLt
  have e : k0_pay29 k0_pay17 i = IntOp.xori (k0_pay17 i) 1#1 := rfl
  rw [e, half0]
  by_cases h : (i 1).val / 64 = 0
  · rw [if_pos h, if_neg (by omega)]; rfl
  · rw [if_neg h, if_pos (by omega)]; rfl

/-- A selection of lanes. -/
theorem sel_is {s : IVec S640x128 1} {p : ℕ → Prop} [DecidablePred p] (hs : ∀ i, s i = if p (i 1).val then 1#1 else 0#1)
    {φ : FTy} {x y : FVec Ideal S640x128 φ} {f g : ℕ → ℕ → ℝ} (hx : ∀ i, x i = ((f (i 0).val (i 1).val : ℝ) : EReal))
    (hy : ∀ i, y i = ((g (i 0).val (i 1).val : ℝ) : EReal)) (i : S640x128.Idx) :
    select s x y i = (((if p (i 1).val then f (i 0).val (i 1).val else g (i 0).val (i 1).val) : ℝ) : EReal) := by
  show Scalar.select (s i) (x i) (y i) = _
  rw [hs, select_bit, hx, hy]
  split <;> rfl

theorem zero_is (i : S640x128.Idx) : broadcast S640x128 (Scalar.ofBits (F := Ideal) .bf16 0x0000#16) i = ((0 : ℝ) : EReal) := bits_zero_bf16
theorem one_is (i : S640x128.Idx) : broadcast S640x128 (Scalar.ofBits (F := Ideal) .bf16 0x3F80#16) i = ((1 : ℝ) : EReal) := bits_one_bf16

/-- The masked pairs of a point's blocks. -/
abbrev Seen (a b r c : ℕ) : Prop := Sees (640 * b + r) (640 * a + c)

theorem mask_is (a b : ℕ) (ha : a < 13) (hb : b < 13) (i : S640x640.Idx) :
    k0_pay18 (BitVec.ofNat 32 a) (BitVec.ofNat 32 b) i = if Seen a b (i 0).val (i 1).val then 1#1 else 0#1 := by
  have h0 : (i 0).val < 640 := (i 0).isLt
  have h1 : (i 1).val < 640 := (i 1).isLt
  have pos : ∀ n r : ℕ, IntOp.addi (IntOp.muli (BitVec.ofNat 32 n) 640#32) (BitVec.ofNat 32 (0 * 640 + r)) = BitVec.ofNat 32 (640 * n + r) := by
    intro n r
    show BitVec.ofNat 32 n * BitVec.ofNat 32 640 + BitVec.ofNat 32 (0 * 640 + r) = _
    rw [← BitVec.ofNat_mul, ← BitVec.ofNat_add]
    congr 1; omega
  have e : k0_pay18 (BitVec.ofNat 32 a) (BitVec.ofNat 32 b) i
      = IntOp.andi
          (IntOp.cmpi .sle (IntOp.addi (IntOp.muli (BitVec.ofNat 32 a) 640#32) (BitVec.ofNat 32 (0 * 640 + (i 1).val)))
            (IntOp.addi (IntOp.muli (BitVec.ofNat 32 b) 640#32) (BitVec.ofNat 32 (0 * 640 + (i 0).val))))
          (IntOp.cmpi .sge (IntOp.addi (IntOp.muli (BitVec.ofNat 32 a) 640#32) (BitVec.ofNat 32 (0 * 640 + (i 1).val))) (BitVec.ofNat 32 112)) := rfl
  rw [e, pos, pos, sle_bit _ _ (by omega) (by omega), sge_bit _ _ (by omega) (by omega), and_bit]

/-- A row broadcast over the rows. -/
theorem bc_row (v : FVec Ideal S1x1x640 .f32) (i : S640x640.Idx) :
    broadcastTo S640x640 (shapeCast S1x640 v shapeCasts_S1x1x640_S1x640) broadcasts_S1x640_S640x640 i
      = v (ix3 (0 : Fin 1) (0 : Fin 1) (⟨(i 1).val, (i 1).isLt⟩ : Fin 640)) := by
  rw [broadcastTo_apply _ _ i (ix2 (0 : Fin 1) (⟨(i 1).val, (i 1).isLt⟩ : Fin 640)) (fun a => by
    match a with
    | ⟨0, _⟩ => rfl
    | ⟨1, _⟩ => rfl)]
  refine shapeCast_apply v _ _ _ ?_
  rw [Shape.rowMajor_val_three, Shape.rowMajor_val_two]
  rfl

/-- A column broadcast over the columns. -/
theorem bc_col (v : FVec Ideal S640x1 .f32) (i : S640x640.Idx) :
    broadcastTo S640x640 (shapeCast S640x1 v shapeCasts_S640x1_S640x1) broadcasts_S640x1_S640x640 i
      = v (ix2 (⟨(i 0).val, (i 0).isLt⟩ : Fin 640) (0 : Fin 1)) := by
  rw [shapeCast_self]
  exact broadcastTo_apply _ _ i _ (fun a => by
    match a with
    | ⟨0, _⟩ => rfl
    | ⟨1, _⟩ => rfl)

/-- A sum over the lanes, of which only one head's count. -/
theorem lanes (h : ℕ) (hh : h < 2) (f g : ℕ → ℝ) :
    (∑ d : Fin 128, (if d.val / 64 = h then f d.val else 0) * g d.val) = ∑ d : Fin 64, f (64 * h + d.val) * g (64 * h + d.val) := by
  rw [Fin.sum_univ_eq_sum_range (fun d => (if d / 64 = h then f d else 0) * g d) 128,
    Fin.sum_univ_eq_sum_range (fun d => f (64 * h + d) * g (64 * h + d)) 64, show (128 : ℕ) = 64 + 64 from rfl, Finset.sum_range_add]
  rcases (show h = 0 ∨ h = 1 by omega) with rfl | rfl
  · rw [Finset.sum_congr rfl (g := fun d => f (64 * 0 + d) * g (64 * 0 + d)) fun d hd => by
        have := Finset.mem_range.1 hd; rw [if_pos (by omega)]; simp,
      Finset.sum_eq_zero (f := fun d => (if (64 + d) / 64 = 0 then f (64 + d) else 0) * g (64 + d)) fun d hd => by
        rw [if_neg (by omega), zero_mul], add_zero]
  · rw [Finset.sum_eq_zero (f := fun d => (if d / 64 = 1 then f d else 0) * g d) fun d hd => by
        have := Finset.mem_range.1 hd; rw [if_neg (by omega), zero_mul], zero_add]
    exact Finset.sum_congr rfl fun d hd => by have := Finset.mem_range.1 hd; rw [if_pos (by omega)]

/-! ## The operands of a point -/

/-- A point's operands as real functions: of a row and a lane; `c` of a head and a column. -/
structure Tile where
  q : ℕ → ℕ → ℝ
  k : ℕ → ℕ → ℝ
  v : ℕ → ℕ → ℝ
  d : ℕ → ℕ → ℝ
  l : ℕ → ℕ → ℝ
  e : ℕ → ℕ → ℝ
  c : ℕ → ℕ → ℝ

/-- The blocks hold the real operands. -/
structure Tile.Of (R : Tile) (B : Blk Ideal) : Prop where
  q : ∀ i, B.q i = ((R.q (i 0).val (i 1).val : ℝ) : EReal)
  k : ∀ i, B.k i = ((R.k (i 0).val (i 1).val : ℝ) : EReal)
  v : ∀ i, B.v i = ((R.v (i 0).val (i 1).val : ℝ) : EReal)
  d : ∀ i, B.d i = ((R.d (i 0).val (i 1).val : ℝ) : EReal)
  l : ∀ i, B.l i = ((R.l (i 0).val (i 1).val : ℝ) : EReal)
  e : ∀ i, B.e i = ((R.e (i 0).val (i 1).val : ℝ) : EReal)
  c : ∀ i, B.c i = ((R.c (i 1).val (i 2).val : ℝ) : EReal)

namespace Tile

variable (R : Tile)

/-- The exponent of a head's weight. -/
def x (h r c : ℕ) : ℝ := (∑ d : Fin 64, R.q r (64 * h + d.val) * R.k c (64 * h + d.val)) - R.c h c - R.l r (64 * h)
/-- The cotangent of a head's weight. -/
def dp (h r c : ℕ) : ℝ := ∑ d : Fin 64, R.d r (64 * h + d.val) * R.v c (64 * h + d.val)
/-- A head's weight, over the pairs `m`. -/
def p (m : ℕ → ℕ → Prop) [∀ r c, Decidable (m r c)] (h r c : ℕ) : ℝ := if m r c then Real.exp (R.x h r c) else 0
/-- The cotangent of a head's score, over the pairs `m`. -/
def s (m : ℕ → ℕ → Prop) [∀ r c, Decidable (m r c)] (h r c : ℕ) : ℝ := R.p m h r c * (R.dp h r c - R.e r (64 * h))

end Tile

namespace Tile.Of

variable {R : Tile} {B : Blk Ideal} (H : R.Of B)
include H

omit H in
theorem coe2 (f : ℕ → ℕ → ℝ) {a b a' b' : ℕ} (h1 : a = a') (h2 : b = b') : ((f a b : ℝ) : EReal) = ((f a' b' : ℝ) : EReal) := by rw [h1, h2]

theorem c0 (i : S1x1x640.Idx) : B.c0 i = ((R.c 0 (i 2).val : ℝ) : EReal) := by
  have h1 : (i 1).val < 1 := (i 1).isLt
  exact (H.c _).trans (coe2 R.c (show 0 + 1 * (i 1).val = 0 by omega) (show 0 + 1 * (i 2).val = (i 2).val by omega))

theorem c1 (i : S1x1x640.Idx) : B.c1 i = ((R.c 1 (i 2).val : ℝ) : EReal) := by
  have h1 : (i 1).val < 1 := (i 1).isLt
  exact (H.c _).trans (coe2 R.c (show 1 + 1 * (i 1).val = 1 by omega) (show 0 + 1 * (i 2).val = (i 2).val by omega))

theorem l0 (i : S640x1.Idx) : B.l0 i = ((R.l (i 0).val (64 * 0) : ℝ) : EReal) := by
  have h1 : (i 1).val < 1 := (i 1).isLt
  exact (H.l _).trans (coe2 R.l (show 0 + 1 * (i 0).val = (i 0).val by omega) (show 0 + 1 * (i 1).val = 64 * 0 by omega))

theorem l1 (i : S640x1.Idx) : B.l1 i = ((R.l (i 0).val (64 * 1) : ℝ) : EReal) := by
  have h1 : (i 1).val < 1 := (i 1).isLt
  exact (H.l _).trans (coe2 R.l (show 0 + 1 * (i 0).val = (i 0).val by omega) (show 64 + 1 * (i 1).val = 64 * 1 by omega))

theorem e0 (i : S640x1.Idx) : B.e0 i = ((R.e (i 0).val (64 * 0) : ℝ) : EReal) := by
  have h1 : (i 1).val < 1 := (i 1).isLt
  exact (H.e _).trans (coe2 R.e (show 0 + 1 * (i 0).val = (i 0).val by omega) (show 0 + 1 * (i 1).val = 64 * 0 by omega))

theorem e1 (i : S640x1.Idx) : B.e1 i = ((R.e (i 0).val (64 * 1) : ℝ) : EReal) := by
  have h1 : (i 1).val < 1 := (i 1).isLt
  exact (H.e _).trans (coe2 R.e (show 0 + 1 * (i 0).val = (i 0).val by omega) (show 64 + 1 * (i 1).val = 64 * 1 by omega))

end Tile.Of

/-! ## One head of a pair of blocks -/

section Head

variable {R : Tile} {sel : IVec S640x128 1} {h : ℕ} (hh : h < 2) (hs : ∀ i, sel i = if (i 1).val / 64 = h then 1#1 else 0#1)
include hh hs

/-- Queries or cotangents against keys or values, over one head's lanes. -/
theorem prod_is {x y : FVec Ideal S640x128 .bf16} {f g : ℕ → ℕ → ℝ} (hx : ∀ i, x i = ((f (i 0).val (i 1).val : ℝ) : EReal))
    (hy : ∀ i, y i = ((g (i 0).val (i 1).val : ℝ) : EReal)) (j : S640x640.Idx) :
    matmul dot_S640x128_S640x128_S640x640_1_1_0_0_n_n none (select sel x (broadcast S640x128 (Scalar.ofBits (F := Ideal) .bf16 0x0000#16))) y
        (constant (F := Ideal) S640x640 .f32 0x00000000#32) j
      = ((∑ d : Fin 64, f (j 0).val (64 * h + d.val) * g (j 1).val (64 * h + d.val) : ℝ) : EReal) := by
  rw [mm_nt (f := fun r l => if l / 64 = h then f r l else 0) (sel_is (p := fun l => l / 64 = h) hs hx (g := fun _ _ => 0) zero_is) hy, lanes h hh (fun d => f (j 0).val d)]

/-- The exponents. -/
theorem x_is {q k : FVec Ideal S640x128 .bf16} (hq : ∀ i, q i = ((R.q (i 0).val (i 1).val : ℝ) : EReal))
    (hk : ∀ i, k i = ((R.k (i 0).val (i 1).val : ℝ) : EReal)) {c : FVec Ideal S1x1x640 .f32} {l : FVec Ideal S640x1 .f32} (hc : ∀ i, c i = ((R.c h (i 2).val : ℝ) : EReal))
    (hl : ∀ i, l i = ((R.l (i 0).val (64 * h) : ℝ) : EReal)) (j : S640x640.Idx) :
    subf (subf (matmul dot_S640x128_S640x128_S640x640_1_1_0_0_n_n none (select sel q (broadcast S640x128 (Scalar.ofBits (F := Ideal) .bf16 0x0000#16))) k
        (constant (F := Ideal) S640x640 .f32 0x00000000#32)) (broadcastTo S640x640 (shapeCast S1x640 c shapeCasts_S1x1x640_S1x640) broadcasts_S1x640_S640x640))
      (broadcastTo S640x640 (shapeCast S640x1 l shapeCasts_S640x1_S640x1) broadcasts_S640x1_S640x640) j
      = ((R.x h (j 0).val (j 1).val : ℝ) : EReal) := by
  rw [subf_ap, subf_ap, prod_is hh hs hq hk, bc_row, bc_col, hc, hl, Ideal.subf_def, Ideal.subf_def, ← EReal.coe_sub, ← EReal.coe_sub]
  rfl

/-- The weights' cotangents less the row sums. -/
theorem dp_is {d v : FVec Ideal S640x128 .bf16} (hd : ∀ i, d i = ((R.d (i 0).val (i 1).val : ℝ) : EReal))
    (hv : ∀ i, v i = ((R.v (i 0).val (i 1).val : ℝ) : EReal)) {e : FVec Ideal S640x1 .f32} (he : ∀ i, e i = ((R.e (i 0).val (64 * h) : ℝ) : EReal)) (j : S640x640.Idx) :
    subf (matmul dot_S640x128_S640x128_S640x640_1_1_0_0_n_n none (select sel d (broadcast S640x128 (Scalar.ofBits (F := Ideal) .bf16 0x0000#16))) v
        (constant (F := Ideal) S640x640 .f32 0x00000000#32)) (broadcastTo S640x640 (shapeCast S640x1 e shapeCasts_S640x1_S640x1) broadcasts_S640x1_S640x640) j
      = ((R.dp h (j 0).val (j 1).val - R.e (j 0).val (64 * h) : ℝ) : EReal) := by
  rw [subf_ap, prod_is hh hs hd hv, bc_col, he, Ideal.subf_def, ← EReal.coe_sub]
  rfl

omit hh hs

/-- The weights under a mask. -/
theorem pm_is {m : ℕ → ℕ → Prop} [∀ r c, Decidable (m r c)] {M : IVec S640x640 1} (hm : ∀ i, M i = if m (i 0).val (i 1).val then 1#1 else 0#1)
    {X : FVec Ideal S640x640 .f32} (hX : ∀ j, X j = ((R.x h (j 0).val (j 1).val : ℝ) : EReal)) (j : S640x640.Idx) :
    select M (exp (select M X (broadcast S640x640 (Scalar.ofBits (F := Ideal) .f32 0xF149F2CA#32)))) (broadcast S640x640 (Scalar.ofBits (F := Ideal) .f32 0x00000000#32)) j
      = ((R.p m h (j 0).val (j 1).val : ℝ) : EReal) := by
  show Scalar.select (M j) (FloatOps.exp (Scalar.select (M j) (X j) _)) (Ideal.ofBits .f32 0x00000000#32) = _
  rw [hm, select_bit, select_bit, hX, Ideal.ofBits_zero_f32]
  unfold Tile.p
  split
  · rw [Ideal.exp_def, exp_coe]
  · rfl

/-- The weights of pairs that are all in the mask. -/
theorem pu_is {m : ℕ → ℕ → Prop} [∀ r c, Decidable (m r c)] (hm : ∀ r c, r < 640 → c < 640 → m r c)
    {X : FVec Ideal S640x640 .f32} (hX : ∀ j, X j = ((R.x h (j 0).val (j 1).val : ℝ) : EReal)) (j : S640x640.Idx) :
    exp X j = ((R.p m h (j 0).val (j 1).val : ℝ) : EReal) := by
  show FloatOps.exp (X j) = _
  rw [hX, Ideal.exp_def, exp_coe, Tile.p, if_pos (hm _ _ (j 0).isLt (j 1).isLt)]

/-- The scores' cotangents. -/
theorem s_is {m : ℕ → ℕ → Prop} [∀ r c, Decidable (m r c)] {P D : FVec Ideal S640x640 .f32}
    (hP : ∀ j, P j = ((R.p m h (j 0).val (j 1).val : ℝ) : EReal))
    (hD : ∀ j, D j = ((R.dp h (j 0).val (j 1).val - R.e (j 0).val (64 * h) : ℝ) : EReal)) (j : S640x640.Idx) :
    (truncf .bf16 (mulf P D) bitsLt_bf16_f32 : FVec Ideal S640x640 .bf16) j = ((R.s m h (j 0).val (j 1).val : ℝ) : EReal) := by
  show FloatOps.mulf (P j) (D j) = _
  rw [hP, hD, Ideal.mulf_def, ← EReal.coe_mul]
  rfl

/-- A head's lanes of an operand, and ones. -/
def pick (h : ℕ) (f : ℕ → ℕ → ℝ) (r l : ℕ) : ℝ := if l / 64 = h then f r l else 1

include hs in
theorem pick_is {x : FVec Ideal S640x128 .bf16} {f : ℕ → ℕ → ℝ} (hx : ∀ i, x i = ((f (i 0).val (i 1).val : ℝ) : EReal)) (i : S640x128.Idx) :
    select sel x (broadcast S640x128 (Scalar.ofBits (F := Ideal) .bf16 0x3F80#16)) i = ((pick h f (i 0).val (i 1).val : ℝ) : EReal) :=
  sel_is (p := fun l => l / 64 = h) hs hx (g := fun _ _ => 1) one_is i

end Head

/-- The heads' own lanes of two products. -/
theorem own_is {x y : FVec Ideal S640x128 .f32} {f : ℕ → ℕ → ℕ → ℝ} (hx : ∀ i, x i = ((f 0 (i 0).val (i 1).val : ℝ) : EReal))
    (hy : ∀ i, y i = ((f 1 (i 0).val (i 1).val : ℝ) : EReal)) (i : S640x128.Idx) :
    select k0_pay17 x y i = ((f ((i 1).val / 64) (i 0).val (i 1).val : ℝ) : EReal) := by
  have h1 : (i 1).val < 128 := (i 1).isLt
  rw [sel_is (p := fun l => l / 64 = 0) half0 hx hy]
  rcases (show (i 1).val / 64 = 0 ∨ (i 1).val / 64 = 1 by omega) with h | h <;> simp [h]

/-- The other head's lanes. -/
theorem other_is {x y : FVec Ideal S640x128 .f32} {f : ℕ → ℕ → ℕ → ℝ} (hx : ∀ i, x i = ((f 0 (i 0).val (i 1).val : ℝ) : EReal))
    (hy : ∀ i, y i = ((f 1 (i 0).val (i 1).val : ℝ) : EReal)) (i : S640x128.Idx) :
    select k0_pay17 y x i = ((f (1 - (i 1).val / 64) (i 0).val (i 1).val : ℝ) : EReal) := by
  have h1 : (i 1).val < 128 := (i 1).isLt
  rw [sel_is (p := fun l => l / 64 = 0) half0 hy hx]
  rcases (show (i 1).val / 64 = 0 ∨ (i 1).val / 64 = 1 by omega) with h | h <;> simp [h]

/-- An accumulation. -/
theorem add_is {x y : FVec Ideal S640x128 .f32} {f g : ℕ → ℕ → ℝ} (hx : ∀ i, x i = ((f (i 0).val (i 1).val : ℝ) : EReal))
    (hy : ∀ i, y i = ((g (i 0).val (i 1).val : ℝ) : EReal)) (i : S640x128.Idx) :
    addf x y i = ((f (i 0).val (i 1).val + g (i 0).val (i 1).val : ℝ) : EReal) := by
  show FloatOps.addf (x i) (y i) = _
  rw [hx, hy, Ideal.addf_def, ← EReal.coe_add]

theorem cast_is {φ : FTy} {x : FVec Ideal S640x128 φ} {f : ℕ → ℕ → ℝ} (hx : ∀ i, x i = ((f (i 0).val (i 1).val : ℝ) : EReal)) (i : S640x128.Idx) :
    shapeCast S640x128 x shapeCasts_S640x128_S640x128 i = ((f (i 0).val (i 1).val : ℝ) : EReal) := by
  rw [shapeCast_self, hx]

end Cert.KernelIdeal.Real

end
-- ==== Proof.Update.lean ====
/-
  The updates of the accumulators at real operands: what one pair of blocks adds to each of them.
-/
module

public import proofs.«01_k».proof.Proof.Tile

@[expose] public section

noncomputable section

namespace Cert.KernelIdeal.Real

open Cert.KernelIdeal Cert.KernelIdeal.Gen Cert.KernelIdeal.Hand Cert.Model Cert.Num
open Idealize.ShloMosaic Idealize.ShloMosaic.TcCoe

namespace Tile

variable (R : Tile) (m : ℕ → ℕ → Prop) [∀ r c, Decidable (m r c)]

/-- A head's product of score cotangents with the keys, the other head's lanes being the row sums. -/
def gq (h r l : ℕ) : ℝ := ∑ c : Fin 640, R.s m h r c.val * pick h R.k c.val l
/-- A head's product with the queries, the other head's lanes being the column sums. -/
def gk (h c l : ℕ) : ℝ := ∑ r : Fin 640, R.s m h r.val c * pick h R.q r.val l
/-- A head's product of weights with the output cotangents. -/
def gv (h c l : ℕ) : ℝ := ∑ r : Fin 640, R.p m h r.val c * R.d r.val l

end Tile

section Masked

variable {R : Tile} {B : Blk Ideal} (H : R.Of B) {a b : ℕ} (ha : a < 13) (hb : b < 13)
include H ha hb

/-! ## The masked update -/

theorem mp0 (j : S640x640.Idx) : k0_pay24 (k0_pay18 (BitVec.ofNat 32 a) (BitVec.ofNat 32 b)) (k0_pay22 B.q B.k B.c0) (k0_pay23 B.l0) j
    = ((R.p (Seen a b) 0 (j 0).val (j 1).val : ℝ) : EReal) :=
  pm_is (mask_is a b ha hb) (x_is (by norm_num) half0 (cast_is H.q) (cast_is H.k) H.c0 H.l0) j

theorem ms0 (j : S640x640.Idx) :
    k0_pay25 (k0_pay15 B.v) (k0_pay18 (BitVec.ofNat 32 a) (BitVec.ofNat 32 b)) (k0_pay19 B.d) (k0_pay22 B.q B.k B.c0) (k0_pay23 B.l0) B.e0 j
      = ((R.s (Seen a b) 0 (j 0).val (j 1).val : ℝ) : EReal) :=
  s_is (mp0 H ha hb) (dp_is (by norm_num) half0 (cast_is H.d) (cast_is H.v) H.e0) j

theorem mp1 (j : S640x640.Idx) : k0_pay34 (k0_pay18 (BitVec.ofNat 32 a) (BitVec.ofNat 32 b))
      (k0_pay33 (k0_pay13 B.q) (k0_pay14 B.k) k0_pay17 (k0_pay18 (BitVec.ofNat 32 a) (BitVec.ofNat 32 b)) B.c1 B.l1) (Scalar.ofBits .f32 0x00000000#32) j
    = ((R.p (Seen a b) 1 (j 0).val (j 1).val : ℝ) : EReal) :=
  pm_is (mask_is a b ha hb) (x_is (by norm_num) half1 (cast_is H.q) (cast_is H.k) H.c1 H.l1) j

theorem ms1 (j : S640x640.Idx) :
    k0_pay35 (k0_pay15 B.v) (k0_pay18 (BitVec.ofNat 32 a) (BitVec.ofNat 32 b)) (k0_pay30 (k0_pay16 B.d) k0_pay17)
      (k0_pay33 (k0_pay13 B.q) (k0_pay14 B.k) k0_pay17 (k0_pay18 (BitVec.ofNat 32 a) (BitVec.ofNat 32 b)) B.c1 B.l1) (Scalar.ofBits .f32 0x00000000#32) B.e1 j
      = ((R.s (Seen a b) 1 (j 0).val (j 1).val : ℝ) : EReal) :=
  s_is (mp1 H ha hb) (dp_is (by norm_num) half1 (cast_is H.d) (cast_is H.v) H.e1) j

theorem mq0 (j : S640x128.Idx) :
    k0_pay26 (k0_pay15 B.v) (k0_pay18 (BitVec.ofNat 32 a) (BitVec.ofNat 32 b)) (k0_pay19 B.d) (k0_pay21 B.k) (k0_pay22 B.q B.k B.c0) (k0_pay23 B.l0) B.e0 j
      = ((R.gq (Seen a b) 0 (j 0).val (j 1).val : ℝ) : EReal) :=
  mm_nn (ms0 H ha hb) (pick_is half0 (cast_is H.k)) j

theorem mq1 (j : S640x128.Idx) :
    k0_pay36 (k0_pay15 B.v) (k0_pay18 (BitVec.ofNat 32 a) (BitVec.ofNat 32 b)) (k0_pay30 (k0_pay16 B.d) k0_pay17) (k0_pay32 (k0_pay14 B.k) k0_pay17)
      (k0_pay33 (k0_pay13 B.q) (k0_pay14 B.k) k0_pay17 (k0_pay18 (BitVec.ofNat 32 a) (BitVec.ofNat 32 b)) B.c1 B.l1) (Scalar.ofBits .f32 0x00000000#32) B.e1 j
      = ((R.gq (Seen a b) 1 (j 0).val (j 1).val : ℝ) : EReal) :=
  mm_nn (ms1 H ha hb) (pick_is half1 (cast_is H.k)) j

theorem mk0 (j : S640x128.Idx) :
    k0_pay27 (k0_pay15 B.v) (k0_pay18 (BitVec.ofNat 32 a) (BitVec.ofNat 32 b)) (k0_pay19 B.d) (k0_pay20 B.q) (k0_pay22 B.q B.k B.c0) (k0_pay23 B.l0) B.e0 j
      = ((R.gk (Seen a b) 0 (j 0).val (j 1).val : ℝ) : EReal) :=
  mm_tn (ms0 H ha hb) (pick_is half0 (cast_is H.q)) j

theorem mk1 (j : S640x128.Idx) :
    k0_pay37 (k0_pay15 B.v) (k0_pay18 (BitVec.ofNat 32 a) (BitVec.ofNat 32 b)) (k0_pay30 (k0_pay16 B.d) k0_pay17) (k0_pay31 (k0_pay13 B.q) k0_pay17)
      (k0_pay33 (k0_pay13 B.q) (k0_pay14 B.k) k0_pay17 (k0_pay18 (BitVec.ofNat 32 a) (BitVec.ofNat 32 b)) B.c1 B.l1) (Scalar.ofBits .f32 0x00000000#32) B.e1 j
      = ((R.gk (Seen a b) 1 (j 0).val (j 1).val : ℝ) : EReal) :=
  mm_tn (ms1 H ha hb) (pick_is half1 (cast_is H.q)) j

theorem mv0 (j : S640x128.Idx) :
    k0_pay28 (k0_pay16 B.d) (k0_pay18 (BitVec.ofNat 32 a) (BitVec.ofNat 32 b)) (k0_pay22 B.q B.k B.c0) (k0_pay23 B.l0) j
      = ((R.gv (Seen a b) 0 (j 0).val (j 1).val : ℝ) : EReal) :=
  mm_tn (mp0 H ha hb) (cast_is H.d) j

theorem mv1 (j : S640x128.Idx) :
    k0_pay38 (k0_pay16 B.d) (k0_pay18 (BitVec.ofNat 32 a) (BitVec.ofNat 32 b))
      (k0_pay33 (k0_pay13 B.q) (k0_pay14 B.k) k0_pay17 (k0_pay18 (BitVec.ofNat 32 a) (BitVec.ofNat 32 b)) B.c1 B.l1) (Scalar.ofBits .f32 0x00000000#32) j
      = ((R.gv (Seen a b) 1 (j 0).val (j 1).val : ℝ) : EReal) :=
  mm_tn (mp1 H ha hb) (cast_is H.d) j

variable {old : Vec Ideal S640x128 .f32} {o : ℕ → ℕ → ℝ} (ho : ∀ i, old i = ((o (i 0).val (i 1).val : ℝ) : EReal))
include ho

theorem mdq_is (i : S640x128.Idx) : mdq B (BitVec.ofNat 32 a) (BitVec.ofNat 32 b) old i
    = ((o (i 0).val (i 1).val + R.gq (Seen a b) ((i 1).val / 64) (i 0).val (i 1).val : ℝ) : EReal) :=
  add_is (cast_is ho) (g := fun r l => R.gq (Seen a b) (l / 64) r l) (own_is (mq0 H ha hb) (mq1 H ha hb)) i

theorem mdcr_is (i : S640x128.Idx) : mdcr B (BitVec.ofNat 32 a) (BitVec.ofNat 32 b) old i
    = ((o (i 0).val (i 1).val + R.gq (Seen a b) (1 - (i 1).val / 64) (i 0).val (i 1).val : ℝ) : EReal) :=
  add_is (cast_is ho) (g := fun r l => R.gq (Seen a b) (1 - l / 64) r l) (other_is (f := R.gq (Seen a b)) (mq0 H ha hb) (mq1 H ha hb)) i

theorem mdk_is (i : S640x128.Idx) : mdk B (BitVec.ofNat 32 a) (BitVec.ofNat 32 b) old i
    = ((o (i 0).val (i 1).val + R.gk (Seen a b) ((i 1).val / 64) (i 0).val (i 1).val : ℝ) : EReal) :=
  cast_is (f := fun r l => o r l + R.gk (Seen a b) (l / 64) r l)
    (add_is ho (g := fun r l => R.gk (Seen a b) (l / 64) r l) (own_is (mk0 H ha hb) (mk1 H ha hb))) i

theorem mdck_is (i : S640x128.Idx) : mdck B (BitVec.ofNat 32 a) (BitVec.ofNat 32 b) old i
    = ((o (i 0).val (i 1).val + R.gk (Seen a b) (1 - (i 1).val / 64) (i 0).val (i 1).val : ℝ) : EReal) :=
  cast_is (f := fun r l => o r l + R.gk (Seen a b) (1 - l / 64) r l)
    (add_is ho (g := fun r l => R.gk (Seen a b) (1 - l / 64) r l) (other_is (f := R.gk (Seen a b)) (mk0 H ha hb) (mk1 H ha hb))) i

theorem mdv_is (i : S640x128.Idx) : mdv B (BitVec.ofNat 32 a) (BitVec.ofNat 32 b) old i
    = ((o (i 0).val (i 1).val + R.gv (Seen a b) ((i 1).val / 64) (i 0).val (i 1).val : ℝ) : EReal) :=
  cast_is (f := fun r l => o r l + R.gv (Seen a b) (l / 64) r l)
    (add_is ho (g := fun r l => R.gv (Seen a b) (l / 64) r l) (own_is (mv0 H ha hb) (mv1 H ha hb))) i

end Masked

section Unmasked

variable {R : Tile} {B : Blk Ideal} (H : R.Of B) {m : ℕ → ℕ → Prop} [∀ r c, Decidable (m r c)] (hm : ∀ r c, r < 640 → c < 640 → m r c)
include H hm

/-! ## The unmasked update -/

theorem up0 (j : S640x640.Idx) : k0_pay50 B.q B.k B.c0 B.l0 j = ((R.p m 0 (j 0).val (j 1).val : ℝ) : EReal) :=
  pu_is hm (x_is (by norm_num) half0 (cast_is H.q) (cast_is H.k) H.c0 H.l0) j

theorem us0 (j : S640x640.Idx) : k0_pay51 B.q B.k B.v B.d B.c0 B.l0 B.e0 j = ((R.s m 0 (j 0).val (j 1).val : ℝ) : EReal) :=
  s_is (up0 H hm) (dp_is (by norm_num) half0 (cast_is H.d) (cast_is H.v) H.e0) j

theorem up1 (j : S640x640.Idx) : k0_pay57 (k0_pay43 B.q) (k0_pay44 B.k) k0_pay47 B.c1 B.l1 j = ((R.p m 1 (j 0).val (j 1).val : ℝ) : EReal) :=
  pu_is hm (x_is (by norm_num) half1 (cast_is H.q) (cast_is H.k) H.c1 H.l1) j

theorem us1 (j : S640x640.Idx) : k0_pay58 (k0_pay43 B.q) (k0_pay44 B.k) (k0_pay45 B.v) (k0_pay46 B.d) k0_pay47 B.c1 B.l1 B.e1 j
    = ((R.s m 1 (j 0).val (j 1).val : ℝ) : EReal) :=
  s_is (up1 H hm) (dp_is (by norm_num) half1 (cast_is H.d) (cast_is H.v) H.e1) j

theorem uq0 (j : S640x128.Idx) : udq0 B j = ((R.gq m 0 (j 0).val (j 1).val : ℝ) : EReal) :=
  mm_nn (us0 H hm) (pick_is half0 (cast_is H.k)) j
theorem uq1 (j : S640x128.Idx) : udq1 B j = ((R.gq m 1 (j 0).val (j 1).val : ℝ) : EReal) :=
  mm_nn (us1 H hm) (pick_is half1 (cast_is H.k)) j
theorem uk0 (j : S640x128.Idx) : udk0 B j = ((R.gk m 0 (j 0).val (j 1).val : ℝ) : EReal) :=
  mm_tn (us0 H hm) (pick_is half0 (cast_is H.q)) j
theorem uk1 (j : S640x128.Idx) : udk1 B j = ((R.gk m 1 (j 0).val (j 1).val : ℝ) : EReal) :=
  mm_tn (us1 H hm) (pick_is half1 (cast_is H.q)) j
theorem uv0 (j : S640x128.Idx) : udv0 B j = ((R.gv m 0 (j 0).val (j 1).val : ℝ) : EReal) :=
  mm_tn (up0 H hm) (cast_is H.d) j
theorem uv1 (j : S640x128.Idx) : udv1 B j = ((R.gv m 1 (j 0).val (j 1).val : ℝ) : EReal) :=
  mm_tn (up1 H hm) (cast_is H.d) j

variable {old : Vec Ideal S640x128 .f32} {o : ℕ → ℕ → ℝ} (ho : ∀ i, old i = ((o (i 0).val (i 1).val : ℝ) : EReal))
include ho

theorem udq_is (i : S640x128.Idx) : udq B old i = ((o (i 0).val (i 1).val + R.gq m ((i 1).val / 64) (i 0).val (i 1).val : ℝ) : EReal) :=
  add_is (cast_is ho) (g := fun r l => R.gq m (l / 64) r l) (own_is (uq0 H hm) (uq1 H hm)) i

theorem udcr_is (i : S640x128.Idx) : udcr B old i = ((o (i 0).val (i 1).val + R.gq m (1 - (i 1).val / 64) (i 0).val (i 1).val : ℝ) : EReal) :=
  add_is (cast_is ho) (g := fun r l => R.gq m (1 - l / 64) r l) (other_is (f := R.gq m) (uq0 H hm) (uq1 H hm)) i

theorem udk_is (i : S640x128.Idx) : udk B old i = ((o (i 0).val (i 1).val + R.gk m ((i 1).val / 64) (i 0).val (i 1).val : ℝ) : EReal) :=
  cast_is (f := fun r l => o r l + R.gk m (l / 64) r l) (add_is ho (g := fun r l => R.gk m (l / 64) r l) (own_is (uk0 H hm) (uk1 H hm))) i

theorem udck_is (i : S640x128.Idx) : udck B old i = ((o (i 0).val (i 1).val + R.gk m (1 - (i 1).val / 64) (i 0).val (i 1).val : ℝ) : EReal) :=
  cast_is (f := fun r l => o r l + R.gk m (1 - l / 64) r l)
    (add_is ho (g := fun r l => R.gk m (1 - l / 64) r l) (other_is (f := R.gk m) (uk0 H hm) (uk1 H hm))) i

theorem udv_is (i : S640x128.Idx) : udv B old i = ((o (i 0).val (i 1).val + R.gv m ((i 1).val / 64) (i 0).val (i 1).val : ℝ) : EReal) :=
  cast_is (f := fun r l => o r l + R.gv m (l / 64) r l) (add_is ho (g := fun r l => R.gv m (l / 64) r l) (own_is (uv0 H hm) (uv1 H hm))) i

end Unmasked

end Cert.KernelIdeal.Real

end
-- ==== Proof.StepReal.lean ====
/-
  One grid point at real operands and real accumulators: each accumulator gains what its pair of blocks adds.
-/
module

public import proofs.«01_k».proof.Proof.Update

@[expose] public section

noncomputable section

namespace Cert.KernelIdeal.Real

open Cert.KernelIdeal Cert.KernelIdeal.Gen Cert.KernelIdeal.Hand Cert.Model Cert.Num
open Idealize.ShloMosaic Idealize.ShloMosaic.TcCoe

/-- Rows of a block written over a real array. -/
theorem put_is {x : S8320x128.Idx → Elt Ideal .f32} {off : Fin 2 → ℕ} {n : ℕ} (ho : off = ![640 * n, 0]) {f g : ℕ → ℕ → ℝ}
    (hx : ∀ i, x i = ((f (i 0).val (i 1).val : ℝ) : EReal)) {w : Vec Ideal S640x128 .f32} (hw : ∀ i, w i = ((g (i 0).val (i 1).val : ℝ) : EReal))
    (i : S8320x128.Idx) : VecWindow.put x off S640x128.size w i
      = (((if (i 0).val / 640 = n then g ((i 0).val - 640 * n) (i 1).val else f (i 0).val (i 1).val) : ℝ) : EReal) := by
  subst ho
  have h1 : (i 1).val < 128 := (i 1).isLt
  unfold VecWindow.put
  by_cases hn : (i 0).val / 640 = n
  · rw [if_pos hn, dif_pos (fun a => by
      match a with
      | ⟨0, _⟩ => exact ⟨show 640 * n ≤ (i 0).val by omega, show (i 0).val < 640 * n + 640 by omega⟩
      | ⟨1, _⟩ => exact ⟨show 0 ≤ (i 1).val by omega, show (i 1).val < 0 + 128 by omega⟩)]
    exact (hw _).trans (Tile.Of.coe2 g rfl (show (i 1).val - 0 = (i 1).val by omega))
  · rw [if_neg hn, dif_neg (fun h => by
      have := h (0 : Fin 2)
      have e : 640 * n ≤ (i 0).val ∧ (i 0).val < 640 * n + 640 := this
      omega), hx]

/-- Rows of a block read from a real array. -/
theorem window_is {x : S8320x128.Idx → Elt Ideal .f32} {off : Fin 2 → ℕ} {n : ℕ} (ho : off = ![640 * n, 0]) {f : ℕ → ℕ → ℝ}
    (hx : ∀ i, x i = ((f (i 0).val (i 1).val : ℝ) : EReal)) (inb) (i : S640x128.Idx) :
    VecWindow.window x off S640x128.size inb i = ((f (640 * n + (i 0).val) (i 1).val : ℝ) : EReal) := by
  subst ho
  exact (hx _).trans (Tile.Of.coe2 f (show 640 * n + 1 * (i 0).val = _ by omega) (show 0 + 1 * (i 1).val = (i 1).val by omega))

/-- Five real accumulators. -/
structure RAcc where
  dq : ℕ → ℕ → ℝ
  dcr : ℕ → ℕ → ℝ
  dk : ℕ → ℕ → ℝ
  dv : ℕ → ℕ → ℝ
  dck : ℕ → ℕ → ℝ

/-- The row accumulators hold the real ones. -/
structure RAcc.Rows (S : RAcc) (s : Acc Ideal) : Prop where
  dq : ∀ i, s.dq i = ((S.dq (i 0).val (i 1).val : ℝ) : EReal)
  dcr : ∀ i, s.dcr i = ((S.dcr (i 0).val (i 1).val : ℝ) : EReal)

/-- The column accumulators hold the real ones. -/
structure RAcc.Cols (S : RAcc) (s : Acc Ideal) : Prop where
  dk : ∀ i, s.dk i = ((S.dk (i 0).val (i 1).val : ℝ) : EReal)
  dv : ∀ i, s.dv i = ((S.dv (i 0).val (i 1).val : ℝ) : EReal)
  dck : ∀ i, s.dck i = ((S.dck (i 0).val (i 1).val : ℝ) : EReal)

/-- What a pair of blocks adds, block `b` of rows against block `a` of columns. -/
def RAcc.add (S : RAcc) (R : Tile) (a b : ℕ) : RAcc where
  dq r l := if r / 640 = b then S.dq r l + R.gq (Seen a b) (l / 64) (r - 640 * b) l else S.dq r l
  dcr r l := if r / 640 = b then S.dcr r l + R.gq (Seen a b) (1 - l / 64) (r - 640 * b) l else S.dcr r l
  dk c l := S.dk c l + R.gk (Seen a b) (l / 64) c l
  dv c l := S.dv c l + R.gv (Seen a b) (l / 64) c l
  dck c l := S.dck c l + R.gk (Seen a b) (1 - l / 64) c l

theorem lt1 (i : grid0.Coords) : (i 1).val < 13 := (i 1).isLt
theorem lt2 (i : grid0.Coords) : (i 2).val < 13 := (i 2).isLt

theorem row_back {n : ℕ} {f g : ℕ → ℕ → ℝ} (r l : ℕ) :
    (if r / 640 = n then f (640 * n + (r - 640 * n)) l + g (r - 640 * n) l else f r l) = if r / 640 = n then f r l + g (r - 640 * n) l else f r l := by
  split
  · rw [show 640 * n + (r - 640 * n) = r by omega]
  · rfl

section Point

variable {R : Tile} {B : Blk Ideal} (H : R.Of B) (i : grid0.Coords) {S : RAcc} {s : Acc Ideal} (hr : S.Rows s) (hc : S.Cols s)
include H hr hc

/-- A pair of blocks on or below the diagonal. -/
theorem upd_is (hd : (i 1).val ≤ (i 2).val) :
    (S.add R (i 1).val (i 2).val).Rows (upd4 B i (upd3 B i s)) ∧ (S.add R (i 1).val (i 2).val).Cols (upd4 B i (upd3 B i s)) := by
  have ha := lt1 i
  have hb := lt2 i
  by_cases he : (i 2).val = (i 1).val ∨ (i 1).val = 0
  · have h3 : k0_cond3 i = 1#1 := (cond3_iff i).mpr ⟨he, hd⟩
    have h4 : ¬k0_cond4 i = 1#1 := fun h => ((cond4_iff i).mp h).1 he
    rw [upd4, dif_neg h4, upd3, dif_pos h3]
    refine ⟨⟨fun x => ?_, fun x => ?_⟩, ⟨fun x => ?_, fun x => ?_, fun x => ?_⟩⟩
    · refine (put_is (off1_eq i) hr.dq (g := fun r l => S.dq (640 * (i 2).val + r) l + R.gq (Seen (i 1).val (i 2).val) (l / 64) r l)
        (mdq_is H ha hb (o := fun r l => S.dq (640 * (i 2).val + r) l) (window_is (off1_eq i) hr.dq _)) x).trans ?_
      exact congrArg _ (row_back (f := S.dq) (g := fun r l => R.gq (Seen (i 1).val (i 2).val) (l / 64) r l) _ _)
    · refine (put_is (off1_eq i) hr.dcr (g := fun r l => S.dcr (640 * (i 2).val + r) l + R.gq (Seen (i 1).val (i 2).val) (1 - l / 64) r l)
        (mdcr_is H ha hb (o := fun r l => S.dcr (640 * (i 2).val + r) l) (window_is (off1_eq i) hr.dcr _)) x).trans ?_
      exact congrArg _ (row_back (f := S.dcr) (g := fun r l => R.gq (Seen (i 1).val (i 2).val) (1 - l / 64) r l) _ _)
    · exact mdk_is H ha hb hc.dk x
    · exact mdv_is H ha hb hc.dv x
    · exact mdck_is H ha hb hc.dck x
  · have h3 : ¬k0_cond3 i = 1#1 := fun h => he ((cond3_iff i).mp h).1
    have h4 : k0_cond4 i = 1#1 := (cond4_iff i).mpr ⟨he, by omega⟩
    have hm : ∀ r c, r < 640 → c < 640 → Seen (i 1).val (i 2).val r c := fun r c h1 h2 => ⟨by omega, by omega⟩
    rw [upd3, dif_neg h3, upd4, dif_pos h4]
    refine ⟨⟨fun x => ?_, fun x => ?_⟩, ⟨fun x => ?_, fun x => ?_, fun x => ?_⟩⟩
    · refine (put_is (off2_eq i) hr.dq (g := fun r l => S.dq (640 * (i 2).val + r) l + R.gq (Seen (i 1).val (i 2).val) (l / 64) r l)
        (udq_is H hm (o := fun r l => S.dq (640 * (i 2).val + r) l) (window_is (off2_eq i) hr.dq _)) x).trans ?_
      exact congrArg _ (row_back (f := S.dq) (g := fun r l => R.gq (Seen (i 1).val (i 2).val) (l / 64) r l) _ _)
    · refine (put_is (off2_eq i) hr.dcr (g := fun r l => S.dcr (640 * (i 2).val + r) l + R.gq (Seen (i 1).val (i 2).val) (1 - l / 64) r l)
        (udcr_is H hm (o := fun r l => S.dcr (640 * (i 2).val + r) l) (window_is (off2_eq i) hr.dcr _)) x).trans ?_
      exact congrArg _ (row_back (f := S.dcr) (g := fun r l => R.gq (Seen (i 1).val (i 2).val) (1 - l / 64) r l) _ _)
    · exact udk_is H hm hc.dk x
    · exact udv_is H hm hc.dv x
    · exact udck_is H hm hc.dck x

end Point

/-! ## The cleared accumulators -/

/-- The accumulators of nothing. -/
def RAcc.clearRows (S : RAcc) : RAcc := { S with dq := fun _ _ => 0, dcr := fun _ _ => 0 }
def RAcc.clearCols (S : RAcc) : RAcc := { S with dk := fun _ _ => 0, dv := fun _ _ => 0, dck := fun _ _ => 0 }

theorem zero_whole (i : S8320x128.Idx) : k0_pay1 (F := Ideal) i = ((0 : ℝ) : EReal) := Ideal.ofBits_zero_f32
theorem zero_whole' (i : S8320x128.Idx) : k0_pay2 (F := Ideal) i = ((0 : ℝ) : EReal) := Ideal.ofBits_zero_f32
theorem zero_k (i : S640x128.Idx) : k0_pay3 (F := Ideal) i = ((0 : ℝ) : EReal) := cast_is (f := fun _ _ => 0) (fun _ => Ideal.ofBits_zero_f32) i
theorem zero_v (i : S640x128.Idx) : k0_pay4 (F := Ideal) i = ((0 : ℝ) : EReal) := cast_is (f := fun _ _ => 0) (fun _ => Ideal.ofBits_zero_f32) i
theorem zero_ck (i : S640x128.Idx) : k0_pay5 (F := Ideal) i = ((0 : ℝ) : EReal) := cast_is (f := fun _ _ => 0) (fun _ => Ideal.ofBits_zero_f32) i

section Step

variable {R : Tile} {B : Blk Ideal} (H : R.Of B) (i : grid0.Coords) {S : RAcc} {s : Acc Ideal}
include H

/-- The first point of a head pair. -/
theorem step_origin (h1 : (i 1).val = 0) (h2 : (i 2).val = 0) :
    (S.clearRows.clearCols.add R (i 1).val (i 2).val).Rows (step B i s) ∧ (S.clearRows.clearCols.add R (i 1).val (i 2).val).Cols (step B i s) := by
  unfold step
  rw [clr1, if_pos ((cond1_iff i).mpr ⟨h1, h2⟩), clr2, if_pos ((cond2_iff i).mpr (by omega))]
  exact upd_is H i (S := S.clearRows.clearCols) ⟨zero_whole, zero_whole'⟩ ⟨zero_k, zero_v, zero_ck⟩ (by omega)

/-- A later point of the diagonal. -/
theorem step_diag (h1 : (i 1).val ≠ 0) (h2 : (i 2).val = (i 1).val) (hr : S.Rows s) :
    (S.clearCols.add R (i 1).val (i 2).val).Rows (step B i s) ∧ (S.clearCols.add R (i 1).val (i 2).val).Cols (step B i s) := by
  unfold step
  rw [clr1, if_neg (fun h => h1 ((cond1_iff i).mp h).1), clr2, if_pos ((cond2_iff i).mpr h2)]
  exact upd_is H i (S := S.clearCols) ⟨hr.dq, hr.dcr⟩ ⟨zero_k, zero_v, zero_ck⟩ (by omega)

/-- A point below the diagonal. -/
theorem step_below (h2 : (i 1).val < (i 2).val) (hr : S.Rows s) (hc : S.Cols s) :
    (S.add R (i 1).val (i 2).val).Rows (step B i s) ∧ (S.add R (i 1).val (i 2).val).Cols (step B i s) := by
  unfold step
  rw [clr1, if_neg (fun h => by have := (cond1_iff i).mp h; omega), clr2, if_neg (fun h => by have := (cond2_iff i).mp h; omega)]
  exact upd_is H i hr hc (by omega)

end Step

end Cert.KernelIdeal.Real

end
-- ==== Proof.Chain.lean ====
/-
  The accumulators along the grid at real operands, in closed form. After `n` points of a head pair a row of `dq` holds the sum over
  the column blocks that its row block has met; the column accumulators of block `j` hold the sum over the row blocks met so far.
-/
module

public import proofs.«01_k».proof.Proof.StepReal
public import proofs.«01_k».proof.Proof.Run

@[expose] public section

noncomputable section

namespace Cert.KernelIdeal.Real

open Cert.KernelIdeal Cert.KernelIdeal.Gen Cert.KernelIdeal.Hand Cert.Model Cert.Num
open Idealize.ShloMosaic Idealize.ShloMosaic.TcCoe

variable (A : Args) (lse : ℕ → ℕ → ℝ)

/-- What the forward pass saved of a row: some shift, plus the logarithm of the normaliser at that shift, less the row's forget sum. -/
def Saved : Prop := ∀ h i, 112 ≤ i → i < 8320 → ∃ m : ℝ, lse h i = m + Real.log (mass A m h i) - A.c i h

/-- The operands of head pair `p`, columns of block `a`, rows of block `b`. -/
def tile (p a b : ℕ) : Tile where
  q r l := A.q (640 * b + r) (128 * p + l) * (1 / 8)
  k c l := A.k (640 * a + c) (128 * p + l)
  v c l := A.v (640 * a + c) (128 * p + l)
  d r l := A.g (640 * b + r) (128 * p + l)
  l r x := lse (2 * p + x / 64) (640 * b + r)
  e r x := rowSum A (2 * p + x / 64) (640 * b + r)
  c h x := A.c (640 * a + x) (2 * p + h)

variable {A lse} (hl : Saved A lse)
include hl

theorem tile_p (p a b h r c : ℕ) (hb : b < 13) (hr : r < 640) :
    (tile A lse p a b).p (Seen a b) h r c = weight A (2 * p + h) (640 * b + r) (640 * a + c) := by
  unfold Tile.p
  by_cases s : Seen a b r c
  · obtain ⟨m, hm⟩ := hl (2 * p + h) (640 * b + r) (s.2.trans s.1) (by omega)
    rw [if_pos s, ← weight_log A m _ _ _ s (by omega), ← hm]
    unfold Tile.x
    have e : (∑ d : Fin 64, (tile A lse p a b).q r (64 * h + d.val) * (tile A lse p a b).k c (64 * h + d.val))
        = ∑ d : Fin 64, A.q (640 * b + r) (64 * (2 * p + h) + d.val) * (1 / 8) * A.k (640 * a + c) (64 * (2 * p + h) + d.val) :=
      Finset.sum_congr rfl fun d _ => by
        show A.q _ (128 * p + (64 * h + d.val)) * (1 / 8) * A.k _ (128 * p + (64 * h + d.val)) = _
        rw [show 128 * p + (64 * h + d.val) = 64 * (2 * p + h) + d.val by ring]
    rw [e]
    show Real.exp (_ - A.c (640 * a + c) (2 * p + h) - lse (2 * p + 64 * h / 64) (640 * b + r)) = _
    rw [Nat.mul_div_cancel_left _ (by norm_num)]
  · rw [if_neg s, weight_of_not A _ _ _ s]

theorem tile_s (p a b h r c : ℕ) (hb : b < 13) (hr : r < 640) :
    (tile A lse p a b).s (Seen a b) h r c = dscore A (2 * p + h) (640 * b + r) (640 * a + c) := by
  unfold Tile.s dscore
  rw [tile_p hl p a b h r c hb hr]
  have e : (tile A lse p a b).dp h r c = dweight A (2 * p + h) (640 * b + r) (640 * a + c) :=
    Finset.sum_congr rfl fun d _ => by
      show A.g _ (128 * p + (64 * h + d.val)) * A.v _ (128 * p + (64 * h + d.val)) = _
      rw [show 128 * p + (64 * h + d.val) = 64 * (2 * p + h) + d.val by ring]
  have e' : (tile A lse p a b).e r (64 * h) = rowSum A (2 * p + h) (640 * b + r) := by
    dsimp only [tile]
    rw [Nat.mul_div_cancel_left _ (by norm_num)]
  rw [e, e']

omit hl

/-- What a pair of blocks adds to a row or a column of each accumulator. -/
def cq (A : Args) (p a x l : ℕ) : ℝ := ∑ c : Fin 640, dscore A (2 * p + l / 64) x (640 * a + c.val) * A.k (640 * a + c.val) (128 * p + l)
def cr (A : Args) (p a x l : ℕ) : ℝ := ∑ c : Fin 640, dscore A (2 * p + (1 - l / 64)) x (640 * a + c.val)
def ck (A : Args) (p b y l : ℕ) : ℝ := ∑ r : Fin 640, dscore A (2 * p + l / 64) (640 * b + r.val) y * (A.q (640 * b + r.val) (128 * p + l) * (1 / 8))
def cv (A : Args) (p b y l : ℕ) : ℝ := ∑ r : Fin 640, weight A (2 * p + l / 64) (640 * b + r.val) y * A.g (640 * b + r.val) (128 * p + l)
def cc (A : Args) (p b y l : ℕ) : ℝ := ∑ r : Fin 640, dscore A (2 * p + (1 - l / 64)) (640 * b + r.val) y

theorem not_own (l : ℕ) : ¬ l / 64 = 1 - l / 64 := by omega

include hl

theorem gq_own (p a b r l : ℕ) (hb : b < 13) (hr : r < 640) :
    (tile A lse p a b).gq (Seen a b) (l / 64) r l = cq A p a (640 * b + r) l :=
  Finset.sum_congr rfl fun c _ => by rw [tile_s hl p a b _ r _ hb hr, pick, if_pos rfl]; rfl

theorem gq_other (p a b r l : ℕ) (hb : b < 13) (hr : r < 640) :
    (tile A lse p a b).gq (Seen a b) (1 - l / 64) r l = cr A p a (640 * b + r) l :=
  Finset.sum_congr rfl fun c _ => by rw [tile_s hl p a b _ r _ hb hr, pick, if_neg (not_own l), mul_one]

theorem gk_own (p a b c l : ℕ) (hb : b < 13) : (tile A lse p a b).gk (Seen a b) (l / 64) c l = ck A p b (640 * a + c) l :=
  Finset.sum_congr rfl fun r _ => by rw [tile_s hl p a b _ _ c hb r.isLt, pick, if_pos rfl]; rfl

theorem gk_other (p a b c l : ℕ) (hb : b < 13) : (tile A lse p a b).gk (Seen a b) (1 - l / 64) c l = cc A p b (640 * a + c) l :=
  Finset.sum_congr rfl fun r _ => by rw [tile_s hl p a b _ _ c hb r.isLt, pick, if_neg (not_own l), mul_one]

theorem gv_own (p a b c l : ℕ) (hb : b < 13) : (tile A lse p a b).gv (Seen a b) (l / 64) c l = cv A p b (640 * a + c) l :=
  Finset.sum_congr rfl fun r _ => by rw [tile_p hl p a b _ _ c hb r.isLt]; rfl

omit hl

/-! ## Blocks above the diagonal add nothing -/

theorem cq_zero (p a x l : ℕ) (h : x < 640 * a) : cq A p a x l = 0 :=
  Finset.sum_eq_zero fun c _ => by rw [dscore_of_not A _ _ _ (fun s => by have := s.1; omega), zero_mul]
theorem cr_zero (p a x l : ℕ) (h : x < 640 * a) : cr A p a x l = 0 :=
  Finset.sum_eq_zero fun c _ => dscore_of_not A _ _ _ (fun s => by have := s.1; omega)
theorem ck_zero (p b y l : ℕ) (h : 640 * b + 640 ≤ y) : ck A p b y l = 0 :=
  Finset.sum_eq_zero fun r _ => by rw [dscore_of_not A _ _ _ (fun s => by have := s.1; have := r.isLt; omega), zero_mul]
theorem cv_zero (p b y l : ℕ) (h : 640 * b + 640 ≤ y) : cv A p b y l = 0 :=
  Finset.sum_eq_zero fun r _ => by rw [weight_of_not A _ _ _ (fun s => by have := s.1; have := r.isLt; omega), zero_mul]
theorem cc_zero (p b y l : ℕ) (h : 640 * b + 640 ≤ y) : cc A p b y l = 0 :=
  Finset.sum_eq_zero fun r _ => dscore_of_not A _ _ _ (fun s => by have := s.1; have := r.isLt; omega)

/-! ## The closed form -/

/-- The column blocks that row block `b` has met after `n` points of a head pair. -/
abbrev met (n b : ℕ) : ℕ := (n + 12 - b) / 13

/-- The accumulators of head pair `p` after `n` of its points, column block `j` having met row blocks `0 … i-1`. -/
def done (A : Args) (p n j i : ℕ) : RAcc where
  dq x l := ∑ a ∈ Finset.range (met n (x / 640)), cq A p a x l
  dcr x l := ∑ a ∈ Finset.range (met n (x / 640)), cr A p a x l
  dk c l := ∑ b ∈ Finset.range i, ck A p b (640 * j + c) l
  dv c l := ∑ b ∈ Finset.range i, cv A p b (640 * j + c) l
  dck c l := ∑ b ∈ Finset.range i, cc A p b (640 * j + c) l

theorem rows_of {S S' : RAcc} {s : Acc Ideal} (h : S.Rows s) (h1 : ∀ x l, x < 8320 → l < 128 → S.dq x l = S'.dq x l)
    (h2 : ∀ x l, x < 8320 → l < 128 → S.dcr x l = S'.dcr x l) : S'.Rows s :=
  ⟨fun i => (h.dq i).trans (congrArg _ (h1 _ _ (i 0).isLt (i 1).isLt)), fun i => (h.dcr i).trans (congrArg _ (h2 _ _ (i 0).isLt (i 1).isLt))⟩

theorem cols_of {S S' : RAcc} {s : Acc Ideal} (h : S.Cols s) (h1 : ∀ x l, x < 640 → S.dk x l = S'.dk x l)
    (h2 : ∀ x l, x < 640 → S.dv x l = S'.dv x l) (h3 : ∀ x l, x < 640 → S.dck x l = S'.dck x l) : S'.Cols s :=
  ⟨fun i => (h.dk i).trans (congrArg _ (h1 _ _ (i 0).isLt)), fun i => (h.dv i).trans (congrArg _ (h2 _ _ (i 0).isLt)),
    fun i => (h.dck i).trans (congrArg _ (h3 _ _ (i 0).isLt))⟩

/-- One more point, for a row. -/
theorem met_succ (f : ℕ → ℝ) (j i b : ℕ) (hi : i < 13) (hb : b < 13) :
    ∑ a ∈ Finset.range (met (13 * j + i + 1) b), f a = if b = i then ∑ a ∈ Finset.range (met (13 * j + i) b), f a + f j else ∑ a ∈ Finset.range (met (13 * j + i) b), f a := by
  by_cases h : b = i
  · rw [if_pos h, show met (13 * j + i + 1) b = j + 1 by unfold met; omega, show met (13 * j + i) b = j by unfold met; omega, Finset.sum_range_succ]
  · rw [if_neg h, show met (13 * j + i + 1) b = met (13 * j + i) b by unfold met; omega]

include hl

/-- A point on or below the diagonal, in closed form. -/
theorem add_done (p j i : ℕ) (hi : i < 13) {s : Acc Ideal} {S : RAcc}
    (hq : ∀ x l, x < 8320 → S.dq x l = (done A p (13 * j + i) j i).dq x l) (hr : ∀ x l, x < 8320 → S.dcr x l = (done A p (13 * j + i) j i).dcr x l)
    (hk : ∀ x l, x < 640 → S.dk x l = (done A p (13 * j + i) j i).dk x l) (hv : ∀ x l, x < 640 → S.dv x l = (done A p (13 * j + i) j i).dv x l)
    (hc : ∀ x l, x < 640 → S.dck x l = (done A p (13 * j + i) j i).dck x l)
    (h : (S.add (tile A lse p j i) j i).Rows s ∧ (S.add (tile A lse p j i) j i).Cols s) :
    (done A p (13 * j + i + 1) j (i + 1)).Rows s ∧ (done A p (13 * j + i + 1) j (i + 1)).Cols s := by
  refine ⟨rows_of h.1 (fun x l hx _ => ?_) (fun x l hx _ => ?_), cols_of h.2 (fun x l hx => ?_) (fun x l hx => ?_) (fun x l hx => ?_)⟩
  · show (if x / 640 = i then S.dq x l + _ else S.dq x l) = ∑ a ∈ Finset.range (met (13 * j + i + 1) (x / 640)), cq A p a x l
    rw [met_succ _ j i (x / 640) hi (by omega), hq x l hx]
    by_cases hx' : x / 640 = i
    · rw [if_pos hx', if_pos hx', gq_own hl p j i _ l hi (by omega), show 640 * i + (x - 640 * i) = x by omega]; rfl
    · rw [if_neg hx', if_neg hx']; rfl
  · show (if x / 640 = i then S.dcr x l + _ else S.dcr x l) = ∑ a ∈ Finset.range (met (13 * j + i + 1) (x / 640)), cr A p a x l
    rw [met_succ _ j i (x / 640) hi (by omega), hr x l hx]
    by_cases hx' : x / 640 = i
    · rw [if_pos hx', if_pos hx', gq_other hl p j i _ l hi (by omega), show 640 * i + (x - 640 * i) = x by omega]; rfl
    · rw [if_neg hx', if_neg hx']; rfl
  · show S.dk x l + _ = ∑ b ∈ Finset.range (i + 1), ck A p b (640 * j + x) l
    rw [Finset.sum_range_succ, hk x l hx, gk_own hl p j i x l hi]; rfl
  · show S.dv x l + _ = ∑ b ∈ Finset.range (i + 1), cv A p b (640 * j + x) l
    rw [Finset.sum_range_succ, hv x l hx, gv_own hl p j i x l hi]; rfl
  · show S.dck x l + _ = ∑ b ∈ Finset.range (i + 1), cc A p b (640 * j + x) l
    rw [Finset.sum_range_succ, hc x l hx, gk_other hl p j i x l hi]; rfl

omit hl

/-- The first row blocks add nothing to a column block: at the diagonal the column accumulators are as cleared. -/
theorem cleared_k (p j x l : ℕ) (n : ℕ) : (done A p n j j).dk x l = 0 :=
  Finset.sum_eq_zero (s := Finset.range j) (f := fun b => ck A p b (640 * j + x) l) fun b hb => ck_zero p b _ l (by have := Finset.mem_range.1 hb; omega)
theorem cleared_v (p j x l : ℕ) (n : ℕ) : (done A p n j j).dv x l = 0 :=
  Finset.sum_eq_zero (s := Finset.range j) (f := fun b => cv A p b (640 * j + x) l) fun b hb => cv_zero p b _ l (by have := Finset.mem_range.1 hb; omega)
theorem cleared_ck (p j x l : ℕ) (n : ℕ) : (done A p n j j).dck x l = 0 :=
  Finset.sum_eq_zero (s := Finset.range j) (f := fun b => cc A p b (640 * j + x) l) fun b hb => cc_zero p b _ l (by have := Finset.mem_range.1 hb; omega)

/-- A point above the diagonal, in closed form. -/
theorem skip_done (p j i : ℕ) (hi : i < 13) (hj : i < j) {s : Acc Ideal} (h : (done A p (13 * j + i) j i).Rows s) :
    (done A p (13 * j + i + 1) j (i + 1)).Rows s := by
  refine rows_of h (fun x l hx _ => ?_) (fun x l hx _ => ?_)
  · show _ = ∑ a ∈ Finset.range (met (13 * j + i + 1) (x / 640)), cq A p a x l
    rw [met_succ _ j i (x / 640) hi (by omega)]
    split
    · rw [cq_zero p j x l (by omega), add_zero]; rfl
    · rfl
  · show _ = ∑ a ∈ Finset.range (met (13 * j + i + 1) (x / 640)), cr A p a x l
    rw [met_succ _ j i (x / 640) hi (by omega)]
    split
    · rw [cr_zero p j x l (by omega), add_zero]; rfl
    · rfl

include hl in
/-- One point, in closed form. -/
theorem step_done {B : Blk Ideal} (i : grid0.Coords) (p : ℕ) (H : (i 1).val ≤ (i 2).val → (tile A lse p (i 1).val (i 2).val).Of B) {s : Acc Ideal}
    (hr : ¬((i 1).val = 0 ∧ (i 2).val = 0) → (done A p (13 * (i 1).val + (i 2).val) (i 1).val (i 2).val).Rows s)
    (hc : (i 1).val < (i 2).val → (done A p (13 * (i 1).val + (i 2).val) (i 1).val (i 2).val).Cols s) :
    (done A p (13 * (i 1).val + (i 2).val + 1) (i 1).val ((i 2).val + 1)).Rows (step B i s)
      ∧ ((i 1).val ≤ (i 2).val → (done A p (13 * (i 1).val + (i 2).val + 1) (i 1).val ((i 2).val + 1)).Cols (step B i s)) := by
  have hi := lt2 i
  rcases (show ((i 1).val = 0 ∧ (i 2).val = 0) ∨ ((i 1).val ≠ 0 ∧ (i 2).val = (i 1).val) ∨ (i 1).val < (i 2).val ∨ (i 2).val < (i 1).val by omega) with h | h | h | h
  · have hm : ∀ x, x < 8320 → met (13 * (i 1).val + (i 2).val) (x / 640) = 0 := fun x hx => by unfold met; omega
    have e := add_done hl p (i 1).val (i 2).val hi (S := (done A p 0 0 0).clearRows.clearCols)
      (fun x l hx => by show (0 : ℝ) = ∑ a ∈ Finset.range (met _ _), _; rw [hm x hx, Finset.sum_range_zero])
      (fun x l hx => by show (0 : ℝ) = ∑ a ∈ Finset.range (met _ _), _; rw [hm x hx, Finset.sum_range_zero])
      (fun x l hx => by rw [h.2.trans h.1.symm, cleared_k]; rfl) (fun x l hx => by rw [h.2.trans h.1.symm, cleared_v]; rfl)
      (fun x l hx => by rw [h.2.trans h.1.symm, cleared_ck]; rfl) (step_origin (H (by omega)) i (s := s) h.1 h.2)
    exact ⟨e.1, fun _ => e.2⟩
  · have e := add_done hl p (i 1).val (i 2).val hi (S := (done A p (13 * (i 1).val + (i 2).val) (i 1).val (i 2).val).clearCols)
      (fun x l hx => rfl) (fun x l hx => rfl)
      (fun x l hx => by rw [h.2, cleared_k]; rfl) (fun x l hx => by rw [h.2, cleared_v]; rfl)
      (fun x l hx => by rw [h.2, cleared_ck]; rfl) (step_diag (H (by omega)) i h.1 h.2 (hr (by omega)))
    exact ⟨e.1, fun _ => e.2⟩
  · have e := add_done hl p (i 1).val (i 2).val hi (S := done A p (13 * (i 1).val + (i 2).val) (i 1).val (i 2).val)
      (fun x l hx => rfl) (fun x l hx => rfl) (fun x l hx => rfl) (fun x l hx => rfl) (fun x l hx => rfl)
      (step_below (H (by omega)) i h (hr (by omega)) (hc h))
    exact ⟨e.1, fun _ => e.2⟩
  · refine ⟨?_, fun h' => absurd h' (by omega)⟩
    rw [step_above B i (fun h1 => by have := (cond1_iff i).mp h1; omega) (fun h3 => by have := (cond3_iff i).mp h3; omega)
      (fun h4 => by have := (cond4_iff i).mp h4; omega)]
    exact skip_done p (i 1).val (i 2).val hi h (hr (by omega))

/-! ## Along the grid -/

section Grid

variable (m : (ℓ : Loc nD τ sig) → Buf (Elt Ideal) ℓ) (c : Dev nD)

include hl in
/-- The accumulators after a point. -/
theorem after_point (H : ∀ t : Fin cfg0.N, t.val / 13 % 13 ≤ t.val % 13 → (tile A lse (t.val / 169) (t.val / 13 % 13) (t.val % 13)).Of (blk m c t)) :
    ∀ n (h : n < cfg0.N), (done A (n / 169) (n % 169 + 1) (n / 13 % 13) (n % 13 + 1)).Rows (St m c (n + 1))
      ∧ (n / 13 % 13 ≤ n % 13 → (done A (n / 169) (n % 169 + 1) (n / 13 % 13) (n % 13 + 1)).Cols (St m c (n + 1)))
  | n, h => by
    have hs := St_succ m c ⟨n, h⟩
    have c1 := coord1 ⟨n, h⟩
    have c2 := coord2 ⟨n, h⟩
    have hn : n % 169 = 13 * (n / 13 % 13) + n % 13 := by omega
    have key := step_done (A := A) hl (B := blk m c ⟨n, h⟩) (grid0.coords ⟨n, h⟩) (n / 169) (s := St m c n)
    rw [c1, c2] at key
    simp only [] at key
    rw [← hn] at key
    rw [hs]
    refine key (H ⟨n, h⟩) (fun h0 => ?_) (fun h1 => ?_)
    · obtain ⟨k, rfl⟩ : ∃ k, n = k + 1 := ⟨n - 1, by omega⟩
      have ih := (after_point H k (by omega)).1
      rw [show (k + 1) / 169 = k / 169 by omega, show (k + 1) % 169 = k % 169 + 1 by omega]
      exact ⟨ih.dq, ih.dcr⟩
    · obtain ⟨k, rfl⟩ : ∃ k, n = k + 1 := ⟨n - 1, by omega⟩
      have ih := (after_point H k (by omega)).2 (by omega)
      rw [show k / 169 = (k + 1) / 169 by omega, show k / 13 % 13 = (k + 1) / 13 % 13 by omega, show k % 13 + 1 = (k + 1) % 13 by omega] at ih
      exact ⟨ih.dk, ih.dv, ih.dck⟩

end Grid

end Cert.KernelIdeal.Real

end
-- ==== Proof.Arrays.lean ====
/-
  The five result arrays of the launch at real operands: each the sum over all rows or all columns of the sequence.
-/
module

public import proofs.«01_k».proof.Proof.Chain
public import Idealize.ShloMosaic.Lib.Pipeline.ValueKit
public import Idealize.ShloMosaic.Lib.Pipeline.Covers

@[expose] public section

set_option maxRecDepth 16384

noncomputable section

namespace Cert.KernelIdeal.Real

open Cert.KernelIdeal Cert.KernelIdeal.Gen Cert.KernelIdeal.Hand Cert.Model Cert.Num
open Idealize.ShloMosaic Idealize.ShloMosaic.TcCoe

/-! ## Sums over blocks -/

/-- A sum over the blocks of the sequence is a sum over the sequence. -/
theorem sum_blocks (f : ℕ → ℝ) : ∑ b ∈ Finset.range 13, ∑ r : Fin 640, f (640 * b + r.val) = ∑ x : Fin 8320, f x.val := by
  rw [Fin.sum_univ_eq_sum_range f 8320, show (8320 : ℕ) = 13 * 640 from rfl, ← Finset.sum_range_range_mul_add]
  refine Finset.sum_congr rfl fun b _ => ?_
  rw [Fin.sum_univ_eq_sum_range (fun r => f (640 * b + r)) 640]
  exact Finset.sum_congr rfl fun r _ => by rw [Nat.mul_comm]

/-- The head whose sums a column of `dck` and `dcr` holds. -/
abbrev other (x : ℕ) : ℕ := 2 * (x / 128) + (1 - x % 128 / 64)

variable (A : Args)

def allQ (i x : ℕ) : ℝ := ∑ j : Fin 8320, dscore A (x / 64) i j.val * A.k j.val x
def allR (i x : ℕ) : ℝ := ∑ j : Fin 8320, dscore A (other x) i j.val
def allC (j x : ℕ) : ℝ := ∑ i : Fin 8320, dscore A (other x) i.val j

theorem all_cq (p x l : ℕ) (hl : l < 128) : ∑ a ∈ Finset.range 13, cq A p a x l = allQ A x (128 * p + l) := by
  unfold cq allQ
  rw [sum_blocks (fun j => dscore A (2 * p + l / 64) x j * A.k j (128 * p + l)), show (128 * p + l) / 64 = 2 * p + l / 64 by omega]

theorem all_cr (p x l : ℕ) (hl : l < 128) : ∑ a ∈ Finset.range 13, cr A p a x l = allR A x (128 * p + l) := by
  unfold cr allR other
  rw [sum_blocks (fun j => dscore A (2 * p + (1 - l / 64)) x j), show (128 * p + l) / 128 = p by omega, show (128 * p + l) % 128 = l by omega]

theorem all_ck (p y l : ℕ) (hl : l < 128) : ∑ b ∈ Finset.range 13, ck A p b y l = outK A y (128 * p + l) := by
  unfold ck outK
  rw [sum_blocks (fun i => dscore A (2 * p + l / 64) i y * (A.q i (128 * p + l) * (1 / 8))), show (128 * p + l) / 64 = 2 * p + l / 64 by omega]

theorem all_cv (p y l : ℕ) (hl : l < 128) : ∑ b ∈ Finset.range 13, cv A p b y l = outV A y (128 * p + l) := by
  unfold cv outV
  rw [sum_blocks (fun i => weight A (2 * p + l / 64) i y * A.g i (128 * p + l)), show (128 * p + l) / 64 = 2 * p + l / 64 by omega]

theorem all_cc (p y l : ℕ) (hl : l < 128) : ∑ b ∈ Finset.range 13, cc A p b y l = allC A y (128 * p + l) := by
  unfold cc allC other
  rw [sum_blocks (fun i => dscore A (2 * p + (1 - l / 64)) i y), show (128 * p + l) / 128 = p by omega, show (128 * p + l) % 128 = l by omega]

/-! ## The blocks' places -/

theorem nat32 (n : ℕ) (h : n < 13) : (BitVec.ofNat 32 n).toNat = n := by rw [BitVec.toNat_ofNat]; omega

theorem lt0 (i : grid0.Coords) : (i 0).val < 13 := Nat.lt_of_lt_of_le (show (i 0).val < 8 from (i 0).isLt) (by decide)

theorem place_col (i : grid0.Coords) : (![(BitVec.ofNat 32 (i 1).val).toNat, (BitVec.ofNat 32 (i 0).val).toNat] : Fin 2 → ℕ) = ![(i 1).val, (i 0).val] := by
  rw [nat32 _ (lt1 i), nat32 _ (lt0 i)]
theorem place_row (i : grid0.Coords) : (![(0#32 : BitVec 32).toNat, (BitVec.ofNat 32 (i 0).val).toNat] : Fin 2 → ℕ) = ![0, (i 0).val] := by
  rw [nat32 _ (lt0 i)]; rfl

theorem at7 (t : Fin cfg0.N) : win0_7.index t = ![0, (grid0.coords t 0).val] := place_row _
theorem at8 (t : Fin cfg0.N) : win0_8.index t = ![(grid0.coords t 1).val, (grid0.coords t 0).val] := place_col _
theorem at9 (t : Fin cfg0.N) : win0_9.index t = ![(grid0.coords t 1).val, (grid0.coords t 0).val] := place_col _
theorem at10 (t : Fin cfg0.N) : win0_10.index t = ![(grid0.coords t 1).val, (grid0.coords t 0).val] := place_col _
theorem at11 (t : Fin cfg0.N) : win0_11.index t = ![0, (grid0.coords t 0).val] := place_row _

theorem coord0' (t : Fin cfg0.N) : (grid0.coords t 0).val = t.val / 169 := (coord0 t).trans (by have : t.val < 1352 := t.isLt; omega)

/-! ## The arrays -/

section Arrays

variable {A : Args} {lse : ℕ → ℕ → ℝ} (hl : Saved A lse) (m : (ℓ : Loc nD τ sig) → Buf (Elt Ideal) ℓ) (c : Dev nD)
  (H : ∀ t : Fin cfg0.N, t.val / 13 % 13 ≤ t.val % 13 → (tile A lse (t.val / 169) (t.val / 13 % 13) (t.val % 13)).Of (blk m c t))
include hl H

theorem arr_k (i : S8320x1024.Idx) : (dats m 0 c).arrAt 8 cfg0.N i = ((outK A (i 0).val (i 1).val : ℝ) : EReal) := by
  refine congrFun ((dats m 0 c).arrAt_eq_of_covers 8 (fun i : S8320x1024.Idx => ((outK A (i 0).val (i 1).val : ℝ) : EReal)) (by decide +kernel) fun t hf y => ?_) i
  have h12 := (flush0_8 t).mp hf
  have hy : (y 1).val < 128 := (y 1).isLt
  have e := ((after_point hl m c H t.val t.isLt).2 (by omega)).dk y
  refine e.trans (congrArg _ ?_)
  have e0 : ((((cfg0.win 8).blk t).view.emb y) 0).val = (t.val / 13 % 13) * 640 + (y 0).val := by blk_simp [at8, coord1]
  have e1 : ((((cfg0.win 8).blk t).view.emb y) 1).val = (t.val / 169) * 128 + (y 1).val := by blk_simp [at8, coord0']
  show _ = outK A ((((cfg0.win 8).blk t).view.emb y) 0).val ((((cfg0.win 8).blk t).view.emb y) 1).val
  rw [e0, e1, h12, Nat.mul_comm, Nat.mul_comm (t.val / 169), ← all_ck A _ _ _ hy]
  rfl

theorem arr_v (i : S8320x1024.Idx) : (dats m 0 c).arrAt 9 cfg0.N i = ((outV A (i 0).val (i 1).val : ℝ) : EReal) := by
  refine congrFun ((dats m 0 c).arrAt_eq_of_covers 9 (fun i : S8320x1024.Idx => ((outV A (i 0).val (i 1).val : ℝ) : EReal)) (by decide +kernel) fun t hf y => ?_) i
  have h12 := (flush0_9 t).mp hf
  have hy : (y 1).val < 128 := (y 1).isLt
  have e := ((after_point hl m c H t.val t.isLt).2 (by omega)).dv y
  refine e.trans (congrArg _ ?_)
  have e0 : ((((cfg0.win 9).blk t).view.emb y) 0).val = (t.val / 13 % 13) * 640 + (y 0).val := by blk_simp [at9, coord1]
  have e1 : ((((cfg0.win 9).blk t).view.emb y) 1).val = (t.val / 169) * 128 + (y 1).val := by blk_simp [at9, coord0']
  show _ = outV A ((((cfg0.win 9).blk t).view.emb y) 0).val ((((cfg0.win 9).blk t).view.emb y) 1).val
  rw [e0, e1, h12, Nat.mul_comm, Nat.mul_comm (t.val / 169), ← all_cv A _ _ _ hy]
  rfl

theorem arr_c (i : S8320x1024.Idx) : (dats m 0 c).arrAt 10 cfg0.N i = ((allC A (i 0).val (i 1).val : ℝ) : EReal) := by
  refine congrFun ((dats m 0 c).arrAt_eq_of_covers 10 (fun i : S8320x1024.Idx => ((allC A (i 0).val (i 1).val : ℝ) : EReal)) (by decide +kernel) fun t hf y => ?_) i
  have h12 := (flush0_10 t).mp hf
  have hy : (y 1).val < 128 := (y 1).isLt
  have e := ((after_point hl m c H t.val t.isLt).2 (by omega)).dck y
  refine e.trans (congrArg _ ?_)
  have e0 : ((((cfg0.win 10).blk t).view.emb y) 0).val = (t.val / 13 % 13) * 640 + (y 0).val := by blk_simp [at10, coord1]
  have e1 : ((((cfg0.win 10).blk t).view.emb y) 1).val = (t.val / 169) * 128 + (y 1).val := by blk_simp [at10, coord0']
  show _ = allC A ((((cfg0.win 10).blk t).view.emb y) 0).val ((((cfg0.win 10).blk t).view.emb y) 1).val
  rw [e0, e1, h12, Nat.mul_comm, Nat.mul_comm (t.val / 169), ← all_cc A _ _ _ hy]
  rfl

theorem arr_q (i : S8320x1024.Idx) : (dats m 0 c).arrAt 7 cfg0.N i = ((allQ A (i 0).val (i 1).val : ℝ) : EReal) := by
  refine congrFun ((dats m 0 c).arrAt_eq_of_covers 7 (fun i : S8320x1024.Idx => ((allQ A (i 0).val (i 1).val : ℝ) : EReal)) (by decide +kernel) fun t hf y => ?_) i
  have h168 := (flush0_7 t).mp hf
  have hx : (y 0).val < 8320 := (y 0).isLt
  have hy : (y 1).val < 128 := (y 1).isLt
  have e := (after_point hl m c H t.val t.isLt).1.dq y
  refine e.trans (congrArg _ ?_)
  have e0 : ((((cfg0.win 7).blk t).view.emb y) 0).val = (y 0).val := by blk_simp [at7]
  have e1 : ((((cfg0.win 7).blk t).view.emb y) 1).val = (t.val / 169) * 128 + (y 1).val := by blk_simp [at7, coord0']
  show ∑ a ∈ Finset.range (met (t.val % 169 + 1) ((y 0).val / 640)), _ = allQ A ((((cfg0.win 7).blk t).view.emb y) 0).val ((((cfg0.win 7).blk t).view.emb y) 1).val
  rw [e0, e1, h168, Nat.mul_comm (t.val / 169), ← all_cq A _ _ _ hy, show met (168 + 1) ((y 0).val / 640) = 13 by unfold met; omega]

theorem arr_r (i : S8320x1024.Idx) : (dats m 0 c).arrAt 11 cfg0.N i = ((allR A (i 0).val (i 1).val : ℝ) : EReal) := by
  refine congrFun ((dats m 0 c).arrAt_eq_of_covers 11 (fun i : S8320x1024.Idx => ((allR A (i 0).val (i 1).val : ℝ) : EReal)) (by decide +kernel) fun t hf y => ?_) i
  have h168 := (flush0_11 t).mp hf
  have hx : (y 0).val < 8320 := (y 0).isLt
  have hy : (y 1).val < 128 := (y 1).isLt
  have e := (after_point hl m c H t.val t.isLt).1.dcr y
  refine e.trans (congrArg _ ?_)
  have e0 : ((((cfg0.win 11).blk t).view.emb y) 0).val = (y 0).val := by blk_simp [at11]
  have e1 : ((((cfg0.win 11).blk t).view.emb y) 1).val = (t.val / 169) * 128 + (y 1).val := by blk_simp [at11, coord0']
  show ∑ a ∈ Finset.range (met (t.val % 169 + 1) ((y 0).val / 640)), _ = allR A ((((cfg0.win 11).blk t).view.emb y) 0).val ((((cfg0.win 11).blk t).view.emb y) 1).val
  rw [e0, e1, h168, Nat.mul_comm (t.val / 169), ← all_cr A _ _ _ hy, show met (168 + 1) ((y 0).val / 640) = 13 by unfold met; omega]

end Arrays

end Cert.KernelIdeal.Real

end
-- ==== Proof.HostVal.lean ====
/-
  The forward pass's values, read at real arguments: a row's logarithm of its normaliser and a row's sum of weights times cotangents.
-/
module

public import proofs.«01_k».proof.Proof.HostReal

@[expose] public section

noncomputable section

namespace Cert.KernelIdeal.Prefix

open Cert.KernelIdeal Cert.KernelIdeal.Gen Cert.Model Cert.Num
open Idealize.ShloMosaic Idealize.ShloMosaic.TcCoe

/-! ## The two products -/

abbrev dQK := dot_S16x8320x64_S16x8320x64_S16x8320x8320_2_2_1_1_0_0
abbrev dPV := dot_S16x8320x8320_S16x8320x64_S16x8320x64_2_1_1_2_0_0

theorem dotQK {x y : Arr S16x8320x64} {f g : ℕ → ℕ → ℕ → ℝ} (hx : Is3 x f) (hy : Is3 y g) :
    Is3 (Host.dotGeneral dQK none x y : Arr S16x8320x8320) fun p i j => ∑ d : Fin 64, f p i d.val * g p j d.val := fun i => by
  simp only [Host.dotGeneral]
  rw [Ideal.dotGeneral_apply, ← Equiv.sum_comp (ValueIdx.contrEquiv1 dQK 64 rfl rfl).symm]
  refine sum_coe fun k => ?_
  have hk := ValueIdx.contrEquiv1_symm_val dQK 64 rfl rfl k
  have l0 : (dQK.lhsIdx i ((ValueIdx.contrEquiv1 dQK 64 rfl rfl).symm k) 0).val = (i 0).val := by
    unfold DotDims.lhsIdx; rw [dif_pos (show (0 : Fin S16x8320x64.rank) ∈ dQK.lhsBatch by decide)]; rfl
  have l1 : (dQK.lhsIdx i ((ValueIdx.contrEquiv1 dQK 64 rfl rfl).symm k) 1).val = (i 1).val := by
    unfold DotDims.lhsIdx
    rw [dif_neg (show ¬(1 : Fin S16x8320x64.rank) ∈ dQK.lhsBatch by decide), dif_pos (show (1 : Fin S16x8320x64.rank) ∈ dQK.lhsNonContracting by decide)]; rfl
  have l2 := (dQK.lhsIdx_val_of_single rfl i ((ValueIdx.contrEquiv1 dQK 64 rfl rfl).symm k)).trans hk
  have r0 : (dQK.rhsIdx i ((ValueIdx.contrEquiv1 dQK 64 rfl rfl).symm k) 0).val = (i 0).val := by
    unfold DotDims.rhsIdx; rw [dif_pos (show (0 : Fin S16x8320x64.rank) ∈ dQK.rhsBatch by decide)]; rfl
  have r1 : (dQK.rhsIdx i ((ValueIdx.contrEquiv1 dQK 64 rfl rfl).symm k) 1).val = (i 2).val := by
    unfold DotDims.rhsIdx
    rw [dif_neg (show ¬(1 : Fin S16x8320x64.rank) ∈ dQK.rhsBatch by decide), dif_pos (show (1 : Fin S16x8320x64.rank) ∈ dQK.rhsNonContracting by decide)]; rfl
  have r2 := (dQK.rhsIdx_val_of_single rfl i ((ValueIdx.contrEquiv1 dQK 64 rfl rfl).symm k)).trans hk
  rw [hx, hy, l0, l1, l2, r0, r1, r2, ← EReal.coe_mul]

theorem dotPV {x : Arr S16x8320x8320} {y : Arr S16x8320x64} {f g : ℕ → ℕ → ℕ → ℝ} (hx : Is3 x f) (hy : Is3 y g) :
    Is3 (Host.dotGeneral dPV none x y : Arr S16x8320x64) fun p i d => ∑ j : Fin 8320, f p i j.val * g p j.val d := fun i => by
  simp only [Host.dotGeneral]
  rw [Ideal.dotGeneral_apply, ← Equiv.sum_comp (ValueIdx.contrEquiv1 dPV 8320 rfl rfl).symm]
  refine sum_coe fun k => ?_
  have hk := ValueIdx.contrEquiv1_symm_val dPV 8320 rfl rfl k
  have l0 : (dPV.lhsIdx i ((ValueIdx.contrEquiv1 dPV 8320 rfl rfl).symm k) 0).val = (i 0).val := by
    unfold DotDims.lhsIdx; rw [dif_pos (show (0 : Fin S16x8320x8320.rank) ∈ dPV.lhsBatch by decide)]; rfl
  have l1 : (dPV.lhsIdx i ((ValueIdx.contrEquiv1 dPV 8320 rfl rfl).symm k) 1).val = (i 1).val := by
    unfold DotDims.lhsIdx
    rw [dif_neg (show ¬(1 : Fin S16x8320x8320.rank) ∈ dPV.lhsBatch by decide), dif_pos (show (1 : Fin S16x8320x8320.rank) ∈ dPV.lhsNonContracting by decide)]; rfl
  have l2 := (dPV.lhsIdx_val_of_single rfl i ((ValueIdx.contrEquiv1 dPV 8320 rfl rfl).symm k)).trans hk
  have r0 : (dPV.rhsIdx i ((ValueIdx.contrEquiv1 dPV 8320 rfl rfl).symm k) 0).val = (i 0).val := by
    unfold DotDims.rhsIdx; rw [dif_pos (show (0 : Fin S16x8320x64.rank) ∈ dPV.rhsBatch by decide)]; rfl
  have r2 : (dPV.rhsIdx i ((ValueIdx.contrEquiv1 dPV 8320 rfl rfl).symm k) 2).val = (i 2).val := by
    unfold DotDims.rhsIdx
    rw [dif_neg (show ¬(2 : Fin S16x8320x64.rank) ∈ dPV.rhsBatch by decide), dif_pos (show (2 : Fin S16x8320x64.rank) ∈ dPV.rhsNonContracting by decide)]; rfl
  have r1 := (dPV.rhsIdx_val_of_single rfl i ((ValueIdx.contrEquiv1 dPV 8320 rfl rfl).symm k)).trans hk
  rw [hx, hy, l0, l1, l2, r0, r1, r2, ← EReal.coe_mul]

/-! ## The two sums along a row -/

theorem sumKeys {x : Arr S16x8320x8320} {f : ℕ → ℕ → ℕ → ℝ} (hx : Is3 x f) :
    Is2 (Host.reduceAdd x (constant S_ .f32 0x00000000#32) reducesTo_S16x8320x8320_S16x8320_d2 h_S_ : Arr S16x8320)
      fun p i => ∑ j : Fin 8320, f p i j.val := fun i => by
  simp only [Host.reduceAdd, Ideal.hostReduceAdd_def]
  rw [Ideal.hostReduceAdd_single reducesTo_S16x8320x8320_S16x8320_d2 (by decide), constant_apply, Ideal.ofBits_def, Ideal.ofBits_zero_f32, zero_add]
  refine sum_coe fun k => ?_
  rw [hx]
  rfl

theorem sumColumns {x : Arr S16x8320x64} {f : ℕ → ℕ → ℕ → ℝ} (hx : Is3 x f) :
    Is2 (Host.reduceAdd x (constant S_ .f32 0x00000000#32) reducesTo_S16x8320x64_S16x8320_d2 h_S_ : Arr S16x8320)
      fun p i => ∑ d : Fin 64, f p i d.val := fun i => by
  simp only [Host.reduceAdd, Ideal.hostReduceAdd_def]
  rw [Ideal.hostReduceAdd_single reducesTo_S16x8320x64_S16x8320_d2 (by decide), constant_apply, Ideal.ofBits_def, Ideal.ofBits_zero_f32, zero_add]
  refine sum_coe fun k => ?_
  rw [hx]
  rfl

/-! ## The forward pass -/

variable {A : Args} {q k v : Arr S8320x1024} {c : Arr S8320x16} {g : Arr S8208x1024}

theorem scores_is (hq : Is2 q A.q) (hk : Is2 k A.k) (hc : Is2 c A.c) : Is3 (scores q k c) (score A) := fun i => by
  unfold scores
  rw [subf_apply, addf_apply, mulf_apply, dotQK (heads_is hq) (heads_is hk), all3_at, along_is (byHead_is hc), down_is (byHead_is hc), bits_eighth,
    Ideal.mulf_def, Ideal.addf_def, Ideal.subf_def, ← EReal.coe_mul, ← EReal.coe_add, ← EReal.coe_sub]
  rfl

/-- A row's shift is a real number. -/
theorem tops_real (hq : Is2 q A.q) (hk : Is2 k A.k) (hc : Is2 c A.c) (i : S16x8320.Idx) : ∃ r : ℝ, tops q k c i = (r : EReal) := by
  have h0 : (i 0).val < 16 := (i 0).isLt
  have h1 : (i 1).val < 8320 := (i 1).isLt
  unfold tops
  show ∃ r : ℝ, Scalar.select (past i) _ _ = (r : EReal)
  rw [past_at, select_bit]
  split
  · rename_i hp
    refine host_max_real _ _ _ _ i ?_ ?_ (i3 (i 0).val (i 1).val 112 h0 h1 (by norm_num)) ?_ ?_
    · exact bits_bot
    · intro j
      show Scalar.select (mask3 j) _ _ ≠ _
      rw [mask3_at, select_bit, scores_is hq hk hc, all3_at, bits_bot]
      split
      · exact EReal.coe_ne_top _
      · exact bot_ne_top
    · funext b
      match b with
      | ⟨0, _⟩ => rfl
      | ⟨1, _⟩ => rfl
    · show Scalar.select (mask3 _) _ _ ≠ _
      rw [mask3_at, select_bit, scores_is hq hk hc, if_pos ⟨hp, le_rfl⟩]
      exact EReal.coe_ne_bot _
  · exact ⟨0, by rw [all2_at, Ideal.ofBits_zero_f32]; rfl⟩

/-- Every row's shift, as a function of the head and the row. -/
theorem tops_is (hq : Is2 q A.q) (hk : Is2 k A.k) (hc : Is2 c A.c) : ∃ m : ℕ → ℕ → ℝ, Is2 (tops q k c) m := by
  choose r hr using tops_real hq hk hc
  refine ⟨fun p i => if h : p < 16 ∧ i < 8320 then r (i2 p i h.1 h.2) else 0, fun i => ?_⟩
  have h : (i 0).val < 16 ∧ (i 1).val < 8320 := ⟨(i 0).isLt, (i 1).isLt⟩
  have e : (i2 (i 0).val (i 1).val h.1 h.2 : S16x8320.Idx) = i := funext fun a => match a with
    | ⟨0, _⟩ => rfl
    | ⟨1, _⟩ => rfl
  beta_reduce
  rw [hr, dif_pos h, e]

variable {m : ℕ → ℕ → ℝ}

theorem exps_is (hq : Is2 q A.q) (hk : Is2 k A.k) (hc : Is2 c A.c) (hm : Is2 (tops q k c) m) :
    Is3 (exps q k c) fun p i j => if Sees i j then Real.exp (score A p i j - m p i) else 0 := fun i => by
  unfold exps
  show Scalar.select (mask3 i) (FloatOps.hostUnary .exp (FloatOps.subf (scores q k c i) (along (tops q k c) i))) (all3 _ i) = _
  rw [mask3_at, select_bit, scores_is hq hk hc, along_is hm, all3_at, Ideal.ofBits_zero_f32, Ideal.hostUnary_exp_def, Ideal.subf_def, ← EReal.coe_sub, exp_coe]
  beta_reduce
  by_cases s : Sees (i 1).val (i 2).val
  · rw [if_pos s, if_pos s]
  · rw [if_neg s, if_neg s]; rfl

/-- The normalisers; a padding row's is 1. -/
theorem norms_is (hq : Is2 q A.q) (hk : Is2 k A.k) (hc : Is2 c A.c) (hm : Is2 (tops q k c) m) :
    Is2 (norms q k c) fun p i => if 112 ≤ i then mass A (m p i) p i else 1 := fun i => by
  unfold norms
  show Scalar.select (past i) _ _ = _
  rw [past_at, select_bit, sumKeys (exps_is hq hk hc hm), all2_at, bits_one]
  beta_reduce
  by_cases s : 112 ≤ (i 1).val
  · rw [if_pos s, if_pos s]; rfl
  · rw [if_neg s, if_neg s]

theorem norm_pos (p i : ℕ) (hi : i < 8320) : 0 < if 112 ≤ i then mass A (m p i) p i else 1 := by
  split
  · exact mass_pos A _ _ _ (by assumption) hi
  · exact one_pos

theorem outs_is (hq : Is2 q A.q) (hk : Is2 k A.k) (hv : Is2 v A.v) (hc : Is2 c A.c) (hm : Is2 (tops q k c) m) :
    Is3 (outs q k v c) fun p i d => ∑ j : Fin 8320, weight A p i j.val * A.v j.val (64 * p + d) := by
  refine dotPV (x := Host.divf (exps q k c) (along (norms q k c))) (f := weight A) (g := fun p j d => A.v j (64 * p + d)) (fun i => ?_) (heads_is hv)
  have h1 : (i 1).val < 8320 := (i 1).isLt
  show FloatOps.hostDivf (exps q k c i) (along (norms q k c) i) = _
  rw [exps_is hq hk hc hm, along_is (norms_is hq hk hc hm), Ideal.hostDivf_def, div_coe _ _ (norm_pos _ _ h1).ne']
  congr 1
  beta_reduce
  by_cases s : Sees (i 1).val (i 2).val
  · rw [if_pos s, if_pos (s.2.trans s.1)]; exact (weight_shift A _ _ _ _ s).symm
  · rw [if_neg s, weight_of_not A _ _ _ s, zero_div]

/-- What the forward pass saves of a row. -/
def saved (A : Args) (m : ℕ → ℕ → ℝ) (p i : ℕ) : ℝ := m p i + Real.log (if 112 ≤ i then mass A (m p i) p i else 1) - A.c i p

theorem logs_is (hq : Is2 q A.q) (hk : Is2 k A.k) (hc : Is2 c A.c) (hm : Is2 (tops q k c) m) : Is2 (logs q k c) (saved A m) := fun i => by
  have h1 : (i 1).val < 8320 := (i 1).isLt
  unfold logs
  show FloatOps.subf (FloatOps.addf (tops q k c i) (FloatOps.hostUnary .log (norms q k c i))) (byHead c i) = _
  rw [hm, norms_is hq hk hc hm, byHead_is hc, Ideal.hostUnary_log_def, log_coe _ (norm_pos _ _ h1), Ideal.addf_def, Ideal.subf_def, ← EReal.coe_add, ← EReal.coe_sub]
  rfl

theorem sums_is (hq : Is2 q A.q) (hk : Is2 k A.k) (hv : Is2 v A.v) (hc : Is2 c A.c) (hg : Is2 g fun i y => A.g (112 + i) y)
    (h0 : ∀ i y, i < 112 → A.g i y = 0) : Is2 (sums q k v c g) (rowSum A) := by
  obtain ⟨m, hm⟩ := tops_is hq hk hc
  have e : rowSum A = fun p i => ∑ d : Fin 64, A.g i (64 * p + d.val) * ∑ j : Fin 8320, weight A p i j.val * A.v j.val (64 * p + d.val) :=
    funext fun p => funext fun i => (rowSum_eq A p i).symm
  rw [e]
  refine sumColumns (f := fun p i d => A.g i (64 * p + d) * ∑ j : Fin 8320, weight A p i j.val * A.v j.val (64 * p + d)) fun i => ?_
  rw [mulf_apply, heads_is (padded_is hg h0), outs_is hq hk hv hc hm, Ideal.mulf_def, ← EReal.coe_mul]

end Cert.KernelIdeal.Prefix

end
-- ==== Proof.Operands.lean ====
/-
  The blocks that a point reads, at real arguments: each is the block of the model's arrays that its place in the grid names.
-/
module

public import proofs.«01_k».proof.Proof.Arrays
public import proofs.«01_k».proof.Proof.HostVal

@[expose] public section

set_option maxRecDepth 16384

noncomputable section

namespace Cert.KernelIdeal.Real

open Cert.KernelIdeal Cert.KernelIdeal.Gen Cert.KernelIdeal.Hand Cert.KernelIdeal.Prefix Cert.Model Cert.Num
open Idealize.ShloMosaic Idealize.ShloMosaic.TcCoe

/-! ## The operands' places -/

theorem later (a b : Fin 13) : b ≤ a → (Scalar.maxsi (BitVec.ofNat 32 a.val) (BitVec.ofNat 32 b.val)).toNat = a.val := by
  revert a b; decide +kernel

theorem place_later (i : grid0.Coords) (h : (i 1).val ≤ (i 2).val) :
    (![(Scalar.maxsi (BitVec.ofNat 32 (i 2).val) (BitVec.ofNat 32 (i 1).val)).toNat, (BitVec.ofNat 32 (i 0).val).toNat] : Fin 2 → ℕ) = ![(i 2).val, (i 0).val] := by
  rw [nat32 _ (lt0 i), later ⟨(i 2).val, lt2 i⟩ ⟨(i 1).val, lt1 i⟩ h]

variable (t : Fin cfg0.N) (ht : t.val / 13 % 13 ≤ t.val % 13)

theorem ord (t : Fin cfg0.N) (ht : t.val / 13 % 13 ≤ t.val % 13) : (grid0.coords t 1).val ≤ (grid0.coords t 2).val := by rw [coord1, coord2]; exact ht

include ht in
theorem at0 : win0_0.index t = ![(grid0.coords t 2).val, (grid0.coords t 0).val] := place_later _ (ord t ht)
include ht in
theorem at3 : win0_3.index t = ![(grid0.coords t 2).val, (grid0.coords t 0).val] := place_later _ (ord t ht)
include ht in
theorem at4 : win0_4.index t = ![(grid0.coords t 2).val, (grid0.coords t 0).val] := place_later _ (ord t ht)
include ht in
theorem at5 : win0_5.index t = ![(grid0.coords t 2).val, (grid0.coords t 0).val] := place_later _ (ord t ht)
theorem at1 : win0_1.index t = ![(grid0.coords t 1).val, (grid0.coords t 0).val] := place_col _
theorem at2 : win0_2.index t = ![(grid0.coords t 1).val, (grid0.coords t 0).val] := place_col _
theorem at6 : win0_6.index t = ![(grid0.coords t 0).val, 0, (grid0.coords t 1).val] := by
  show (![(BitVec.ofNat 32 (grid0.coords t 0).val).toNat, (0#32 : BitVec 32).toNat, (BitVec.ofNat 32 (grid0.coords t 1).val).toNat] : Fin 3 → ℕ) = _
  rw [nat32 _ (lt0 _), nat32 _ (lt1 _)]; rfl

/-! ## A block of an array -/

section Blocks

variable {A : Args} {lse : ℕ → ℕ → ℝ} {c : Dev nD} (W : (b : Ref sig .tc) → Buf (Elt Ideal) ((c : Thread nD τ).loc b))

theorem read_q (hW : ∀ i : S8320x1024.Idx, W main_v61 i = ((A.q (i 0).val (i 1).val * (1 / 8) : ℝ) : EReal)) (t : Fin cfg0.N) (ht : t.val / 13 % 13 ≤ t.val % 13) (y : S640x128.Idx) :
    ((cfg0.win 0).blk t).view.read (Elt Ideal) (W (Pipeline.arrRef spec0 0)) y
      = (((tile A lse (t.val / 169) (t.val / 13 % 13) (t.val % 13)).q (y 0).val (y 1).val : ℝ) : EReal) := by
  have e0 : ((((cfg0.win 0).blk t).view.emb y) 0).val = (t.val % 13) * 640 + (y 0).val := by blk_simp [at0 t ht, coord2]
  have e1 : ((((cfg0.win 0).blk t).view.emb y) 1).val = (t.val / 169) * 128 + (y 1).val := by blk_simp [at0 t ht, coord0']
  refine (hW (((cfg0.win 0).blk t).view.emb y)).trans (congrArg _ ?_)
  dsimp only [tile]
  rw [e0, e1, Nat.mul_comm, Nat.mul_comm (t.val / 169)]

theorem read_k (hW : ∀ i : S8320x1024.Idx, W main_v62 i = ((A.k (i 0).val (i 1).val : ℝ) : EReal)) (t : Fin cfg0.N) (y : S640x128.Idx) :
    ((cfg0.win 1).blk t).view.read (Elt Ideal) (W (Pipeline.arrRef spec0 1)) y
      = (((tile A lse (t.val / 169) (t.val / 13 % 13) (t.val % 13)).k (y 0).val (y 1).val : ℝ) : EReal) := by
  have e0 : ((((cfg0.win 1).blk t).view.emb y) 0).val = (t.val / 13 % 13) * 640 + (y 0).val := by blk_simp [at1, coord1]
  have e1 : ((((cfg0.win 1).blk t).view.emb y) 1).val = (t.val / 169) * 128 + (y 1).val := by blk_simp [at1, coord0']
  refine (hW (((cfg0.win 1).blk t).view.emb y)).trans (congrArg _ ?_)
  dsimp only [tile]
  rw [e0, e1, Nat.mul_comm, Nat.mul_comm (t.val / 169)]

theorem read_v (hW : ∀ i : S8320x1024.Idx, W main_v63 i = ((A.v (i 0).val (i 1).val : ℝ) : EReal)) (t : Fin cfg0.N) (y : S640x128.Idx) :
    ((cfg0.win 2).blk t).view.read (Elt Ideal) (W (Pipeline.arrRef spec0 2)) y
      = (((tile A lse (t.val / 169) (t.val / 13 % 13) (t.val % 13)).v (y 0).val (y 1).val : ℝ) : EReal) := by
  have e0 : ((((cfg0.win 2).blk t).view.emb y) 0).val = (t.val / 13 % 13) * 640 + (y 0).val := by blk_simp [at2, coord1]
  have e1 : ((((cfg0.win 2).blk t).view.emb y) 1).val = (t.val / 169) * 128 + (y 1).val := by blk_simp [at2, coord0']
  refine (hW (((cfg0.win 2).blk t).view.emb y)).trans (congrArg _ ?_)
  dsimp only [tile]
  rw [e0, e1, Nat.mul_comm, Nat.mul_comm (t.val / 169)]

theorem read_d (hW : ∀ i : S8320x1024.Idx, W main_v64 i = ((A.g (i 0).val (i 1).val : ℝ) : EReal)) (t : Fin cfg0.N) (ht : t.val / 13 % 13 ≤ t.val % 13) (y : S640x128.Idx) :
    ((cfg0.win 3).blk t).view.read (Elt Ideal) (W (Pipeline.arrRef spec0 3)) y
      = (((tile A lse (t.val / 169) (t.val / 13 % 13) (t.val % 13)).d (y 0).val (y 1).val : ℝ) : EReal) := by
  have e0 : ((((cfg0.win 3).blk t).view.emb y) 0).val = (t.val % 13) * 640 + (y 0).val := by blk_simp [at3 t ht, coord2]
  have e1 : ((((cfg0.win 3).blk t).view.emb y) 1).val = (t.val / 169) * 128 + (y 1).val := by blk_simp [at3 t ht, coord0']
  refine (hW (((cfg0.win 3).blk t).view.emb y)).trans (congrArg _ ?_)
  dsimp only [tile]
  rw [e0, e1, Nat.mul_comm, Nat.mul_comm (t.val / 169)]

theorem read_l (hW : ∀ i : S8320x1024.Idx, W main_v55 i = ((lse ((i 1).val / 64) (i 0).val : ℝ) : EReal)) (t : Fin cfg0.N) (ht : t.val / 13 % 13 ≤ t.val % 13) (y : S640x128.Idx) :
    ((cfg0.win 4).blk t).view.read (Elt Ideal) (W (Pipeline.arrRef spec0 4)) y
      = (((tile A lse (t.val / 169) (t.val / 13 % 13) (t.val % 13)).l (y 0).val (y 1).val : ℝ) : EReal) := by
  have e0 : ((((cfg0.win 4).blk t).view.emb y) 0).val = (t.val % 13) * 640 + (y 0).val := by blk_simp [at4 t ht, coord2]
  have e1 : ((((cfg0.win 4).blk t).view.emb y) 1).val = (t.val / 169) * 128 + (y 1).val := by blk_simp [at4 t ht, coord0']
  refine (hW (((cfg0.win 4).blk t).view.emb y)).trans (congrArg _ ?_)
  dsimp only [tile]
  rw [e0, e1, Nat.mul_comm (t.val % 13), show (t.val / 169 * 128 + (y 1).val) / 64 = 2 * (t.val / 169) + (y 1).val / 64 by omega]

theorem read_e (hW : ∀ i : S8320x1024.Idx, W main_v58 i = ((rowSum A ((i 1).val / 64) (i 0).val : ℝ) : EReal)) (t : Fin cfg0.N) (ht : t.val / 13 % 13 ≤ t.val % 13) (y : S640x128.Idx) :
    ((cfg0.win 5).blk t).view.read (Elt Ideal) (W (Pipeline.arrRef spec0 5)) y
      = (((tile A lse (t.val / 169) (t.val / 13 % 13) (t.val % 13)).e (y 0).val (y 1).val : ℝ) : EReal) := by
  have e0 : ((((cfg0.win 5).blk t).view.emb y) 0).val = (t.val % 13) * 640 + (y 0).val := by blk_simp [at5 t ht, coord2]
  have e1 : ((((cfg0.win 5).blk t).view.emb y) 1).val = (t.val / 169) * 128 + (y 1).val := by blk_simp [at5 t ht, coord0']
  refine (hW (((cfg0.win 5).blk t).view.emb y)).trans (congrArg _ ?_)
  dsimp only [tile]
  rw [e0, e1, Nat.mul_comm (t.val % 13), show (t.val / 169 * 128 + (y 1).val) / 64 = 2 * (t.val / 169) + (y 1).val / 64 by omega]

theorem read_c (hW : ∀ i : S8x2x8320.Idx, W main_v66 i = ((A.c (i 2).val (2 * (i 0).val + (i 1).val) : ℝ) : EReal)) (t : Fin cfg0.N) (y : S1x2x640.Idx) :
    ((cfg0.win 6).blk t).view.read (Elt Ideal) (W (Pipeline.arrRef spec0 6)) y
      = (((tile A lse (t.val / 169) (t.val / 13 % 13) (t.val % 13)).c (y 1).val (y 2).val : ℝ) : EReal) := by
  have h0 : (y 0).val < 1 := (y 0).isLt
  have e0 : ((((cfg0.win 6).blk t).view.emb y) 0).val = (t.val / 169) * 1 + (y 0).val := by blk_simp [at6, coord0']
  have e1 : ((((cfg0.win 6).blk t).view.emb y) 1).val = 0 * 2 + (y 1).val := by blk_simp [at6]
  have e2 : ((((cfg0.win 6).blk t).view.emb y) 2).val = (t.val / 13 % 13) * 640 + (y 2).val := by blk_simp [at6, coord1]
  refine (hW (((cfg0.win 6).blk t).view.emb y)).trans (congrArg _ ?_)
  dsimp only [tile]
  rw [e0, e1, e2, Nat.mul_comm (t.val / 13 % 13), show 2 * (t.val / 169 * 1 + (y 0).val) + (0 * 2 + (y 1).val) = 2 * (t.val / 169) + (y 1).val by omega]

theorem read_all (hq : ∀ i : S8320x1024.Idx, W main_v61 i = ((A.q (i 0).val (i 1).val * (1 / 8) : ℝ) : EReal))
    (hk : ∀ i : S8320x1024.Idx, W main_v62 i = ((A.k (i 0).val (i 1).val : ℝ) : EReal))
    (hv : ∀ i : S8320x1024.Idx, W main_v63 i = ((A.v (i 0).val (i 1).val : ℝ) : EReal))
    (hd : ∀ i : S8320x1024.Idx, W main_v64 i = ((A.g (i 0).val (i 1).val : ℝ) : EReal))
    (hl : ∀ i : S8320x1024.Idx, W main_v55 i = ((lse ((i 1).val / 64) (i 0).val : ℝ) : EReal))
    (he : ∀ i : S8320x1024.Idx, W main_v58 i = ((rowSum A ((i 1).val / 64) (i 0).val : ℝ) : EReal))
    (hc : ∀ i : S8x2x8320.Idx, W main_v66 i = ((A.c (i 2).val (2 * (i 0).val + (i 1).val) : ℝ) : EReal))
    (t : Fin cfg0.N) (ht : t.val / 13 % 13 ≤ t.val % 13) : (tile A lse (t.val / 169) (t.val / 13 % 13) (t.val % 13)).Of
      ⟨((cfg0.win 0).blk t).view.read (Elt Ideal) (W (Pipeline.arrRef spec0 0)), ((cfg0.win 1).blk t).view.read (Elt Ideal) (W (Pipeline.arrRef spec0 1)), ((cfg0.win 2).blk t).view.read (Elt Ideal) (W (Pipeline.arrRef spec0 2)), ((cfg0.win 3).blk t).view.read (Elt Ideal) (W (Pipeline.arrRef spec0 3)), ((cfg0.win 4).blk t).view.read (Elt Ideal) (W (Pipeline.arrRef spec0 4)), ((cfg0.win 5).blk t).view.read (Elt Ideal) (W (Pipeline.arrRef spec0 5)), ((cfg0.win 6).blk t).view.read (Elt Ideal) (W (Pipeline.arrRef spec0 6))⟩ :=
  ⟨read_q W hq t ht, read_k W hk t, read_v W hv t, read_d W hd t ht, read_l W hl t ht, read_e W he t ht, read_c W hc t⟩

end Blocks

/-! ## The operands -/

variable {A : Args} (m : (ℓ : Loc nD τ sig) → Buf (Elt Ideal) ℓ) (c : Dev nD)

/-- The arguments' elements are the model's. -/
structure Holds (A : Args) : Prop where
  q : Is2 (m ((c.tc : Thread nD τ).loc main_arg0) : Arr S8320x1024) A.q
  k : Is2 (m ((c.tc : Thread nD τ).loc main_arg1) : Arr S8320x1024) A.k
  v : Is2 (m ((c.tc : Thread nD τ).loc main_arg2) : Arr S8320x1024) A.v
  s : Is2 (m ((c.tc : Thread nD τ).loc main_arg3) : Arr S8320x16) A.c
  g : Is2 (m ((c.tc : Thread nD τ).loc main_arg4) : Arr S8208x1024) fun i y => A.g (112 + i) y
  pad : ∀ i y, i < 112 → A.g i y = 0

variable {m c} (h : Holds m c A)
include h

theorem holds_q (i : S8320x1024.Idx) : V m c main_v61 i = ((A.q (i 0).val (i 1).val * (1 / 8) : ℝ) : EReal) := by
  rw [op0]
  show FloatOps.mulf (m ((c.tc : Thread nD τ).loc main_arg0) i) (allx 0x3E000000#32 i) = _
  rw [h.q, allx_at, bits_eighth, Ideal.mulf_def, ← EReal.coe_mul]
theorem holds_k (i : S8320x1024.Idx) : V m c main_v62 i = ((A.k (i 0).val (i 1).val : ℝ) : EReal) := by
  rw [op1]; exact h.k i
theorem holds_v (i : S8320x1024.Idx) : V m c main_v63 i = ((A.v (i 0).val (i 1).val : ℝ) : EReal) := by
  rw [op2]; exact h.v i
theorem holds_g (i : S8320x1024.Idx) : V m c main_v64 i = ((A.g (i 0).val (i 1).val : ℝ) : EReal) := by
  rw [op3]; exact padded_is h.g h.pad i
theorem holds_c (i : S8x2x8320.Idx) : V m c main_v66 i = ((A.c (i 2).val (2 * (i 0).val + (i 1).val) : ℝ) : EReal) := by
  rw [op6]; exact pairs_is h.s i
theorem holds_e (i : S8320x1024.Idx) : V m c main_v58 i = ((rowSum A ((i 1).val / 64) (i 0).val : ℝ) : EReal) := by
  rw [op5]; exact spread_is (sums_is h.q h.k h.v h.s h.g h.pad) i
theorem holds_l : ∃ lse, Saved A lse ∧ ∀ i : S8320x1024.Idx, V m c main_v55 i = ((lse ((i 1).val / 64) (i 0).val : ℝ) : EReal) := by
  obtain ⟨r, hr⟩ := tops_is h.q h.k h.s
  refine ⟨saved A r, fun p i h1 _ => ⟨r p i, ?_⟩, fun i => ?_⟩
  · unfold saved; rw [if_pos h1]
  · rw [op4]; exact spread_is (logs_is h.q h.k h.s hr) i

/-- What the forward pass saved, and the blocks of every point that computes. -/
theorem blocks : ∃ lse, Saved A lse
    ∧ ∀ t : Fin cfg0.N, t.val / 13 % 13 ≤ t.val % 13 → (tile A lse (t.val / 169) (t.val / 13 % 13) (t.val % 13)).Of (blk m c t) := by
  obtain ⟨lse, hl, hlse⟩ := holds_l h
  refine ⟨lse, hl, fun t ht => ?_⟩
  have e := read_all (V m c) (holds_q h) (holds_k h) (holds_v h) (holds_g h) hlse (holds_e h) (holds_c h) t ht
  unfold blk iblk
  exact e

end Cert.KernelIdeal.Real

end
-- ==== Proof.Results.lean ====
/-
  The program's four results, at real arguments, are the model's gradients.
-/
module

public import proofs.«01_k».proof.Proof.Operands

@[expose] public section

set_option maxRecDepth 16384

noncomputable section

namespace Cert.KernelIdeal.Real

open Cert.KernelIdeal Cert.KernelIdeal.Gen Cert.KernelIdeal.Hand Cert.KernelIdeal.Prefix Cert.Model Cert.Num
open Idealize.ShloMosaic Idealize.ShloMosaic.TcCoe Idealize.SL.Sem

/-! ## After the launch -/

/-- The sums of a head, from the column that holds them: of each 64 columns the first, the two heads of a pair swapped. -/
def picks (x y : Arr S8320x1024) : Arr S8320x16 :=
  shapeCast S8320x16 (Host.reverse [2] (shapeCast S8320x8x2 (Host.slice S8320x16 ![0, 0] ![1, 64] (subf x y) slicesBy_S8320x1024_S8320x16_0s1_0s64)
    shapeCasts_S8320x16_S8320x8x2)) shapeCasts_S8320x8x2_S8320x16

theorem picks_is {x y : Arr S8320x1024} {f g : ℕ → ℕ → ℝ} (hx : Is2 x f) (hy : Is2 y g) :
    Is2 (picks x y) fun n h => f n (128 * (h / 2) + 64 * (1 - h % 2)) - g n (128 * (h / 2) + 64 * (1 - h % 2)) := fun i => by
  have h0 : (i 0).val < 8320 := (i 0).isLt
  have h1 : (i 1).val < 16 := (i 1).isLt
  unfold picks
  rw [shapeCast_apply _ _ i (i3 (i 0).val ((i 1).val / 2) ((i 1).val % 2) h0 (by omega) (by omega))
      (by rw [Shape.rowMajor_val_two, Shape.rowMajor_val_three]
          show ((i 0).val * 8 + (i 1).val / 2) * 2 + (i 1).val % 2 = (i 0).val * 16 + (i 1).val
          omega), Host.reverse_apply]
  rw [shapeCast_apply _ _ _ (i2 (i 0).val (2 * ((i 1).val / 2) + (1 - (i 1).val % 2)) h0 (by omega))
      (by rw [Shape.rowMajor_val_two, Shape.rowMajor_val_three]
          show (i 0).val * 16 + (2 * ((i 1).val / 2) + (1 - (i 1).val % 2)) = ((i 0).val * 8 + (i 1).val / 2) * 2 + (2 - ((i 1).val % 2 + 1))
          omega), Host.slice_apply, subf_apply, hx, hy, Ideal.subf_def, ← EReal.coe_sub]
  have e0 : 0 + 1 * (i 0).val = (i 0).val := by omega
  have e1 : 0 + 64 * (2 * ((i 1).val / 2) + (1 - (i 1).val % 2)) = 128 * ((i 1).val / 2) + 64 * (1 - (i 1).val % 2) := by omega
  show ((f (0 + 1 * (i 0).val) (0 + 64 * (2 * ((i 1).val / 2) + (1 - (i 1).val % 2)))
    - g (0 + 1 * (i 0).val) (0 + 64 * (2 * ((i 1).val / 2) + (1 - (i 1).val % 2))) : ℝ) : EReal) = _
  rw [e0, e1]

theorem picks_out {A : Args} {x y : Arr S8320x1024} (hx : Is2 x (allR A)) (hy : Is2 y (allC A)) : Is2 (picks x y) (outC A) := fun i => by
  have h1 : (i 1).val < 16 := (i 1).isLt
  rw [picks_is hx hy]
  unfold allR allC outC
  beta_reduce
  rw [show other (128 * ((i 1).val / 2) + 64 * (1 - (i 1).val % 2)) = (i 1).val by unfold other; omega]

variable {A : Args} {m : (ℓ : Loc nD τ sig) → Buf (Elt Ideal) ℓ} {c : Dev nD}

/-- What the operations after the launch make of its arrays. -/
theorem tail_q (U : Valuation τ sig (Elt Ideal)) :
    StableHlo.after (List.flatten [hostOps1]) U (Proc.devRef .tc main_v74) = mulf (U (Proc.devRef .tc main_v67_0) : Arr S8320x1024) (allx 0x3E000000#32) := by
  simp only [hostOps1, List.flatten_cons, List.flatten_nil, List.cons_append, List.nil_append, List.append_nil]
  after_results_simp <;> rfl

theorem tail_c (U : Valuation τ sig (Elt Ideal)) :
    StableHlo.after (List.flatten [hostOps1]) U (Proc.devRef .tc main_v72) = picks (U (Proc.devRef .tc main_v67_4)) (U (Proc.devRef .tc main_v67_3)) := by
  simp only [hostOps1, List.flatten_cons, List.flatten_nil, List.cons_append, List.nil_append, List.append_nil]
  after_results_simp <;> rfl

/-- The launch's arrays are distinct. -/
theorem arrays_ne : Function.Injective (Pipeline.arrRef spec0) := by decide +kernel

variable (h : Holds m c A)
include h

theorem res_q : Pipeline.afterTail₀ cfgs (dats m) 0 (V0 m) [hostOps1] c main_v74
    = fun i : S8320x1024.Idx => ((outQ A (i 0).val (i 1).val : ℝ) : EReal) := by
  obtain ⟨lse, hl, H⟩ := blocks h
  unfold Pipeline.afterTail₀
  rw [tail_q]
  have e := Pipeline.withArrays_arr spec0 arrays_ne c (V0 m c) (fun w => (dats m 0 c).arrAt w cfg0.N) 7
  funext i
  rw [mulf_apply, allx_at, bits_eighth, Ideal.mulf_def]
  refine (congrArg (· * ((1 / 8 : ℝ) : EReal)) ((congrFun e i).trans (arr_q hl m c H i))).trans ?_
  beta_reduce
  rw [← EReal.coe_mul]
  rfl

theorem res_c : Pipeline.afterTail₀ cfgs (dats m) 0 (V0 m) [hostOps1] c main_v72
    = fun i : S8320x16.Idx => ((outC A (i 0).val (i 1).val : ℝ) : EReal) := by
  obtain ⟨lse, hl, H⟩ := blocks h
  unfold Pipeline.afterTail₀
  rw [tail_c]
  have e := Pipeline.withArrays_arr spec0 arrays_ne c (V0 m c) (fun w => (dats m 0 c).arrAt w cfg0.N) 11
  have e' := Pipeline.withArrays_arr spec0 arrays_ne c (V0 m c) (fun w => (dats m 0 c).arrAt w cfg0.N) 10
  exact funext (picks_out (fun i => (congrFun e i).trans (arr_r hl m c H i)) (fun i => (congrFun e' i).trans (arr_c hl m c H i)))

theorem res_k : (dats m 0 c).arrAt 8 cfg0.N = fun i : S8320x1024.Idx => ((outK A (i 0).val (i 1).val : ℝ) : EReal) := by
  obtain ⟨lse, hl, H⟩ := blocks h
  exact funext (arr_k hl m c H)

theorem res_v : (dats m 0 c).arrAt 9 cfg0.N = fun i : S8320x1024.Idx => ((outV A (i 0).val (i 1).val : ℝ) : EReal) := by
  obtain ⟨lse, hl, H⟩ := blocks h
  exact funext (arr_v hl m c H)

omit h

/-- From arguments of the model every execution ends with the model's gradients and the arguments as they were. -/
theorem run (ρ : Dev nD → PrngReg) (A : Dev nD → Args) (h : ∀ c, Holds m c (A c)) :
    θ_run defs (onTc (τ := τ) (main (F := Ideal))) ⟨m, fun _ => 0, ρ⟩ fun r => ∀ c : Dev nD,
      r.2.mem ((c.tc : Thread nD τ).loc main_v74) = (fun i : S8320x1024.Idx => ((outQ (A c) (i 0).val (i 1).val : ℝ) : EReal))
      ∧ r.2.mem ((c.tc : Thread nD τ).loc main_v67_1) = (fun i : S8320x1024.Idx => ((outK (A c) (i 0).val (i 1).val : ℝ) : EReal))
      ∧ r.2.mem ((c.tc : Thread nD τ).loc main_v67_2) = (fun i : S8320x1024.Idx => ((outV (A c) (i 0).val (i 1).val : ℝ) : EReal))
      ∧ r.2.mem ((c.tc : Thread nD τ).loc main_v72) = (fun i : S8320x16.Idx => ((outC (A c) (i 0).val (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ k c =>
    ⟨((k.1 c).2 main_v74 (Pipeline.mem_restRefs_of main_v74 (by decide) (by decide))).trans (res_q (h c)),
      ((k.1 c).1 8).trans (res_k (h c)),
      ((k.1 c).1 9).trans (res_v (h c)),
      ((k.1 c).2 main_v72 (Pipeline.mem_restRefs_of main_v72 (by decide) (by decide))).trans (res_c (h c)),
      ((k.1 c).2 main_arg0 (Pipeline.mem_restRefs_of main_arg0 (by decide) (by decide))).trans (W_main_arg0 m (dats m) c),
      ((k.1 c).2 main_arg1 (Pipeline.mem_restRefs_of main_arg1 (by decide) (by decide))).trans (W_main_arg1 m (dats m) c),
      ((k.1 c).2 main_arg2 (Pipeline.mem_restRefs_of main_arg2 (by decide) (by decide))).trans (W_main_arg2 m (dats m) c),
      ((k.1 c).2 main_arg3 (Pipeline.mem_restRefs_of main_arg3 (by decide) (by decide))).trans (W_main_arg3 m (dats m) c),
      ((k.1 c).2 main_arg4 (Pipeline.mem_restRefs_of main_arg4 (by decide) (by decide))).trans (W_main_arg4 m (dats m) c)⟩) (run_main m ρ)

end Cert.KernelIdeal.Real

end
-- ==== Proof.RefRead.lean ====
/-
  The reference's values up to the score's cotangent, at real arguments: each buffer's element is a real number, a function of its
  index. Row `r` of a buffer of 8208 rows is row `112 + r` of the arguments.
-/
module

public import proofs.«01_k».proof.Proof.Num
public import proofs.«01_k».proof.Proof.Gen.ReferenceIdeal.Read

@[expose] public section

noncomputable section

namespace Cert.ReferenceIdeal.Real

open Cert.ReferenceIdeal Cert.ReferenceIdeal.Gen Cert.ReferenceIdeal.Read Cert.Model Cert.Num
open Idealize.ShloMosaic Idealize.ShloMosaic.TcCoe

/-- The arguments' elements are the model's. -/
structure Holds (A : Args) (x0 x1 x2 : (⟨S8320x1024, .f32⟩ : BufTy).Contents (Elt Ideal)) (x3 : (⟨S8320x16, .f32⟩ : BufTy).Contents (Elt Ideal))
    (x4 : (⟨S8208x1024, .f32⟩ : BufTy).Contents (Elt Ideal)) : Prop where
  q : ∀ i, x0 i = ((A.q (i 0).val (i 1).val : ℝ) : EReal)
  k : ∀ i, x1 i = ((A.k (i 0).val (i 1).val : ℝ) : EReal)
  v : ∀ i, x2 i = ((A.v (i 0).val (i 1).val : ℝ) : EReal)
  c : ∀ i, x3 i = ((A.c (i 0).val (i 1).val : ℝ) : EReal)
  g : ∀ i, x4 i = ((A.g (112 + (i 0).val) (i 1).val : ℝ) : EReal)
  pad : ∀ i x, i < 112 → A.g i x = 0

variable {A : Args} {x0 x1 x2 : (⟨S8320x1024, .f32⟩ : BufTy).Contents (Elt Ideal)} {x3 : (⟨S8320x16, .f32⟩ : BufTy).Contents (Elt Ideal)}
  {x4 : (⟨S8208x1024, .f32⟩ : BufTy).Contents (Elt Ideal)} (H : Holds A x0 x1 x2 x3 x4)

theorem coe2 (f : ℕ → ℕ → ℝ) {a b a' b' : ℕ} (h1 : a = a') (h2 : b = b') : ((f a b : ℝ) : EReal) = ((f a' b' : ℝ) : EReal) := by rw [h1, h2]

/-- An argument in heads form. -/
theorem heads {x : (⟨S8320x1024, .f32⟩ : BufTy).Contents (Elt Ideal)} {f : ℕ → ℕ → ℝ} (h : ∀ i, x i = ((f (i 0).val (i 1).val : ℝ) : EReal))
    (i : S16x8320x64.Idx) : val_main_v1 (F := Ideal) x i = ((f (i 1).val (64 * (i 0).val + (i 2).val) : ℝ) : EReal) := by
  rw [val_main_v1_apply, val_main_v0_apply, h]
  have h0 : (i 0).val < 16 := (i 0).isLt
  have h1 : (i 1).val < 8320 := (i 1).isLt
  have h2 : (i 2).val < 64 := (i 2).isLt
  exact coe2 f (show (((i 1).val * 16 + (i 0).val) * 64 + (i 2).val) / 1024 = (i 1).val by omega)
    (show (((i 1).val * 16 + (i 0).val) * 64 + (i 2).val) % 1024 = 64 * (i 0).val + (i 2).val by omega)

include H

theorem r1 (i : S16x8320x64.Idx) : val_main_v1 (F := Ideal) x0 i = ((A.q (i 1).val (64 * (i 0).val + (i 2).val) : ℝ) : EReal) := heads H.q i
theorem r3 (i : S16x8320x64.Idx) : val_main_v3 (F := Ideal) x1 i = ((A.k (i 1).val (64 * (i 0).val + (i 2).val) : ℝ) : EReal) := heads H.k i
theorem r5 (i : S16x8320x64.Idx) : val_main_v5 (F := Ideal) x2 i = ((A.v (i 1).val (64 * (i 0).val + (i 2).val) : ℝ) : EReal) := heads H.v i

theorem r8 (i : S16x8208x64.Idx) : val_main_v8 (F := Ideal) x0 i = ((A.q (112 + (i 1).val) (64 * (i 0).val + (i 2).val) : ℝ) : EReal) := by
  rw [val_main_v8_apply, r1 H]

/-- The output cotangents in heads form. -/
theorem r63 (i : S16x8208x64.Idx) : val_main_v63 (F := Ideal) x4 i = ((A.g (112 + (i 1).val) (64 * (i 0).val + (i 2).val) : ℝ) : EReal) := by
  rw [val_main_v63_apply, val_main_v62_apply, H.g]
  have h0 : (i 0).val < 16 := (i 0).isLt
  have h1 : (i 1).val < 8208 := (i 1).isLt
  have h2 : (i 2).val < 64 := (i 2).isLt
  exact coe2 A.g (show 112 + (((i 1).val * 16 + (i 0).val) * 64 + (i 2).val) / 1024 = 112 + (i 1).val by omega)
    (show (((i 1).val * 16 + (i 0).val) * 64 + (i 2).val) % 1024 = 64 * (i 0).val + (i 2).val by omega)

theorem r6 (i : S16x8320.Idx) : val_main_v6 (F := Ideal) x3 i = ((A.c (i 1).val (i 0).val : ℝ) : EReal) := by
  rw [val_main_v6_apply, H.c]

/-- The scores. -/
theorem r18 (i : S16x8208x8320.Idx) : val_main_v18 (F := Ideal) x0 x1 x3 i = ((score A (i 0).val (112 + (i 1).val) (i 2).val : ℝ) : EReal) := by
  have e9 : val_main_v9 (F := Ideal) x0 x1 i
      = ((∑ d : Fin 64, A.q (112 + (i 1).val) (64 * (i 0).val + d.val) * A.k (i 2).val (64 * (i 0).val + d.val) : ℝ) : EReal) := by
    rw [val_main_v9_apply]
    exact sum_coe fun d => by rw [r8 H, r3 H, ← EReal.coe_mul]
  rw [val_main_v18_apply, val_main_v15_apply, val_main_v11_apply, e9, val_main_v10_apply, val_main_cst_apply, val_main_v14_apply, val_main_v13_apply,
    val_main_v12_apply, val_main_v17_apply, val_main_v16_apply, r6 H, r6 H, Ideal.ofBits_def, bits_eighth, Ideal.mulf_def, Ideal.addf_def, Ideal.subf_def,
    ← EReal.coe_mul, ← EReal.coe_add, ← EReal.coe_sub]
  rfl

omit H in
/-- The mask. -/
theorem r29 (i : S8208x8320.Idx) : val_main_v29 (F := Ideal) i = if Sees (112 + (i 0).val) (i 1).val then 1#1 else 0#1 := by
  have h0 : (i 0).val < 8208 := (i 0).isLt
  have h1 : (i 1).val < 8320 := (i 1).isLt
  rw [val_main_v29_apply, val_main_v24_apply, val_main_v22_apply, val_main_v19_apply, val_main_v7_apply, val_main_v23_apply, val_main_v21_apply,
    val_main_v20_apply, val_main_v7_apply, val_main_v28_apply, val_main_v27_apply, val_main_v25_apply, val_main_v7_apply, val_main_v26_apply, val_main_c_apply]
  rw [sle_bit _ _ (by show (i 1).val < _; omega) (by show 112 + (i 0).val < _; omega), sge_bit _ _ (by show (i 1).val < _; omega) (by norm_num), and_bit]

omit H in
theorem r30m (i : S16x8208x8320.Idx) : val_main_v30_1 (F := Ideal) i = if Sees (112 + (i 1).val) (i 2).val then 1#1 else 0#1 := by
  rw [val_main_v30_1_apply, r29]

/-- The masked scores. -/
theorem r30 (i : S16x8208x8320.Idx) : val_main_v30_0 (F := Ideal) x0 x1 x3 i
    = if Sees (112 + (i 1).val) (i 2).val then ((score A (i 0).val (112 + (i 1).val) (i 2).val : ℝ) : EReal) else ⊥ := by
  rw [val_main_v30_0_apply, r30m, r18 H, val_main_call0_v2_apply, val_main_call0_v0_apply, val_main_cst_0_apply, Ideal.ofBits_def, bits_bot, select_bit]

/-- A row's shift is real. -/
theorem r38 (i : S16x8208.Idx) : ∃ r : ℝ, val_main_v38 (F := Ideal) x0 x1 x3 i = (r : EReal) := by
  have h0 : (i 0).val < 16 := (i 0).isLt
  have h1 : (i 1).val < 8208 := (i 1).isLt
  obtain ⟨r, hr⟩ : ∃ r : ℝ, val_main_v31 (F := Ideal) x0 x1 x3 i = (r : EReal) := by
    unfold val_main_v31
    refine host_max_real _ _ _ _ i ?_ ?_ (ValueIdx.ix3 ⟨(i 0).val, h0⟩ ⟨(i 1).val, h1⟩ (⟨112, by omega⟩ : Fin 8320)) ?_ ?_
    · exact bits_bot
    · intro j; rw [r30 H]; split
      · exact EReal.coe_ne_top _
      · exact bot_ne_top
    · funext b
      match b with
      | ⟨0, _⟩ => rfl
      | ⟨1, _⟩ => rfl
    · rw [r30 H, if_pos ⟨show (112 : ℕ) ≤ 112 + (i 1).val by omega, show (112 : ℕ) ≤ 112 by omega⟩]
      exact EReal.coe_ne_bot _
  refine ⟨r, ?_⟩
  rw [val_main_v38_apply, hr, val_main_v37_apply, val_main_cst_3_apply, Ideal.ofBits_def, bits_bot, Ideal.maximumf_def]
  exact max_eq_right bot_le

/-- A row's shift. -/
def shift (x0 x1 : (⟨S8320x1024, .f32⟩ : BufTy).Contents (Elt Ideal)) (x3 : (⟨S8320x16, .f32⟩ : BufTy).Contents (Elt Ideal)) (i : S16x8208.Idx) : ℝ :=
  (show EReal from val_main_v38 (F := Ideal) x0 x1 x3 i).toReal

theorem r38' (i : S16x8208.Idx) : val_main_v38 (F := Ideal) x0 x1 x3 i = ((shift x0 x1 x3 i : ℝ) : EReal) := by
  obtain ⟨r, hr⟩ := r38 H i
  unfold shift
  rw [hr]; rfl

/-- The row of a score. -/
abbrev row (i : S16x8208x8320.Idx) : S16x8208.Idx := fun a => match a with
  | ⟨0, _⟩ => ⟨(i 0).val, (i 0).isLt⟩
  | ⟨1, _⟩ => ⟨(i 1).val, (i 1).isLt⟩

/-- The shifted exponentials. -/
theorem r51 (i : S16x8208x8320.Idx) : val_main_v51 (F := Ideal) x0 x1 x3 i
    = ((if Sees (112 + (i 1).val) (i 2).val then Real.exp (score A (i 0).val (112 + (i 1).val) (i 2).val - shift x0 x1 x3 (row i)) else 0 : ℝ) : EReal) := by
  rw [val_main_v51_apply, val_main_v50_apply, r30 H, val_main_v49_apply, val_main_v48_apply, r38' H, Ideal.hostUnary_exp_def, Ideal.subf_def]
  split
  · have e : idx_main_v48 (idx_main_v49 i) = row i := funext fun a => match a with
      | ⟨0, _⟩ => rfl
      | ⟨1, _⟩ => rfl
    rw [← EReal.coe_sub, exp_coe, e]
  · rw [EReal.bot_sub, exp_bot]; rfl

/-- The normalisers. -/
theorem r52 (i : S16x8208.Idx) : val_main_v52 (F := Ideal) x0 x1 x3 i = ((mass A (shift x0 x1 x3 i) (i 0).val (112 + (i 1).val) : ℝ) : EReal) := by
  rw [val_main_v52_apply, val_main_cst_9_apply, Ideal.ofBits_def, Ideal.ofBits_zero_f32, zero_add]
  have e : ∀ k, row (idx_main_v52 i k) = i := fun k => funext fun a => match a with
    | ⟨0, _⟩ => rfl
    | ⟨1, _⟩ => rfl
  exact sum_coe fun k => by rw [r51 H, e]

theorem mass_ne (i : S16x8208.Idx) : mass A (shift x0 x1 x3 i) (i 0).val (112 + (i 1).val) ≠ 0 :=
  (mass_pos A _ _ _ (by omega) (by have h1 : (i 1).val < 8208 := (i 1).isLt; omega)).ne'

/-- The weights. -/
theorem r55 (i : S16x8208x8320.Idx) : val_main_v55 (F := Ideal) x0 x1 x3 i = ((weight A (i 0).val (112 + (i 1).val) (i 2).val : ℝ) : EReal) := by
  rw [val_main_v55_apply, r51 H, val_main_v54_apply, val_main_v53_apply, r52 H, Ideal.hostDivf_def, div_coe _ _ (mass_ne H _)]
  congr 1
  by_cases s : Sees (112 + (i 1).val) (i 2).val
  · rw [if_pos s]; exact (weight_shift A _ _ _ _ s).symm
  · rw [if_neg s, weight_of_not A _ _ _ s, zero_div]

/-- The weights' cotangents. -/
theorem r66 (i : S16x8208x8320.Idx) : val_main_v66 (F := Ideal) x2 x4 i = ((dweight A (i 0).val (112 + (i 1).val) (i 2).val : ℝ) : EReal) := by
  rw [val_main_v66_apply]
  exact sum_coe fun d => by rw [r63 H, r5 H, ← EReal.coe_mul]

/-- The sum that the quotient rule subtracts. -/
theorem r70 (i : S16x8208.Idx) : val_main_v70 (F := Ideal) x0 x1 x2 x3 x4 i
    = ((∑ x : Fin 8320, dweight A (i 0).val (112 + (i 1).val) x.val
        * (1 / (mass A (shift x0 x1 x3 i) (i 0).val (112 + (i 1).val) * mass A (shift x0 x1 x3 i) (i 0).val (112 + (i 1).val)))
        * (if Sees (112 + (i 1).val) x.val then Real.exp (score A (i 0).val (112 + (i 1).val) x.val - shift x0 x1 x3 i) else 0) : ℝ) : EReal) := by
  rw [val_main_v70_apply, val_main_cst_11_apply, Ideal.ofBits_def, Ideal.ofBits_zero_f32, zero_add]
  have e : ∀ k, row (idx_main_v70 i k) = i := fun k => funext fun a => match a with
    | ⟨0, _⟩ => rfl
    | ⟨1, _⟩ => rfl
  refine sum_coe fun k => ?_
  rw [val_main_v69_apply, val_main_v68_apply, r66 H, val_main_v67_apply, val_main_v58_apply, val_main_v57_apply, val_main_cst_10_apply, val_main_v56_apply,
    val_main_v53_apply, r52 H, r51 H, e, Ideal.ofBits_def, bits_one, Ideal.mulf_def, Ideal.mulf_def, Ideal.mulf_def, Ideal.hostDivf_def, ← EReal.coe_mul,
    div_coe _ _ (mul_ne_zero (mass_ne H _) (mass_ne H _)), ← EReal.coe_mul, ← EReal.coe_mul]
  have e' : idx_main_v53 (idx_main_v67 (idx_main_v70 i k)) = i := funext fun a => match a with
    | ⟨0, _⟩ => rfl
    | ⟨1, _⟩ => rfl
  rw [e']

/-- The scores' cotangents. -/
theorem r79 (i : S16x8208x8320.Idx) : val_main_v79 (F := Ideal) x0 x1 x2 x3 x4 i = ((dscore A (i 0).val (112 + (i 1).val) (i 2).val : ℝ) : EReal) := by
  have h1 : (i 1).val < 8208 := (i 1).isLt
  rw [val_main_v79_apply, r30m, select_bit]
  by_cases s : Sees (112 + (i 1).val) (i 2).val
  · rw [if_pos s, val_main_v78_apply, val_main_v77_apply, val_main_v74_apply, r66 H, val_main_v73_apply, val_main_v53_apply, r52 H, val_main_v76_apply,
      val_main_v75_apply, val_main_cst_12_apply, r51 H, if_pos s, Fin.sum_univ_one, val_main_v72_apply, val_main_v71_apply, r70 H, Ideal.ofBits_def,
      Ideal.ofBits_zero_f32, zero_add, Ideal.hostNegf_def, Ideal.negf_def, Ideal.hostDivf_def, div_coe _ _ (mass_ne H _), Ideal.mulf_def, Ideal.addf_def,
      ← EReal.coe_neg, ← EReal.coe_add, ← EReal.coe_mul]
    rw [← dscore_quot A (shift x0 x1 x3 (row i)) _ _ _ s (by omega)]
    have e1 : idx_main_v53 (idx_main_v73 i) = row i := funext fun a => match a with
      | ⟨0, _⟩ => rfl
      | ⟨1, _⟩ => rfl
    have e2 : idx_main_v71 (idx_main_v75 (idx_main_v76 i) 0) = row i := funext fun a => match a with
      | ⟨0, _⟩ => Fin.ext (by show (((i 0).val * 8208 + (i 1).val) * 1 + 0) / 8208 = (i 0).val; omega)
      | ⟨1, _⟩ => Fin.ext (by show (((i 0).val * 8208 + (i 1).val) * 1 + 0) % 8208 = (i 1).val; omega)
    rw [e1, e2]
  · rw [if_neg s, dscore_of_not A _ _ _ s, val_main_call1_v0_apply, val_main_call1_cst_apply, Ideal.ofBits_def, Ideal.ofBits_zero_f32]; rfl

end Cert.ReferenceIdeal.Real

end
-- ==== Proof.RefOut.lean ====
/-
  The reference's results, at real arguments, are the model's gradients.
-/
module

public import proofs.«01_k».proof.Proof.RefRead
public import Idealize.ShloMosaic.Lib.Pointwise

@[expose] public section

noncomputable section

namespace Cert.ReferenceIdeal.Real

open Cert.ReferenceIdeal Cert.ReferenceIdeal.Gen Cert.ReferenceIdeal.Read Cert.Model Cert.Num
open Idealize.ShloMosaic Idealize.ShloMosaic.TcCoe

variable {A : Args} {x0 x1 x2 : (⟨S8320x1024, .f32⟩ : BufTy).Contents (Elt Ideal)} {x3 : (⟨S8320x16, .f32⟩ : BufTy).Contents (Elt Ideal)}
  {x4 : (⟨S8208x1024, .f32⟩ : BufTy).Contents (Elt Ideal)} (H : Holds A x0 x1 x2 x3 x4)

omit H in
/-- A score's cotangent vanishes in the padding rows. -/
theorem dscore_pad (A : Args) (h i j : ℕ) (hi : i < 112) : dscore A h i j = 0 := dscore_of_not A _ _ _ fun s => by have := s.1; have := s.2; omega

omit H in
theorem cast3 (f : ℕ → ℕ → ℕ → ℝ) {a b c a' b' c' : ℕ} (h1 : a = a') (h2 : b = b') (h3 : c = c') :
    ((f a b c : ℝ) : EReal) = ((f a' b' c' : ℝ) : EReal) := by rw [h1, h2, h3]

include H

/-! ## The values' gradient -/

theorem r64 (i : S16x64x8320.Idx) : val_main_v64 (F := Ideal) x0 x1 x3 x4 i
    = ((∑ n : Fin 8320, weight A (i 0).val n.val (i 2).val * A.g n.val (64 * (i 0).val + (i 1).val) : ℝ) : EReal) := by
  rw [val_main_v64_apply, ← sum_rows (fun n => weight A (i 0).val n (i 2).val * A.g n (64 * (i 0).val + (i 1).val))
    (fun n hn => by show _ * A.g n _ = 0; rw [H.pad _ _ hn, mul_zero])]
  exact sum_coe fun n => by rw [r63 H, r55 H, ← EReal.coe_mul, mul_comm]

theorem r96 (i : S8320x1024.Idx) : val_main_v96 (F := Ideal) x0 x1 x3 x4 i = ((outV A (i 0).val (i 1).val : ℝ) : EReal) := by
  have h0 : (i 0).val < 8320 := (i 0).isLt
  have h1 : (i 1).val < 1024 := (i 1).isLt
  rw [val_main_v96_apply, val_main_v95_apply, val_main_v65_apply, r64 H]
  exact cast3 (fun h x j => ∑ n : Fin 8320, weight A h n.val j * A.g n.val x)
    (show ((i 0).val * 1024 + (i 1).val) / 64 % 16 = (i 1).val / 64 by omega)
    (show 64 * (((i 0).val * 1024 + (i 1).val) / 64 % 16) + ((i 0).val * 1024 + (i 1).val) % 64 = (i 1).val by omega)
    (show ((i 0).val * 1024 + (i 1).val) / 1024 = (i 0).val by omega)

/-! ## The keys' gradient -/

theorem r90 (i : S16x8208x8320.Idx) : val_main_v90 (F := Ideal) x0 x1 x2 x3 x4 i
    = ((dscore A (i 0).val (112 + (i 1).val) (i 2).val * (1 / 8) : ℝ) : EReal) := by
  rw [val_main_v90_apply, r79 H, val_main_v89_apply, val_main_cst_18_apply, Ideal.ofBits_def, bits_eighth, Ideal.mulf_def, ← EReal.coe_mul]

theorem r91 (i : S16x8320x64.Idx) : val_main_v91 (F := Ideal) x0 x1 x2 x3 x4 i
    = ((∑ n : Fin 8320, dscore A (i 0).val n.val (i 1).val * (A.q n.val (64 * (i 0).val + (i 2).val) * (1 / 8)) : ℝ) : EReal) := by
  rw [val_main_v91_apply, ← sum_rows (fun n => dscore A (i 0).val n (i 1).val * (A.q n (64 * (i 0).val + (i 2).val) * (1 / 8)))
    (fun n hn => by show dscore A _ n _ * _ = 0; rw [dscore_pad A _ _ _ hn, zero_mul])]
  refine sum_coe fun n => ?_
  rw [r90 H, r8 H, ← EReal.coe_mul]
  exact congrArg _ (by show dscore A (i 0).val (112 + n.val) (i 1).val * (1 / 8) * A.q (112 + n.val) (64 * (i 0).val + (i 2).val) = _; ring)

theorem r98 (i : S8320x1024.Idx) : val_main_v98 (F := Ideal) x0 x1 x2 x3 x4 i = ((outK A (i 0).val (i 1).val : ℝ) : EReal) := by
  have h0 : (i 0).val < 8320 := (i 0).isLt
  have h1 : (i 1).val < 1024 := (i 1).isLt
  rw [val_main_v98_apply, val_main_v97_apply, r91 H]
  exact cast3 (fun h x j => ∑ n : Fin 8320, dscore A h n.val j * (A.q n.val x * (1 / 8)))
    (show ((i 0).val * 1024 + (i 1).val) / 64 % 16 = (i 1).val / 64 by omega)
    (show 64 * (((i 0).val * 1024 + (i 1).val) / 64 % 16) + ((i 0).val * 1024 + (i 1).val) % 64 = (i 1).val by omega)
    (show ((i 0).val * 1024 + (i 1).val) / 1024 = (i 0).val by omega)

/-! ## The queries' gradient -/

theorem r92 (i : S16x8208x64.Idx) : val_main_v92 (F := Ideal) x0 x1 x2 x3 x4 i
    = (((∑ j : Fin 8320, dscore A (i 0).val (112 + (i 1).val) j.val * A.k j.val (64 * (i 0).val + (i 2).val)) * (1 / 8) : ℝ) : EReal) := by
  rw [val_main_v92_apply, Finset.sum_mul]
  refine sum_coe fun j => ?_
  rw [r90 H, r3 H, ← EReal.coe_mul]
  exact congrArg _ (by show dscore A (i 0).val (112 + (i 1).val) j.val * (1 / 8) * A.k j.val (64 * (i 0).val + (i 2).val) = _; ring)

theorem r93 (i : S16x8320x64.Idx) : val_main_v93 (F := Ideal) x0 x1 x2 x3 x4 i
    = (((∑ j : Fin 8320, dscore A (i 0).val (i 1).val j.val * A.k j.val (64 * (i 0).val + (i 2).val)) * (1 / 8) : ℝ) : EReal) := by
  have h1 : (i 1).val < 8320 := (i 1).isLt
  unfold val_main_v93
  rw [pad_apply]
  split
  · rename_i hin
    have hn : 112 ≤ (i 1).val := (hin (1 : Fin 3)).1
    rw [r92 H]
    exact cast3 (fun h n x => (∑ j : Fin 8320, dscore A h n j.val * A.k j.val x) * (1 / 8))
      (show ((i 0).val - 0) / (0 + 1) = (i 0).val by omega) (show 112 + ((i 1).val - 112) / (0 + 1) = (i 1).val by omega)
      (show 64 * (((i 0).val - 0) / (0 + 1)) + ((i 2).val - 0) / (0 + 1) = 64 * (i 0).val + (i 2).val by omega)
  · rename_i hin
    have hn : (i 1).val < 112 := by
      by_contra hc
      refine hin fun a => ?_
      match a with
      | ⟨0, _⟩ => exact ⟨Nat.zero_le _, Nat.mod_one _, by show ((i 0).val - 0) / (0 + 1) < 16; have h : (i 0).val < 16 := (i 0).isLt; omega⟩
      | ⟨1, _⟩ => exact ⟨by show 112 ≤ (i 1).val; omega, Nat.mod_one _, by show ((i 1).val - 112) / (0 + 1) < 8208; omega⟩
      | ⟨2, _⟩ => exact ⟨Nat.zero_le _, Nat.mod_one _, by show ((i 2).val - 0) / (0 + 1) < 64; have h : (i 2).val < 64 := (i 2).isLt; omega⟩
    rw [val_main_cst_19_apply, Ideal.ofBits_def, Ideal.ofBits_zero_f32,
      Finset.sum_eq_zero fun j _ => by rw [dscore_pad A _ _ _ hn, zero_mul], zero_mul]
    rfl

theorem r100 (i : S8320x1024.Idx) : val_main_v100 (F := Ideal) x0 x1 x2 x3 x4 i = ((outQ A (i 0).val (i 1).val : ℝ) : EReal) := by
  have h0 : (i 0).val < 8320 := (i 0).isLt
  have h1 : (i 1).val < 1024 := (i 1).isLt
  rw [val_main_v100_apply, val_main_v99_apply, r93 H]
  exact cast3 (fun h n x => (∑ j : Fin 8320, dscore A h n j.val * A.k j.val x) * (1 / 8))
    (show ((i 0).val * 1024 + (i 1).val) / 64 % 16 = (i 1).val / 64 by omega)
    (show ((i 0).val * 1024 + (i 1).val) / 1024 = (i 0).val by omega)
    (show 64 * (((i 0).val * 1024 + (i 1).val) / 64 % 16) + ((i 0).val * 1024 + (i 1).val) % 64 = (i 1).val by omega)

/-! ## The cumulated gates' gradient -/

/-- A column's part. -/
theorem r83 (i : S16x8320.Idx) : val_main_v83 (F := Ideal) x0 x1 x2 x3 x4 i
    = ((-∑ n : Fin 8320, dscore A (i 0).val n.val (i 1).val : ℝ) : EReal) := by
  have h0 : (i 0).val < 16 := (i 0).isLt
  have h1 : (i 1).val < 8320 := (i 1).isLt
  rw [val_main_v83_apply, val_main_cst_14_apply, Fin.sum_univ_one, val_main_v82_apply, val_main_v81_apply, val_main_cst_13_apply, Ideal.ofBits_def,
    Ideal.ofBits_zero_f32, zero_add, zero_add, ← sum_rows (fun n => dscore A (i 0).val n (i 1).val) (fun n hn => dscore_pad A _ _ _ hn),
    ← Finset.sum_neg_distrib]
  refine sum_coe fun n => ?_
  rw [val_main_v80_apply, r79 H, Ideal.hostNegf_def, Ideal.negf_def, ← EReal.coe_neg]
  exact cast3 (fun h n j => -dscore A h n j) (show (((i 0).val * 1 + 0) * 8320 + (i 1).val) / 8320 = (i 0).val by omega) rfl
    (show (((i 0).val * 1 + 0) * 8320 + (i 1).val) % 8320 = (i 1).val by omega)

/-- A row's part, of the rows that are computed. -/
theorem r86 (i : S16x8208.Idx) : val_main_v86 (F := Ideal) x0 x1 x2 x3 x4 i
    = ((∑ j : Fin 8320, dscore A (i 0).val (112 + (i 1).val) j.val : ℝ) : EReal) := by
  have h0 : (i 0).val < 16 := (i 0).isLt
  have h1 : (i 1).val < 8208 := (i 1).isLt
  rw [val_main_v86_apply, val_main_cst_16_apply, Fin.sum_univ_one, val_main_v85_apply, val_main_v84_apply, val_main_cst_15_apply, Ideal.ofBits_def,
    Ideal.ofBits_zero_f32, zero_add, zero_add]
  refine sum_coe fun j => ?_
  rw [r79 H]
  exact cast3 (fun h n j => dscore A h (112 + n) j) (show (((i 0).val * 8208 + (i 1).val) * 1 + 0) / 8208 = (i 0).val by omega)
    (show (((i 0).val * 8208 + (i 1).val) * 1 + 0) % 8208 = (i 1).val by omega) rfl

/-- A row's part. -/
theorem r87 (i : S16x8320.Idx) : val_main_v87 (F := Ideal) x0 x1 x2 x3 x4 i
    = ((∑ j : Fin 8320, dscore A (i 0).val (i 1).val j.val : ℝ) : EReal) := by
  have h1 : (i 1).val < 8320 := (i 1).isLt
  unfold val_main_v87
  rw [pad_apply]
  split
  · rename_i hin
    have hn : 112 ≤ (i 1).val := (hin (1 : Fin 2)).1
    rw [r86 H]
    exact coe2 (fun h n => ∑ j : Fin 8320, dscore A h n j.val)
      (show ((i 0).val - 0) / (0 + 1) = (i 0).val by omega) (show 112 + ((i 1).val - 112) / (0 + 1) = (i 1).val by omega)
  · rename_i hin
    have hn : (i 1).val < 112 := by
      by_contra hc
      refine hin fun a => ?_
      match a with
      | ⟨0, _⟩ => exact ⟨Nat.zero_le _, Nat.mod_one _, by show ((i 0).val - 0) / (0 + 1) < 16; have h : (i 0).val < 16 := (i 0).isLt; omega⟩
      | ⟨1, _⟩ => exact ⟨by show 112 ≤ (i 1).val; omega, Nat.mod_one _, by show ((i 1).val - 112) / (0 + 1) < 8208; omega⟩
    rw [val_main_cst_17_apply, Ideal.ofBits_def, Ideal.ofBits_zero_f32, Finset.sum_eq_zero fun j _ => dscore_pad A _ _ _ hn]
    rfl

theorem r94 (i : S8320x16.Idx) : val_main_v94 (F := Ideal) x0 x1 x2 x3 x4 i = ((outC A (i 0).val (i 1).val : ℝ) : EReal) := by
  rw [val_main_v94_apply, val_main_v88_apply, r83 H, r87 H, Ideal.addf_def, ← EReal.coe_add]
  exact congrArg _ (by unfold outC; show -(∑ n : Fin 8320, dscore A (i 1).val n.val (i 0).val) + ∑ j : Fin 8320, dscore A (i 1).val (i 0).val j.val = _; ring)

end Cert.ReferenceIdeal.Real

end
-- ==== Proof.Algebraic.lean ====
/-
  The program and its reference end with the same numbers: both compute the model's gradients.
-/
module

public import proofs.«01_k».proof.Proof.Finite
public import proofs.«01_k».proof.Proof.Results
public import proofs.«01_k».proof.Proof.RefOut

@[expose] public section

noncomputable section

namespace Cert.Proof

open Cert.Model Cert.Pre_finite.Real
open Idealize.ShloMosaic Idealize.SL.Sem

/-- From finite arguments both programs end with the model's gradients. -/
theorem algebraic : Cert.algebraic_KernelIdeal_ReferenceIdeal_pre_finite := by
  intro m g m' g' hm he
  let A : Dev Cert.KernelIdeal.nD → Args := fun c => args (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
  have hK : ∀ c, Cert.KernelIdeal.Real.Holds m c (A c) := fun c => by
    obtain ⟨⟨h0, h1, h2⟩, h3, h4⟩ := reals (hm c)
    exact ⟨reader_is _ h0, reader_is _ h1, reader_is _ h2, reader_is _ h3,
      fun i => (reader_is _ h4 i).trans (by rw [← args_g]), fun i y h => args_pad i y h⟩
  have hR : ∀ c : Dev Cert.ReferenceIdeal.nD, Cert.ReferenceIdeal.Real.Holds (A c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := fun c => by
    obtain ⟨e0, e1, e2, e3, e4⟩ := he c
    rw [e0, e1, e2, e3, e4]
    exact ⟨(hK c).q, (hK c).k, (hK c).v, (hK c).s, (hK c).g, (hK c).pad⟩
  refine ⟨_, _, _, _, Cert.KernelIdeal.Real.run g A hK, ?_⟩
  refine (θ_run Cert.ReferenceIdeal.defs _ _).mono (fun r h c => ?_) (Cert.ReferenceIdeal.Value.run (F := Ideal) m' g')
  obtain ⟨h0, h1, h2, h3, h4⟩ := h c
  exact ⟨h0.trans ((Cert.ReferenceIdeal.Read.val_main_v100_eq m' c).trans (funext (Cert.ReferenceIdeal.Real.r100 (hR c)))),
    h1.trans ((Cert.ReferenceIdeal.Read.val_main_v98_eq m' c).trans (funext (Cert.ReferenceIdeal.Real.r98 (hR c)))),
    h2.trans ((Cert.ReferenceIdeal.Read.val_main_v96_eq m' c).trans (funext (Cert.ReferenceIdeal.Real.r96 (hR c)))),
    h3.trans ((Cert.ReferenceIdeal.Read.val_main_v94_eq m' c).trans (funext (Cert.ReferenceIdeal.Real.r94 (hR c)))), h4⟩

end Cert.Proof

end
-- ==== Proof.FwdState.lean ====
/-
  What one grid point of `flash_fwd` does, as functions of vectors: the closed forms of its branch conditions, the masked and the
  unmasked update of the running maximum and of the weighted sums, and what the diagonal point stores.
-/
module

public import proofs.«01_k».proof.Proof.Gen.FwdIdeal.Frame
public import proofs.«01_k».proof.Proof.Gen.FwdIdeal.Skeleton
public import Idealize.ShloMosaic.Lib.VecWindow

@[expose] public section

noncomputable section

namespace Cert.FwdIdeal.Hand

open Cert.FwdIdeal Cert.FwdIdeal.Gen
open Idealize.ShloMosaic Idealize.ShloMosaic.TcCoe

variable {F : FTy → Type} [FloatOps F]

/-! ## The conditions -/

/-- The three conditions that the body spells out itself: the clearing, the masked and the unmasked update. -/
def cond1 (i : grid0.Coords) : BitVec 1 := Scalar.cmpi .ne (Scalar.extui (Scalar.cmpi .eq (BitVec.ofNat 32 (i 2).val) 0#32)) (0#32 : BitVec 32)
def cond2 (i : grid0.Coords) : BitVec 1 :=
  Scalar.cmpi .ne (Scalar.extui (Scalar.andi (Scalar.ori (Scalar.cmpi .eq (BitVec.ofNat 32 (i 2).val) (BitVec.ofNat 32 (i 1).val)) (Scalar.cmpi .eq (BitVec.ofNat 32 (i 2).val) 0#32))
    (Scalar.cmpi .sle (BitVec.ofNat 32 (i 2).val) (BitVec.ofNat 32 (i 1).val)))) (0#32 : BitVec 32)
def cond3 (i : grid0.Coords) : BitVec 1 :=
  Scalar.cmpi .ne (Scalar.extui (Scalar.andi (Scalar.xori (Scalar.ori (Scalar.cmpi .eq (BitVec.ofNat 32 (i 2).val) (BitVec.ofNat 32 (i 1).val)) (Scalar.cmpi .eq (BitVec.ofNat 32 (i 2).val) 0#32)) 1#1)
    (Scalar.cmpi .slt (BitVec.ofNat 32 (i 2).val) (BitVec.ofNat 32 (i 1).val)))) (0#32 : BitVec 32)

theorem cond1_iff (i : grid0.Coords) : cond1 i = 1#1 ↔ (i 2).val = 0 := by
  have key : ∀ b : Fin 13, Scalar.cmpi .ne (Scalar.extui (Scalar.cmpi .eq (BitVec.ofNat 32 b.val) 0#32)) (0#32 : BitVec 32) = 1#1 ↔ b.val = 0 := by decide
  exact key (i 2)

theorem cond2_iff (i : grid0.Coords) : cond2 i = 1#1 ↔ ((i 2).val = (i 1).val ∨ (i 2).val = 0) := by
  have key : ∀ a b : Fin 13, Scalar.cmpi .ne (Scalar.extui (Scalar.andi (Scalar.ori (Scalar.cmpi .eq (BitVec.ofNat 32 b.val) (BitVec.ofNat 32 a.val)) (Scalar.cmpi .eq (BitVec.ofNat 32 b.val) 0#32))
      (Scalar.cmpi .sle (BitVec.ofNat 32 b.val) (BitVec.ofNat 32 a.val)))) (0#32 : BitVec 32) = 1#1 ↔ (b.val = a.val ∨ b.val = 0) := by decide
  exact key (i 1) (i 2)

theorem cond3_iff (i : grid0.Coords) : cond3 i = 1#1 ↔ 0 < (i 2).val ∧ (i 2).val < (i 1).val := by
  have key : ∀ a b : Fin 13, Scalar.cmpi .ne (Scalar.extui (Scalar.andi (Scalar.xori (Scalar.ori (Scalar.cmpi .eq (BitVec.ofNat 32 b.val) (BitVec.ofNat 32 a.val)) (Scalar.cmpi .eq (BitVec.ofNat 32 b.val) 0#32)) 1#1)
      (Scalar.cmpi .slt (BitVec.ofNat 32 b.val) (BitVec.ofNat 32 a.val)))) (0#32 : BitVec 32) = 1#1 ↔ 0 < b.val ∧ b.val < a.val := by decide
  exact key (i 1) (i 2)

theorem cond4_iff (i : grid0.Coords) : k0_cond4 i = 1#1 ↔ (i 2).val = (i 1).val := by
  have key : ∀ a b : Fin 13, Scalar.cmpi .ne (Scalar.extui (Scalar.cmpi .eq (BitVec.ofNat 32 b.val) (BitVec.ofNat 32 a.val))) (0#32 : BitVec 32) = 1#1 ↔ b.val = a.val := by decide
  exact key (i 1) (i 2)

/-! ## The operands of a point, the scratch and the results -/

/-- The five blocks that a point reads: queries, keys, values, gate, forget sums. -/
structure Blk (F : FTy → Type) where
  q : S640x128.Idx → Elt F .bf16
  k : S640x128.Idx → Elt F .bf16
  v : S640x128.Idx → Elt F .bf16
  g : S640x128.Idx → Elt F .f32
  c : S1x2x640.Idx → Elt F .f32

/-- The scratch: the running maxima and the weighted sums of the pair's two heads. -/
structure Acc (F : FTy → Type) where
  m : S2x640x128.Idx → Elt F .f32
  a : S2x640x128.Idx → Elt F .f32

/-- The three results' blocks. -/
structure Out (F : FTy → Type) where
  o : S640x128.Idx → Elt F .f32
  og : S640x128.Idx → Elt F .bf16
  l : S640x128.Idx → Elt F .f32

/-- The first and the second head's half of a scratch buffer, and a buffer with both halves written. -/
def lo (x : S2x640x128.Idx → Elt F .f32) : Vec F S1x640x128 .f32 := VecWindow.window x ![0, 0, 0] S1x640x128.size inb_S2x640x128_S1x640x128_0_0_0
def hi (x : S2x640x128.Idx → Elt F .f32) : Vec F S1x640x128 .f32 := VecWindow.window x ![1, 0, 0] S1x640x128.size inb_S2x640x128_S1x640x128_1_0_0
def two (x : S2x640x128.Idx → Elt F .f32) (u w : Vec F S1x640x128 .f32) : S2x640x128.Idx → Elt F .f32 :=
  VecWindow.put (VecWindow.put x ![0, 0, 0] S1x640x128.size u) ![1, 0, 0] S1x640x128.size w

theorem lo_two (x : S2x640x128.Idx → Elt F .f32) (u w) : lo (two x u w) = u :=
  (VecWindow.window_put_of_disjoint _ _ _ _ _ _ _ 0 (Or.inl (le_refl 1))).trans (VecWindow.window_put_same _ _ _ _ _)
theorem hi_two (x : S2x640x128.Idx → Elt F .f32) (u w) : hi (two x u w) = w := VecWindow.window_put_same _ _ _ _ _
/-- Writing the first half leaves the second. -/
theorem hi_put (x : S2x640x128.Idx → Elt F .f32) (u : Vec F S1x640x128 .f32) : hi (VecWindow.put x ![0, 0, 0] S1x640x128.size u) = hi x :=
  VecWindow.window_put_of_disjoint _ _ _ _ _ _ _ 0 (Or.inr (le_refl 1))

namespace Blk

variable (B : Blk F)

/-- The forget sums of the pair's two heads. -/
def c0 : Vec F S1x1x640 .f32 := VecWindow.window B.c ![0, 0, 0] S1x1x640.size inb_S1x2x640_S1x1x640_0_0_0
def c1 : Vec F S1x1x640 .f32 := VecWindow.window B.c ![0, 1, 0] S1x1x640.size inb_S1x2x640_S1x1x640_0_1_0

end Blk

/-! ## One point -/

/-- The scratch after the clearing. -/
def clr (i : grid0.Coords) (s : Acc F) : Acc F := if cond1 i = 1#1 then ⟨k0_pay1, k0_pay2⟩ else s

/-- The masked update, over the mask `k`. -/
def masked (B : Blk F) (k : IVec S640x640 1) (s : Acc F) : Acc F where
  m := two s.m (k0_pay3 (k0_pay18 k (k0_pay12 B.q B.k B.c0) (lo s.m))) (k0_pay5 (k0_pay21 k (k0_pay15 B.q B.k B.c1) (hi s.m)))
  a := two s.a (k0_pay23 k (k0_pay11 B.v) (k0_pay12 B.q B.k B.c0) (lo s.m) (lo s.a))
    (k0_pay4 (k0_pay14 B.v) (k0_pay20 (hi s.m)) (k0_pay21 k (k0_pay15 B.q B.k B.c1) (hi s.m)) (k0_pay22 k (k0_pay15 B.q B.k B.c1) (hi s.m)) (hi s.a))

/-- The unmasked update. -/
def unmasked (B : Blk F) (s : Acc F) : Acc F where
  m := two s.m (k0_pay36 (k0_pay31 B.q B.k B.c0 (lo s.m))) (k0_pay6 (k0_pay34 (k0_pay29 B.q B.k B.c1) (hi s.m)))
  a := two s.a (k0_pay35 (k0_pay25 B.v) (k0_pay30 (lo s.m)) (k0_pay31 B.q B.k B.c0 (lo s.m)) (k0_pay32 B.q B.k B.c0 (lo s.m)) (lo s.a))
    (k0_pay37 (k0_pay28 B.v) (k0_pay29 B.q B.k B.c1) (hi s.m) (hi s.a))

/-- The scratch after a grid point. -/
def step (B : Blk F) (i : grid0.Coords) (s : Acc F) : Acc F :=
  if cond2 i = 1#1 then masked B (k0_pay10 (BitVec.ofNat 32 (i 1).val) (BitVec.ofNat 32 (i 2).val)) (clr i s)
  else if cond3 i = 1#1 then unmasked B (clr i s) else clr i s

/-- What the diagonal point stores, from the scratch that it leaves. -/
def outs (B : Blk F) (s : Acc F) : Out F where
  o := k0_pay44 (lo s.a) (hi s.a)
  og := k0_pay7 (k0_pay44 (lo s.a) (hi s.a)) (k0_pay45 B.g)
  l := k0_pay8 (k0_pay41 (lo s.a) (hi s.a)) (k0_pay42 (lo s.m) (hi s.m)) (k0_pay43 (lo s.a) (hi s.a))

/-- The results' buffers after a grid point. -/
def keep (B : Blk F) (i : grid0.Coords) (s : Acc F) (x : Out F) : Out F := if k0_cond4 i = 1#1 then outs B s else x

end Cert.FwdIdeal.Hand

end
-- ==== Proof.FwdBody.lean ====
/-
  The run of `flash_fwd`'s body at a grid point, by cases on its conditions: what the buffers hold before and after.
-/
module

public import proofs.«01_k».proof.Proof.FwdState
public import Idealize.ShloMosaic.Lib.Pipeline.TableIdle
public import Idealize.ShloMosaic.Lib.Tactic.Stretches

@[expose] public section

noncomputable section

namespace Cert.FwdIdeal.Hand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body finds: the five input blocks, the three results' buffers and the two scratch buffers. -/
def pre (c : Dev nD)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) : sProp 𝕄 :=
  iprop(owns (c : Thread nD τ) arg3 fullShare B.q ∗ owns (c : Thread nD τ) arg4 fullShare B.k ∗ owns (c : Thread nD τ) arg5 fullShare B.v ∗ owns (c : Thread nD τ) arg6 fullShare B.g ∗ owns (c : Thread nD τ) arg7 fullShare B.c ∗ owns (c : Thread nD τ) arg8 fullShare x.o ∗ owns (c : Thread nD τ) arg9 fullShare x.og ∗ owns (c : Thread nD τ) arg10 fullShare x.l ∗ owns (c : Thread nD τ) arg11 fullShare s.m ∗ owns (c : Thread nD τ) arg12 fullShare s.a)

/-- The same with each buffer at the representative of what it holds, the form that the run steps from. -/
theorem pre_eq (c : Dev nD)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) :
    (pre c arg3 harg3 arg4 harg4 arg5 harg5 arg6 harg6 arg7 harg7 arg8 harg8 arg9 harg9 arg10 harg10 arg11 harg11 arg12 harg12 B s x : sProp 𝕄) = iprop((arg3.view.loc (c : Thread nD τ) ↦[arg3.view.set]{fullShare} arg3.view.rep B.q)
      ∗ (arg4.view.loc (c : Thread nD τ) ↦[arg4.view.set]{fullShare} arg4.view.rep B.k)
      ∗ (arg5.view.loc (c : Thread nD τ) ↦[arg5.view.set]{fullShare} arg5.view.rep B.v)
      ∗ (arg6.view.loc (c : Thread nD τ) ↦[arg6.view.set]{fullShare} arg6.view.rep B.g)
      ∗ (arg7.view.loc (c : Thread nD τ) ↦[arg7.view.set]{fullShare} arg7.view.rep B.c)
      ∗ (arg8.view.loc (c : Thread nD τ) ↦[arg8.view.set]{fullShare} arg8.view.rep x.o)
      ∗ (arg9.view.loc (c : Thread nD τ) ↦[arg9.view.set]{fullShare} arg9.view.rep x.og)
      ∗ (arg10.view.loc (c : Thread nD τ) ↦[arg10.view.set]{fullShare} arg10.view.rep x.l)
      ∗ (arg11.view.loc (c : Thread nD τ) ↦[arg11.view.set]{fullShare} arg11.view.rep s.m)
      ∗ (arg12.view.loc (c : Thread nD τ) ↦[arg12.view.set]{fullShare} arg12.view.rep s.a)) := by
  unfold pre
  simp only [owns_eq_rep]

theorem rep_owns (c : Thread nD τ) {sp : Space} {sh : Shape} {e : EltTy} (m : Memref sig c.2.kind sp sh e) (q : PosShare TreeShare)
    (X : sh.Idx → Elt F e) : ((m.view.loc c ↦[m.view.set]{q} m.view.rep X) : sProp 𝕄) ⊢ owns c m q X := by
  rw [owns_eq_rep]

/-- A memref's buffer read back. -/
theorem owns_of_read (c : Thread nD τ) {sp : Space} {sh : Shape} {e : EltTy} (m : Memref sig c.2.kind sp sh e) (q : PosShare TreeShare)
    (f : m.view.ty.Contents (Elt F)) (X : sh.Idx → Elt F e) (h : m.view.read (Elt F) f = X) :
    ((m.view.loc c ↦[m.view.set]{q} f) : sProp 𝕄) ⊢ owns c m q X := by
  unfold owns
  iintro H
  iexists _
  isplitr
  · ipureintro; exact h
  · iexact H

section reads

variable {κ : Kind} {sp : Space} {e : EltTy}

/-- A load reads a window of what the buffer reads. -/
theorem readAt_win {sh : Shape} (v : View sig κ sp sh e) (f : v.ty.Contents (Elt F)) {off size : Fin sh.rank → ℕ}
    (inb : ∀ a, off a + size a ≤ sh.size a) :
    v.readAt (Elt F) (Rect.unit off size inb).toLoadRect f = VecWindow.window (v.read (Elt F) f) off size inb := rfl

/-- A store writes into what the buffer reads. -/
theorem read_put {sh : Shape} (v : View sig κ sp sh e) (f : v.ty.Contents (Elt F)) {off size : Fin sh.rank → ℕ}
    (inb : ∀ a, off a + size a ≤ sh.size a) (w : (Rect.unit off size inb).shape.Idx → Elt F e) (L : List (View.Piece (Elt F) sh e)) :
    v.read (Elt F) (v.writes (Elt F) f (⟨Rect.unit off size inb, w⟩ :: L)) = VecWindow.put (v.read (Elt F) (v.writes (Elt F) f L)) off size w :=
  View.read_writes_cons_put v f inb w L rfl

/-- The window of a whole block is the block; a store of a whole block leaves nothing of what was there. -/
theorem window_whole (x : S640x128.Idx → Elt F e) (h) : VecWindow.window x ![0, 0] ![640, 128] h = x :=
  funext fun y => congrArg x (Rect.emb_unit_full (s := S640x128) h y)
theorem put_clear (x w : S2x640x128.Idx → Elt F .f32) : VecWindow.put x ![0, 0, 0] ![2, 640, 128] w = w := by
  have h := VecWindow.window_put_same (s := S2x640x128) x ![0, 0, 0] ![2, 640, 128] inb_S2x640x128_S2x640x128_0_0_0 w
  rw [← h]
  refine (funext fun y => ?_)
  rw [h]
  exact (congrArg (VecWindow.put x ![0, 0, 0] ![2, 640, 128] w) (Rect.emb_unit_full (s := S2x640x128) inb_S2x640x128_S2x640x128_0_0_0 y)).symm.trans (congrFun h y)

/-- Each half of a buffer whose halves were both written is what was written there. -/
theorem win_lo (x : S2x640x128.Idx → Elt F .f32) (u w : Vec F S1x640x128 .f32) (h) :
    VecWindow.window (VecWindow.put (VecWindow.put x ![0, 0, 0] ![1, 640, 128] u) ![1, 0, 0] ![1, 640, 128] w) ![0, 0, 0] ![1, 640, 128] h = u := lo_two x u w
theorem win_hi (x : S2x640x128.Idx → Elt F .f32) (u w : Vec F S1x640x128 .f32) (h) :
    VecWindow.window (VecWindow.put (VecWindow.put x ![0, 0, 0] ![1, 640, 128] u) ![1, 0, 0] ![1, 640, 128] w) ![1, 0, 0] ![1, 640, 128] h = w := hi_two x u w
theorem win_put (x : S2x640x128.Idx → Elt F .f32) (u : Vec F S1x640x128 .f32) (h) :
    VecWindow.window (VecWindow.put x ![0, 0, 0] ![1, 640, 128] u) ![1, 0, 0] ![1, 640, 128] h = VecWindow.window x ![1, 0, 0] ![1, 640, 128] h := hi_put x u

end reads

set_option maxHeartbeats 2000000 in
/-- The first point of all: the clearing, the masked update and the storing. -/
theorem run_first (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) (h1 : cond1 i = 1#1) (h2 : cond2 i = 1#1) (h3 : ¬cond3 i = 1#1) (h4 : k0_cond4 i = 1#1)
    (K : PUnit → sProp 𝕄) :
    iprop(pre c arg3 harg3 arg4 harg4 arg5 harg5 arg6 harg6 arg7 harg7 arg8 harg8 arg9 harg9 arg10 harg10 arg11 harg11 arg12 harg12 B s x ∗ (pre c arg3 harg3 arg4 harg4 arg5 harg5 arg6 harg6 arg7 harg7 arg8 harg8 arg9 harg9 arg10 harg10 arg11 harg11 arg12 harg12 B (step B i s) (keep B i (step B i s) x) -∗ K ⟨⟩))
      ⊢ wp frame (wpE (defs₀ (F := F)) Variants.none c none) Set.univ (cc0_flash_fwd i arg3 harg3 arg4 harg4 arg5 harg5 arg6 harg6 arg7 harg7 arg8 harg8 arg9 harg9 arg10 harg10 arg11 harg11 arg12 harg12) K := by
  simp only [cc0_flash_fwd_eq_skeleton]; unfold cc0_flash_fwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have e : step B i s = masked B (k0_pay10 (BitVec.ofNat 32 (i 1).val) (BitVec.ofNat 32 (i 2).val)) (clr i s) := by
    unfold step; rw [if_pos h2]
  have e' : clr i s = ⟨k0_pay1, k0_pay2⟩ := if_pos h1
  rw [e, e']
  unfold keep; rw [if_pos h4]
  unfold cond1 at h1; unfold cond2 at h2; unfold cond3 at h3
  rw [pre_eq (s := s)]
  iintro ⟨⟨H3, H4, H5, H6, H7, H8, H9, H10, H11, H12⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]
  · unfold owns; iexists _; isplitr; swap; · iexact H8
    ipureintro
    refine (View.read_writes_full _ _ _ _ _).trans ?_
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  isplitl [H9]
  · unfold owns; iexists _; isplitr; swap; · iexact H9
    ipureintro
    refine (View.read_writes_full _ _ _ _ _).trans ?_
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  isplitl [H10]
  · unfold owns; iexists _; isplitr; swap; · iexact H10
    ipureintro
    refine (View.read_writes_full _ _ _ _ _).trans ?_
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  isplitl [H11]
  · unfold owns; iexists _; isplitr; swap; · iexact H11
    ipureintro
    skip
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  unfold owns; iexists _; isplitr; swap; · iexact H12
  ipureintro
  skip
  sl_open_run
  try dsimp only
  simp only [View.readCov, readAt_win, read_put, View.writes_nil, View.read_rep, window_whole]
  try rw [window_whole B.q]
  try rw [window_whole B.k]
  try rw [window_whole B.v]
  try rw [window_whole B.g]
  repeat (first | rw [put_clear] | rw [win_lo] | rw [win_hi] | rw [win_put])
  first
    | rfl
    | simp only [outs, masked, lo_two, hi_two]
      rfl

set_option maxHeartbeats 2000000 in
/-- The first point of a row of blocks: the clearing and the masked update. -/
theorem run_left (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) (h1 : cond1 i = 1#1) (h2 : cond2 i = 1#1) (h3 : ¬cond3 i = 1#1) (h4 : ¬k0_cond4 i = 1#1)
    (K : PUnit → sProp 𝕄) :
    iprop(pre c arg3 harg3 arg4 harg4 arg5 harg5 arg6 harg6 arg7 harg7 arg8 harg8 arg9 harg9 arg10 harg10 arg11 harg11 arg12 harg12 B s x ∗ (pre c arg3 harg3 arg4 harg4 arg5 harg5 arg6 harg6 arg7 harg7 arg8 harg8 arg9 harg9 arg10 harg10 arg11 harg11 arg12 harg12 B (step B i s) (keep B i (step B i s) x) -∗ K ⟨⟩))
      ⊢ wp frame (wpE (defs₀ (F := F)) Variants.none c none) Set.univ (cc0_flash_fwd i arg3 harg3 arg4 harg4 arg5 harg5 arg6 harg6 arg7 harg7 arg8 harg8 arg9 harg9 arg10 harg10 arg11 harg11 arg12 harg12) K := by
  simp only [cc0_flash_fwd_eq_skeleton]; unfold cc0_flash_fwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have e : step B i s = masked B (k0_pay10 (BitVec.ofNat 32 (i 1).val) (BitVec.ofNat 32 (i 2).val)) (clr i s) := by
    unfold step; rw [if_pos h2]
  have e' : clr i s = ⟨k0_pay1, k0_pay2⟩ := if_pos h1
  rw [e, e']
  unfold keep; rw [if_neg h4]
  unfold cond1 at h1; unfold cond2 at h2; unfold cond3 at h3
  rw [pre_eq (s := s)]
  iintro ⟨⟨H3, H4, H5, H6, H7, H8, H9, H10, H11, H12⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  isplitl [H10]; · iapply (rep_owns _ _ _ _); iexact H10
  isplitl [H11]
  · unfold owns; iexists _; isplitr; swap; · iexact H11
    ipureintro
    skip
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  unfold owns; iexists _; isplitr; swap; · iexact H12
  ipureintro
  skip
  sl_open_run
  try dsimp only
  simp only [View.readCov, readAt_win, read_put, View.writes_nil, View.read_rep, window_whole]
  try rw [window_whole B.q]
  try rw [window_whole B.k]
  try rw [window_whole B.v]
  try rw [window_whole B.g]
  repeat (first | rw [put_clear] | rw [win_lo] | rw [win_hi] | rw [win_put])
  first
    | rfl
    | simp only [outs, masked, lo_two, hi_two]
      rfl

set_option maxHeartbeats 2000000 in
/-- A point below the diagonal: the unmasked update. -/
theorem run_inner (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) (h1 : ¬cond1 i = 1#1) (h2 : ¬cond2 i = 1#1) (h3 : cond3 i = 1#1) (h4 : ¬k0_cond4 i = 1#1)
    (K : PUnit → sProp 𝕄) :
    iprop(pre c arg3 harg3 arg4 harg4 arg5 harg5 arg6 harg6 arg7 harg7 arg8 harg8 arg9 harg9 arg10 harg10 arg11 harg11 arg12 harg12 B s x ∗ (pre c arg3 harg3 arg4 harg4 arg5 harg5 arg6 harg6 arg7 harg7 arg8 harg8 arg9 harg9 arg10 harg10 arg11 harg11 arg12 harg12 B (step B i s) (keep B i (step B i s) x) -∗ K ⟨⟩))
      ⊢ wp frame (wpE (defs₀ (F := F)) Variants.none c none) Set.univ (cc0_flash_fwd i arg3 harg3 arg4 harg4 arg5 harg5 arg6 harg6 arg7 harg7 arg8 harg8 arg9 harg9 arg10 harg10 arg11 harg11 arg12 harg12) K := by
  simp only [cc0_flash_fwd_eq_skeleton]; unfold cc0_flash_fwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have e : step B i s = unmasked B (clr i s) := by
    unfold step; rw [if_neg h2, if_pos h3]
  have e' : clr i s = s := if_neg h1
  rw [e, e']
  unfold keep; rw [if_neg h4]
  unfold cond1 at h1; unfold cond2 at h2; unfold cond3 at h3
  rw [pre_eq (s := s)]
  iintro ⟨⟨H3, H4, H5, H6, H7, H8, H9, H10, H11, H12⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]; · iapply (rep_owns _ _ _ _); iexact H8
  isplitl [H9]; · iapply (rep_owns _ _ _ _); iexact H9
  isplitl [H10]; · iapply (rep_owns _ _ _ _); iexact H10
  isplitl [H11]
  · unfold owns; iexists _; isplitr; swap; · iexact H11
    ipureintro
    skip
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  unfold owns; iexists _; isplitr; swap; · iexact H12
  ipureintro
  skip
  sl_open_run
  try dsimp only
  simp only [View.readCov, readAt_win, read_put, View.writes_nil, View.read_rep, window_whole]
  try rw [window_whole B.q]
  try rw [window_whole B.k]
  try rw [window_whole B.v]
  try rw [window_whole B.g]
  repeat (first | rw [put_clear] | rw [win_lo] | rw [win_hi] | rw [win_put])
  first
    | rfl
    | simp only [outs, masked, lo_two, hi_two]
      rfl

set_option maxHeartbeats 2000000 in
/-- A point of the diagonal: the masked update and the storing. -/
theorem run_diag (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) (h1 : ¬cond1 i = 1#1) (h2 : cond2 i = 1#1) (h3 : ¬cond3 i = 1#1) (h4 : k0_cond4 i = 1#1)
    (K : PUnit → sProp 𝕄) :
    iprop(pre c arg3 harg3 arg4 harg4 arg5 harg5 arg6 harg6 arg7 harg7 arg8 harg8 arg9 harg9 arg10 harg10 arg11 harg11 arg12 harg12 B s x ∗ (pre c arg3 harg3 arg4 harg4 arg5 harg5 arg6 harg6 arg7 harg7 arg8 harg8 arg9 harg9 arg10 harg10 arg11 harg11 arg12 harg12 B (step B i s) (keep B i (step B i s) x) -∗ K ⟨⟩))
      ⊢ wp frame (wpE (defs₀ (F := F)) Variants.none c none) Set.univ (cc0_flash_fwd i arg3 harg3 arg4 harg4 arg5 harg5 arg6 harg6 arg7 harg7 arg8 harg8 arg9 harg9 arg10 harg10 arg11 harg11 arg12 harg12) K := by
  simp only [cc0_flash_fwd_eq_skeleton]; unfold cc0_flash_fwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have e : step B i s = masked B (k0_pay10 (BitVec.ofNat 32 (i 1).val) (BitVec.ofNat 32 (i 2).val)) (clr i s) := by
    unfold step; rw [if_pos h2]
  have e' : clr i s = s := if_neg h1
  rw [e, e']
  unfold keep; rw [if_pos h4]
  unfold cond1 at h1; unfold cond2 at h2; unfold cond3 at h3
  rw [pre_eq (s := s)]
  iintro ⟨⟨H3, H4, H5, H6, H7, H8, H9, H10, H11, H12⟩, Hk⟩
  sl_exec
  sl_step
  iapply Hk
  unfold pre
  isplitl [H3]; · iapply (rep_owns _ _ _ _); iexact H3
  isplitl [H4]; · iapply (rep_owns _ _ _ _); iexact H4
  isplitl [H5]; · iapply (rep_owns _ _ _ _); iexact H5
  isplitl [H6]; · iapply (rep_owns _ _ _ _); iexact H6
  isplitl [H7]; · iapply (rep_owns _ _ _ _); iexact H7
  isplitl [H8]
  · unfold owns; iexists _; isplitr; swap; · iexact H8
    ipureintro
    refine (View.read_writes_full _ _ _ _ _).trans ?_
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  isplitl [H9]
  · unfold owns; iexists _; isplitr; swap; · iexact H9
    ipureintro
    refine (View.read_writes_full _ _ _ _ _).trans ?_
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  isplitl [H10]
  · unfold owns; iexists _; isplitr; swap; · iexact H10
    ipureintro
    refine (View.read_writes_full _ _ _ _ _).trans ?_
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  isplitl [H11]
  · unfold owns; iexists _; isplitr; swap; · iexact H11
    ipureintro
    skip
    sl_open_run
    try dsimp only
    simp only [View.readCov, readAt_win, read_put, View.writes_nil, View.read_rep, window_whole]
    try rw [window_whole B.q]
    try rw [window_whole B.k]
    try rw [window_whole B.v]
    try rw [window_whole B.g]
    repeat (first | rw [put_clear] | rw [win_lo] | rw [win_hi] | rw [win_put])
    first
      | rfl
      | simp only [outs, masked, lo_two, hi_two]
        rfl
  unfold owns; iexists _; isplitr; swap; · iexact H12
  ipureintro
  skip
  sl_open_run
  try dsimp only
  simp only [View.readCov, readAt_win, read_put, View.writes_nil, View.read_rep, window_whole]
  try rw [window_whole B.q]
  try rw [window_whole B.k]
  try rw [window_whole B.v]
  try rw [window_whole B.g]
  repeat (first | rw [put_clear] | rw [win_lo] | rw [win_hi] | rw [win_put])
  first
    | rfl
    | simp only [outs, masked, lo_two, hi_two]
      rfl

set_option maxHeartbeats 2000000 in
/-- A point above the diagonal: nothing. -/
theorem run_above (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F) (h1 : ¬cond1 i = 1#1) (h2 : ¬cond2 i = 1#1) (h3 : ¬cond3 i = 1#1) (h4 : ¬k0_cond4 i = 1#1)
    (K : PUnit → sProp 𝕄) :
    iprop(pre c arg3 harg3 arg4 harg4 arg5 harg5 arg6 harg6 arg7 harg7 arg8 harg8 arg9 harg9 arg10 harg10 arg11 harg11 arg12 harg12 B s x ∗ (pre c arg3 harg3 arg4 harg4 arg5 harg5 arg6 harg6 arg7 harg7 arg8 harg8 arg9 harg9 arg10 harg10 arg11 harg11 arg12 harg12 B (step B i s) (keep B i (step B i s) x) -∗ K ⟨⟩))
      ⊢ wp frame (wpE (defs₀ (F := F)) Variants.none c none) Set.univ (cc0_flash_fwd i arg3 harg3 arg4 harg4 arg5 harg5 arg6 harg6 arg7 harg7 arg8 harg8 arg9 harg9 arg10 harg10 arg11 harg11 arg12 harg12) K := by
  simp only [cc0_flash_fwd_eq_skeleton]; unfold cc0_flash_fwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  have e : step B i s = clr i s := by
    unfold step; rw [if_neg h2, if_neg h3]
  have e' : clr i s = s := if_neg h1
  rw [e, e']
  unfold keep; rw [if_neg h4]
  unfold cond1 at h1; unfold cond2 at h2; unfold cond3 at h3
  rw [pre_eq (s := s)]
  iintro ⟨⟨H3, H4, H5, H6, H7, H8, H9, H10, H11, H12⟩, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any grid point: the scratch steps, and on the diagonal the results are stored. -/
theorem run_body (c : Dev nD) (i : grid0.Coords)
    (arg3 : Memref sig .tc .vmem S640x128 .bf16) (harg3 : arg3.IsWhole)
    (arg4 : Memref sig .tc .vmem S640x128 .bf16) (harg4 : arg4.IsWhole)
    (arg5 : Memref sig .tc .vmem S640x128 .bf16) (harg5 : arg5.IsWhole)
    (arg6 : Memref sig .tc .vmem S640x128 .f32) (harg6 : arg6.IsWhole)
    (arg7 : Memref sig .tc .vmem S1x2x640 .f32) (harg7 : arg7.IsWhole)
    (arg8 : Memref sig .tc .vmem S640x128 .f32) (harg8 : arg8.IsWhole)
    (arg9 : Memref sig .tc .vmem S640x128 .bf16) (harg9 : arg9.IsWhole)
    (arg10 : Memref sig .tc .vmem S640x128 .f32) (harg10 : arg10.IsWhole)
    (arg11 : Memref sig .tc .vmem S2x640x128 .f32) (harg11 : arg11.IsWhole)
    (arg12 : Memref sig .tc .vmem S2x640x128 .f32) (harg12 : arg12.IsWhole)
    (B : Blk F) (s : Acc F) (x : Out F)
    (K : PUnit → sProp 𝕄) :
    iprop(pre c arg3 harg3 arg4 harg4 arg5 harg5 arg6 harg6 arg7 harg7 arg8 harg8 arg9 harg9 arg10 harg10 arg11 harg11 arg12 harg12 B s x ∗ (pre c arg3 harg3 arg4 harg4 arg5 harg5 arg6 harg6 arg7 harg7 arg8 harg8 arg9 harg9 arg10 harg10 arg11 harg11 arg12 harg12 B (step B i s) (keep B i (step B i s) x) -∗ K ⟨⟩))
      ⊢ wp frame (wpE (defs₀ (F := F)) Variants.none c none) Set.univ (cc0_flash_fwd i arg3 harg3 arg4 harg4 arg5 harg5 arg6 harg6 arg7 harg7 arg8 harg8 arg9 harg9 arg10 harg10 arg11 harg11 arg12 harg12) K := by
  by_cases h4 : k0_cond4 i = 1#1
  · have g4 := (cond4_iff i).mp h4
    have h2 : cond2 i = 1#1 := (cond2_iff i).mpr (Or.inl g4)
    have h3 : ¬cond3 i = 1#1 := fun h => by have := (cond3_iff i).mp h; omega
    by_cases h1 : cond1 i = 1#1
    · exact run_first c i arg3 harg3 arg4 harg4 arg5 harg5 arg6 harg6 arg7 harg7 arg8 harg8 arg9 harg9 arg10 harg10 arg11 harg11 arg12 harg12 B s x h1 h2 h3 h4 K
    · exact run_diag c i arg3 harg3 arg4 harg4 arg5 harg5 arg6 harg6 arg7 harg7 arg8 harg8 arg9 harg9 arg10 harg10 arg11 harg11 arg12 harg12 B s x h1 h2 h3 h4 K
  · have g4 := (not_congr (cond4_iff i)).mp h4
    by_cases h1 : cond1 i = 1#1
    · have g1 := (cond1_iff i).mp h1
      exact run_left c i arg3 harg3 arg4 harg4 arg5 harg5 arg6 harg6 arg7 harg7 arg8 harg8 arg9 harg9 arg10 harg10 arg11 harg11 arg12 harg12 B s x h1 ((cond2_iff i).mpr (Or.inr g1)) (fun h => by have := (cond3_iff i).mp h; omega) h4 K
    · have g1 := (not_congr (cond1_iff i)).mp h1
      have h2 : ¬cond2 i = 1#1 := fun h => by have := (cond2_iff i).mp h; omega
      by_cases h3 : cond3 i = 1#1
      · exact run_inner c i arg3 harg3 arg4 harg4 arg5 harg5 arg6 harg6 arg7 harg7 arg8 harg8 arg9 harg9 arg10 harg10 arg11 harg11 arg12 harg12 B s x h1 h2 h3 h4 K
      · exact run_above c i arg3 harg3 arg4 harg4 arg5 harg5 arg6 harg6 arg7 harg7 arg8 harg8 arg9 harg9 arg10 harg10 arg11 harg11 arg12 harg12 B s x h1 h2 h3 h4 K

end Cert.FwdIdeal.Hand

end
-- ==== Proof.FwdRun.lean ====
/-
  The frame run of `flash_fwd`: the proof data, the body obligation and the launch.
-/
module

public import proofs.«01_k».proof.Proof.FwdBody
public import Idealize.ShloMosaic.Lib.Pipeline.FrameSuffix

@[expose] public section

noncomputable section

namespace Cert.FwdIdeal.Hand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem coord0 (t : Fin cfg0.N) : (grid0.coords t 0).val = t.val / 169 % 8 := Pipeline.Grid.coords_val t 0 (by decide) rfl
theorem coord1 (t : Fin cfg0.N) : (grid0.coords t 1).val = t.val / 13 % 13 := Pipeline.Grid.coords_val t 1 (by decide) rfl
theorem coord2 (t : Fin cfg0.N) : (grid0.coords t 2).val = t.val % 13 :=
  (Pipeline.Grid.coords_val t 2 (S := 1) (B := 13) (by decide) rfl).trans (by rw [Nat.div_one])

/-- The five blocks that point `t` reads. -/
def blk (c : Dev nD) (t : Fin cfg0.N) : Blk F := ⟨iblk m c 0 t, iblk m c 1 t, iblk m c 2 t, iblk m c 3 t, iblk m c 4 t⟩

/-- The scratch before point `n`. -/
def St (c : Dev nD) : ℕ → Acc F
  | 0 => ⟨k0_pay1, k0_pay2⟩
  | n + 1 => if h : n < cfg0.N then step (blk m c ⟨n, h⟩) (grid0.coords ⟨n, h⟩) (St c n) else St c n

theorem St_succ (c : Dev nD) (t : Fin cfg0.N) : St m c (t.val + 1) = step (blk m c t) (grid0.coords t) (St m c t.val) := by
  rw [St, dif_pos t.isLt]

/-- The results' buffers after point `n`, where a diagonal point of the row of blocks has stored them. -/
def Res (c : Dev nD) : ℕ → Out F
  | 0 => outs (blk m c ⟨0, by rw [show cfg0.N = 1352 from N_0]; decide⟩) ⟨k0_pay1, k0_pay2⟩
  | n + 1 => if h : n < cfg0.N then keep (blk m c ⟨n, h⟩) (grid0.coords ⟨n, h⟩) (St m c (n + 1)) (Res c n) else Res c n

theorem Res_succ (c : Dev nD) (t : Fin cfg0.N) : Res m c (t.val + 1) = keep (blk m c t) (grid0.coords t) (St m c (t.val + 1)) (Res m c t.val) := by
  rw [Res, dif_pos t.isLt]

/-- At the first point of a row of blocks nothing is left of what the scratch held. -/
theorem step_first (B : Blk F) (i : grid0.Coords) (h1 : cond1 i = 1#1) (s s' : Acc F) : step B i s = step B i s' := by
  unfold step clr
  simp only [if_pos h1]

/-- A point's step from what its buffers hold is the step of the recursion. -/
theorem step_St (c : Dev nD) (t : Fin cfg0.N) (s : Acc F) (h : t.val ≠ 0 → s = St m c t.val) :
    step (blk m c t) (grid0.coords t) s = St m c (t.val + 1) := by
  rw [St_succ]
  by_cases h0 : t.val = 0
  · exact step_first _ _ ((cond1_iff _).mpr (by rw [coord2]; omega)) _ _
  · rw [h h0]

/-! ## The proof data -/

/-- The scratch buffers before point `n`: what the recursion says, save before the first point. -/
def Scr (c : Dev nD) (n : ℕ) : sProp 𝕄 :=
  iprop(∃ s : Acc F, ⌜n ≠ 0 → s = St m c n⌝ ∗ owns (c : Thread nD τ) (Memref.whole cc0_scratch0) fullShare s.m
    ∗ owns (c : Thread nD τ) (Memref.whole cc0_scratch1) fullShare s.a)

/-- The proof data on core `c`: an input's buffer holds its block, an output's what the recursion says after the point. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => (Res m c (t.val + 1)).o
    | 6 => fun t => (Res m c (t.val + 1)).og
    | 7 => fun t => (Res m c (t.val + 1)).l
    | ⟨_ + 8, h⟩ => absurd h (Nat.not_lt.2 (Nat.le_add_left _ _))
  Φ n := iprop(Scr m c n.val ∗ ∃ r, prngReg c r)
  q _ := fullShare
  owed _ := 0

theorem A_eq (c : Dev nD) (w : Fin cfg0.W) : (dats m 0 c).A w = V m c (Pipeline.arrRef spec0 w) := by dsimp only [dats]

/-- Where a result's buffer is idle and where it is written back. -/
theorem out_idle (w : Fin cfg0.W) (hw : w = 5 ∨ w = 6 ∨ w = 7) (t : Fin cfg0.N) : cfg0.idle w (cfg0.grid.coords t) = true ↔ t.val % 13 ≠ t.val / 13 % 13 := by
  have h : k0_cond4 (grid0.coords t) = 1#1 ↔ t.val % 13 = t.val / 13 % 13 := by rw [cond4_iff, coord1, coord2]
  have e : (!(k0_cond4 (grid0.coords t) == 1#1)) = true ↔ ¬k0_cond4 (grid0.coords t) = 1#1 := by rw [Bool.not_eq_true', beq_eq_false_iff_ne]
  rcases hw with rfl | rfl | rfl <;> exact e.trans (not_congr h)
theorem out_flush (w : Fin cfg0.W) (hw : w = 5 ∨ w = 6 ∨ w = 7) (t : Fin cfg0.N) : (cfg0.win w).flush t = true ↔ t.val % 13 = 12 := by
  rcases hw with rfl | rfl | rfl
  · exact flush0_5 t
  · exact flush0_6 t
  · exact flush0_7 t

/-- The results' buffers are fresh up to the diagonal of a row of blocks. -/
theorem fresh_out (w : Fin cfg0.W) (hw : w = 5 ∨ w = 6 ∨ w = 7) (n : ℕ) (hn : n ≤ cfg0.N) : cfg0.fresh w n = decide (n % 13 ≤ n / 13 % 13) := by
  refine cfg0.fresh_tab w (fun n => decide (n % 13 ≤ n / 13 % 13)) rfl (fun t => ?_) n hn
  have hf := out_flush w hw t
  have hi := out_idle w hw t
  rw [Bool.eq_iff_iff, decide_eq_true_iff, Bool.or_eq_true, Bool.and_eq_true, decide_eq_true_iff, hf, hi]
  by_cases h12 : t.val % 13 = 12
  · omega
  · have e : (t.val + 1) / 13 = t.val / 13 := by omega
    rw [e]
    omega

/-- Where a result's buffer is idle the point leaves the results as they are. -/
theorem idle_out (w : Fin cfg0.W) (hw : w = 5 ∨ w = 6 ∨ w = 7) (t : Fin cfg0.N) (h : cfg0.idle w (cfg0.grid.coords t) = true) (c : Dev nD) :
    Res m c (t.val + 1) = Res m c t.val := by
  rw [Res_succ]
  exact if_neg (by rw [cond4_iff, coord1, coord2]; exact (out_idle w hw t).mp h)

/-- An input's buffer holds its block. -/
theorem inp0 (c : Dev nD) (t : Fin cfg0.N) (d) : (dats m 0 c).before 0 t d = iblk m c 0 t :=
  before0_0_of m (dats m 0 c) (A_eq m c 0) (fun _ => by dsimp only [dats]) t d
theorem inp1 (c : Dev nD) (t : Fin cfg0.N) (d) : (dats m 0 c).before 1 t d = iblk m c 1 t :=
  before0_1_of m (dats m 0 c) (A_eq m c 1) (fun _ => by dsimp only [dats]) t d
theorem inp2 (c : Dev nD) (t : Fin cfg0.N) (d) : (dats m 0 c).before 2 t d = iblk m c 2 t :=
  before0_2_of m (dats m 0 c) (A_eq m c 2) (fun _ => by dsimp only [dats]) t d
theorem inp3 (c : Dev nD) (t : Fin cfg0.N) (d) : (dats m 0 c).before 3 t d = iblk m c 3 t :=
  before0_3_of m (dats m 0 c) (A_eq m c 3) (fun _ => by dsimp only [dats]) t d
theorem inp4 (c : Dev nD) (t : Fin cfg0.N) (d) : (dats m 0 c).before 4 t d = iblk m c 4 t :=
  before0_4_of m (dats m 0 c) (A_eq m c 4) (fun _ => by dsimp only [dats]) t d

/-- Past the diagonal of a row of blocks a result's buffer holds what was stored there. -/
theorem before_o (c : Dev nD) (t : Fin cfg0.N) (d) (h : ¬t.val % 13 ≤ t.val / 13 % 13) : (dats m 0 c).before 5 t d = (Res m c t.val).o := by
  have e := (dats m 0 c).before_out_traj 5 rfl (fun _ _ => rfl) (fun t ht hi _ => by
    dsimp only [dats]
    rw [idle_out m 5 (Or.inl rfl) t hi c, Nat.sub_add_cancel (Nat.pos_of_ne_zero ht)]) t.val t rfl d
  rw [fresh_out 5 (Or.inl rfl) t.val (Nat.le_of_lt t.isLt), decide_eq_false h, if_neg Bool.false_ne_true] at e
  rw [e]
  dsimp only [dats]
  rw [Nat.sub_add_cancel (Nat.pos_of_ne_zero (by omega))]
theorem before_og (c : Dev nD) (t : Fin cfg0.N) (d) (h : ¬t.val % 13 ≤ t.val / 13 % 13) : (dats m 0 c).before 6 t d = (Res m c t.val).og := by
  have e := (dats m 0 c).before_out_traj 6 rfl (fun _ _ => rfl) (fun t ht hi _ => by
    dsimp only [dats]
    rw [idle_out m 6 (Or.inr (Or.inl rfl)) t hi c, Nat.sub_add_cancel (Nat.pos_of_ne_zero ht)]) t.val t rfl d
  rw [fresh_out 6 (Or.inr (Or.inl rfl)) t.val (Nat.le_of_lt t.isLt), decide_eq_false h, if_neg Bool.false_ne_true] at e
  rw [e]
  dsimp only [dats]
  rw [Nat.sub_add_cancel (Nat.pos_of_ne_zero (by omega))]
theorem before_l (c : Dev nD) (t : Fin cfg0.N) (d) (h : ¬t.val % 13 ≤ t.val / 13 % 13) : (dats m 0 c).before 7 t d = (Res m c t.val).l := by
  have e := (dats m 0 c).before_out_traj 7 rfl (fun _ _ => rfl) (fun t ht hi _ => by
    dsimp only [dats]
    rw [idle_out m 7 (Or.inr (Or.inr rfl)) t hi c, Nat.sub_add_cancel (Nat.pos_of_ne_zero ht)]) t.val t rfl d
  rw [fresh_out 7 (Or.inr (Or.inr rfl)) t.val (Nat.le_of_lt t.isLt), decide_eq_false h, if_neg Bool.false_ne_true] at e
  rw [e]
  dsimp only [dats]
  rw [Nat.sub_add_cancel (Nat.pos_of_ne_zero (by omega))]

/-! ## The body obligation -/

/-- What a window's buffer is left at: what the body says, or, idle and not written back, what it held. -/
def left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem left_intro (c : Dev nD) (w : Fin cfg0.W) (t : Fin cfg0.N) (X)
    (h : cfg0.idle w (cfg0.grid.coords t) = false ∨ (cfg0.win w).flush t = true → X = (dats m 0 c).after w t)
    (h' : cfg0.idle w (cfg0.grid.coords t) = true → (cfg0.win w).flush t = false → ∃ d, X = (dats m 0 c).before w t d) :
    (owns (c : Thread nD τ) ((cfg0.win w).stage (cfg0.slots t w)) fullShare X : sProp 𝕄) ⊢ left m c w t := by
  unfold left
  cases hi : cfg0.idle w (cfg0.grid.coords t)
  · rw [h (Or.inl hi)]
  · cases hf : (cfg0.win w).flush t
    · obtain ⟨d, e⟩ := h' hi hf
      rw [e]
      iintro H
      iexists d
      iexact H
    · rw [h (Or.inr hf)]

/-- An input's buffer is never idle. -/
theorem left_in (c : Dev nD) (w : Fin cfg0.W) (t : Fin cfg0.N) (X) (hi : cfg0.idle w (cfg0.grid.coords t) = false) (h : X = (dats m 0 c).after w t) :
    (owns (c : Thread nD τ) ((cfg0.win w).stage (cfg0.slots t w)) fullShare X : sProp 𝕄) ⊢ left m c w t :=
  left_intro m c w t X (fun _ => h) (fun hi' => absurd (hi.symm.trans hi') Bool.false_ne_true)

/-- A result's buffer is left at what the recursion says, or, idle and not written back, at what it held. -/
theorem left_out (c : Dev nD) (w : Fin cfg0.W) (hw : w = 5 ∨ w = 6 ∨ w = 7) (t : Fin cfg0.N) (d Y)
    (h : t.val % 13 = t.val / 13 % 13 → Y = (dats m 0 c).after w t) (h' : t.val % 13 ≠ t.val / 13 % 13 → Y = (dats m 0 c).before w t d)
    (h'' : ¬t.val % 13 ≤ t.val / 13 % 13 → (dats m 0 c).before w t d = (dats m 0 c).after w t) :
    (owns (c : Thread nD τ) ((cfg0.win w).stage (cfg0.slots t w)) fullShare Y : sProp 𝕄) ⊢ left m c w t := by
  have hi := out_idle w hw t
  have hf := out_flush w hw t
  refine left_intro m c w t _ (fun hh => ?_) (fun hi' _ => ⟨d, h' (hi.mp hi')⟩)
  by_cases e : t.val % 13 = t.val / 13 % 13
  · exact h e
  · rcases hh with hh | hh
    · exact absurd (hi.mpr e) (by rw [hh]; exact Bool.false_ne_true)
    · have := hf.mp hh
      exact (h' e).trans (h'' (by omega))

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ left m c 0 t
    ∗ left m c 1 t
    ∗ left m c 2 t
    ∗ left m c 3 t
    ∗ left m c 4 t
    ∗ left m c 5 t
    ∗ left m c 6 t
    ∗ left m c 7 t)

set_option maxHeartbeats 2000000 in
/-- The body at a point, from what the pipeline hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = iprop(Scr m c t.val ∗ ∃ r, prngReg c r) from rfl,
    show (dats m 0 c).Φ t.succ = iprop(Scr m c (t.val + 1) ∗ ∃ r, prngReg c r) from rfl]
  unfold Scr
  simp only [inp0, inp1, inp2, inp3, inp4]
  iintro ⟨⟨⟨%s, %hs, S0, S1⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (blk m c t)
    s ⟨(dats m 0 c).before 5 t d5, (dats m 0 c).before 6 t d6, (dats m 0 c).before 7 t d7⟩ _)
  rw [step_St m c t s hs]
  unfold pre
  dsimp only [blk]
  isplitl [S0 S1 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  iintro ⟨H0, H1, H2, H3, H4, H5, H6, H7, S0, S1⟩
  isplitl [S0 S1 Hg]
  · isplitl [S0 S1]
    · iexists (St m c (t.val + 1)); isplitr; · ipureintro; exact fun _ => rfl
      isplitl [S0]; · iexact S0
      iexact S1
    iexact Hg
  isplitl [HO]; · iexact HO
  isplitl [H0]; · iapply (left_in m c 0 t (iblk m c 0 t) rfl (by dsimp only [dats])); iexact H0
  isplitl [H1]; · iapply (left_in m c 1 t (iblk m c 1 t) rfl (by dsimp only [dats])); iexact H1
  isplitl [H2]; · iapply (left_in m c 2 t (iblk m c 2 t) rfl (by dsimp only [dats])); iexact H2
  isplitl [H3]; · iapply (left_in m c 3 t (iblk m c 3 t) rfl (by dsimp only [dats])); iexact H3
  isplitl [H4]; · iapply (left_in m c 4 t (iblk m c 4 t) rfl (by dsimp only [dats])); iexact H4
  isplitl [H5]
  · iapply (left_out m c 5 (Or.inl rfl) t d5 (keep (blk m c t) (grid0.coords t) (St m c (t.val + 1)) ⟨(dats m 0 c).before 5 t d5, (dats m 0 c).before 6 t d6, (dats m 0 c).before 7 t d7⟩).o (fun e => by dsimp only [dats]; rw [Res_succ]; unfold keep; rw [if_pos ((cond4_iff _).mpr (by rw [coord1, coord2]; exact e)), if_pos ((cond4_iff _).mpr (by rw [coord1, coord2]; exact e))])
      (fun e => by unfold keep; rw [if_neg (by rw [cond4_iff, coord1, coord2]; exact e)])
      (fun e => by rw [before_o m c t d5 e]; dsimp only [dats]; rw [idle_out m 5 (Or.inl rfl) t ((out_idle 5 (Or.inl rfl) t).mpr (by omega)) c]))
    iexact H5
  isplitl [H6]
  · iapply (left_out m c 6 (Or.inr (Or.inl rfl)) t d6 (keep (blk m c t) (grid0.coords t) (St m c (t.val + 1)) ⟨(dats m 0 c).before 5 t d5, (dats m 0 c).before 6 t d6, (dats m 0 c).before 7 t d7⟩).og (fun e => by dsimp only [dats]; rw [Res_succ]; unfold keep; rw [if_pos ((cond4_iff _).mpr (by rw [coord1, coord2]; exact e)), if_pos ((cond4_iff _).mpr (by rw [coord1, coord2]; exact e))])
      (fun e => by unfold keep; rw [if_neg (by rw [cond4_iff, coord1, coord2]; exact e)])
      (fun e => by rw [before_og m c t d6 e]; dsimp only [dats]; rw [idle_out m 6 (Or.inr (Or.inl rfl)) t ((out_idle 6 (Or.inr (Or.inl rfl)) t).mpr (by omega)) c]))
    iexact H6
  skip
  · iapply (left_out m c 7 (Or.inr (Or.inr rfl)) t d7 (keep (blk m c t) (grid0.coords t) (St m c (t.val + 1)) ⟨(dats m 0 c).before 5 t d5, (dats m 0 c).before 6 t d6, (dats m 0 c).before 7 t d7⟩).l (fun e => by dsimp only [dats]; rw [Res_succ]; unfold keep; rw [if_pos ((cond4_iff _).mpr (by rw [coord1, coord2]; exact e)), if_pos ((cond4_iff _).mpr (by rw [coord1, coord2]; exact e))])
      (fun e => by unfold keep; rw [if_neg (by rw [cond4_iff, coord1, coord2]; exact e)])
      (fun e => by rw [before_l m c t d7 e]; dsimp only [dats]; rw [idle_out m 7 (Or.inr (Or.inr rfl)) t ((out_idle 7 (Or.inr (Or.inr rfl)) t).mpr (by omega)) c]))
    iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 1000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl (fun _ => by unfold bodyPost left; exact .rfl)

/-! ## The launch -/

theorem enter (c : Dev nD) : Pipeline.ΦA spec0 c ⊢ (dats (F := F) m 0 c).Φ 0 := by
  rw [show (dats (F := F) m 0 c).Φ 0 = iprop(Scr m c 0 ∗ ∃ r, prngReg c r) from rfl]
  unfold Pipeline.ΦA Scr
  rw [scopedRest0_eq]
  simp only [owns_whole]
  iintro ⟨⟨⟨%f0, S0⟩, ⟨%f1, S1⟩⟩, Hg⟩
  isplitl [S0 S1]
  · iexists ⟨f0, f1⟩
    isplitr; · ipureintro; exact fun h => absurd rfl h
    isplitl [S0]; · iexact S0
    iexact S1
  iexact Hg

theorem leave (c : Dev nD) : (dats (F := F) m 0 c).Φ (Fin.last cfg0.N) ⊢ Pipeline.ΦA spec0 c := by
  rw [show (dats (F := F) m 0 c).Φ (Fin.last cfg0.N) = iprop(Scr m c cfg0.N ∗ ∃ r, prngReg c r) from rfl]
  unfold Pipeline.ΦA Scr
  rw [scopedRest0_eq]
  simp only [owns_whole]
  iintro ⟨⟨%s, %hs, S0, S1⟩, Hg⟩
  isplitl [S0 S1]
  · isplitl [S0]; · iexists _; iexact S0
    iexists _; iexact S1
  iexact Hg

set_option backward.isDefEq.respectTransparency.types false in
/-- Every execution ends, with the arrays as the proof data say and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m) (hQ' := fun _ h => h)

/-- Every argument ends as it began and every counter at zero. -/
theorem quiescent :
    θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
      ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c)))⟩, h.2⟩) (run_main m ρ)

end Cert.FwdIdeal.Hand

end
-- ==== Proof.FwdSame.lean ====
/-
  The two programs of the attention's forward pass, printed under two names, are one program: the frame at the machine's floats is
  the run of Proof/FwdRun.lean read at those floats.
-/
module

public import proofs.«01_k».proof.Fwd
public import proofs.«01_k».proof.Proof.Gen.Fwd
public import proofs.«01_k».proof.Proof.FwdRun
public import proofs.«01_k».proof.Defs

@[expose] public section

noncomputable section

open Idealize.ShloMosaic Idealize.SL.Sem

namespace Cert.Proof

variable {F : FTy → Type} [FloatOps F] [Cert.Fwd.Facts] [Cert.FwdIdeal.Facts]

set_option maxHeartbeats 0

/-- The two bodies. -/
theorem fwd_body_eq : Cert.Fwd.cc0_flash_fwd (F := F) = Cert.FwdIdeal.cc0_flash_fwd (F := F) := rfl

/-- The first table's row at a point is the first body at that point's buffers, where the two bodies agree; and that is the second table's row. -/
theorem fwd_row (t : Fin Cert.Fwd.grid0.N) (s : (w : Fin 8) → Fin (Cert.Fwd.win0 w).nbuf) :
    Cert.Fwd.defs₀ (F := F) .tc (0 : Fin 1) (t, s) = Cert.FwdIdeal.defs₀ (F := F) .tc (0 : Fin 1) (t, s) :=
  (show Cert.Fwd.defs₀ (F := F) .tc (0 : Fin 1) (t, s) = Cert.Fwd.cc0_flash_fwd (Cert.Fwd.grid0.coords t) (Cert.Fwd.win0_0.stage (s 0)) (Cert.Fwd.Facts₀.hstage0_0 ((s 0).cast Cert.Fwd.Facts₀.nbuf0_0)) (Cert.Fwd.win0_1.stage (s 1)) (Cert.Fwd.Facts₀.hstage0_1 ((s 1).cast Cert.Fwd.Facts₀.nbuf0_1)) (Cert.Fwd.win0_2.stage (s 2)) (Cert.Fwd.Facts₀.hstage0_2 ((s 2).cast Cert.Fwd.Facts₀.nbuf0_2)) (Cert.Fwd.win0_3.stage (s 3)) (Cert.Fwd.Facts₀.hstage0_3 ((s 3).cast Cert.Fwd.Facts₀.nbuf0_3)) (Cert.Fwd.win0_4.stage (s 4)) (Cert.Fwd.Facts₀.hstage0_4 ((s 4).cast Cert.Fwd.Facts₀.nbuf0_4)) (Cert.Fwd.win0_5.stage (s 5)) (Cert.Fwd.Facts₀.hstage0_5 ((s 5).cast Cert.Fwd.Facts₀.nbuf0_5)) (Cert.Fwd.win0_6.stage (s 6)) (Cert.Fwd.Facts₀.hstage0_6 ((s 6).cast Cert.Fwd.Facts₀.nbuf0_6)) (Cert.Fwd.win0_7.stage (s 7)) (Cert.Fwd.Facts₀.hstage0_7 ((s 7).cast Cert.Fwd.Facts₀.nbuf0_7)) (Memref.whole Cert.Fwd.cc0_scratch0) (Memref.isWhole_whole _) (Memref.whole Cert.Fwd.cc0_scratch1) (Memref.isWhole_whole _) from rfl).trans
    ((congrArg (fun f => f (Cert.Fwd.grid0.coords t) (Cert.Fwd.win0_0.stage (s 0)) (Cert.Fwd.Facts₀.hstage0_0 ((s 0).cast Cert.Fwd.Facts₀.nbuf0_0)) (Cert.Fwd.win0_1.stage (s 1)) (Cert.Fwd.Facts₀.hstage0_1 ((s 1).cast Cert.Fwd.Facts₀.nbuf0_1)) (Cert.Fwd.win0_2.stage (s 2)) (Cert.Fwd.Facts₀.hstage0_2 ((s 2).cast Cert.Fwd.Facts₀.nbuf0_2)) (Cert.Fwd.win0_3.stage (s 3)) (Cert.Fwd.Facts₀.hstage0_3 ((s 3).cast Cert.Fwd.Facts₀.nbuf0_3)) (Cert.Fwd.win0_4.stage (s 4)) (Cert.Fwd.Facts₀.hstage0_4 ((s 4).cast Cert.Fwd.Facts₀.nbuf0_4)) (Cert.Fwd.win0_5.stage (s 5)) (Cert.Fwd.Facts₀.hstage0_5 ((s 5).cast Cert.Fwd.Facts₀.nbuf0_5)) (Cert.Fwd.win0_6.stage (s 6)) (Cert.Fwd.Facts₀.hstage0_6 ((s 6).cast Cert.Fwd.Facts₀.nbuf0_6)) (Cert.Fwd.win0_7.stage (s 7)) (Cert.Fwd.Facts₀.hstage0_7 ((s 7).cast Cert.Fwd.Facts₀.nbuf0_7)) (Memref.whole Cert.Fwd.cc0_scratch0) (Memref.isWhole_whole _) (Memref.whole Cert.Fwd.cc0_scratch1) (Memref.isWhole_whole _)) (fwd_body_eq (F := F))).trans
      (show Cert.FwdIdeal.cc0_flash_fwd (F := F) (Cert.Fwd.grid0.coords t) (Cert.Fwd.win0_0.stage (s 0)) (Cert.Fwd.Facts₀.hstage0_0 ((s 0).cast Cert.Fwd.Facts₀.nbuf0_0)) (Cert.Fwd.win0_1.stage (s 1)) (Cert.Fwd.Facts₀.hstage0_1 ((s 1).cast Cert.Fwd.Facts₀.nbuf0_1)) (Cert.Fwd.win0_2.stage (s 2)) (Cert.Fwd.Facts₀.hstage0_2 ((s 2).cast Cert.Fwd.Facts₀.nbuf0_2)) (Cert.Fwd.win0_3.stage (s 3)) (Cert.Fwd.Facts₀.hstage0_3 ((s 3).cast Cert.Fwd.Facts₀.nbuf0_3)) (Cert.Fwd.win0_4.stage (s 4)) (Cert.Fwd.Facts₀.hstage0_4 ((s 4).cast Cert.Fwd.Facts₀.nbuf0_4)) (Cert.Fwd.win0_5.stage (s 5)) (Cert.Fwd.Facts₀.hstage0_5 ((s 5).cast Cert.Fwd.Facts₀.nbuf0_5)) (Cert.Fwd.win0_6.stage (s 6)) (Cert.Fwd.Facts₀.hstage0_6 ((s 6).cast Cert.Fwd.Facts₀.nbuf0_6)) (Cert.Fwd.win0_7.stage (s 7)) (Cert.Fwd.Facts₀.hstage0_7 ((s 7).cast Cert.Fwd.Facts₀.nbuf0_7)) (Memref.whole Cert.Fwd.cc0_scratch0) (Memref.isWhole_whole _) (Memref.whole Cert.Fwd.cc0_scratch1) (Memref.isWhole_whole _) = Cert.FwdIdeal.defs₀ (F := F) .tc (0 : Fin 1) (t, s) from rfl))

/-- The tables of bodies. -/
theorem fwd_bodies_eq : Cert.Fwd.defs₀ (F := F) = Cert.FwdIdeal.defs₀ (F := F) := by
  funext p ℓ a
  cases p with
  | tc =>
    match ℓ, a with
    | ⟨0, _⟩, (t, s) => exact fwd_row t s
  | scScalar => rfl
  | scVector => rfl

/-- The tables of procedures. -/
theorem fwd_tables_eq : Cert.Fwd.defs (F := F) = Cert.FwdIdeal.defs (F := F) :=
  congrArg (fun d => Pipeline.defs Cert.Fwd.pcfgs d) (fwd_bodies_eq (F := F))

/-- The forward pass at the machine's floats ends with its arguments unchanged and every counter at zero. -/
theorem frame_fwd : Cert.quiescent_Fwd := by
  unfold Cert.quiescent_Fwd
  intro m ρ h
  rw [fwd_tables_eq]
  exact Cert.FwdIdeal.Hand.quiescent (F := Bits) m ρ

end Cert.Proof

end
-- ==== Proof.FwdModel.lean ====
/-
  The forward pass of the forgetting attention: real weights, and weighted sums of values, which may be infinite, over the first keys of the
  sequence, with a shift of the scores that the quotient of two such sums does not depend on. Rows are 0 … 8319, of which the first 112 are padding; column
  `64 h + d` of an array belongs to head `h`.
-/
module

public import proofs.«01_k».proof.Proof.Model
public import Idealize.ShloMosaic.PureOps.Ideal.Laws

@[expose] public section

noncomputable section

namespace Cert.FwdModel

open Cert.Model
open Idealize.ShloMosaic

/-- The arguments: scaled queries, keys and a head's forget sums, all real, and values and gates that may be infinite. -/
structure FArgs where
  q : ℕ → ℕ → ℝ
  k : ℕ → ℕ → ℝ
  v : ℕ → ℕ → EReal
  g : ℕ → ℕ → EReal
  c : ℕ → ℕ → ℝ

/-- The arguments' elements are the model's; the gates begin at column 3072 of a wider array. -/
structure FHolds (A : FArgs) (x0 x1 x2 : FVec Ideal ⟨2, ![8320, 1024]⟩ .bf16) (x3 : FVec Ideal ⟨2, ![8320, 4224]⟩ .f32)
    (x4 : FVec Ideal ⟨3, ![8, 2, 8320]⟩ .f32) : Prop where
  q : ∀ i, x0 i = ((A.q (i 0).val (i 1).val : ℝ) : EReal)
  k : ∀ i, x1 i = ((A.k (i 0).val (i 1).val : ℝ) : EReal)
  v : ∀ i, x2 i = A.v (i 0).val (i 1).val
  g : ∀ i, 3072 ≤ (i 1).val → x3 i = A.g (i 0).val ((i 1).val - 3072)
  c : ∀ i, x4 i = ((A.c (2 * (i 0).val + (i 1).val) (i 2).val : ℝ) : EReal)

variable (A : FArgs)

/-- The score of a head, without the row's forget sum. -/
def fs (h i j : ℕ) : ℝ := (∑ d : Fin 64, A.q i (64 * h + d.val) * A.k j (64 * h + d.val)) - A.c h j

/-- The weight before its normalisation, the scores shifted by `M`. -/
def wt (M : ℝ) (h i j : ℕ) : ℝ := if Sees i j then Real.exp (fs A h i j - M) else 0

/-- The weighted sum of `u` over the first `n` keys, and the sum of the weights, a real number. -/
def acc (u : ℕ → EReal) (M : ℝ) (h i n : ℕ) : EReal := ∑ j ∈ Finset.range n, ((wt A M h i j : ℝ) : EReal) * u j
def den (M : ℝ) (h i n : ℕ) : ℝ := ∑ j ∈ Finset.range n, wt A M h i j

/-- The attention's output, the output under its gate, and the logarithm of its normaliser. -/
def out (i x : ℕ) : EReal := acc A (fun j => A.v j x) 0 (x / 64) i 8320 * (((den A 0 (x / 64) i 8320)⁻¹ : ℝ) : EReal)
def gated (i x : ℕ) : EReal := out A i x * Ideal.div ((1 : ℝ) : EReal) (((1 : ℝ) : EReal) + Ideal.exp (-A.g i x))
def lse (i x : ℕ) : ℝ := Real.log (den A 0 (x / 64) i 8320)

theorem acc_zero (u : ℕ → EReal) (M : ℝ) (h i : ℕ) : acc A u M h i 0 = 0 := rfl

theorem wt_shift (M M' : ℝ) (h i j : ℕ) : wt A M' h i j = Real.exp (M - M') * wt A M h i j := by
  unfold wt
  split
  · rw [← Real.exp_add]; congr 1; ring
  · rw [mul_zero]

/-- A quotient by a real number. -/
theorem div_real (x : EReal) (r : ℝ) (h : r ≠ 0) : Ideal.div x ((r : ℝ) : EReal) = x * ((r⁻¹ : ℝ) : EReal) := by
  unfold Ideal.div
  rw [if_neg (by rw [EReal.coe_eq_zero]; exact h), ← EReal.coe_inv]

/-- A factor that is real and not negative goes into a sum. -/
theorem mul_sum {ι : Type} (r : ℝ) (hr : 0 ≤ r) (t : Finset ι) (f : ι → EReal) : ((r : ℝ) : EReal) * ∑ j ∈ t, f j = ∑ j ∈ t, ((r : ℝ) : EReal) * f j := by
  classical
  induction t using Finset.induction_on with
  | empty => rw [Finset.sum_empty, Finset.sum_empty, mul_zero]
  | insert j t hj ih =>
    rw [Finset.sum_insert hj, Finset.sum_insert hj, EReal.left_distrib_of_nonneg_of_ne_top (EReal.coe_nonneg.2 hr) (EReal.coe_ne_top r), ih]

/-- The sum of the weights as the weighted sum of ones. -/
theorem acc_one (M : ℝ) (h i n : ℕ) : acc A (fun _ => 1) M h i n = ((den A M h i n : ℝ) : EReal) := by
  unfold acc den
  rw [← Fin.sum_univ_eq_sum_range (fun j => wt A M h i j) n, ← Fin.sum_univ_eq_sum_range (fun j => ((wt A M h i j : ℝ) : EReal) * 1) n]
  exact sum_coe fun j => mul_one _

/-- Another shift. -/
theorem acc_shift (u : ℕ → EReal) (M M' : ℝ) (h i n : ℕ) : acc A u M' h i n = ((Real.exp (M - M') : ℝ) : EReal) * acc A u M h i n := by
  unfold acc
  rw [mul_sum _ (Real.exp_pos _).le]
  exact Finset.sum_congr rfl fun j _ => by rw [wt_shift A M M', EReal.coe_mul, mul_assoc]

theorem den_shift (M M' : ℝ) (h i n : ℕ) : den A M' h i n = Real.exp (M - M') * den A M h i n := by
  unfold den
  rw [Finset.mul_sum]
  exact Finset.sum_congr rfl fun j _ => wt_shift A M M' h i j

/-- One block of keys more. -/
theorem acc_block (u : ℕ → EReal) (M : ℝ) (h i j : ℕ) :
    acc A u M h i (640 * (j + 1)) = acc A u M h i (640 * j) + ∑ d : Fin 640, ((wt A M h i (640 * j + d.val) : ℝ) : EReal) * u (640 * j + d.val) := by
  unfold acc
  rw [Fin.sum_univ_eq_sum_range (fun d => ((wt A M h i (640 * j + d) : ℝ) : EReal) * u (640 * j + d)) 640, show 640 * (j + 1) = 640 * j + 640 by omega, Finset.sum_range_add]

/-- Past the row's own key no key counts. -/
theorem acc_all (u : ℕ → EReal) (M : ℝ) (h i n : ℕ) (h1 : i < n) (h2 : n ≤ 8320) : acc A u M h i n = acc A u M h i 8320 := by
  unfold acc
  refine Finset.sum_subset (fun x hx => Finset.mem_range.2 (Nat.lt_of_lt_of_le (Finset.mem_range.1 hx) h2)) fun j _ hj => ?_
  have hj' : n ≤ j := Nat.le_of_not_lt fun h => hj (Finset.mem_range.2 h)
  rw [wt, if_neg fun s => by have := s.1; omega, EReal.coe_zero, zero_mul]

theorem wt_nonneg (M : ℝ) (h i j : ℕ) : 0 ≤ wt A M h i j := by
  unfold wt; split
  · exact (Real.exp_pos _).le
  · exact le_rfl

theorem den_nonneg (M : ℝ) (h i n : ℕ) : 0 ≤ den A M h i n := Finset.sum_nonneg fun j _ => wt_nonneg A M h i j

/-- A row past the padding has a positive normaliser. -/
theorem den_pos (M : ℝ) (h i : ℕ) (h1 : 112 ≤ i) (h2 : i < 8320) : 0 < den A M h i 8320 := by
  refine Finset.sum_pos' (fun j _ => wt_nonneg A M h i j) ⟨i, Finset.mem_range.2 h2, ?_⟩
  rw [wt, if_pos ⟨le_rfl, h1⟩]; exact Real.exp_pos _

/-- The output with any shift. -/
theorem out_shift (M : ℝ) (i x : ℕ) :
    acc A (fun j => A.v j x) M (x / 64) i 8320 * (((den A M (x / 64) i 8320)⁻¹ : ℝ) : EReal) = out A i x := by
  unfold out
  have e := (Real.exp_pos (0 - M)).ne'
  rw [acc_shift A _ 0 M, den_shift A 0 M, mul_comm ((Real.exp (0 - M) : ℝ) : EReal), mul_assoc, ← EReal.coe_mul]
  refine congrArg (fun y : ℝ => _ * ((y : ℝ) : EReal)) ?_
  rw [mul_inv, ← mul_assoc, mul_inv_cancel₀ e, one_mul]

/-- The logarithm of the normaliser from any shift. -/
theorem lse_shift (M : ℝ) (i x : ℕ) (h : 0 < den A M (x / 64) i 8320) :
    M + Real.log (den A M (x / 64) i 8320) = lse A i x := by
  unfold lse
  rw [den_shift A M 0, Real.log_mul (Real.exp_pos _).ne' h.ne', Real.log_exp, sub_zero]

/-- A row without keys. -/
theorem lse_none (M : ℝ) (i x : ℕ) (h : den A M (x / 64) i 8320 = 0) : lse A i x = 0 := by
  unfold lse
  rw [den_shift A M 0, h, mul_zero, Real.log_zero]

/-- A sum over the lanes, of which only one head's count. -/
theorem half_lanes (h : ℕ) (hh : h < 2) (f g : ℕ → ℝ) :
    (∑ d : Fin 128, (if d.val / 64 = h then f d.val else 0) * g d.val) = ∑ d : Fin 64, f (64 * h + d.val) * g (64 * h + d.val) := by
  rw [Fin.sum_univ_eq_sum_range (fun d => (if d / 64 = h then f d else 0) * g d) 128,
    Fin.sum_univ_eq_sum_range (fun d => f (64 * h + d) * g (64 * h + d)) 64, show (128 : ℕ) = 64 + 64 from rfl, Finset.sum_range_add]
  have low : ∀ d ∈ Finset.range 64, d / 64 = 0 := fun d hd => Nat.div_eq_of_lt (Finset.mem_range.1 hd)
  have high : ∀ d ∈ Finset.range 64, (64 + d) / 64 = 1 := fun d hd => by have := Finset.mem_range.1 hd; omega
  rcases (show h = 0 ∨ h = 1 by omega) with rfl | rfl
  · rw [Finset.sum_eq_zero (f := fun d => (if (64 + d) / 64 = 0 then f (64 + d) else 0) * g (64 + d)) fun d hd => by rw [high d hd, if_neg one_ne_zero, zero_mul], add_zero]
    exact Finset.sum_congr rfl fun d hd => by rw [low d hd, if_pos rfl, Nat.mul_zero, Nat.zero_add]
  · rw [Finset.sum_eq_zero (f := fun d => (if d / 64 = 1 then f d else 0) * g d) fun d hd => by rw [low d hd, if_neg zero_ne_one, zero_mul], zero_add]
    exact Finset.sum_congr rfl fun d hd => by rw [high d hd, if_pos rfl, Nat.mul_one]

end Cert.FwdModel

end
-- ==== Proof.FwdFinite.lean ====
/-
  The forward pass's precondition: the queries, the keys and the forget sums are real numbers, so the arguments are arrays of the model.
-/
module

public import proofs.«01_k».proof.Defs
public import proofs.«01_k».proof.Proof.Gen.Pre_finite_fwd
public import proofs.«01_k».proof.Proof.Finite
public import proofs.«01_k».proof.Proof.FwdModel

@[expose] public section

noncomputable section

namespace Cert.Pre_finite_fwd.Real

open Cert.Pre_finite_fwd Cert.Pre_finite_fwd.Gen Cert.Model Cert.FwdModel Cert.KernelIdeal.Prefix
open Cert.Pre_finite.Real (real_of_bit reader reader_is)
open Idealize.ShloMosaic

instance : Subsingleton S_.Idx := ⟨fun a b => funext fun k => k.elim0⟩

variable {x0 x1 x2 : FVec Ideal S8320x1024 .bf16} {x3 : FVec Ideal S8320x4224 .f32} {x4 : FVec Ideal S8x2x8320 .f32}

/-- Under the precondition the elements of these three arguments are real. -/
theorem reals (h : fn (F := Ideal) x0 x1 x2 x3 x4 = fun _ => 1#1) :
    (∀ i, x0 i = (((show EReal from x0 i).toReal : ℝ) : EReal)) ∧ (∀ i, x1 i = (((show EReal from x1 i).toReal : ℝ) : EReal))
      ∧ (∀ i, x4 i = (((show EReal from x4 i).toReal : ℝ) : EReal)) := by
  have e := congrFun h (Shape.Idx.first h_S_)
  dsimp only [fn] at e
  obtain ⟨e, e4⟩ := IntOp.andi_eq_one.1 e
  obtain ⟨e0, e1⟩ := IntOp.andi_eq_one.1 e
  exact ⟨fun i => real_of_bit _ (Host.reduce_andi_all _ _ _ _ _ e0 i), fun i => real_of_bit _ (Host.reduce_andi_all _ _ _ _ _ e1 i),
    fun i => real_of_bit _ (Host.reduce_andi_all _ _ _ _ _ e4 i)⟩

/-- The function of the forget sums' head and position, zero outside the array. -/
def sums (x : FVec Ideal S8x2x8320 .f32) (h j : ℕ) : ℝ :=
  if e : h < 16 ∧ j < 8320 then (show EReal from x (i3 (h / 2) (h % 2) j (by omega) (by omega) e.2)).toReal else 0

theorem sums_is (x : FVec Ideal S8x2x8320 .f32) (h : ∀ i, x i = (((show EReal from x i).toReal : ℝ) : EReal)) (i : S8x2x8320.Idx) :
    x i = ((sums x (2 * (i 0).val + (i 1).val) (i 2).val : ℝ) : EReal) := by
  have h0 : (i 0).val < 8 := (i 0).isLt
  have h1 : (i 1).val < 2 := (i 1).isLt
  have h2 : (i 2).val < 8320 := (i 2).isLt
  have e : (i3 ((2 * (i 0).val + (i 1).val) / 2) ((2 * (i 0).val + (i 1).val) % 2) (i 2).val (by omega) (by omega) h2 : S8x2x8320.Idx) = i :=
    funext fun k => match k with
    | ⟨0, _⟩ => Fin.ext (show (2 * (i 0).val + (i 1).val) / 2 = (i 0).val by omega)
    | ⟨1, _⟩ => Fin.ext (show (2 * (i 0).val + (i 1).val) % 2 = (i 1).val by omega)
    | ⟨2, _⟩ => rfl
  unfold sums
  rw [dif_pos ⟨by omega, h2⟩, e]
  exact h i

/-- An array's elements by row and column, zero outside the array. -/
def entries {a b : ℕ} {φ : FTy} (x : FVec Ideal ⟨2, ![a, b]⟩ φ) (i y : ℕ) : EReal :=
  if h : i < a ∧ y < b then x (ix2 (⟨i, h.1⟩ : Fin a) (⟨y, h.2⟩ : Fin b)) else 0

theorem entries_is {a b : ℕ} {φ : FTy} (x : FVec Ideal ⟨2, ![a, b]⟩ φ) (i : (⟨2, ![a, b]⟩ : Shape).Idx) : x i = entries x (i 0).val (i 1).val := by
  have h0 : (i 0).val < a := (i 0).isLt
  have h1 : (i 1).val < b := (i 1).isLt
  have e : (ix2 (⟨(i 0).val, h0⟩ : Fin a) (⟨(i 1).val, h1⟩ : Fin b) : (⟨2, ![a, b]⟩ : Shape).Idx) = i := funext fun k => match k with
    | ⟨0, _⟩ => rfl
    | ⟨1, _⟩ => rfl
  unfold entries
  rw [dif_pos ⟨h0, h1⟩, e]

/-- The model's arrays. -/
def args (x0 x1 x2 : FVec Ideal S8320x1024 .bf16) (x3 : FVec Ideal S8320x4224 .f32) (x4 : FVec Ideal S8x2x8320 .f32) : FArgs where
  q := reader (fun i => (x0 i : EReal))
  k := reader (fun i => (x1 i : EReal))
  v := entries x2
  g i y := entries x3 i (3072 + y)
  c := sums x4

theorem holds (h : fn (F := Ideal) x0 x1 x2 x3 x4 = fun _ => 1#1) : FHolds (args x0 x1 x2 x3 x4) x0 x1 x2 x3 x4 := by
  obtain ⟨h0, h1, h4⟩ := reals h
  refine ⟨fun i => reader_is (fun i => (x0 i : EReal)) h0 i, fun i => reader_is (fun i => (x1 i : EReal)) h1 i, fun i => entries_is x2 i,
    fun i hi => (entries_is x3 i).trans ?_, fun i => sums_is x4 h4 i⟩
  show _ = entries x3 (i 0).val (3072 + ((i 1).val - 3072))
  rw [Nat.add_sub_cancel' hi]

end Cert.Pre_finite_fwd.Real

end
-- ==== Proof.FwdTile.lean ====
/-
  One head's update at real scores: the running maximum stays a real number of each row, the same in all lanes, and the weighted
  sums gain the keys of one more block.
-/
module

public import proofs.«01_k».proof.Proof.Num
public import proofs.«01_k».proof.Proof.FwdModel
public import proofs.«01_k».proof.Proof.FwdState
public import Idealize.ShloMosaic.Lib.Pointwise

@[expose] public section

noncomputable section

namespace Cert.FwdIdeal.Real

open Cert.FwdIdeal Cert.FwdIdeal.Gen Cert.FwdIdeal.Hand Cert.Model Cert.FwdModel Cert.Num
open Idealize.ShloMosaic Idealize.ShloMosaic.TcCoe

theorem re2 (f : ℕ → ℕ → ℝ) {a b a' b' : ℕ} (h1 : a = a') (h2 : b = b') : ((f a b : ℝ) : EReal) = ((f a' b' : ℝ) : EReal) := by rw [h1, h2]

/-! ## The operands of a point -/

/-- Block `b` of queries and gates and block `j` of keys, values and forget sums of the head pair `p`. -/
structure Of (A : FArgs) (p b j : ℕ) (B : Blk Ideal) : Prop where
  q : ∀ i, B.q i = ((A.q (640 * b + (i 0).val) (128 * p + (i 1).val) : ℝ) : EReal)
  k : ∀ i, B.k i = ((A.k (640 * j + (i 0).val) (128 * p + (i 1).val) : ℝ) : EReal)
  v : ∀ i, B.v i = A.v (640 * j + (i 0).val) (128 * p + (i 1).val)
  g : ∀ i, B.g i = A.g (640 * b + (i 0).val) (128 * p + (i 1).val)
  c : ∀ i, B.c i = ((A.c (2 * p + (i 1).val) (640 * j + (i 2).val) : ℝ) : EReal)

section Operands

variable {A : FArgs} {p b j : ℕ} {B : Blk Ideal} (H : Of A p b j B)
include H

theorem Of.c0 (i : S1x1x640.Idx) : B.c0 i = ((A.c (2 * p + 0) (640 * j + (i 2).val) : ℝ) : EReal) := by
  have h1 : (i 1).val < 1 := (i 1).isLt
  exact (H.c _).trans (re2 A.c (show 2 * p + (0 + 1 * (i 1).val) = 2 * p + 0 by omega) (show 640 * j + (0 + 1 * (i 2).val) = 640 * j + (i 2).val by omega))

theorem Of.c1 (i : S1x1x640.Idx) : B.c1 i = ((A.c (2 * p + 1) (640 * j + (i 2).val) : ℝ) : EReal) := by
  have h1 : (i 1).val < 1 := (i 1).isLt
  exact (H.c _).trans (re2 A.c (show 2 * p + (1 + 1 * (i 1).val) = 2 * p + 1 by omega) (show 640 * j + (0 + 1 * (i 2).val) = 640 * j + (i 2).val by omega))

end Operands

/-! ## Selections and the mask -/

/-- The lanes of the pair's first and second head. -/
theorem half0 (i : S640x128.Idx) : k0_pay9 i = if (i 1).val / 64 = 0 then 1#1 else 0#1 := by
  have h1 : (i 1).val < 128 := (i 1).isLt
  have e : k0_pay9 i = IntOp.cmpi .slt (BitVec.ofNat 32 (0 * 128 + (i 1).val)) (BitVec.ofNat 32 64) := rfl
  rw [e, slt_bit _ _ (by omega) (by omega)]
  exact if_congr (by omega) rfl rfl

theorem half1 (i : S640x128.Idx) : k0_pay13 i = if (i 1).val / 64 = 1 then 1#1 else 0#1 := by
  have h1 : (i 1).val < 128 := (i 1).isLt
  have e : k0_pay13 i = IntOp.xori (k0_pay9 i) 1#1 := rfl
  rw [e, half0]
  by_cases h : (i 1).val / 64 = 0
  · rw [if_pos h, if_neg (by omega)]; rfl
  · rw [if_neg h, if_pos (by omega)]; rfl

theorem mask_is (b j : ℕ) (hb : b < 13) (hj : j < 13) (i : S640x640.Idx) :
    k0_pay10 (BitVec.ofNat 32 b) (BitVec.ofNat 32 j) i = if Sees (640 * b + (i 0).val) (640 * j + (i 1).val) then 1#1 else 0#1 := by
  have h0 : (i 0).val < 640 := (i 0).isLt
  have h1 : (i 1).val < 640 := (i 1).isLt
  have pos : ∀ n r : ℕ, IntOp.addi (IntOp.muli (BitVec.ofNat 32 n) 640#32) (BitVec.ofNat 32 (0 * 640 + r)) = BitVec.ofNat 32 (640 * n + r) := by
    intro n r
    show BitVec.ofNat 32 n * BitVec.ofNat 32 640 + BitVec.ofNat 32 (0 * 640 + r) = _
    rw [← BitVec.ofNat_mul, ← BitVec.ofNat_add]
    congr 1; omega
  have e : k0_pay10 (BitVec.ofNat 32 b) (BitVec.ofNat 32 j) i
      = IntOp.andi
          (IntOp.cmpi .sle (IntOp.addi (IntOp.muli (BitVec.ofNat 32 j) 640#32) (BitVec.ofNat 32 (0 * 640 + (i 1).val)))
            (IntOp.addi (IntOp.muli (BitVec.ofNat 32 b) 640#32) (BitVec.ofNat 32 (0 * 640 + (i 0).val))))
          (IntOp.cmpi .sge (IntOp.addi (IntOp.muli (BitVec.ofNat 32 j) 640#32) (BitVec.ofNat 32 (0 * 640 + (i 1).val))) (BitVec.ofNat 32 112)) := rfl
  rw [e, pos, pos, sle_bit _ _ (by omega) (by omega), sge_bit _ _ (by omega) (by omega), and_bit]

/-- The number that stands for minus infinity is real. -/
def least : ℝ := (Ideal.ofBits .f32 0xF149F2CA#32).toReal
theorem least_eq : Ideal.ofBits .f32 0xF149F2CA#32 = ((least : ℝ) : EReal) := by
  refine (EReal.coe_toReal ?_ ?_).symm
  · simp only [Ideal.ofBits, Ideal.ieee]
    split
    · rename_i h; exact absurd h (by decide)
    · split <;> exact EReal.coe_ne_top _
  · simp only [Ideal.ofBits, Ideal.ieee]
    split
    · rename_i h; exact absurd h (by decide)
    · split <;> exact EReal.coe_ne_bot _

/-! ## Products and scores -/

/-- Rows against rows. -/
theorem mm_nt {x y : FVec Ideal S640x128 .bf16} {f g : ℕ → ℕ → ℝ} (hx : ∀ i, x i = ((f (i 0).val (i 1).val : ℝ) : EReal))
    (hy : ∀ i, y i = ((g (i 0).val (i 1).val : ℝ) : EReal)) (i : S640x640.Idx) :
    matmul dot_S640x128_S640x128_S640x640_1_1_0_0_n_n none x y (constant (F := Ideal) S640x640 .f32 0x00000000#32) i
      = ((∑ d : Fin 128, f (i 0).val d.val * g (i 1).val d.val : ℝ) : EReal) := by
  unfold matmul
  rw [Ideal.matmul_def, Ideal.matmul_apply₁_of (K := 128) dot_S640x128_S640x128_S640x640_1_1_0_0_n_n rfl rfl x y _ i
    (fun k => ix2 (⟨(i 0).val, (i 0).isLt⟩ : Fin 640) (k : Fin 128)) (fun k => ix2 (⟨(i 1).val, (i 1).isLt⟩ : Fin 640) (k : Fin 128))
    (fun k => by simp only [pointwise]) (fun k => by simp only [pointwise])]
  rw [constant_apply, Ideal.ofBits_def, Ideal.ofBits_zero_f32, zero_add]
  exact sum_coe fun d => by rw [hx, hy, ← EReal.coe_mul]; rfl

/-- Rows against columns. -/
theorem mm_nn {x : FVec Ideal S640x640 .bf16} {y : FVec Ideal S640x128 .bf16} {f : ℕ → ℕ → ℝ} {g : ℕ → ℕ → EReal} (hx : ∀ i, x i = ((f (i 0).val (i 1).val : ℝ) : EReal))
    (hy : ∀ i, y i = g (i 0).val (i 1).val) (i : S640x128.Idx) :
    matmul dot_S640x640_S640x128_S640x128_1_0_0_1_n_n none x y (constant (F := Ideal) S640x128 .f32 0x00000000#32) i
      = ∑ d : Fin 640, ((f (i 0).val d.val : ℝ) : EReal) * g d.val (i 1).val := by
  unfold matmul
  rw [Ideal.matmul_def, Ideal.matmul_apply₁_of (K := 640) dot_S640x640_S640x128_S640x128_1_0_0_1_n_n rfl rfl x y _ i
    (fun k => ix2 (⟨(i 0).val, (i 0).isLt⟩ : Fin 640) (k : Fin 640)) (fun k => ix2 (k : Fin 640) (⟨(i 1).val, (i 1).isLt⟩ : Fin 128))
    (fun k => by simp only [pointwise]) (fun k => by simp only [pointwise])]
  rw [constant_apply, Ideal.ofBits_def, Ideal.ofBits_zero_f32, zero_add]
  exact Finset.sum_congr rfl fun d _ => by rw [hx, hy]; rfl

/-- A row broadcast over the rows. -/
theorem bc_row (v : FVec Ideal S1x1x640 .f32) (i : S640x640.Idx) :
    broadcastTo S640x640 (shapeCast S1x640 v shapeCasts_S1x1x640_S1x640) broadcasts_S1x640_S640x640 i
      = v (ix3 (0 : Fin 1) (0 : Fin 1) (⟨(i 1).val, (i 1).isLt⟩ : Fin 640)) := by
  rw [broadcastTo_apply _ _ i (ix2 (0 : Fin 1) (⟨(i 1).val, (i 1).isLt⟩ : Fin 640)) (fun a => by
    match a with
    | ⟨0, _⟩ => rfl
    | ⟨1, _⟩ => rfl)]
  refine shapeCast_apply v _ _ _ ?_
  rw [Shape.rowMajor_val_three, Shape.rowMajor_val_two]
  rfl

section Head

variable {A : FArgs} {p b j h : ℕ} {B : Blk Ideal} (H : Of A p b j B) (hh : h < 2)
  {sel : IVec S640x128 1} (hs : ∀ i, sel i = if (i 1).val / 64 = h then 1#1 else 0#1)
include H hh hs

/-- A head's scores. -/
theorem score_is {c : FVec Ideal S1x1x640 .f32} (hc : ∀ i, c i = ((A.c (2 * p + h) (640 * j + (i 2).val) : ℝ) : EReal)) (i : S640x640.Idx) :
    subf (matmul (φ₁ := .bf16) (φ₂ := .bf16) dot_S640x128_S640x128_S640x640_1_1_0_0_n_n none (select sel B.q (broadcast S640x128 (Scalar.ofBits (F := Ideal) .bf16 0x0000#16))) B.k
        (constant (F := Ideal) S640x640 .f32 0x00000000#32)) (broadcastTo S640x640 (shapeCast S1x640 c shapeCasts_S1x1x640_S1x640) broadcasts_S1x640_S640x640) i
      = ((fs A (2 * p + h) (640 * b + (i 0).val) (640 * j + (i 1).val) : ℝ) : EReal) := by
  have hq : ∀ i : S640x128.Idx, select sel B.q (broadcast S640x128 (Scalar.ofBits (F := Ideal) .bf16 0x0000#16)) i
      = (((fun r l => if l / 64 = h then A.q (640 * b + r) (128 * p + l) else 0) (i 0).val (i 1).val : ℝ) : EReal) := fun i => by
    show Scalar.select (sel i) (B.q i) (Ideal.ofBits .bf16 0x0000#16) = _
    rw [hs, select_bit, H.q, bits_zero_bf16]
    beta_reduce
    split <;> rfl
  show FloatOps.subf _ _ = _
  rw [mm_nt (f := fun r l => if l / 64 = h then A.q (640 * b + r) (128 * p + l) else 0) hq (g := fun r l => A.k (640 * j + r) (128 * p + l)) H.k, bc_row, hc, Ideal.subf_def, ← EReal.coe_sub,
    half_lanes h hh (fun d => A.q (640 * b + (i 0).val) (128 * p + d)) (fun d => A.k (640 * j + (i 1).val) (128 * p + d))]
  unfold fs
  rw [Finset.sum_congr rfl fun d _ => by rw [show 128 * p + (64 * h + (d : Fin 64).val) = 64 * (2 * p + h) + d.val by omega]]
  rfl

/-- What a lane of a head's sums adds up: the values, or ones in the other head's lanes. -/
def side (A : FArgs) (p h l j : ℕ) : EReal := if l / 64 = h then A.v j (128 * p + l) else 1

theorem side_is (i : S640x128.Idx) : select sel B.v (broadcast S640x128 (Scalar.ofBits (F := Ideal) .bf16 0x3F80#16)) i
    = side A p h (i 1).val (640 * j + (i 0).val) := by
  show Scalar.select (sel i) (B.v i) (Ideal.ofBits .bf16 0x3F80#16) = _
  rw [hs, select_bit, H.v, bits_one_bf16]
  unfold side
  split <;> rfl

end Head

/-! ## The running maximum -/

/-- The greatest of a row's reals. -/
theorem fold_real {n : ℕ} (hn : 0 < n) (f : Fin n → EReal) (hf : ∀ k, ∃ r : ℝ, f k = (r : EReal)) :
    ∃ r : ℝ, (Finset.univ : Finset (Fin n)).fold max (⊥ : EReal) f = (r : EReal) := by
  have h1 : (Finset.univ : Finset (Fin n)).fold max (⊥ : EReal) f < ⊤ := (Finset.fold_max_lt _).2 ⟨bot_lt_top, fun k _ => by
    obtain ⟨r, hr⟩ := hf k; rw [hr]; exact EReal.coe_lt_top r⟩
  have h2 : ⊥ < (Finset.univ : Finset (Fin n)).fold max (⊥ : EReal) f := (Finset.lt_fold_max _).2 (.inr ⟨⟨0, hn⟩, Finset.mem_univ _, by
    obtain ⟨r, hr⟩ := hf ⟨0, hn⟩; rw [hr]; exact EReal.bot_lt_coe r⟩)
  exact ⟨_, (EReal.coe_toReal h1.ne h2.ne').symm⟩

/-- The new running maximum, the exponentials and the new sums of a head, and a head's half of the scratch. -/
def top (m : FVec Ideal S1x640x128 .f32) (X : FVec Ideal S640x640 .f32) : FVec Ideal S640x128 .f32 :=
  maximumf (shapeCast S640x128 m shapeCasts_S1x640x128_S640x128)
    (broadcastTo S640x128 (shapeCast S640x1 (multiReduction .maximumf [1] S640 X 0xFF800000#32 reduces_S640x640_S640 (.inl rfl) rfl) shapeCasts_S640_S640x1)
      broadcasts_S640x1_S640x128)
def ex (T : FVec Ideal S640x128 .f32) (X : FVec Ideal S640x640 .f32) : FVec Ideal S640x640 .f32 :=
  exp (subf X (broadcastTo S640x640 (extractStridedSlice S640x1 ![0, 0] T slices_S640x128_o0_0_S640x1) broadcasts_S640x1_S640x640))
def wide (T : FVec Ideal S640x128 .f32) : FVec Ideal S1x640x128 .f32 := shapeCast S1x640x128 T shapeCasts_S640x128_S1x640x128
def gain (m a : FVec Ideal S1x640x128 .f32) (T : FVec Ideal S640x128 .f32) (P : FVec Ideal S640x640 .f32) (v : FVec Ideal S640x128 .bf16) : FVec Ideal S1x640x128 .f32 :=
  wide (addf (mulf (exp (subf (shapeCast S640x128 m shapeCasts_S1x640x128_S640x128) T)) (shapeCast S640x128 a shapeCasts_S1x640x128_S640x128))
    (matmul dot_S640x640_S640x128_S640x128_1_0_0_1_n_n none (truncf .bf16 P bitsLt_bf16_f32) v (constant S640x128 .f32 0x00000000#32)))

abbrev at3 (r l : ℕ) (hr : r < 640) (hl : l < 128) : S1x640x128.Idx := ix3 (0 : Fin 1) (⟨r, hr⟩ : Fin 640) (⟨l, hl⟩ : Fin 128)

theorem flat_at (x : FVec Ideal S1x640x128 .f32) (i : S640x128.Idx) :
    shapeCast S640x128 x shapeCasts_S1x640x128_S640x128 i = x (at3 (i 0).val (i 1).val (i 0).isLt (i 1).isLt) := by
  refine shapeCast_apply x _ _ _ ?_
  rw [Shape.rowMajor_val_three, Shape.rowMajor_val_two]
  show (0 * 640 + (i 0).val) * 128 + (i 1).val = (i 0).val * 128 + (i 1).val
  omega

theorem wide_at (T : FVec Ideal S640x128 .f32) (i : S1x640x128.Idx) :
    wide T i = T (ix2 (⟨(i 1).val, (i 1).isLt⟩ : Fin 640) (⟨(i 2).val, (i 2).isLt⟩ : Fin 128)) := by
  have h0 : (i 0).val < 1 := (i 0).isLt
  refine shapeCast_apply T _ _ _ ?_
  rw [Shape.rowMajor_val_three, Shape.rowMajor_val_two]
  show (i 1).val * 128 + (i 2).val = ((i 0).val * 640 + (i 1).val) * 128 + (i 2).val
  omega

theorem max_real (x y : ℝ) : max (x : EReal) (y : EReal) = ((max x y : ℝ) : EReal) := (EReal.coe_strictMono.monotone.map_max).symm

/-- The new maximum is a real number of each row. -/
theorem top_is {m : FVec Ideal S1x640x128 .f32} {M : ℕ → ℝ} (hm : ∀ i, m i = ((M (i 1).val : ℝ) : EReal)) {X : FVec Ideal S640x640 .f32}
    {x : ℕ → ℕ → ℝ} (hX : ∀ i, X i = ((x (i 0).val (i 1).val : ℝ) : EReal)) : ∃ M' : ℕ → ℝ, ∀ i, top m X i = ((M' (i 0).val : ℝ) : EReal) := by
  have hR : ∀ r : Fin 640, ∃ y : ℝ, multiReduction .maximumf [1] S640 X 0xFF800000#32 reduces_S640x640_S640 (.inl rfl) rfl (ValueIdx.ix1 r) = (y : EReal) := fun r => by
    have e := Ideal.multiReduction_maximumf_single X 0xFF800000#32 reduces_S640x640_S640 (.inl rfl) rfl (ValueIdx.ix1 r)
    rw [Ideal.ofBits_def, bits_bot] at e
    obtain ⟨y, hy⟩ := fold_real (n := 640) (by decide) (X ∘ reduces_S640x640_S640.lift (ValueIdx.ix1 r)) fun k => ⟨_, hX _⟩
    exact ⟨y, e.trans hy⟩
  choose y hy using hR
  refine ⟨fun r => max (M r) (if h : r < 640 then y ⟨r, h⟩ else 0), fun i => ?_⟩
  show max _ _ = _
  rw [flat_at, hm, broadcastTo_apply _ _ i (ix2 (⟨(i 0).val, (i 0).isLt⟩ : Fin 640) (0 : Fin 1)) (fun a => by
    match a with
    | ⟨0, _⟩ => rfl
    | ⟨1, _⟩ => rfl),
    shapeCast_apply _ _ _ (ValueIdx.ix1 (⟨(i 0).val, (i 0).isLt⟩ : Fin 640)) (by
      rw [Shape.rowMajor_val_one, Shape.rowMajor_val_two]
      show (i 0).val = (i 0).val * 1 + 0
      omega), hy, max_real]
  beta_reduce
  rw [dif_pos (show (i 0).val < 640 from (i 0).isLt)]
  rfl

/-- The exponentials. -/
theorem ex_is {T : FVec Ideal S640x128 .f32} {M : ℕ → ℝ} (hT : ∀ i, T i = ((M (i 0).val : ℝ) : EReal)) {X : FVec Ideal S640x640 .f32}
    {x : ℕ → ℕ → ℝ} (hX : ∀ i, X i = ((x (i 0).val (i 1).val : ℝ) : EReal)) (i : S640x640.Idx) :
    ex T X i = ((Real.exp (x (i 0).val (i 1).val - M (i 0).val) : ℝ) : EReal) := by
  show FloatOps.exp (FloatOps.subf (X i) _) = _
  rw [hX, broadcastTo_apply _ _ i (ix2 (⟨(i 0).val, (i 0).isLt⟩ : Fin 640) (0 : Fin 1)) (fun a => by
    match a with
    | ⟨0, _⟩ => rfl
    | ⟨1, _⟩ => rfl),
    extractStridedSlice_apply ![0, 0] T _ _ (ix2 (⟨(i 0).val, (i 0).isLt⟩ : Fin 640) (0 : Fin 128)) (fun a => by
      match a with
      | ⟨0, _⟩ => show (i 0).val = 0 + (i 0).val; omega
      | ⟨1, _⟩ => rfl), hT, Ideal.subf_def, Ideal.exp_def, ← EReal.coe_sub, exp_coe]
  rfl

/-! ## One head's half of the scratch -/

/-- After the first `n` keys: a real maximum for each row, and the sums of the weights under it. -/
def Half (A : FArgs) (p b h n : ℕ) (m a : FVec Ideal S1x640x128 .f32) : Prop :=
  ∃ M : ℕ → ℝ, (∀ i, m i = ((M (i 1).val : ℝ) : EReal))
    ∧ ∀ i, a i = acc A (side A p h (i 2).val) (M (i 1).val) (2 * p + h) (640 * b + (i 1).val) n

theorem head_step {A : FArgs} {p b j h : ℕ} {m a : FVec Ideal S1x640x128 .f32} (S : Half A p b h (640 * j) m a) {X P : FVec Ideal S640x640 .f32}
    {v : FVec Ideal S640x128 .bf16} {x : ℕ → ℕ → ℝ} (hX : ∀ i, X i = ((x (i 0).val (i 1).val : ℝ) : EReal))
    (hP : ∀ M : ℕ → ℝ, (∀ i, top m X i = ((M (i 0).val : ℝ) : EReal)) →
      ∀ i, P i = ((wt A (M (i 0).val) (2 * p + h) (640 * b + (i 0).val) (640 * j + (i 1).val) : ℝ) : EReal))
    (hv : ∀ i, v i = side A p h (i 1).val (640 * j + (i 0).val)) :
    Half A p b h (640 * (j + 1)) (wide (top m X)) (gain m a (top m X) P v) := by
  obtain ⟨M, hm, ha⟩ := S
  obtain ⟨M', hM'⟩ := top_is hm hX
  refine ⟨M', fun i => ?_, fun i => ?_⟩
  · rw [wide_at, hM']; rfl
  · unfold gain
    rw [wide_at]
    show FloatOps.addf (FloatOps.mulf (FloatOps.exp (FloatOps.subf _ (top m X _))) _) _ = _
    rw [flat_at, flat_at, hm, ha, hM',
      mm_nn (x := truncf .bf16 P bitsLt_bf16_f32) (f := fun r d => wt A (M' r) (2 * p + h) (640 * b + r) (640 * j + d)) (g := fun d l => side A p h l (640 * j + d)) (fun k => hP M' hM' k) hv,
      Ideal.subf_def, Ideal.exp_def, Ideal.mulf_def, Ideal.addf_def, ← EReal.coe_sub, exp_coe]
    rw [acc_block, acc_shift A _ (M (i 1).val) (M' (i 1).val)]
    rfl

end Cert.FwdIdeal.Real

end
-- ==== Proof.FwdChain.lean ====
/-
  The points of a row of blocks at real scores: after each point on or left of the diagonal the scratch holds the maxima and sums of
  the keys so far, and the diagonal point stores the attention's output and the gated output.
-/
module

public import proofs.«01_k».proof.Proof.FwdTile
public import proofs.«01_k».proof.Proof.FwdRun

@[expose] public section

noncomputable section

namespace Cert.FwdIdeal.Real

open Cert.FwdIdeal Cert.FwdIdeal.Gen Cert.FwdIdeal.Hand Cert.Model Cert.FwdModel Cert.Num
open Idealize.ShloMosaic Idealize.ShloMosaic.TcCoe

/-! ## One point -/

abbrev cover (k : IVec S640x640 1) (X : FVec Ideal S640x640 .f32) : FVec Ideal S640x640 .f32 :=
  select k X (broadcast S640x640 (Scalar.ofBits (F := Ideal) .f32 0xF149F2CA#32))
abbrev strip (k : IVec S640x640 1) (P : FVec Ideal S640x640 .f32) : FVec Ideal S640x640 .f32 :=
  select k P (broadcast S640x640 (Scalar.ofBits (F := Ideal) .f32 0x00000000#32))

/-- Both updates in terms of the update of a head. -/
theorem masked_eq (B : Blk Ideal) (k : IVec S640x640 1) (s : Acc Ideal) : masked B k s
    = ⟨two s.m (wide (top (lo s.m) (cover k (k0_pay12 B.q B.k B.c0)))) (wide (top (hi s.m) (cover k (k0_pay15 B.q B.k B.c1)))),
      two s.a (gain (lo s.m) (lo s.a) (top (lo s.m) (cover k (k0_pay12 B.q B.k B.c0)))
          (strip k (ex (top (lo s.m) (cover k (k0_pay12 B.q B.k B.c0))) (cover k (k0_pay12 B.q B.k B.c0)))) (k0_pay11 B.v))
        (gain (hi s.m) (hi s.a) (top (hi s.m) (cover k (k0_pay15 B.q B.k B.c1)))
          (strip k (ex (top (hi s.m) (cover k (k0_pay15 B.q B.k B.c1))) (cover k (k0_pay15 B.q B.k B.c1)))) (k0_pay14 B.v))⟩ := rfl

theorem unmasked_eq (B : Blk Ideal) (s : Acc Ideal) : unmasked B s
    = ⟨two s.m (wide (top (lo s.m) (k0_pay12 B.q B.k B.c0))) (wide (top (hi s.m) (k0_pay15 B.q B.k B.c1))),
      two s.a (gain (lo s.m) (lo s.a) (top (lo s.m) (k0_pay12 B.q B.k B.c0)) (ex (top (lo s.m) (k0_pay12 B.q B.k B.c0)) (k0_pay12 B.q B.k B.c0)) (k0_pay11 B.v))
        (gain (hi s.m) (hi s.a) (top (hi s.m) (k0_pay15 B.q B.k B.c1)) (ex (top (hi s.m) (k0_pay15 B.q B.k B.c1)) (k0_pay15 B.q B.k B.c1)) (k0_pay14 B.v))⟩ := rfl

/-- Both heads' halves of the scratch after the first `n` keys. -/
def Halves (A : FArgs) (p b n : ℕ) (s : Acc Ideal) : Prop := Half A p b 0 n (lo s.m) (lo s.a) ∧ Half A p b 1 n (hi s.m) (hi s.a)

theorem clear_is (A : FArgs) (p b : ℕ) : Halves A p b 0 ⟨k0_pay1 (F := Ideal), k0_pay2 (F := Ideal)⟩ :=
  ⟨⟨fun _ => least, fun _ => least_eq, fun _ => Ideal.ofBits_zero_f32⟩, ⟨fun _ => least, fun _ => least_eq, fun _ => Ideal.ofBits_zero_f32⟩⟩

section Point

variable {A : FArgs} {p b j : ℕ} {B : Blk Ideal} (H : Of A p b j B)
include H

theorem scores0 (i : S640x640.Idx) : k0_pay12 B.q B.k B.c0 i = ((fs A (2 * p + 0) (640 * b + (i 0).val) (640 * j + (i 1).val) : ℝ) : EReal) :=
  score_is H (by decide) half0 H.c0 i
theorem scores1 (i : S640x640.Idx) : k0_pay15 B.q B.k B.c1 i = ((fs A (2 * p + 1) (640 * b + (i 0).val) (640 * j + (i 1).val) : ℝ) : EReal) :=
  score_is H (by decide) half1 H.c1 i

omit H in
theorem cover_is (hb : b < 13) (hj : j < 13) {h : ℕ} {X : FVec Ideal S640x640 .f32} (hX : ∀ i, X i = ((fs A h (640 * b + (i 0).val) (640 * j + (i 1).val) : ℝ) : EReal))
    (i : S640x640.Idx) : cover (k0_pay10 (BitVec.ofNat 32 b) (BitVec.ofNat 32 j)) X i
      = (((fun r d => if Sees (640 * b + r) (640 * j + d) then fs A h (640 * b + r) (640 * j + d) else least) (i 0).val (i 1).val : ℝ) : EReal) := by
  show Scalar.select (k0_pay10 (BitVec.ofNat 32 b) (BitVec.ofNat 32 j) i) (X i) (Ideal.ofBits .f32 0xF149F2CA#32) = _
  rw [mask_is b j hb hj, select_bit, hX, least_eq]
  beta_reduce
  split <;> rfl

omit H in
/-- A head's masked update. -/
theorem head_masked (hb : b < 13) (hj : j < 13) {h : ℕ} {m a : FVec Ideal S1x640x128 .f32} (S : Half A p b h (640 * j) m a) {X : FVec Ideal S640x640 .f32}
    (hX : ∀ i, X i = ((fs A (2 * p + h) (640 * b + (i 0).val) (640 * j + (i 1).val) : ℝ) : EReal)) {v : FVec Ideal S640x128 .bf16}
    (hv : ∀ i, v i = side A p h (i 1).val (640 * j + (i 0).val)) :
    Half A p b h (640 * (j + 1)) (wide (top m (cover (k0_pay10 (BitVec.ofNat 32 b) (BitVec.ofNat 32 j)) X)))
      (gain m a (top m (cover (k0_pay10 (BitVec.ofNat 32 b) (BitVec.ofNat 32 j)) X)) (strip (k0_pay10 (BitVec.ofNat 32 b) (BitVec.ofNat 32 j))
        (ex (top m (cover (k0_pay10 (BitVec.ofNat 32 b) (BitVec.ofNat 32 j)) X)) (cover (k0_pay10 (BitVec.ofNat 32 b) (BitVec.ofNat 32 j)) X))) v) := by
  refine head_step S (x := fun r d => if Sees (640 * b + r) (640 * j + d) then fs A (2 * p + h) (640 * b + r) (640 * j + d) else least) (cover_is hb hj hX) (fun M hM i => ?_) hv
  show Scalar.select (k0_pay10 (BitVec.ofNat 32 b) (BitVec.ofNat 32 j) i) (ex _ _ i) (Ideal.ofBits .f32 0x00000000#32) = _
  rw [mask_is b j hb hj, select_bit, ex_is (x := fun r d => if Sees (640 * b + r) (640 * j + d) then fs A (2 * p + h) (640 * b + r) (640 * j + d) else least) hM (cover_is hb hj hX), Ideal.ofBits_zero_f32]
  unfold wt
  beta_reduce
  by_cases hs : Sees (640 * b + (i 0).val) (640 * j + (i 1).val)
  · rw [if_pos hs, if_pos hs, if_pos hs]
  · rw [if_neg hs, if_neg hs]; rfl

omit H in
/-- A head's update where the block is left of the diagonal and past the padding. -/
theorem head_unmasked (hj : 0 < j) (hb : j < b) {h : ℕ} {m a : FVec Ideal S1x640x128 .f32} (S : Half A p b h (640 * j) m a) {X : FVec Ideal S640x640 .f32}
    (hX : ∀ i, X i = ((fs A (2 * p + h) (640 * b + (i 0).val) (640 * j + (i 1).val) : ℝ) : EReal)) {v : FVec Ideal S640x128 .bf16}
    (hv : ∀ i, v i = side A p h (i 1).val (640 * j + (i 0).val)) :
    Half A p b h (640 * (j + 1)) (wide (top m X)) (gain m a (top m X) (ex (top m X) X) v) := by
  refine head_step S (x := fun r d => fs A (2 * p + h) (640 * b + r) (640 * j + d)) hX (fun M hM i => ?_) hv
  have h1 : (i 1).val < 640 := (i 1).isLt
  rw [ex_is hM (x := fun r d => fs A (2 * p + h) (640 * b + r) (640 * j + d)) hX, wt, if_pos ⟨by omega, by omega⟩]

/-- A point on or left of the diagonal. -/
theorem step_is (i : grid0.Coords) (h1 : (i 1).val = b) (h2 : (i 2).val = j) (hd : j ≤ b) {s : Acc Ideal} (S : j ≠ 0 → Halves A p b (640 * j) s) :
    Halves A p b (640 * (j + 1)) (step B i s) := by
  have hb : b < 13 := h1 ▸ (show (i 1).val < 13 from (i 1).isLt)
  have hj : j < 13 := by omega
  have S' : Halves A p b (640 * j) (clr i s) := by
    unfold clr
    by_cases hz : j = 0
    · rw [if_pos ((cond1_iff i).mpr (h2.trans hz)), hz]; exact clear_is A p b
    · rw [if_neg fun h => hz (h2.symm.trans ((cond1_iff i).mp h))]; exact S hz
  obtain ⟨S0, S1⟩ := S'
  unfold step
  by_cases he : j = b ∨ j = 0
  · rw [if_pos ((cond2_iff i).mpr (by omega)), h1, h2, masked_eq]
    unfold Halves
    rw [lo_two, lo_two, hi_two, hi_two]
    exact ⟨head_masked hb hj S0 (scores0 H) (side_is H (by decide) half0), head_masked hb hj S1 (scores1 H) (side_is H (by decide) half1)⟩
  · rw [if_neg fun h => he (by have := (cond2_iff i).mp h; omega), if_pos ((cond3_iff i).mpr (by omega)), unmasked_eq]
    unfold Halves
    rw [lo_two, lo_two, hi_two, hi_two]
    exact ⟨head_unmasked (by omega) (by omega) S0 (scores0 H) (side_is H (by decide) half0),
      head_unmasked (by omega) (by omega) S1 (scores1 H) (side_is H (by decide) half1)⟩

end Point

/-! ## What the diagonal point stores -/

theorem lane (T : FVec Ideal S640x128 .f32) (o : ℕ) (ho : o < 128) (hs : S640x128.Slices ![0, o] S640x1) (i : S640x128.Idx) :
    broadcastTo S640x128 (shapeCast S640x1 (extractStridedSlice S640x1 ![0, o] T hs) shapeCasts_S640x1_S640x1) broadcasts_S640x1_S640x128 i
      = T (ix2 (⟨(i 0).val, (i 0).isLt⟩ : Fin 640) (⟨o, ho⟩ : Fin 128)) := by
  rw [shapeCast_self, broadcastTo_apply _ _ i (ix2 (⟨(i 0).val, (i 0).isLt⟩ : Fin 640) (0 : Fin 1)) (fun a => by
    match a with
    | ⟨0, _⟩ => rfl
    | ⟨1, _⟩ => rfl)]
  exact extractStridedSlice_apply ![0, o] T hs (ix2 (⟨(i 0).val, (i 0).isLt⟩ : Fin 640) (0 : Fin 1)) (ix2 (⟨(i 0).val, (i 0).isLt⟩ : Fin 640) (⟨o, ho⟩ : Fin 128)) (fun a => by
    match a with
    | ⟨0, _⟩ => show (i 0).val = 0 + (i 0).val; omega
    | ⟨1, _⟩ => rfl)

theorem gt_bit (x : ℝ) : FloatOps.cmpf (F := Ideal) (φ := .f32) .ogt ((x : ℝ) : EReal) (Ideal.ofBits .f32 0x00000000#32) = if 0 < x then 1#1 else 0#1 := by
  rw [Ideal.ofBits_zero_f32, Ideal.cmpf_def]
  by_cases h : 0 < x
  · rw [if_pos h]; simp [Ideal.cmp, h]
  · rw [if_neg h]; simp [Ideal.cmp, h]

section Stored

variable {A : FArgs} {p b : ℕ} (hb : b < 13) {s : Acc Ideal} (S : Halves A p b (640 * (b + 1)) s)
include hb S

/-- In a lane the shift of its head, and under this shift its normaliser and its weighted values. -/
theorem sums_is (i : S640x128.Idx) : ∃ M : ℝ,
    k0_pay41 (lo s.a) (hi s.a) i = ((den A M ((128 * p + (i 1).val) / 64) (640 * b + (i 0).val) 8320 : ℝ) : EReal)
    ∧ select k0_pay38 (k0_pay39 (lo s.a)) (k0_pay40 (hi s.a)) i
      = acc A (fun j => A.v j (128 * p + (i 1).val)) M ((128 * p + (i 1).val) / 64) (640 * b + (i 0).val) 8320
    ∧ k0_pay42 (lo s.m) (hi s.m) i = ((M : ℝ) : EReal) := by
  obtain ⟨⟨M0, m0, a0⟩, ⟨M1, m1, a1⟩⟩ := S
  have h0 : (i 0).val < 640 := (i 0).isLt
  have h1 : (i 1).val < 128 := (i 1).isLt
  have all : ∀ (u : ℕ → EReal) (M : ℝ) (h : ℕ), acc A u M h (640 * b + (i 0).val) (640 * (b + 1)) = acc A u M h (640 * b + (i 0).val) 8320 := fun u M h =>
    acc_all A u M h _ _ (by omega) (by omega)
  have e41 : k0_pay41 (lo s.a) (hi s.a) i = Scalar.select (k0_pay38 i)
      (broadcastTo S640x128 (shapeCast S640x1 (extractStridedSlice S640x1 ![0, 64] (shapeCast S640x128 (lo s.a) shapeCasts_S1x640x128_S640x128) slices_S640x128_o0_64_S640x1)
        shapeCasts_S640x1_S640x1) broadcasts_S640x1_S640x128 i)
      (broadcastTo S640x128 (shapeCast S640x1 (extractStridedSlice S640x1 ![0, 0] (shapeCast S640x128 (hi s.a) shapeCasts_S1x640x128_S640x128) slices_S640x128_o0_0_S640x1)
        shapeCasts_S640x1_S640x1) broadcasts_S640x1_S640x128 i) := rfl
  have e32 : select k0_pay38 (k0_pay39 (lo s.a)) (k0_pay40 (hi s.a)) i = Scalar.select (k0_pay38 i)
      (shapeCast S640x128 (lo s.a) shapeCasts_S1x640x128_S640x128 i) (shapeCast S640x128 (hi s.a) shapeCasts_S1x640x128_S640x128 i) := rfl
  have e42 : k0_pay42 (lo s.m) (hi s.m) i = Scalar.select (k0_pay38 i)
      (shapeCast S640x128 (lo s.m) shapeCasts_S1x640x128_S640x128 i) (shapeCast S640x128 (hi s.m) shapeCasts_S1x640x128_S640x128 i) := rfl
  have e38 : k0_pay38 i = if (i 1).val / 64 = 0 then 1#1 else 0#1 := half0 i
  rw [e41, e32, e42, lane _ 64 (by decide), lane _ 0 (by decide), flat_at, flat_at, flat_at, flat_at, flat_at, flat_at, a0, a0, a1, a1, m0, m1, e38, select_bit, select_bit, select_bit]
  rcases (show (i 1).val / 64 = 0 ∨ (i 1).val / 64 = 1 by omega) with h | h
  · refine ⟨M0 (i 0).val, ?_, ?_, if_pos h⟩
    · rw [if_pos h, show (128 * p + (i 1).val) / 64 = 2 * p + 0 by omega, ← acc_one, ← all]
      refine congrArg (fun u => acc A u _ _ _ _) (funext fun j => ?_)
      exact if_neg (show ¬ 64 / 64 = 0 by decide)
    · rw [if_pos h, show (128 * p + (i 1).val) / 64 = 2 * p + 0 by omega, ← all]
      refine congrArg (fun u => acc A u _ _ _ _) (funext fun j => ?_)
      exact if_pos h
  · refine ⟨M1 (i 0).val, ?_, ?_, if_neg (by omega)⟩
    · rw [if_neg (by omega), show (128 * p + (i 1).val) / 64 = 2 * p + 1 by omega, ← acc_one, ← all]
      refine congrArg (fun u => acc A u _ _ _ _) (funext fun j => ?_)
      exact if_neg (show ¬ 0 / 64 = 1 by decide)
    · rw [if_neg (by omega), show (128 * p + (i 1).val) / 64 = 2 * p + 1 by omega, ← all]
      refine congrArg (fun u => acc A u _ _ _ _) (funext fun j => ?_)
      exact if_pos h

theorem o_is (B : Blk Ideal) (i : S640x128.Idx) : (outs B s).o i = out A (640 * b + (i 0).val) (128 * p + (i 1).val) := by
  obtain ⟨M, hl, ha, _⟩ := sums_is hb S i
  have e : (outs B s).o i = Scalar.select (FloatOps.cmpf (F := Ideal) (φ := .f32) .ogt (k0_pay41 (lo s.a) (hi s.a) i) (Ideal.ofBits .f32 0x00000000#32))
      (FloatOps.divf (F := Ideal) (φ := .f32) (select k0_pay38 (k0_pay39 (lo s.a)) (k0_pay40 (hi s.a)) i)
        (Scalar.select (FloatOps.cmpf (F := Ideal) (φ := .f32) .ogt (k0_pay41 (lo s.a) (hi s.a) i) (Ideal.ofBits .f32 0x00000000#32))
          (k0_pay41 (lo s.a) (hi s.a) i) (Ideal.ofBits .f32 0x3F800000#32)))
      (Ideal.ofBits .f32 0x00000000#32) := rfl
  rw [e, hl, ha, gt_bit, select_bit, select_bit, ← out_shift A M]
  by_cases h : 0 < den A M ((128 * p + (i 1).val) / 64) (640 * b + (i 0).val) 8320
  · rw [if_pos h, if_pos h]
    exact div_real _ _ h.ne'
  · rw [if_neg h, le_antisymm (not_lt.1 h) (den_nonneg A _ _ _ _), inv_zero, EReal.coe_zero, mul_zero, Ideal.ofBits_zero_f32]

theorem l_is (B : Blk Ideal) (i : S640x128.Idx) : (outs B s).l i = ((lse A (640 * b + (i 0).val) (128 * p + (i 1).val) : ℝ) : EReal) := by
  obtain ⟨M, hl, _, hm⟩ := sums_is hb S i
  have e : (outs B s).l i = Scalar.select (FloatOps.cmpf (F := Ideal) (φ := .f32) .ogt (k0_pay41 (lo s.a) (hi s.a) i) (Ideal.ofBits .f32 0x00000000#32))
      (FloatOps.addf (F := Ideal) (φ := .f32) (k0_pay42 (lo s.m) (hi s.m) i)
        (FloatOps.log (F := Ideal) (φ := .f32) (Scalar.select (FloatOps.cmpf (F := Ideal) (φ := .f32) .ogt (k0_pay41 (lo s.a) (hi s.a) i) (Ideal.ofBits .f32 0x00000000#32))
          (k0_pay41 (lo s.a) (hi s.a) i) (Ideal.ofBits .f32 0x3F800000#32))))
      (Ideal.ofBits .f32 0x00000000#32) := rfl
  rw [e, hl, hm, gt_bit, select_bit, select_bit]
  by_cases h : 0 < den A M ((128 * p + (i 1).val) / 64) (640 * b + (i 0).val) 8320
  · rw [if_pos h, if_pos h, Ideal.log_def, log_coe _ h, Ideal.addf_def, ← EReal.coe_add, lse_shift A M _ _ h]
  · rw [if_neg h, lse_none A M _ _ (le_antisymm (not_lt.1 h) (den_nonneg A _ _ _ _)), Ideal.ofBits_zero_f32]
    rfl

theorem og_is {B : Blk Ideal} {j : ℕ} (H : Of A p b j B) (i : S640x128.Idx) :
    (outs B s).og i = gated A (640 * b + (i 0).val) (128 * p + (i 1).val) := by
  have e : (outs B s).og i = FloatOps.mulf (F := Ideal) (φ := .f32) ((outs B s).o i)
      (FloatOps.divf (F := Ideal) (φ := .f32) (Ideal.ofBits .f32 0x3F800000#32)
        (FloatOps.addf (F := Ideal) (φ := .f32) (Ideal.ofBits .f32 0x3F800000#32)
          (FloatOps.exp (F := Ideal) (φ := .f32) (FloatOps.subf (F := Ideal) (φ := .f32) (Ideal.ofBits .f32 0x00000000#32) (B.g i))))) := rfl
  rw [e, o_is hb S, H.g, bits_one, Ideal.ofBits_zero_f32, Ideal.subf_def, zero_sub, Ideal.exp_def, Ideal.addf_def, Ideal.divf_def, Ideal.mulf_def]
  rfl

end Stored

/-! ## The points in order -/

section Chain

variable {A : FArgs} (m : (ℓ : Loc nD τ sig) → Buf (Elt Ideal) ℓ) (c : Dev nD)
  (H : ∀ t : Fin cfg0.N, t.val % 13 ≤ t.val / 13 % 13 → Of A (t.val / 169) (t.val / 13 % 13) (t.val % 13) (blk m c t))
include H

/-- After a point on or left of the diagonal. -/
theorem after_left : ∀ n (hn : n < cfg0.N), n % 13 ≤ n / 13 % 13 → Halves A (n / 169) (n / 13 % 13) (640 * (n % 13 + 1)) (St m c (n + 1)) := by
  intro n
  induction n with
  | zero =>
    intro hn hd
    rw [St_succ m c ⟨0, hn⟩]
    exact step_is (H ⟨0, hn⟩ hd) _ (coord1 _) (coord2 _) hd (fun h => absurd rfl h)
  | succ n ih =>
    intro hn hd
    rw [St_succ m c ⟨n + 1, hn⟩]
    refine step_is (H ⟨n + 1, hn⟩ hd) _ (coord1 _) (coord2 _) hd (fun h => ?_)
    have h : (n + 1) % 13 ≠ 0 := h
    have e1 : (n + 1) % 13 = n % 13 + 1 := by omega
    have e2 : (n + 1) / 13 % 13 = n / 13 % 13 := by omega
    have e3 : (n + 1) / 169 = n / 169 := by omega
    have := ih (Nat.lt_of_succ_lt hn) (by omega)
    rw [e1, e2, e3]
    exact this

/-- The results' buffers from the diagonal on. -/
structure Stored (A : FArgs) (p b : ℕ) (x : Out Ideal) : Prop where
  o : ∀ i, x.o i = out A (640 * b + (i 0).val) (128 * p + (i 1).val)
  og : ∀ i, x.og i = gated A (640 * b + (i 0).val) (128 * p + (i 1).val)
  l : ∀ i, x.l i = ((lse A (640 * b + (i 0).val) (128 * p + (i 1).val) : ℝ) : EReal)

theorem after_diag : ∀ n (hn : n < cfg0.N), n / 13 % 13 ≤ n % 13 → Stored A (n / 169) (n / 13 % 13) (Res m c (n + 1)) := by
  have diag : ∀ n (hn : n < cfg0.N), n % 13 = n / 13 % 13 → Stored A (n / 169) (n / 13 % 13) (Res m c (n + 1)) := fun n hn he => by
    have S := after_left m c H n hn he.le
    have hb : n / 13 % 13 < 13 := Nat.mod_lt _ (by decide)
    rw [he] at S
    rw [Res_succ m c ⟨n, hn⟩, keep, if_pos ((cond4_iff _).mpr (by rw [coord1, coord2]; exact he))]
    exact ⟨o_is hb S _, og_is hb S (H ⟨n, hn⟩ he.le), l_is hb S _⟩
  intro n
  induction n with
  | zero => exact fun hn hd => diag 0 hn rfl
  | succ n ih =>
    intro hn hd
    by_cases he : (n + 1) % 13 = (n + 1) / 13 % 13
    · exact diag (n + 1) hn he
    · rw [Res_succ m c ⟨n + 1, hn⟩, keep, if_neg fun h => he (by have := (cond4_iff _).mp h; rwa [coord1, coord2] at this)]
      have e2 : (n + 1) / 13 % 13 = n / 13 % 13 := by omega
      have e3 : (n + 1) / 169 = n / 169 := by omega
      rw [e2, e3]
      exact ih (Nat.lt_of_succ_lt hn) (by omega)

end Chain

end Cert.FwdIdeal.Real

end
-- ==== Proof.FwdResults.lean ====
/-
  The three results of the forward pass's program at arguments of the model: the model's output, its gated output and the logarithm of its
  normaliser, from row 112 on.
-/
module

public import proofs.«01_k».proof.Proof.FwdChain
public import Idealize.ShloMosaic.Lib.Pipeline.ValueKit
public import Idealize.ShloMosaic.Lib.Pipeline.Covers

@[expose] public section

set_option maxRecDepth 16384

noncomputable section

namespace Cert.FwdIdeal.Real

open Cert.FwdIdeal Cert.FwdIdeal.Gen Cert.FwdIdeal.Hand Cert.Model Cert.FwdModel Cert.Num
open Idealize.ShloMosaic Idealize.ShloMosaic.TcCoe Idealize.SL.Sem

/-! ## The blocks' places -/

theorem word (n : ℕ) (h : n < 13) : (BitVec.ofNat 32 n).toNat = n := by rw [BitVec.toNat_ofNat]; omega
theorem sooner (a b : Fin 13) : a ≤ b → (Scalar.minsi (BitVec.ofNat 32 a.val) (BitVec.ofNat 32 b.val)).toNat = a.val := by
  revert a b; decide +kernel
theorem right (a : Fin 8) : (Scalar.addi 24#32 (BitVec.ofNat 32 a.val)).toNat = 24 + a.val := by
  revert a; decide +kernel

theorem pair_lt (i : grid0.Coords) : (i 0).val < 8 := (i 0).isLt
theorem row_lt (i : grid0.Coords) : (i 1).val < 13 := (i 1).isLt
theorem key_lt (i : grid0.Coords) : (i 2).val < 13 := (i 2).isLt

theorem place_row (i : grid0.Coords) : (![(BitVec.ofNat 32 (i 1).val).toNat, (BitVec.ofNat 32 (i 0).val).toNat] : Fin 2 → ℕ) = ![(i 1).val, (i 0).val] := by
  rw [word _ (row_lt i), word _ (Nat.lt_trans (pair_lt i) (by decide))]
theorem place_key (i : grid0.Coords) (h : (i 2).val ≤ (i 1).val) :
    (![(Scalar.minsi (BitVec.ofNat 32 (i 2).val) (BitVec.ofNat 32 (i 1).val)).toNat, (BitVec.ofNat 32 (i 0).val).toNat] : Fin 2 → ℕ) = ![(i 2).val, (i 0).val] := by
  rw [sooner ⟨(i 2).val, key_lt i⟩ ⟨(i 1).val, row_lt i⟩ h, word _ (Nat.lt_trans (pair_lt i) (by decide))]

theorem ord (t : Fin cfg0.N) (ht : t.val % 13 ≤ t.val / 13 % 13) : (grid0.coords t 2).val ≤ (grid0.coords t 1).val := by rw [coord1, coord2]; exact ht
theorem coord0' (t : Fin cfg0.N) : (grid0.coords t 0).val = t.val / 169 := (coord0 t).trans (by have : t.val < 1352 := t.isLt; omega)

theorem at0 (t : Fin cfg0.N) : win0_0.index t = ![(grid0.coords t 1).val, (grid0.coords t 0).val] := place_row _
theorem at1 (t : Fin cfg0.N) (ht : t.val % 13 ≤ t.val / 13 % 13) : win0_1.index t = ![(grid0.coords t 2).val, (grid0.coords t 0).val] := place_key _ (ord t ht)
theorem at2 (t : Fin cfg0.N) (ht : t.val % 13 ≤ t.val / 13 % 13) : win0_2.index t = ![(grid0.coords t 2).val, (grid0.coords t 0).val] := place_key _ (ord t ht)
theorem at3' (t : Fin cfg0.N) : win0_3.index t = ![(grid0.coords t 1).val, 24 + (grid0.coords t 0).val] := by
  show (![(BitVec.ofNat 32 (grid0.coords t 1).val).toNat, (Scalar.addi 24#32 (BitVec.ofNat 32 (grid0.coords t 0).val)).toNat] : Fin 2 → ℕ) = _
  rw [word _ (row_lt _), right ⟨(grid0.coords t 0).val, pair_lt _⟩]
theorem at4 (t : Fin cfg0.N) (ht : t.val % 13 ≤ t.val / 13 % 13) : win0_4.index t = ![(grid0.coords t 0).val, 0, (grid0.coords t 2).val] := by
  show (![(BitVec.ofNat 32 (grid0.coords t 0).val).toNat, (0#32 : BitVec 32).toNat,
    (Scalar.minsi (BitVec.ofNat 32 (grid0.coords t 2).val) (BitVec.ofNat 32 (grid0.coords t 1).val)).toNat] : Fin 3 → ℕ) = _
  rw [sooner ⟨(grid0.coords t 2).val, key_lt _⟩ ⟨(grid0.coords t 1).val, row_lt _⟩ (ord t ht), word _ (Nat.lt_trans (pair_lt _) (by decide))]; rfl
theorem at5 (t : Fin cfg0.N) : win0_5.index t = ![(grid0.coords t 1).val, (grid0.coords t 0).val] := place_row _
theorem at6 (t : Fin cfg0.N) : win0_6.index t = ![(grid0.coords t 1).val, (grid0.coords t 0).val] := place_row _
theorem at7 (t : Fin cfg0.N) : win0_7.index t = ![(grid0.coords t 1).val, (grid0.coords t 0).val] := place_row _

/-! ## The blocks that a point reads -/

section Blocks

variable {A : FArgs} {c : Dev nD} (W : (b : Ref sig .tc) → Buf (Elt Ideal) ((c : Thread nD τ).loc b))

theorem read_q (hW : ∀ i : S8320x1024.Idx, W main_arg0 i = ((A.q (i 0).val (i 1).val : ℝ) : EReal)) (t : Fin cfg0.N) (y : S640x128.Idx) :
    ((cfg0.win 0).blk t).view.read (Elt Ideal) (W (Pipeline.arrRef spec0 0)) y
      = ((A.q (640 * (t.val / 13 % 13) + (y 0).val) (128 * (t.val / 169) + (y 1).val) : ℝ) : EReal) := by
  have e0 : ((((cfg0.win 0).blk t).view.emb y) 0).val = (t.val / 13 % 13) * 640 + (y 0).val := by blk_simp [at0, coord1]
  have e1 : ((((cfg0.win 0).blk t).view.emb y) 1).val = (t.val / 169) * 128 + (y 1).val := by blk_simp [at0, coord0']
  refine (hW (((cfg0.win 0).blk t).view.emb y)).trans (congrArg _ ?_)
  rw [e0, e1, Nat.mul_comm, Nat.mul_comm (t.val / 169)]

theorem read_k (hW : ∀ i : S8320x1024.Idx, W main_arg1 i = ((A.k (i 0).val (i 1).val : ℝ) : EReal)) (t : Fin cfg0.N) (ht : t.val % 13 ≤ t.val / 13 % 13)
    (y : S640x128.Idx) : ((cfg0.win 1).blk t).view.read (Elt Ideal) (W (Pipeline.arrRef spec0 1)) y
      = ((A.k (640 * (t.val % 13) + (y 0).val) (128 * (t.val / 169) + (y 1).val) : ℝ) : EReal) := by
  have e0 : ((((cfg0.win 1).blk t).view.emb y) 0).val = (t.val % 13) * 640 + (y 0).val := by blk_simp [at1 t ht, coord2]
  have e1 : ((((cfg0.win 1).blk t).view.emb y) 1).val = (t.val / 169) * 128 + (y 1).val := by blk_simp [at1 t ht, coord0']
  refine (hW (((cfg0.win 1).blk t).view.emb y)).trans (congrArg _ ?_)
  rw [e0, e1, Nat.mul_comm, Nat.mul_comm (t.val / 169)]

theorem read_v (hW : ∀ i : S8320x1024.Idx, W main_arg2 i = A.v (i 0).val (i 1).val) (t : Fin cfg0.N) (ht : t.val % 13 ≤ t.val / 13 % 13)
    (y : S640x128.Idx) : ((cfg0.win 2).blk t).view.read (Elt Ideal) (W (Pipeline.arrRef spec0 2)) y
      = A.v (640 * (t.val % 13) + (y 0).val) (128 * (t.val / 169) + (y 1).val) := by
  have e0 : ((((cfg0.win 2).blk t).view.emb y) 0).val = (t.val % 13) * 640 + (y 0).val := by blk_simp [at2 t ht, coord2]
  have e1 : ((((cfg0.win 2).blk t).view.emb y) 1).val = (t.val / 169) * 128 + (y 1).val := by blk_simp [at2 t ht, coord0']
  refine (hW (((cfg0.win 2).blk t).view.emb y)).trans ?_
  rw [e0, e1, Nat.mul_comm, Nat.mul_comm (t.val / 169)]

theorem read_g (hW : ∀ i : S8320x4224.Idx, 3072 ≤ (i 1).val → W main_arg3 i = A.g (i 0).val ((i 1).val - 3072)) (t : Fin cfg0.N)
    (y : S640x128.Idx) : ((cfg0.win 3).blk t).view.read (Elt Ideal) (W (Pipeline.arrRef spec0 3)) y
      = A.g (640 * (t.val / 13 % 13) + (y 0).val) (128 * (t.val / 169) + (y 1).val) := by
  have e0 : ((((cfg0.win 3).blk t).view.emb y) 0).val = (t.val / 13 % 13) * 640 + (y 0).val := by blk_simp [at3', coord1]
  have e1 : ((((cfg0.win 3).blk t).view.emb y) 1).val = (24 + t.val / 169) * 128 + (y 1).val := by blk_simp [at3', coord0']
  refine (hW (((cfg0.win 3).blk t).view.emb y) (by rw [e1]; omega)).trans ?_
  rw [e0, e1, Nat.mul_comm, show (24 + t.val / 169) * 128 + (y 1).val - 3072 = 128 * (t.val / 169) + (y 1).val by omega]

theorem read_c (hW : ∀ i : S8x2x8320.Idx, W main_arg4 i = ((A.c (2 * (i 0).val + (i 1).val) (i 2).val : ℝ) : EReal)) (t : Fin cfg0.N)
    (ht : t.val % 13 ≤ t.val / 13 % 13) (y : S1x2x640.Idx) : ((cfg0.win 4).blk t).view.read (Elt Ideal) (W (Pipeline.arrRef spec0 4)) y
      = ((A.c (2 * (t.val / 169) + (y 1).val) (640 * (t.val % 13) + (y 2).val) : ℝ) : EReal) := by
  have h0 : (y 0).val < 1 := (y 0).isLt
  have e0 : ((((cfg0.win 4).blk t).view.emb y) 0).val = (t.val / 169) * 1 + (y 0).val := by blk_simp [at4 t ht, coord0']
  have e1 : ((((cfg0.win 4).blk t).view.emb y) 1).val = 0 * 2 + (y 1).val := by blk_simp [at4 t ht]
  have e2 : ((((cfg0.win 4).blk t).view.emb y) 2).val = (t.val % 13) * 640 + (y 2).val := by blk_simp [at4 t ht, coord2]
  refine (hW (((cfg0.win 4).blk t).view.emb y)).trans (congrArg _ ?_)
  rw [e0, e1, e2, Nat.mul_comm (t.val % 13), show 2 * (t.val / 169 * 1 + (y 0).val) + (0 * 2 + (y 1).val) = 2 * (t.val / 169) + (y 1).val by omega]

theorem read_all (hq : ∀ i : S8320x1024.Idx, W main_arg0 i = ((A.q (i 0).val (i 1).val : ℝ) : EReal))
    (hk : ∀ i : S8320x1024.Idx, W main_arg1 i = ((A.k (i 0).val (i 1).val : ℝ) : EReal))
    (hv : ∀ i : S8320x1024.Idx, W main_arg2 i = A.v (i 0).val (i 1).val)
    (hg : ∀ i : S8320x4224.Idx, 3072 ≤ (i 1).val → W main_arg3 i = A.g (i 0).val ((i 1).val - 3072))
    (hc : ∀ i : S8x2x8320.Idx, W main_arg4 i = ((A.c (2 * (i 0).val + (i 1).val) (i 2).val : ℝ) : EReal))
    (t : Fin cfg0.N) (ht : t.val % 13 ≤ t.val / 13 % 13) : Of A (t.val / 169) (t.val / 13 % 13) (t.val % 13)
      ⟨((cfg0.win 0).blk t).view.read (Elt Ideal) (W (Pipeline.arrRef spec0 0)), ((cfg0.win 1).blk t).view.read (Elt Ideal) (W (Pipeline.arrRef spec0 1)), ((cfg0.win 2).blk t).view.read (Elt Ideal) (W (Pipeline.arrRef spec0 2)), ((cfg0.win 3).blk t).view.read (Elt Ideal) (W (Pipeline.arrRef spec0 3)), ((cfg0.win 4).blk t).view.read (Elt Ideal) (W (Pipeline.arrRef spec0 4))⟩ :=
  ⟨read_q W hq t, read_k W hk t ht, read_v W hv t ht, read_g W hg t, read_c W hc t ht⟩

end Blocks

/-! ## The arrays after the launch -/

section Arrays

variable {A : FArgs} (m : (ℓ : Loc nD τ sig) → Buf (Elt Ideal) ℓ) (c : Dev nD)

/-- The program's arguments are the model's. -/
abbrev Given (A : FArgs) : Prop := FHolds A (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

variable (h : Given m c A)
include h

theorem blocks (t : Fin cfg0.N) (ht : t.val % 13 ≤ t.val / 13 % 13) : Of A (t.val / 169) (t.val / 13 % 13) (t.val % 13) (blk m c t) := by
  have e := read_all (V m c) h.q h.k h.v h.g h.c t ht
  unfold blk iblk
  exact e

theorem stored (t : Fin cfg0.N) (hf : t.val % 13 = 12) : Stored A (t.val / 169) (t.val / 13 % 13) (Res m c (t.val + 1)) :=
  after_diag m c (blocks m c h) t.val t.isLt (by omega)

theorem arr_o (i : S8320x1024.Idx) : (dats m 0 c).arrAt 5 cfg0.N i = out A (i 0).val (i 1).val := by
  refine congrFun ((dats m 0 c).arrAt_eq_of_covers 5 (fun i : S8320x1024.Idx => out A (i 0).val (i 1).val) (by decide +kernel) fun t hf y => ?_) i
  have e := (stored m c h t ((flush0_5 t).mp hf)).o y
  refine e.trans ?_
  have e0 : ((((cfg0.win 5).blk t).view.emb y) 0).val = (t.val / 13 % 13) * 640 + (y 0).val := by blk_simp [at5, coord1]
  have e1 : ((((cfg0.win 5).blk t).view.emb y) 1).val = (t.val / 169) * 128 + (y 1).val := by blk_simp [at5, coord0']
  show _ = out A ((((cfg0.win 5).blk t).view.emb y) 0).val ((((cfg0.win 5).blk t).view.emb y) 1).val
  rw [e0, e1, Nat.mul_comm, Nat.mul_comm (t.val / 169)]

theorem arr_og (i : S8320x1024.Idx) : (dats m 0 c).arrAt 6 cfg0.N i = gated A (i 0).val (i 1).val := by
  refine congrFun ((dats m 0 c).arrAt_eq_of_covers 6 (fun i : S8320x1024.Idx => gated A (i 0).val (i 1).val) (by decide +kernel) fun t hf y => ?_) i
  have e := (stored m c h t ((flush0_6 t).mp hf)).og y
  refine e.trans ?_
  have e0 : ((((cfg0.win 6).blk t).view.emb y) 0).val = (t.val / 13 % 13) * 640 + (y 0).val := by blk_simp [at6, coord1]
  have e1 : ((((cfg0.win 6).blk t).view.emb y) 1).val = (t.val / 169) * 128 + (y 1).val := by blk_simp [at6, coord0']
  show _ = gated A ((((cfg0.win 6).blk t).view.emb y) 0).val ((((cfg0.win 6).blk t).view.emb y) 1).val
  rw [e0, e1, Nat.mul_comm, Nat.mul_comm (t.val / 169)]

theorem arr_l (i : S8320x1024.Idx) : (dats m 0 c).arrAt 7 cfg0.N i = ((lse A (i 0).val (i 1).val : ℝ) : EReal) := by
  refine congrFun ((dats m 0 c).arrAt_eq_of_covers 7 (fun i : S8320x1024.Idx => ((lse A (i 0).val (i 1).val : ℝ) : EReal)) (by decide +kernel) fun t hf y => ?_) i
  have e := (stored m c h t ((flush0_7 t).mp hf)).l y
  refine e.trans (congrArg _ ?_)
  have e0 : ((((cfg0.win 7).blk t).view.emb y) 0).val = (t.val / 13 % 13) * 640 + (y 0).val := by blk_simp [at7, coord1]
  have e1 : ((((cfg0.win 7).blk t).view.emb y) 1).val = (t.val / 169) * 128 + (y 1).val := by blk_simp [at7, coord0']
  show _ = lse A ((((cfg0.win 7).blk t).view.emb y) 0).val ((((cfg0.win 7).blk t).view.emb y) 1).val
  rw [e0, e1, Nat.mul_comm, Nat.mul_comm (t.val / 169)]

/-! ## The results -/

omit h

/-- What the operations after the launch make of its arrays: their rows from 112 on. -/
theorem tail_o (U : Valuation τ sig (Elt Ideal)) : StableHlo.after (List.flatten [hostOps1]) U (Proc.devRef .tc main_v1)
    = extractStridedSlice S8208x1024 ![112, 0] (U (Proc.devRef .tc main_v0_0) : FVec Ideal S8320x1024 .f32) slices_S8320x1024_S8208x1024_112_0 := by
  simp only [hostOps1, List.flatten_cons, List.flatten_nil, List.cons_append, List.nil_append, List.append_nil]
  after_results_simp <;> rfl
theorem tail_og (U : Valuation τ sig (Elt Ideal)) : StableHlo.after (List.flatten [hostOps1]) U (Proc.devRef .tc main_v2)
    = extractStridedSlice S8208x1024 ![112, 0] (U (Proc.devRef .tc main_v0_1) : FVec Ideal S8320x1024 .bf16) slices_S8320x1024_S8208x1024_112_0 := by
  simp only [hostOps1, List.flatten_cons, List.flatten_nil, List.cons_append, List.nil_append, List.append_nil]
  after_results_simp <;> rfl

theorem tail_l (U : Valuation τ sig (Elt Ideal)) : StableHlo.after (List.flatten [hostOps1]) U (Proc.devRef .tc main_v3)
    = extractStridedSlice S8208x1024 ![112, 0] (U (Proc.devRef .tc main_v0_2) : FVec Ideal S8320x1024 .f32) slices_S8320x1024_S8208x1024_112_0 := by
  simp only [hostOps1, List.flatten_cons, List.flatten_nil, List.cons_append, List.nil_append, List.append_nil]
  after_results_simp <;> rfl

theorem rows_at {φ : FTy} {x : FVec Ideal S8320x1024 φ} {f : ℕ → ℕ → EReal} (hx : ∀ i, x i = f (i 0).val (i 1).val) :
    extractStridedSlice S8208x1024 ![112, 0] x slices_S8320x1024_S8208x1024_112_0
      = fun i : S8208x1024.Idx => f (112 + (i 0).val) (i 1).val := funext fun i => by
  have h0 : (i 0).val < 8208 := (i 0).isLt
  have h1 : (i 1).val < 1024 := (i 1).isLt
  rw [extractStridedSlice_apply ![112, 0] x _ i (ix2 (⟨112 + (i 0).val, by omega⟩ : Fin 8320) (⟨(i 1).val, h1⟩ : Fin 1024)) (fun a => by
    match a with
    | ⟨0, _⟩ => rfl
    | ⟨1, _⟩ => show (i 1).val = 0 + (i 1).val; omega), hx]
  rfl

/-- The launch's arrays are distinct. -/
theorem arrays_ne : Function.Injective (Pipeline.arrRef spec0) := by decide +kernel

include h

theorem res_o : Pipeline.afterTail₀ cfgs (dats m) 0 (V0 m) [hostOps1] c main_v1
    = fun i : S8208x1024.Idx => out A (112 + (i 0).val) (i 1).val := by
  unfold Pipeline.afterTail₀
  rw [tail_o]
  have e := Pipeline.withArrays_arr spec0 arrays_ne c (V0 m c) (fun w => (dats m 0 c).arrAt w cfg0.N) 5
  exact rows_at (φ := .f32) (f := out A) (fun i => (congrFun e i).trans (arr_o m c h i))

theorem res_og : Pipeline.afterTail₀ cfgs (dats m) 0 (V0 m) [hostOps1] c main_v2
    = fun i : S8208x1024.Idx => gated A (112 + (i 0).val) (i 1).val := by
  unfold Pipeline.afterTail₀
  rw [tail_og]
  have e := Pipeline.withArrays_arr spec0 arrays_ne c (V0 m c) (fun w => (dats m 0 c).arrAt w cfg0.N) 6
  exact rows_at (φ := .bf16) (f := gated A) (fun i => (congrFun e i).trans (arr_og m c h i))

theorem res_l : Pipeline.afterTail₀ cfgs (dats m) 0 (V0 m) [hostOps1] c main_v3
    = fun i : S8208x1024.Idx => ((lse A (112 + (i 0).val) (i 1).val : ℝ) : EReal) := by
  unfold Pipeline.afterTail₀
  rw [tail_l]
  have e := Pipeline.withArrays_arr spec0 arrays_ne c (V0 m c) (fun w => (dats m 0 c).arrAt w cfg0.N) 7
  exact rows_at (φ := .f32) (f := fun i x => ((lse A i x : ℝ) : EReal)) (fun i => (congrFun e i).trans (arr_l m c h i))

end Arrays

/-- From arguments of the model every execution ends with the model's outputs and the arguments as they were. -/
theorem run (m : (ℓ : Loc nD τ sig) → Buf (Elt Ideal) ℓ) (ρ : Dev nD → PrngReg) (A : Dev nD → FArgs) (h : ∀ c, Given m c (A c)) :
    θ_run defs (onTc (τ := τ) (main (F := Ideal))) ⟨m, fun _ => 0, ρ⟩ fun r => ∀ c : Dev nD,
      r.2.mem ((c.tc : Thread nD τ).loc main_v1) = (fun i : S8208x1024.Idx => out (A c) (112 + (i 0).val) (i 1).val)
      ∧ r.2.mem ((c.tc : Thread nD τ).loc main_v2) = (fun i : S8208x1024.Idx => gated (A c) (112 + (i 0).val) (i 1).val)
      ∧ r.2.mem ((c.tc : Thread nD τ).loc main_v3) = (fun i : S8208x1024.Idx => ((lse (A c) (112 + (i 0).val) (i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ k c =>
    ⟨((k.1 c).2 main_v1 (Pipeline.mem_restRefs_of main_v1 (by decide) (by decide))).trans (res_o m c (h c)),
      ((k.1 c).2 main_v2 (Pipeline.mem_restRefs_of main_v2 (by decide) (by decide))).trans (res_og m c (h c)),
      ((k.1 c).2 main_v3 (Pipeline.mem_restRefs_of main_v3 (by decide) (by decide))).trans (res_l m c (h c)),
      ((k.1 c).1 0).trans (((dats m 0 c).arrAt_in 0 rfl _).trans ((A_eq m c 0).trans (V_main_arg0 m c))),
      ((k.1 c).1 1).trans (((dats m 0 c).arrAt_in 1 rfl _).trans ((A_eq m c 1).trans (V_main_arg1 m c))),
      ((k.1 c).1 2).trans (((dats m 0 c).arrAt_in 2 rfl _).trans ((A_eq m c 2).trans (V_main_arg2 m c))),
      ((k.1 c).1 3).trans (((dats m 0 c).arrAt_in 3 rfl _).trans ((A_eq m c 3).trans (V_main_arg3 m c))),
      ((k.1 c).1 4).trans (((dats m 0 c).arrAt_in 4 rfl _).trans ((A_eq m c 4).trans (V_main_arg4 m c)))⟩) (run_main m ρ)

end Cert.FwdIdeal.Real

end
-- ==== Proof.FwdRefRead.lean ====
/-
  The forward pass's reference at arguments of the model: each buffer's element as a function of its index, and the three
  results are the model's output, gated output and logarithm of the normaliser. Row `r` of a buffer of 8208 rows is row `112 + r` of the arguments.
-/
module

public import proofs.«01_k».proof.Proof.Num
public import proofs.«01_k».proof.Proof.FwdModel
public import proofs.«01_k».proof.Proof.Gen.FwdRefIdeal.Read

@[expose] public section

noncomputable section

namespace Cert.FwdRefIdeal.Real

open Cert.FwdRefIdeal Cert.FwdRefIdeal.Gen Cert.FwdRefIdeal.Read Cert.Model Cert.FwdModel Cert.Num
open Idealize.ShloMosaic Idealize.ShloMosaic.TcCoe

variable {A : FArgs} {x0 x1 x2 : (⟨S8320x1024, .bf16⟩ : BufTy).Contents (Elt Ideal)} {x3 : (⟨S8320x4224, .f32⟩ : BufTy).Contents (Elt Ideal)}
  {x4 : (⟨S8x2x8320, .f32⟩ : BufTy).Contents (Elt Ideal)} (H : FHolds A x0 x1 x2 x3 x4)

theorem coe2 (f : ℕ → ℕ → ℝ) {a b a' b' : ℕ} (h1 : a = a') (h2 : b = b') : ((f a b : ℝ) : EReal) = ((f a' b' : ℝ) : EReal) := by rw [h1, h2]

theorem val2 (f : ℕ → ℕ → EReal) {a b a' b' : ℕ} (h1 : a = a') (h2 : b = b') : f a b = f a' b' := by rw [h1, h2]

/-- An argument in heads form. -/
theorem heads {x : (⟨S8320x1024, .bf16⟩ : BufTy).Contents (Elt Ideal)} {f : ℕ → ℕ → EReal} (h : ∀ i, x i = f (i 0).val (i 1).val)
    (i : S16x8320x64.Idx) : val_main_v2 (F := Ideal) x i = f (i 1).val (64 * (i 0).val + (i 2).val) := by
  rw [val_main_v2_apply, val_main_v1_apply, val_main_v0_apply]
  refine (h _).trans ?_
  have h0 : (i 0).val < 16 := (i 0).isLt
  have h1 : (i 1).val < 8320 := (i 1).isLt
  have h2 : (i 2).val < 64 := (i 2).isLt
  exact val2 f (show (((i 1).val * 16 + (i 0).val) * 64 + (i 2).val) / 1024 = (i 1).val by omega)
    (show (((i 1).val * 16 + (i 0).val) * 64 + (i 2).val) % 1024 = 64 * (i 0).val + (i 2).val by omega)

include H

theorem r5 (i : S16x8320x64.Idx) : val_main_v5 (F := Ideal) x1 i = ((A.k (i 1).val (64 * (i 0).val + (i 2).val) : ℝ) : EReal) := heads (f := fun i x => ((A.k i x : ℝ) : EReal)) H.k i
theorem r8 (i : S16x8320x64.Idx) : val_main_v8 (F := Ideal) x2 i = A.v (i 1).val (64 * (i 0).val + (i 2).val) := heads H.v i
theorem r11 (i : S16x8208x64.Idx) : val_main_v11 (F := Ideal) x0 i = ((A.q (112 + (i 1).val) (64 * (i 0).val + (i 2).val) : ℝ) : EReal) := by
  rw [val_main_v11_apply, heads (f := fun i x => ((A.q i x : ℝ) : EReal)) H.q]

theorem r9 (i : S16x8320.Idx) : val_main_v9 (F := Ideal) x4 i = ((A.c (i 0).val (i 1).val : ℝ) : EReal) := by
  rw [val_main_v9_apply, H.c]
  have h0 : (i 0).val < 16 := (i 0).isLt
  have h1 : (i 1).val < 8320 := (i 1).isLt
  exact coe2 A.c (show 2 * (((i 0).val * 8320 + (i 1).val) / 16640) + ((i 0).val * 8320 + (i 1).val) / 8320 % 2 = (i 0).val by omega)
    (show ((i 0).val * 8320 + (i 1).val) % 8320 = (i 1).val by omega)

/-- The scores. -/
theorem r19 (i : S16x8208x8320.Idx) : val_main_v19 (F := Ideal) x0 x1 x4 i
    = ((fs A (i 0).val (112 + (i 1).val) (i 2).val + A.c (i 0).val (112 + (i 1).val) : ℝ) : EReal) := by
  have e12 : val_main_v12 (F := Ideal) x0 x1 i
      = ((∑ d : Fin 64, A.q (112 + (i 1).val) (64 * (i 0).val + d.val) * A.k (i 2).val (64 * (i 0).val + d.val) : ℝ) : EReal) := by
    rw [val_main_v12_apply]
    exact sum_coe fun d => by rw [r11 H, r5 H, ← EReal.coe_mul]
  rw [val_main_v19_apply, val_main_v16_apply, e12, val_main_v15_apply, val_main_v14_apply, val_main_v13_apply, val_main_v18_apply, val_main_v17_apply,
    r9 H, r9 H, Ideal.addf_def, Ideal.subf_def, ← EReal.coe_add, ← EReal.coe_sub]
  unfold fs
  exact congrArg _ (add_sub_right_comm _ _ _)

omit H in
/-- The mask. -/
theorem r30 (i : S8208x8320.Idx) : val_main_v30 (F := Ideal) i = if Sees (112 + (i 0).val) (i 1).val then 1#1 else 0#1 := by
  have h0 : (i 0).val < 8208 := (i 0).isLt
  have h1 : (i 1).val < 8320 := (i 1).isLt
  rw [val_main_v30_apply, val_main_v25_apply, val_main_v23_apply, val_main_v20_apply, val_main_v10_apply, val_main_v24_apply, val_main_v22_apply,
    val_main_v21_apply, val_main_v10_apply, val_main_v29_apply, val_main_v28_apply, val_main_v26_apply, val_main_v10_apply, val_main_v27_apply, val_main_c_apply]
  rw [sle_bit _ _ (by show (i 1).val < _; omega) (by show 112 + (i 0).val < _; omega), sge_bit _ _ (by show (i 1).val < _; omega) (by norm_num), and_bit]

/-- The masked scores. -/
theorem r31 (i : S16x8208x8320.Idx) : val_main_v31 (F := Ideal) x0 x1 x4 i
    = if Sees (112 + (i 1).val) (i 2).val then ((fs A (i 0).val (112 + (i 1).val) (i 2).val + A.c (i 0).val (112 + (i 1).val) : ℝ) : EReal) else ⊥ := by
  rw [val_main_v31_apply, val_main_call0_v1_apply, r30, r19 H, val_main_call0_v2_apply, val_main_call0_v0_apply, val_main_cst_apply, Ideal.ofBits_def, bits_bot,
    select_bit]

/-- A row's largest score is real. -/
theorem r32 (i : S16x8208.Idx) : ∃ r : ℝ, val_main_v32 (F := Ideal) x0 x1 x4 i = (r : EReal) := by
  have h0 : (i 0).val < 16 := (i 0).isLt
  have h1 : (i 1).val < 8208 := (i 1).isLt
  unfold val_main_v32
  refine host_max_real _ _ _ _ i ?_ ?_ (ValueIdx.ix3 ⟨(i 0).val, h0⟩ ⟨(i 1).val, h1⟩ (⟨112, by omega⟩ : Fin 8320)) ?_ ?_
  · exact bits_bot
  · intro j; rw [r31 H]; split
    · exact EReal.coe_ne_top _
    · exact bot_ne_top
  · funext b
    match b with
    | ⟨0, _⟩ => rfl
    | ⟨1, _⟩ => rfl
  · rw [r31 H, if_pos ⟨show (112 : ℕ) ≤ 112 + (i 1).val by omega, show (112 : ℕ) ≤ 112 by omega⟩]
    exact EReal.coe_ne_bot _

omit H in
/-- The shift is the largest score. -/
theorem r34_eq (i : S16x8208.Idx) : val_main_v34 (F := Ideal) x0 x1 x4 i = val_main_v32 (F := Ideal) x0 x1 x4 i := by
  rw [val_main_v34_apply, val_main_v33_apply, val_main_cst_1_apply, Ideal.ofBits_def, bits_bot, Ideal.maximumf_def]
  exact max_eq_right bot_le

/-- A row's shift is real. -/
theorem r34 (i : S16x8208.Idx) : ∃ r : ℝ, val_main_v34 (F := Ideal) x0 x1 x4 i = (r : EReal) := by
  rw [r34_eq]; exact r32 H i

/-- A row's shift, less its forget sum. -/
def shift (A : FArgs) (x0 x1 : (⟨S8320x1024, .bf16⟩ : BufTy).Contents (Elt Ideal)) (x4 : (⟨S8x2x8320, .f32⟩ : BufTy).Contents (Elt Ideal)) (i : S16x8208.Idx) : ℝ :=
  (show EReal from val_main_v34 (F := Ideal) x0 x1 x4 i).toReal - A.c (i 0).val (112 + (i 1).val)

theorem r34' (i : S16x8208.Idx) : val_main_v34 (F := Ideal) x0 x1 x4 i = ((shift A x0 x1 x4 i + A.c (i 0).val (112 + (i 1).val) : ℝ) : EReal) := by
  obtain ⟨r, hr⟩ := r34 H i
  unfold shift
  rw [hr, sub_add_cancel]; rfl

/-- The row of a score. -/
abbrev row (i : S16x8208x8320.Idx) : S16x8208.Idx := fun a => match a with
  | ⟨0, _⟩ => ⟨(i 0).val, (i 0).isLt⟩
  | ⟨1, _⟩ => ⟨(i 1).val, (i 1).isLt⟩

/-- The shifted exponentials. -/
theorem r38 (i : S16x8208x8320.Idx) : val_main_v38 (F := Ideal) x0 x1 x4 i
    = ((wt A (shift A x0 x1 x4 (row i)) (i 0).val (112 + (i 1).val) (i 2).val : ℝ) : EReal) := by
  have e : idx_main_v35 (idx_main_v36 i) = row i := funext fun a => match a with
    | ⟨0, _⟩ => rfl
    | ⟨1, _⟩ => rfl
  rw [val_main_v38_apply, val_main_v37_apply, r31 H, val_main_v36_apply, val_main_v35_apply, r34' H, e, Ideal.hostUnary_exp_def, Ideal.subf_def]
  unfold wt
  split
  · rw [← EReal.coe_sub, exp_coe]
    exact congrArg (fun x => ((Real.exp x : ℝ) : EReal)) (add_sub_add_right_eq_sub _ _ _)
  · rw [EReal.bot_sub, exp_bot]; rfl

/-- The normalisers. -/
theorem r39 (i : S16x8208.Idx) : val_main_v39 (F := Ideal) x0 x1 x4 i
    = ((den A (shift A x0 x1 x4 i) (i 0).val (112 + (i 1).val) 8320 : ℝ) : EReal) := by
  rw [val_main_v39_apply, val_main_cst_2_apply, Ideal.ofBits_def, Ideal.ofBits_zero_f32, zero_add]
  have e : ∀ k, row (idx_main_v39 i k) = i := fun k => funext fun a => match a with
    | ⟨0, _⟩ => rfl
    | ⟨1, _⟩ => rfl
  refine (sum_coe fun k => by rw [r38 H, e]).trans (congrArg _ ?_)
  unfold den
  rw [← Fin.sum_univ_eq_sum_range (fun j => wt A (shift A x0 x1 x4 i) (i 0).val (112 + (i 1).val) j) 8320]

/-- The weights. -/
theorem r42 (i : S16x8208x8320.Idx) : val_main_v42 (F := Ideal) x0 x1 x4 i
    = ((wt A (shift A x0 x1 x4 (row i)) (i 0).val (112 + (i 1).val) (i 2).val
        / den A (shift A x0 x1 x4 (row i)) (i 0).val (112 + (i 1).val) 8320 : ℝ) : EReal) := by
  have h1 : (i 1).val < 8208 := (i 1).isLt
  have e : idx_main_v40 (idx_main_v41 i) = row i := funext fun a => match a with
    | ⟨0, _⟩ => rfl
    | ⟨1, _⟩ => rfl
  rw [val_main_v42_apply, r38 H, val_main_v41_apply, val_main_v40_apply, r39 H, e, Ideal.hostDivf_def]
  exact div_coe _ _ (den_pos A _ _ _ (show 112 ≤ 112 + (i 1).val by omega) (show 112 + (i 1).val < 8320 by omega)).ne'

/-- The output of a head. -/
theorem r43 (i : S16x8208x64.Idx) : val_main_v43 (F := Ideal) x0 x1 x2 x4 i = out A (112 + (i 1).val) (64 * (i 0).val + (i 2).val) := by
  have h2 : (i 2).val < 64 := (i 2).isLt
  let r : S16x8208.Idx := fun a => match a with
    | ⟨0, _⟩ => ⟨(i 0).val, (i 0).isLt⟩
    | ⟨1, _⟩ => ⟨(i 1).val, (i 1).isLt⟩
  have e : ∀ k, row (lidx_main_v43 i k) = r := fun k => funext fun a => match a with
    | ⟨0, _⟩ => rfl
    | ⟨1, _⟩ => rfl
  rw [val_main_v43_apply]
  rw [← out_shift A (shift A x0 x1 x4 r), show (64 * (i 0).val + (i 2).val) / 64 = (i 0).val by omega]
  have hp := den_pos A (shift A x0 x1 x4 r) (i 0).val (112 + (i 1).val) (by omega) (by have : (i 1).val < 8208 := (i 1).isLt; omega)
  have s : ∑ k : Fin 8320, ((wt A (shift A x0 x1 x4 r) (i 0).val (112 + (i 1).val) k.val : ℝ) : EReal) * A.v k.val (64 * (i 0).val + (i 2).val)
      = acc A (fun j => A.v j (64 * (i 0).val + (i 2).val)) (shift A x0 x1 x4 r) (i 0).val (112 + (i 1).val) 8320 :=
    Fin.sum_univ_eq_sum_range (fun j => ((wt A (shift A x0 x1 x4 r) (i 0).val (112 + (i 1).val) j : ℝ) : EReal) * A.v j (64 * (i 0).val + (i 2).val)) 8320
  rw [← s, mul_comm, mul_sum _ (inv_nonneg.2 hp.le)]
  refine Finset.sum_congr rfl fun k _ => ?_
  rw [r42 H, r8 H, e, div_eq_inv_mul, EReal.coe_mul, mul_assoc]

/-- The first result. -/
theorem r45 (i : S8208x1024.Idx) : val_main_v45 (F := Ideal) x0 x1 x2 x4 i = out A (112 + (i 0).val) (i 1).val := by
  rw [val_main_v45_apply, val_main_v44_apply, r43 H]
  have h0 : (i 0).val < 8208 := (i 0).isLt
  have h1 : (i 1).val < 1024 := (i 1).isLt
  exact val2 (out A) (show 112 + ((i 0).val * 1024 + (i 1).val) / 1024 = 112 + (i 0).val by omega)
    (show 64 * (((i 0).val * 1024 + (i 1).val) / 64 % 16) + ((i 0).val * 1024 + (i 1).val) % 64 = (i 1).val by omega)

/-- The second result. -/
theorem r54 (i : S8208x1024.Idx) : val_main_v54 (F := Ideal) x0 x1 x2 x3 x4 i = gated A (112 + (i 0).val) (i 1).val := by
  have h0 : (i 0).val < 8208 := (i 0).isLt
  have h1 : (i 1).val < 1024 := (i 1).isLt
  have e46 : val_main_v46 (F := Ideal) x3 i = A.g (112 + (i 0).val) (i 1).val := by
    rw [val_main_v46_apply, H.g _ (show 3072 ≤ 3072 + (i 1).val by omega)]
    exact congrArg (A.g _) (show 3072 + (i 1).val - 3072 = (i 1).val by omega)
  have e52 : val_main_v52 (F := Ideal) x3 i = Ideal.div ((1 : ℝ) : EReal) (((1 : ℝ) : EReal) + Ideal.exp (-A.g (112 + (i 0).val) (i 1).val)) := by
    rw [val_main_v52_apply, val_main_v51_apply, val_main_cst_4_apply, val_main_v50_apply, val_main_v49_apply, val_main_cst_3_apply, val_main_v48_apply,
      val_main_v47_apply, e46, Ideal.ofBits_def, bits_one, Ideal.hostNegf_def, Ideal.negf_def, Ideal.hostUnary_exp_def, Ideal.addf_def, Ideal.hostDivf_def]
  rw [val_main_v54_apply, val_main_v53_apply, r45 H, e52, Ideal.mulf_def]
  rfl

/-- The largest scores, taken once more. -/
theorem r55 (i : S16x8208.Idx) : val_main_v55 (F := Ideal) x0 x1 x4 i = ((shift A x0 x1 x4 i + A.c (i 0).val (112 + (i 1).val) : ℝ) : EReal) := by
  rw [← r34' H, r34_eq]; rfl

/-- The shifted exponentials, taken once more. -/
theorem r59 (i : S16x8208x8320.Idx) : val_main_v59 (F := Ideal) x0 x1 x4 i = val_main_v38 (F := Ideal) x0 x1 x4 i := by
  rw [val_main_v59_apply, val_main_v58_apply, val_main_v57_apply, val_main_v56_apply, val_main_v38_apply, val_main_v37_apply, val_main_v36_apply, val_main_v35_apply,
    r55 H, r34' H]

/-- The logarithms of the normalisers. -/
theorem r64 (i : S16x8208.Idx) : val_main_v64 (F := Ideal) x0 x1 x4 i = ((lse A (112 + (i 1).val) (64 * (i 0).val) : ℝ) : EReal) := by
  have h1 : (i 1).val < 8208 := (i 1).isLt
  have e60 : val_main_v60 (F := Ideal) x0 x1 x4 i = val_main_v39 (F := Ideal) x0 x1 x4 i := by
    rw [val_main_v60_apply, val_main_v39_apply]
    refine congrArg₂ (· + ·) rfl (Finset.sum_congr rfl fun k _ => ?_)
    rw [r59 H]
  have hp := den_pos A (shift A x0 x1 x4 i) (64 * (i 0).val / 64) (112 + (i 1).val) (by omega) (by omega)
  have e : 64 * (i 0).val / 64 = (i 0).val := by omega
  rw [val_main_v64_apply, val_main_v62_apply, r55 H, val_main_v61_apply, e60, r39 H, val_main_v63_apply, r9 H, Ideal.hostUnary_log_def,
    log_coe _ (by rw [e] at hp; exact hp), Ideal.addf_def, Ideal.subf_def, ← EReal.coe_add, ← EReal.coe_sub, ← lse_shift A _ _ _ hp, e]
  exact congrArg _ (by show _ + A.c (i 0).val (112 + (i 1).val) + _ - A.c (i 0).val (112 + (i 1).val) = _; ring)

/-- The third result. -/
theorem r67 (i : S8208x1024.Idx) : val_main_v67 (F := Ideal) x0 x1 x4 i = ((lse A (112 + (i 0).val) (i 1).val : ℝ) : EReal) := by
  have h0 : (i 0).val < 8208 := (i 0).isLt
  have h1 : (i 1).val < 1024 := (i 1).isLt
  rw [val_main_v67_apply, val_main_v66_apply, val_main_v65_apply, r64 H]
  unfold lse
  exact coe2 (fun i x => Real.log (den A 0 x i 8320)) (show 112 + ((i 0).val * 1024 + (i 1).val) / 1024 = 112 + (i 0).val by omega)
    (show 64 * (((i 0).val * 1024 + (i 1).val) / 64 % 16) / 64 = (i 1).val / 64 by omega)

end Cert.FwdRefIdeal.Real

end
-- ==== Proof.FwdAlgebraic.lean ====
/-
  The forward pass's program and its reference end with the same numbers: both compute the model's output, its product with the gate, and the logarithm
  of the normaliser. The frames of both are here too.
-/
module

public import proofs.«01_k».proof.Proof.FwdFinite
public import proofs.«01_k».proof.Proof.FwdResults
public import proofs.«01_k».proof.Proof.FwdRefRead

@[expose] public section

noncomputable section

namespace Cert.Proof

open Cert.FwdModel
open Idealize.ShloMosaic Idealize.SL.Sem

/-- The forward pass at the extended reals. -/
theorem frame_fwd_ideal : Cert.quiescent_FwdIdeal := fun m ρ _ => Cert.FwdIdeal.Hand.quiescent (F := Ideal) m ρ

/-- Its frame under the precondition. -/
theorem frame_fwd_ideal_finite : Cert.quiescent_FwdIdeal_pre_finite_fwd := fun m ρ _ => Cert.FwdIdeal.Hand.quiescent (F := Ideal) m ρ

/-- Its reference: no operation writes an argument and it declares no counter. -/
theorem frame_fwd_reference : Cert.quiescent_FwdRefIdeal := fun m ρ _ =>
  (θ_run Cert.FwdRefIdeal.defs _ _).mono (fun r h => ⟨fun c => (h c).2.2.2, sem_eq_zero_of_no_sems (by decide) r.2⟩)
    (Cert.FwdRefIdeal.Value.run (F := Ideal) m ρ)

/-- The reference's frame under the precondition. -/
theorem frame_fwd_reference_finite : Cert.quiescent_FwdRefIdeal_pre_finite_fwd := fun m ρ _ => frame_fwd_reference m ρ trivial

/-- Under the precondition both programs end with the model's outputs. -/
theorem algebraic_fwd : Cert.algebraic_FwdIdeal_FwdRefIdeal_pre_finite_fwd := by
  intro m g m' g' hm he
  let A : Dev Cert.FwdIdeal.nD → FArgs := fun c => Cert.Pre_finite_fwd.Real.args (m ((c.tc : Thread Cert.FwdIdeal.nD Cert.FwdIdeal.τ).loc Cert.FwdIdeal.main_arg0))
    (m ((c.tc : Thread Cert.FwdIdeal.nD Cert.FwdIdeal.τ).loc Cert.FwdIdeal.main_arg1))
    (m ((c.tc : Thread Cert.FwdIdeal.nD Cert.FwdIdeal.τ).loc Cert.FwdIdeal.main_arg2))
    (m ((c.tc : Thread Cert.FwdIdeal.nD Cert.FwdIdeal.τ).loc Cert.FwdIdeal.main_arg3))
    (m ((c.tc : Thread Cert.FwdIdeal.nD Cert.FwdIdeal.τ).loc Cert.FwdIdeal.main_arg4))
  have hK : ∀ c, Cert.FwdIdeal.Real.Given m c (A c) := fun c => Cert.Pre_finite_fwd.Real.holds (hm c)
  have hR : ∀ c : Dev Cert.FwdRefIdeal.nD, FHolds (A c)
      (m' ((c.tc : Thread Cert.FwdRefIdeal.nD Cert.FwdRefIdeal.τ).loc Cert.FwdRefIdeal.main_arg0))
      (m' ((c.tc : Thread Cert.FwdRefIdeal.nD Cert.FwdRefIdeal.τ).loc Cert.FwdRefIdeal.main_arg1))
      (m' ((c.tc : Thread Cert.FwdRefIdeal.nD Cert.FwdRefIdeal.τ).loc Cert.FwdRefIdeal.main_arg2))
      (m' ((c.tc : Thread Cert.FwdRefIdeal.nD Cert.FwdRefIdeal.τ).loc Cert.FwdRefIdeal.main_arg3))
      (m' ((c.tc : Thread Cert.FwdRefIdeal.nD Cert.FwdRefIdeal.τ).loc Cert.FwdRefIdeal.main_arg4)) := fun c => by
    obtain ⟨e0, e1, e2, e3, e4⟩ := he c
    rw [e0, e1, e2, e3, e4]
    exact hK c
  refine ⟨_, _, _, Cert.FwdIdeal.Real.run m g A hK, ?_⟩
  refine (θ_run Cert.FwdRefIdeal.defs _ _).mono (fun r h c => ?_) (Cert.FwdRefIdeal.Value.run (F := Ideal) m' g')
  obtain ⟨h0, h1, h2, h3⟩ := h c
  exact ⟨h0.trans ((Cert.FwdRefIdeal.Read.val_main_v45_eq m' c).trans (funext (Cert.FwdRefIdeal.Real.r45 (hR c)))),
    h1.trans ((Cert.FwdRefIdeal.Read.val_main_v54_eq m' c).trans (funext (Cert.FwdRefIdeal.Real.r54 (hR c)))),
    h2.trans ((Cert.FwdRefIdeal.Read.val_main_v67_eq m' c).trans (funext (Cert.FwdRefIdeal.Real.r67 (hR c)))), h3⟩

end Cert.Proof

end
-- ==== Proof.Prod.lean ====
/-
  Products of matrices by blocks: an element by its row and column, a sum over blocks, and a sum gathered step by step.
-/
module

public import Idealize.ShloMosaic.Lib.Pointwise
public import Idealize.ShloMosaic.Lib.Pipeline.ValueKit

@[expose] public section

noncomputable section

namespace Cert.Prod

open Idealize.ShloMosaic

theorem origin : (![0, 0] : Fin 2 → Nat) = fun _ => 0 := funext fun a => match a with
  | ⟨0, _⟩ => rfl
  | ⟨1, _⟩ => rfl

/-- The element of a matrix in a row and a column, zero outside it. -/
def el {a b : ℕ} (x : (⟨2, ![a, b]⟩ : Shape).Idx → EReal) (i j : ℕ) : EReal :=
  if h : i < a ∧ j < b then x (ix2 ⟨i, h.1⟩ ⟨j, h.2⟩) else 0

theorem el_of {a b : ℕ} (x : (⟨2, ![a, b]⟩ : Shape).Idx → EReal) (i : (⟨2, ![a, b]⟩ : Shape).Idx) : x i = el x (i 0).val (i 1).val := by
  have h : (i 0).val < a ∧ (i 1).val < b := ⟨(i 0).isLt, (i 1).isLt⟩
  unfold el
  rw [dif_pos h]
  exact congrArg x (funext fun k => match k with
    | ⟨0, _⟩ => rfl
    | ⟨1, _⟩ => rfl)

theorem el_at {a b : ℕ} (x : (⟨2, ![a, b]⟩ : Shape).Idx → EReal) (i : (⟨2, ![a, b]⟩ : Shape).Idx) {u v : ℕ} (h0 : (i 0).val = u) (h1 : (i 1).val = v) : x i = el x u v := by
  rw [el_of x i, h0, h1]

/-- An element of the product of two matrices: rows against columns, -/
def nn {p q r s : ℕ} (K : ℕ) (x : (⟨2, ![p, q]⟩ : Shape).Idx → EReal) (y : (⟨2, ![r, s]⟩ : Shape).Idx → EReal) (i j : ℕ) : EReal :=
  ∑ k : Fin K, el x i k.val * el y k.val j

/-- rows against rows, -/
def nt {p q r s : ℕ} (K : ℕ) (x : (⟨2, ![p, q]⟩ : Shape).Idx → EReal) (y : (⟨2, ![r, s]⟩ : Shape).Idx → EReal) (i j : ℕ) : EReal :=
  ∑ k : Fin K, el x i k.val * el y j k.val

/-- columns against columns. -/
def tn {p q r s : ℕ} (K : ℕ) (x : (⟨2, ![p, q]⟩ : Shape).Idx → EReal) (y : (⟨2, ![r, s]⟩ : Shape).Idx → EReal) (i j : ℕ) : EReal :=
  ∑ k : Fin K, el x k.val i * el y k.val j

/-- An element of a product gathered from zero. -/
theorem dot_sum {s₁ s₂ s₃ : Shape} {φ₁ φ₂ : FTy} (d : DotDims s₁ s₂ s₃) {a : Fin s₁.rank} (hc : d.lhsContracting = [a]) {K : ℕ} (hK : s₁.size a = K)
    (x : FVec Ideal s₁ φ₁) (y : FVec Ideal s₂ φ₂) (j : s₃.Idx) (l : Fin K → s₁.Idx) (r : Fin K → s₂.Idx)
    (hl : ∀ k, Shape.Idx.norm (d.lhsIdx j (d.contrIdx₁ hc hK k)) = l k) (hr : ∀ k, Shape.Idx.norm (d.rhsIdx j (d.contrIdx₁ hc hK k)) = r k) :
    matmul d none x y (constant (F := Ideal) s₃ .f32 0x00000000#32) j = ∑ k : Fin K, x (l k) * y (r k) := by
  unfold matmul
  rw [Ideal.matmul_def, Ideal.matmul_apply₁_of d hc hK x y _ j l r hl hr, constant_apply, Ideal.ofBits_def, Ideal.ofBits_zero_f32, zero_add]

/-- A sum over `n` blocks of `w` terms is the sum over all of them. -/
theorem sum_tiles {β : Type*} [AddCommMonoid β] (f : ℕ → β) (n w : ℕ) :
    ∑ b ∈ Finset.range n, ∑ r : Fin w, f (b * w + r.val) = ∑ x : Fin (n * w), f x.val := by
  rw [Fin.sum_univ_eq_sum_range f (n * w), ← Finset.sum_range_range_mul_add]
  exact Finset.sum_congr rfl fun b _ => Fin.sum_univ_eq_sum_range (fun r => f (b * w + r)) w

/-- What is set at the first of each `w` steps and added to at the others, step `b` of them bringing the `b`-th `K` terms of a sum,
    is the whole sum after the last. -/
theorem gathered {ι β : Type*} [AddCommMonoid β] {N w K : ℕ} (S : (n : ℕ) → n < N → ι → β) (f : ℕ → ℕ → ι → β)
    (h0 : ∀ n (h : n < N), n % w = 0 → ∀ y, S n h y = ∑ k : Fin K, f (n / w) (n % w * K + k.val) y)
    (hs : ∀ n (h : n < N), ¬n % w = 0 → ∀ y, S n h y = S (n - 1) (Nat.lt_of_le_of_lt (Nat.sub_le _ _) h) y + ∑ k : Fin K, f (n / w) (n % w * K + k.val) y)
    (n : ℕ) (h : n < N) (hn : n % w + 1 = w) (y : ι) : S n h y = ∑ k : Fin (w * K), f (n / w) k.val y := by
  have all : ∀ n (h : n < N), S n h y = ∑ b ∈ Finset.range (n % w + 1), ∑ k : Fin K, f (n / w) (b * K + k.val) y := by
    intro n
    induction n with
    | zero => intro h; rw [h0 0 h (Nat.zero_mod w), Nat.zero_mod, Finset.sum_range_one]
    | succ n ih =>
      intro h
      by_cases hz : (n + 1) % w = 0
      · rw [h0 _ h hz, hz, Finset.sum_range_one]
      · have hq : (n + 1) / w = n / w := by
          rw [Nat.succ_div, if_neg (fun hd => hz (Nat.mod_eq_zero_of_dvd hd)), Nat.add_zero]
        have hr : (n + 1) % w = n % w + 1 := by
          have e1 := Nat.div_add_mod n w
          have e2 := Nat.div_add_mod (n + 1) w
          rw [hq] at e2
          omega
        rw [hs _ h hz]
        show S n _ y + _ = _
        rw [ih (Nat.lt_of_succ_lt h), hq, hr, Finset.sum_range_succ _ (n % w + 1)]
  rw [all n h, hn]
  exact sum_tiles (fun k => f (n / w) k y) w K

end Cert.Prod

end
-- ==== Proof.DownDx.lean ====
/-
  The gradient of the down projection's rows: the rows of the gradient against the rows of the weight.
-/
module

public import proofs.«01_k».proof.Proof.Prod
public import proofs.«01_k».proof.Proof.Gen.DownDxIdeal.Value
public import proofs.«01_k».proof.Proof.Gen.DownDxRefIdeal.Read
public import proofs.«01_k».proof.Defs
public import Idealize.ShloMosaic.Lib.Pipeline.Covers

@[expose] public section

set_option maxRecDepth 16384

noncomputable section

namespace Cert.DownDxIdeal.Prod

open Cert.DownDxIdeal Cert.DownDxIdeal.Gen Cert.Prod
open Idealize.ShloMosaic Idealize.ShloMosaic.TcCoe Idealize.SL.Sem

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![2816, 1024]⟩ : Shape).Idx → EReal := m ((c : Thread nD τ).loc main_arg1)

theorem at0 : ∀ t : Fin cfg0.N, win0_0.index t = ![t.val / 2, 0] := (by decide +kernel : ∀ t : Fin grid0.N, win0_0.index t = ![t.val / 2, 0])
theorem at1 : ∀ t : Fin cfg0.N, win0_1.index t = ![t.val % 2, 0] := (by decide +kernel : ∀ t : Fin grid0.N, win0_1.index t = ![t.val % 2, 0])
theorem at2 : ∀ t : Fin cfg0.N, win0_2.index t = ![t.val / 2, t.val % 2] := (by decide +kernel : ∀ t : Fin grid0.N, win0_2.index t = ![t.val / 2, t.val % 2])

/-- What a point computes. -/
theorem point (t : Fin cfg0.N) (y : S1664x1408.Idx) :
    out0_2 (F := Ideal) (iblk m c 0 t) (iblk m c 1 t) y = nt 1024 (lhs m c) (rhs m c) (t.val / 2 * 1664 + (y 0).val) (t.val % 2 * 1408 + (y 1).val) := by
  unfold out0_2
  rw [View.canon_unit_zero origin, View.ld_unit_zero (S := S1664x1024) origin, View.ld_unit_zero (S := S1408x1024) origin]
  refine (dot_sum (φ₁ := .bf16) (φ₂ := .bf16) dot_S1664x1024_S1408x1024_S1664x1408_1_1_0_0_n_n (K := 1024) rfl rfl _ _ y
    (fun k => ix2 (⟨(y 0).val, (y 0).isLt⟩ : Fin 1664) (k : Fin 1024)) (fun k => ix2 (⟨(y 1).val, (y 1).isLt⟩ : Fin 1408) (k : Fin 1024))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

theorem arr (i : S8320x2816.Idx) : (dats m 0 c).arrAt 2 cfg0.N i = nt 1024 (lhs m c) (rhs m c) (i 0).val (i 1).val := by
  refine congrFun ((dats m 0 c).arrAt_eq_of_covers 2 (fun i : S8320x2816.Idx => nt 1024 (lhs m c) (rhs m c) (i 0).val (i 1).val) (by decide +kernel) fun t hf y => ?_) i
  have e0 : ((((cfg0.win 2).blk t).view.emb y) 0).val = t.val / 2 * 1664 + (y 0).val := by blk_simp [at2 t]
  have e1 : ((((cfg0.win 2).blk t).view.emb y) 1).val = t.val % 2 * 1408 + (y 1).val := by blk_simp [at2 t]
  refine (congrFun (Value.flushed2 m c t) y).trans ((point m c t y).trans ?_)
  show _ = nt 1024 (lhs m c) (rhs m c) ((((cfg0.win 2).blk t).view.emb y) 0).val ((((cfg0.win 2).blk t).view.emb y) 1).val
  rw [e0, e1]

end Cert.DownDxIdeal.Prod

namespace Cert.Proof

open Idealize.ShloMosaic Idealize.ShloMosaic.TcCoe Idealize.SL.Sem Cert.Prod

/-- The kernel's product and the reference's gradient are one sum. -/
theorem algebraic_down_dx : Cert.algebraic_DownDxIdeal_DownDxRefIdeal := by
  intro m g m' g' _ he
  refine ⟨_, Cert.DownDxIdeal.Value.run_blocks m g, ?_⟩
  refine (θ_run Cert.DownDxRefIdeal.defs _ _).mono (fun r h c => ?_) (Cert.DownDxRefIdeal.Value.run (F := Ideal) m' g')
  obtain ⟨e0, e1⟩ := he c
  refine ⟨(h c).1.trans (funext fun i => ?_), (h c).2⟩
  rw [e0, e1, Cert.DownDxRefIdeal.Read.val_main_v4_eq, Cert.DownDxIdeal.Prod.arr, Cert.DownDxRefIdeal.Read.val_main_v4_apply]
  refine (Cert.DownDxRefIdeal.Read.val_main_v3_apply _ _ _).trans (Finset.sum_congr rfl fun k _ => ?_)
  exact congrArg₂ (· * ·) (el_at (Cert.DownDxIdeal.Prod.lhs m c) _ rfl rfl) (el_at (Cert.DownDxIdeal.Prod.rhs m c) _ rfl rfl)

end Cert.Proof

end
-- ==== Proof.DownDw.lean ====
/-
  The gradient of the down projection's weight: the columns of the activations against the columns of the gradient, the rows gathered in five blocks.
-/
module

public import proofs.«01_k».proof.Proof.Prod
public import proofs.«01_k».proof.Proof.Gen.DownDwIdeal.Value
public import proofs.«01_k».proof.Proof.Gen.DownDwRefIdeal.Read
public import proofs.«01_k».proof.Defs
public import Idealize.ShloMosaic.Lib.Pipeline.ValueKit
public import Idealize.ShloMosaic.Lib.Pipeline.Covers

@[expose] public section

set_option maxRecDepth 16384

noncomputable section

namespace Cert.DownDwIdeal.Prod

open Cert.DownDwIdeal Cert.DownDwIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1408 .bf16) (h3 : a3.IsWhole) (a4 : Memref sig .tc .vmem S1664x1024 .f32) (h4 : a4.IsWhole)
  (a5 : Memref sig .tc .vmem S1408x1024 .bf16) (h5 : a5.IsWhole) (a6 : Memref sig .tc .vmem S1408x1024 .f32) (h6 : a6.IsWhole)
  (x : Vec F S1664x1408 .bf16) (y : Vec F S1664x1024 .f32) (s : Vec F S1408x1024 .f32)

/-- The first point of a column of blocks sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1408) origin, View.ld_unit_zero (S := S1664x1024) origin, shapeCast_self]

/-- The points between add to it. -/
theorem middle (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1664x1024) origin, View.ld_unit_zero (S := S1408x1024) origin, shapeCast_self]

/-- The last adds to it, -/
theorem last (h0 : ¬cond0_0 i) (h1 : cond0_1 i) (h2 : cond0_2 i) :
    sout0_C_0 c i a3 h3 a4 h4 a5 h5 a6 h6 h0 h1 h2 x y s = addf s (k0_pay1 x y) := by
  unfold sout0_C_0
  rw [View.read_writes_eq_canon _ _ _ (scover0_C_0 c i a3 h3 a4 h4 a5 h5 a6 h6 h0 h1 h2 x y s)]
  unfold kernelRun0_C
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1664x1024) origin, View.ld_unit_zero (S := S1408x1024) origin, shapeCast_self]

/-- and leaves it rounded in the result. -/
theorem stored (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero origin, View.readCov_unit_zero (S := S1408x1024) _ origin]
  unfold k0_pay3
  simp only [View.readAt_eq_ld, h3.read_unread, h4.read_unread, h6.read_unread, View.ld_unit_zero (S := S1664x1408) origin, View.ld_unit_zero (S := S1664x1024) origin, View.ld_unit_zero (S := S1408x1024) origin, shapeCast_self]

end Cases

/-! ## The sum over the rows -/

variable (m : (ℓ : Loc nD τ sig) → Buf (Elt Ideal) ℓ) (c : Dev nD)

abbrev lhs : (⟨2, ![8320, 2816]⟩ : Shape).Idx → EReal := m ((c : Thread nD τ).loc main_arg0)
abbrev rhs : (⟨2, ![8320, 1024]⟩ : Shape).Idx → EReal := m ((c : Thread nD τ).loc main_arg1)

theorem at0 : ∀ t : Fin cfg0.N, win0_0.index t = ![t.val % 5, t.val / 5] := (by decide +kernel : ∀ t : Fin grid0.N, win0_0.index t = ![t.val % 5, t.val / 5])
theorem at1 : ∀ t : Fin cfg0.N, win0_1.index t = ![t.val % 5, 0] := (by decide +kernel : ∀ t : Fin grid0.N, win0_1.index t = ![t.val % 5, 0])
theorem at2 : ∀ t : Fin cfg0.N, win0_2.index t = ![t.val / 5, 0] := (by decide +kernel : ∀ t : Fin grid0.N, win0_2.index t = ![t.val / 5, 0])

/-- The `k`-th term of an element of the result's `a`-th block. -/
def term (a k : ℕ) (y : S1408x1024.Idx) : EReal := el (lhs m c) k (a * 1408 + (y 0).val) * el (rhs m c) k (y 1).val

/-- What a point brings. -/
theorem part (t : Fin cfg0.N) (y : S1408x1024.Idx) :
    k0_pay1 (F := Ideal) (iblk m c 0 t) (iblk m c 1 t) y = ∑ k : Fin 1664, term m c (t.val / 5) (t.val % 5 * 1664 + k.val) y := by
  refine (dot_sum (φ₁ := .bf16) (φ₂ := .bf16) (K := 1664) dot_S1664x1408_S1664x1024_S1408x1024_0_0_1_1_n_n rfl rfl _ _ y
    (fun k => ix2 (k : Fin 1664) (⟨(y 0).val, (y 0).isLt⟩ : Fin 1408)) (fun k => ix2 (k : Fin 1664) (⟨(y 1).val, (y 1).isLt⟩ : Fin 1024))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

/-- The sum after the last of the five points. -/
theorem sum_at (t : Fin cfg0.N) (ht : t.val % 5 = 4) (y : S1408x1024.Idx) : (outsAt0 m c t.val t.isLt).2 y = ∑ k : Fin 8320, term m c (t.val / 5) k.val y :=
  gathered (w := 5) (K := 1664) (fun n h => (outsAt0 m c n h).2) (term m c)
    (fun n h h0 y => by
      rw [outsAt0_A m c ⟨n, h⟩ h0 (by dsimp only; omega) (by dsimp only; omega)]
      dsimp only
      rw [first, part])
    (fun n h h0 y => by
      by_cases h4 : n % 5 = 4
      · rw [outsAt0_C m c ⟨n, h⟩ h0 (by dsimp only; omega) h4]
        dsimp only
        rw [last, addf_apply, part]; rfl
      · rw [outsAt0_B m c ⟨n, h⟩ h0 (by dsimp only; omega) h4]
        dsimp only
        rw [middle, addf_apply, part]; rfl)
    t.val t.isLt (by omega) y

theorem arr (i : S2816x1024.Idx) : (dats m 0 c).arrAt 2 cfg0.N i = tn 8320 (lhs m c) (rhs m c) (i 0).val (i 1).val := by
  refine congrFun ((dats m 0 c).arrAt_eq_of_covers 2 (fun i : S2816x1024.Idx => tn 8320 (lhs m c) (rhs m c) (i 0).val (i 1).val) (by decide +kernel) fun t hf y => ?_) i
  have ht := (flush0_2 t).mp hf
  have e0 : ((((cfg0.win 2).blk t).view.emb y) 0).val = t.val / 5 * 1408 + (y 0).val := by blk_simp [at2 t]
  have e1 : ((((cfg0.win 2).blk t).view.emb y) 1).val = (y 1).val := by blk_simp [at2 t]
  have e : (dats m 0 c).flushed 2 t = (outsAt0 m c t.val t.isLt).2 := by
    rw [Value.flushed2_C m c t (by omega) (by omega) ht, stored, outsAt0_C m c t (by omega) (by omega) ht]
    dsimp only
    rw [last]
    rfl
  refine (congrFun e y).trans ((sum_at m c t ht y).trans ?_)
  show _ = tn 8320 (lhs m c) (rhs m c) ((((cfg0.win 2).blk t).view.emb y) 0).val ((((cfg0.win 2).blk t).view.emb y) 1).val
  rw [e0, e1]
  rfl

end Cert.DownDwIdeal.Prod

namespace Cert.Proof

open Idealize.ShloMosaic Idealize.ShloMosaic.TcCoe Idealize.SL.Sem Cert.Prod

/-- The kernel's product and the reference's gradient are one sum. -/
theorem algebraic_down_dw : Cert.algebraic_DownDwIdeal_DownDwRefIdeal := by
  intro m g m' g' _ he
  refine ⟨_, Cert.DownDwIdeal.Value.run_blocks m g, ?_⟩
  refine (θ_run Cert.DownDwRefIdeal.defs _ _).mono (fun r h c => ?_) (Cert.DownDwRefIdeal.Value.run (F := Ideal) m' g')
  obtain ⟨e0, e1⟩ := he c
  refine ⟨(h c).1.trans (funext fun i => ?_), (h c).2⟩
  rw [e0, e1, Cert.DownDwRefIdeal.Read.val_main_v5_eq, Cert.DownDwIdeal.Prod.arr, Cert.DownDwRefIdeal.Read.val_main_v5_apply, Cert.DownDwRefIdeal.Read.val_main_v4_apply]
  refine (Cert.DownDwRefIdeal.Read.val_main_v3_apply _ _ _).trans (Finset.sum_congr rfl fun k _ => ?_)
  rw [mul_comm]
  exact congrArg₂ (· * ·) (el_at (Cert.DownDwIdeal.Prod.lhs m c) _ rfl rfl) (el_at (Cert.DownDwIdeal.Prod.rhs m c) _ rfl rfl)

end Cert.Proof

end
-- ==== Proof.UpDx.lean ====
/-
  The gradient of the up projection's rows: the rows of the gradient against the rows of the weight, the columns gathered in four blocks.
-/
module

public import proofs.«01_k».proof.Proof.Prod
public import proofs.«01_k».proof.Proof.Gen.UpDxIdeal.Value
public import proofs.«01_k».proof.Proof.Gen.UpDxRefIdeal.Read
public import proofs.«01_k».proof.Defs
public import Idealize.ShloMosaic.Lib.Pipeline.ValueKit
public import Idealize.ShloMosaic.Lib.Pipeline.Covers

@[expose] public section

set_option maxRecDepth 16384

noncomputable section

namespace Cert.UpDxIdeal.Prod

open Cert.UpDxIdeal Cert.UpDxIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1408 .bf16) (h3 : a3.IsWhole) (a4 : Memref sig .tc .vmem S1024x1408 .bf16) (h4 : a4.IsWhole)
  (a5 : Memref sig .tc .vmem S1664x1024 .f32) (h5 : a5.IsWhole) (a6 : Memref sig .tc .vmem S1664x1024 .f32) (h6 : a6.IsWhole)
  (x : Vec F S1664x1408 .bf16) (y : Vec F S1024x1408 .bf16) (s : Vec F S1664x1024 .f32)

/-- The first point of a row of blocks sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1408) origin, View.ld_unit_zero (S := S1024x1408) origin, shapeCast_self]

/-- The points between add to it. -/
theorem middle (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1024x1408) origin, View.ld_unit_zero (S := S1664x1024) origin, shapeCast_self]

/-- The last adds to it, -/
theorem last (h0 : ¬cond0_0 i) (h1 : cond0_1 i) (h2 : cond0_2 i) :
    sout0_C_0 c i a3 h3 a4 h4 a5 h5 a6 h6 h0 h1 h2 x y s = addf s (k0_pay1 x y) := by
  unfold sout0_C_0
  rw [View.read_writes_eq_canon _ _ _ (scover0_C_0 c i a3 h3 a4 h4 a5 h5 a6 h6 h0 h1 h2 x y s)]
  unfold kernelRun0_C
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1024x1408) origin, View.ld_unit_zero (S := S1664x1024) origin, shapeCast_self]

/-- and leaves it in the result. -/
theorem stored (h0 : ¬cond0_0 i) (h1 : cond0_1 i) (h2 : cond0_2 i) :
    out0_C_2 c i a3 h3 a4 h4 a5 h5 a6 h6 h0 h1 h2 x y s = addf s (k0_pay1 x y) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero origin, View.readCov_unit_zero (S := S1664x1024) _ origin]
  unfold k0_pay3
  simp only [View.readAt_eq_ld, h3.read_unread, h4.read_unread, h6.read_unread, View.ld_unit_zero (S := S1664x1408) origin, View.ld_unit_zero (S := S1024x1408) origin, View.ld_unit_zero (S := S1664x1024) origin, shapeCast_self]

end Cases

/-! ## The sum over the rows -/

variable (m : (ℓ : Loc nD τ sig) → Buf (Elt Ideal) ℓ) (c : Dev nD)

abbrev lhs : (⟨2, ![8320, 5632]⟩ : Shape).Idx → EReal := m ((c : Thread nD τ).loc main_arg0)
abbrev rhs : (⟨2, ![1024, 5632]⟩ : Shape).Idx → EReal := m ((c : Thread nD τ).loc main_arg1)

theorem at0 : ∀ t : Fin cfg0.N, win0_0.index t = ![t.val / 4, t.val % 4] := (by decide +kernel : ∀ t : Fin grid0.N, win0_0.index t = ![t.val / 4, t.val % 4])
theorem at1 : ∀ t : Fin cfg0.N, win0_1.index t = ![0, t.val % 4] := (by decide +kernel : ∀ t : Fin grid0.N, win0_1.index t = ![0, t.val % 4])
theorem at2 : ∀ t : Fin cfg0.N, win0_2.index t = ![t.val / 4, 0] := (by decide +kernel : ∀ t : Fin grid0.N, win0_2.index t = ![t.val / 4, 0])

/-- The `k`-th term of an element of the result's `a`-th block. -/
def term (a k : ℕ) (y : S1664x1024.Idx) : EReal := el (lhs m c) (a * 1664 + (y 0).val) k * el (rhs m c) (y 1).val k

/-- What a point brings. -/
theorem part (t : Fin cfg0.N) (y : S1664x1024.Idx) :
    k0_pay1 (F := Ideal) (iblk m c 0 t) (iblk m c 1 t) y = ∑ k : Fin 1408, term m c (t.val / 4) (t.val % 4 * 1408 + k.val) y := by
  refine (dot_sum (φ₁ := .bf16) (φ₂ := .bf16) (K := 1408) dot_S1664x1408_S1024x1408_S1664x1024_1_1_0_0_n_n rfl rfl _ _ y
    (fun k => ix2 (⟨(y 0).val, (y 0).isLt⟩ : Fin 1664) (k : Fin 1408)) (fun k => ix2 (⟨(y 1).val, (y 1).isLt⟩ : Fin 1024) (k : Fin 1408))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

/-- The sum after the last of the four points. -/
theorem sum_at (t : Fin cfg0.N) (ht : t.val % 4 = 3) (y : S1664x1024.Idx) : (outsAt0 m c t.val t.isLt).2 y = ∑ k : Fin 5632, term m c (t.val / 4) k.val y :=
  gathered (w := 4) (K := 1408) (fun n h => (outsAt0 m c n h).2) (term m c)
    (fun n h h0 y => by
      rw [outsAt0_A m c ⟨n, h⟩ h0 (by dsimp only; omega) (by dsimp only; omega)]
      dsimp only
      rw [first, part])
    (fun n h h0 y => by
      by_cases h4 : n % 4 = 3
      · rw [outsAt0_C m c ⟨n, h⟩ h0 (by dsimp only; omega) h4]
        dsimp only
        rw [last, addf_apply, part]; rfl
      · rw [outsAt0_B m c ⟨n, h⟩ h0 (by dsimp only; omega) h4]
        dsimp only
        rw [middle, addf_apply, part]; rfl)
    t.val t.isLt (by omega) y

theorem arr (i : S8320x1024.Idx) : (dats m 0 c).arrAt 2 cfg0.N i = nt 5632 (lhs m c) (rhs m c) (i 0).val (i 1).val := by
  refine congrFun ((dats m 0 c).arrAt_eq_of_covers 2 (fun i : S8320x1024.Idx => nt 5632 (lhs m c) (rhs m c) (i 0).val (i 1).val) (by decide +kernel) fun t hf y => ?_) i
  have ht := (flush0_2 t).mp hf
  have e0 : ((((cfg0.win 2).blk t).view.emb y) 0).val = t.val / 4 * 1664 + (y 0).val := by blk_simp [at2 t]
  have e1 : ((((cfg0.win 2).blk t).view.emb y) 1).val = (y 1).val := by blk_simp [at2 t]
  have e : (dats m 0 c).flushed 2 t = (outsAt0 m c t.val t.isLt).2 := by
    rw [Value.flushed2_C m c t (by omega) (by omega) ht, stored, outsAt0_C m c t (by omega) (by omega) ht]
    dsimp only
    rw [last]
    rfl
  refine (congrFun e y).trans ((sum_at m c t ht y).trans ?_)
  show _ = nt 5632 (lhs m c) (rhs m c) ((((cfg0.win 2).blk t).view.emb y) 0).val ((((cfg0.win 2).blk t).view.emb y) 1).val
  rw [e0, e1]
  rfl

end Cert.UpDxIdeal.Prod

namespace Cert.Proof

open Idealize.ShloMosaic Idealize.ShloMosaic.TcCoe Idealize.SL.Sem Cert.Prod

/-- The kernel's product and the reference's gradient are one sum. -/
theorem algebraic_up_dx : Cert.algebraic_UpDxIdeal_UpDxRefIdeal := by
  intro m g m' g' _ he
  refine ⟨_, Cert.UpDxIdeal.Value.run_blocks m g, ?_⟩
  refine (θ_run Cert.UpDxRefIdeal.defs _ _).mono (fun r h c => ?_) (Cert.UpDxRefIdeal.Value.run (F := Ideal) m' g')
  obtain ⟨e0, e1⟩ := he c
  refine ⟨(h c).1.trans (funext fun i => ?_), (h c).2⟩
  rw [e0, e1, Cert.UpDxRefIdeal.Read.val_main_v4_eq, Cert.UpDxIdeal.Prod.arr]
  refine (Cert.UpDxRefIdeal.Read.val_main_v4_apply _ _ _).trans (Finset.sum_congr rfl fun k _ => ?_)
  exact congrArg₂ (· * ·) (el_at (Cert.UpDxIdeal.Prod.lhs m c) _ rfl rfl) (el_at (Cert.UpDxIdeal.Prod.rhs m c) _ rfl rfl)

end Cert.Proof

end
-- ==== Proof.UpDw.lean ====
/-
  The gradient of the up projection's weight: the columns of the activations against the columns of the gradient, the rows gathered in five blocks.
-/
module

public import proofs.«01_k».proof.Proof.Prod
public import proofs.«01_k».proof.Proof.Gen.UpDwIdeal.Value
public import proofs.«01_k».proof.Proof.Gen.UpDwRefIdeal.Read
public import proofs.«01_k».proof.Defs
public import Idealize.ShloMosaic.Lib.Pipeline.ValueKit
public import Idealize.ShloMosaic.Lib.Pipeline.Covers

@[expose] public section

set_option maxRecDepth 16384

noncomputable section

namespace Cert.UpDwIdeal.Prod

open Cert.UpDwIdeal Cert.UpDwIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1024 .bf16) (h3 : a3.IsWhole) (a4 : Memref sig .tc .vmem S1664x1408 .bf16) (h4 : a4.IsWhole)
  (a5 : Memref sig .tc .vmem S1024x1408 .bf16) (h5 : a5.IsWhole) (a6 : Memref sig .tc .vmem S1024x1408 .f32) (h6 : a6.IsWhole)
  (x : Vec F S1664x1024 .bf16) (y : Vec F S1664x1408 .bf16) (s : Vec F S1024x1408 .f32)

/-- The first point of a column of blocks sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1024) origin, View.ld_unit_zero (S := S1664x1408) origin, shapeCast_self]

/-- The points between add to it. -/
theorem middle (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1024) origin, View.ld_unit_zero (S := S1664x1408) origin, View.ld_unit_zero (S := S1024x1408) origin, shapeCast_self]

/-- The last adds to it, -/
theorem last (h0 : ¬cond0_0 i) (h1 : cond0_1 i) (h2 : cond0_2 i) :
    sout0_C_0 c i a3 h3 a4 h4 a5 h5 a6 h6 h0 h1 h2 x y s = addf s (k0_pay1 x y) := by
  unfold sout0_C_0
  rw [View.read_writes_eq_canon _ _ _ (scover0_C_0 c i a3 h3 a4 h4 a5 h5 a6 h6 h0 h1 h2 x y s)]
  unfold kernelRun0_C
  dsimp only
  sl_unfold_words
  rw [View.canon_unit_zero origin]
  unfold k0_pay3
  simp only [View.readAt_eq_ld, h3.read_unread, h4.read_unread, h6.read_unread, View.ld_unit_zero (S := S1664x1024) origin, View.ld_unit_zero (S := S1664x1408) origin, View.ld_unit_zero (S := S1024x1408) origin, shapeCast_self]

/-- and leaves it rounded in the result. -/
theorem stored (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero origin, View.readCov_unit_zero (S := S1024x1408) _ origin]
  unfold k0_pay3
  simp only [View.readAt_eq_ld, h3.read_unread, h4.read_unread, h6.read_unread, View.ld_unit_zero (S := S1664x1024) origin, View.ld_unit_zero (S := S1664x1408) origin, View.ld_unit_zero (S := S1024x1408) origin, shapeCast_self]

end Cases

/-! ## The sum over the rows -/

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![8320, 5632]⟩ : Shape).Idx → EReal := m ((c : Thread nD τ).loc main_arg1)

theorem at0 : ∀ t : Fin cfg0.N, win0_0.index t = ![t.val % 5, 0] := (by decide +kernel : ∀ t : Fin grid0.N, win0_0.index t = ![t.val % 5, 0])
theorem at1 : ∀ t : Fin cfg0.N, win0_1.index t = ![t.val % 5, t.val / 5] := (by decide +kernel : ∀ t : Fin grid0.N, win0_1.index t = ![t.val % 5, t.val / 5])
theorem at2 : ∀ t : Fin cfg0.N, win0_2.index t = ![0, t.val / 5] := (by decide +kernel : ∀ t : Fin grid0.N, win0_2.index t = ![0, t.val / 5])

/-- The `k`-th term of an element of the result's `a`-th block. -/
def term (a k : ℕ) (y : S1024x1408.Idx) : EReal := el (lhs m c) k (y 0).val * el (rhs m c) k (a * 1408 + (y 1).val)

/-- What a point brings. -/
theorem part (t : Fin cfg0.N) (y : S1024x1408.Idx) :
    k0_pay1 (F := Ideal) (iblk m c 0 t) (iblk m c 1 t) y = ∑ k : Fin 1664, term m c (t.val / 5) (t.val % 5 * 1664 + k.val) y := by
  refine (dot_sum (φ₁ := .bf16) (φ₂ := .bf16) (K := 1664) dot_S1664x1024_S1664x1408_S1024x1408_0_0_1_1_n_n rfl rfl _ _ y
    (fun k => ix2 (k : Fin 1664) (⟨(y 0).val, (y 0).isLt⟩ : Fin 1024)) (fun k => ix2 (k : Fin 1664) (⟨(y 1).val, (y 1).isLt⟩ : Fin 1408))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

/-- The sum after the last of the five points. -/
theorem sum_at (t : Fin cfg0.N) (ht : t.val % 5 = 4) (y : S1024x1408.Idx) : (outsAt0 m c t.val t.isLt).2 y = ∑ k : Fin 8320, term m c (t.val / 5) k.val y :=
  gathered (w := 5) (K := 1664) (fun n h => (outsAt0 m c n h).2) (term m c)
    (fun n h h0 y => by
      rw [outsAt0_A m c ⟨n, h⟩ h0 (by dsimp only; omega) (by dsimp only; omega)]
      dsimp only
      rw [first, part])
    (fun n h h0 y => by
      by_cases h4 : n % 5 = 4
      · rw [outsAt0_C m c ⟨n, h⟩ h0 (by dsimp only; omega) h4]
        dsimp only
        rw [last, addf_apply, part]; rfl
      · rw [outsAt0_B m c ⟨n, h⟩ h0 (by dsimp only; omega) h4]
        dsimp only
        rw [middle, addf_apply, part]; rfl)
    t.val t.isLt (by omega) y

theorem arr (i : S1024x5632.Idx) : (dats m 0 c).arrAt 2 cfg0.N i = tn 8320 (lhs m c) (rhs m c) (i 0).val (i 1).val := by
  refine congrFun ((dats m 0 c).arrAt_eq_of_covers 2 (fun i : S1024x5632.Idx => tn 8320 (lhs m c) (rhs m c) (i 0).val (i 1).val) (by decide +kernel) fun t hf y => ?_) i
  have ht := (flush0_2 t).mp hf
  have e0 : ((((cfg0.win 2).blk t).view.emb y) 0).val = (y 0).val := by blk_simp [at2 t]
  have e1 : ((((cfg0.win 2).blk t).view.emb y) 1).val = t.val / 5 * 1408 + (y 1).val := by blk_simp [at2 t]
  have e : (dats m 0 c).flushed 2 t = (outsAt0 m c t.val t.isLt).2 := by
    rw [Value.flushed2_C m c t (by omega) (by omega) ht, stored, outsAt0_C m c t (by omega) (by omega) ht]
    dsimp only
    rw [last]
    rfl
  refine (congrFun e y).trans ((sum_at m c t ht y).trans ?_)
  show _ = tn 8320 (lhs m c) (rhs m c) ((((cfg0.win 2).blk t).view.emb y) 0).val ((((cfg0.win 2).blk t).view.emb y) 1).val
  rw [e0, e1]
  rfl

end Cert.UpDwIdeal.Prod

namespace Cert.Proof

open Idealize.ShloMosaic Idealize.ShloMosaic.TcCoe Idealize.SL.Sem Cert.Prod

/-- The kernel's product and the reference's gradient are one sum. -/
theorem algebraic_up_dw : Cert.algebraic_UpDwIdeal_UpDwRefIdeal := by
  intro m g m' g' _ he
  refine ⟨_, Cert.UpDwIdeal.Value.run_blocks m g, ?_⟩
  refine (θ_run Cert.UpDwRefIdeal.defs _ _).mono (fun r h c => ?_) (Cert.UpDwRefIdeal.Value.run (F := Ideal) m' g')
  obtain ⟨e0, e1⟩ := he c
  refine ⟨(h c).1.trans (funext fun i => ?_), (h c).2⟩
  rw [e0, e1, Cert.UpDwRefIdeal.Read.val_main_v6_eq, Cert.UpDwIdeal.Prod.arr, Cert.UpDwRefIdeal.Read.val_main_v6_apply, Cert.UpDwRefIdeal.Read.val_main_v5_apply]
  refine (Cert.UpDwRefIdeal.Read.val_main_v4_apply _ _ _).trans (Finset.sum_congr rfl fun k _ => ?_)
  rw [mul_comm]
  exact congrArg₂ (· * ·) (el_at (Cert.UpDwIdeal.Prod.lhs m c) _ rfl rfl) (el_at (Cert.UpDwIdeal.Prod.rhs m c) _ rfl rfl)

end Cert.Proof

end
-- ==== Proof.InDx.lean ====
/-
  The gradient of the input projection's rows: the rows of the gradient against the rows of the weight, the columns gathered in three blocks.
-/
module

public import proofs.«01_k».proof.Proof.Prod
public import proofs.«01_k».proof.Proof.Gen.InDxIdeal.Value
public import proofs.«01_k».proof.Proof.Gen.InDxRefIdeal.Read
public import proofs.«01_k».proof.Defs
public import Idealize.ShloMosaic.Lib.Pipeline.ValueKit
public import Idealize.ShloMosaic.Lib.Pipeline.Covers

@[expose] public section

set_option maxRecDepth 16384

noncomputable section

namespace Cert.InDxIdeal.Prod

open Cert.InDxIdeal Cert.InDxIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1408 .bf16) (h3 : a3.IsWhole) (a4 : Memref sig .tc .vmem S1024x1408 .bf16) (h4 : a4.IsWhole)
  (a5 : Memref sig .tc .vmem S1664x1024 .f32) (h5 : a5.IsWhole) (a6 : Memref sig .tc .vmem S1664x1024 .f32) (h6 : a6.IsWhole)
  (x : Vec F S1664x1408 .bf16) (y : Vec F S1024x1408 .bf16) (s : Vec F S1664x1024 .f32)

/-- The first point of a row of blocks sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1408) origin, View.ld_unit_zero (S := S1024x1408) origin, shapeCast_self]

/-- The points between add to it. -/
theorem middle (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1024x1408) origin, View.ld_unit_zero (S := S1664x1024) origin, shapeCast_self]

/-- The last adds to it, -/
theorem last (h0 : ¬cond0_0 i) (h1 : cond0_1 i) (h2 : cond0_2 i) :
    sout0_C_0 c i a3 h3 a4 h4 a5 h5 a6 h6 h0 h1 h2 x y s = addf s (k0_pay1 x y) := by
  unfold sout0_C_0
  rw [View.read_writes_eq_canon _ _ _ (scover0_C_0 c i a3 h3 a4 h4 a5 h5 a6 h6 h0 h1 h2 x y s)]
  unfold kernelRun0_C
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1024x1408) origin, View.ld_unit_zero (S := S1664x1024) origin, shapeCast_self]

/-- and leaves it in the result. -/
theorem stored (h0 : ¬cond0_0 i) (h1 : cond0_1 i) (h2 : cond0_2 i) :
    out0_C_2 c i a3 h3 a4 h4 a5 h5 a6 h6 h0 h1 h2 x y s = addf s (k0_pay1 x y) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero origin, View.readCov_unit_zero (S := S1664x1024) _ origin]
  unfold k0_pay3
  simp only [View.readAt_eq_ld, h3.read_unread, h4.read_unread, h6.read_unread, View.ld_unit_zero (S := S1664x1408) origin, View.ld_unit_zero (S := S1024x1408) origin, View.ld_unit_zero (S := S1664x1024) origin, shapeCast_self]

end Cases

/-! ## The sum over the rows -/

variable (m : (ℓ : Loc nD τ sig) → Buf (Elt Ideal) ℓ) (c : Dev nD)

abbrev lhs : (⟨2, ![8320, 4224]⟩ : Shape).Idx → EReal := m ((c : Thread nD τ).loc main_arg0)
abbrev rhs : (⟨2, ![1024, 4224]⟩ : Shape).Idx → EReal := m ((c : Thread nD τ).loc main_arg1)

theorem at0 : ∀ t : Fin cfg0.N, win0_0.index t = ![t.val / 3, t.val % 3] := (by decide +kernel : ∀ t : Fin grid0.N, win0_0.index t = ![t.val / 3, t.val % 3])
theorem at1 : ∀ t : Fin cfg0.N, win0_1.index t = ![0, t.val % 3] := (by decide +kernel : ∀ t : Fin grid0.N, win0_1.index t = ![0, t.val % 3])
theorem at2 : ∀ t : Fin cfg0.N, win0_2.index t = ![t.val / 3, 0] := (by decide +kernel : ∀ t : Fin grid0.N, win0_2.index t = ![t.val / 3, 0])

/-- The `k`-th term of an element of the result's `a`-th block. -/
def term (a k : ℕ) (y : S1664x1024.Idx) : EReal := el (lhs m c) (a * 1664 + (y 0).val) k * el (rhs m c) (y 1).val k

/-- What a point brings. -/
theorem part (t : Fin cfg0.N) (y : S1664x1024.Idx) :
    k0_pay1 (F := Ideal) (iblk m c 0 t) (iblk m c 1 t) y = ∑ k : Fin 1408, term m c (t.val / 3) (t.val % 3 * 1408 + k.val) y := by
  refine (dot_sum (φ₁ := .bf16) (φ₂ := .bf16) (K := 1408) dot_S1664x1408_S1024x1408_S1664x1024_1_1_0_0_n_n rfl rfl _ _ y
    (fun k => ix2 (⟨(y 0).val, (y 0).isLt⟩ : Fin 1664) (k : Fin 1408)) (fun k => ix2 (⟨(y 1).val, (y 1).isLt⟩ : Fin 1024) (k : Fin 1408))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

/-- The sum after the last of the three points. -/
theorem sum_at (t : Fin cfg0.N) (ht : t.val % 3 = 2) (y : S1664x1024.Idx) : (outsAt0 m c t.val t.isLt).2 y = ∑ k : Fin 4224, term m c (t.val / 3) k.val y :=
  gathered (w := 3) (K := 1408) (fun n h => (outsAt0 m c n h).2) (term m c)
    (fun n h h0 y => by
      rw [outsAt0_A m c ⟨n, h⟩ h0 (by dsimp only; omega) (by dsimp only; omega)]
      dsimp only
      rw [first, part])
    (fun n h h0 y => by
      by_cases h4 : n % 3 = 2
      · rw [outsAt0_C m c ⟨n, h⟩ h0 (by dsimp only; omega) h4]
        dsimp only
        rw [last, addf_apply, part]; rfl
      · rw [outsAt0_B m c ⟨n, h⟩ h0 (by dsimp only; omega) h4]
        dsimp only
        rw [middle, addf_apply, part]; rfl)
    t.val t.isLt (by omega) y

theorem arr (i : S8320x1024.Idx) : (dats m 0 c).arrAt 2 cfg0.N i = nt 4224 (lhs m c) (rhs m c) (i 0).val (i 1).val := by
  refine congrFun ((dats m 0 c).arrAt_eq_of_covers 2 (fun i : S8320x1024.Idx => nt 4224 (lhs m c) (rhs m c) (i 0).val (i 1).val) (by decide +kernel) fun t hf y => ?_) i
  have ht := (flush0_2 t).mp hf
  have e0 : ((((cfg0.win 2).blk t).view.emb y) 0).val = t.val / 3 * 1664 + (y 0).val := by blk_simp [at2 t]
  have e1 : ((((cfg0.win 2).blk t).view.emb y) 1).val = (y 1).val := by blk_simp [at2 t]
  have e : (dats m 0 c).flushed 2 t = (outsAt0 m c t.val t.isLt).2 := by
    rw [Value.flushed2_C m c t (by omega) (by omega) ht, stored, outsAt0_C m c t (by omega) (by omega) ht]
    dsimp only
    rw [last]
    rfl
  refine (congrFun e y).trans ((sum_at m c t ht y).trans ?_)
  show _ = nt 4224 (lhs m c) (rhs m c) ((((cfg0.win 2).blk t).view.emb y) 0).val ((((cfg0.win 2).blk t).view.emb y) 1).val
  rw [e0, e1]
  rfl

end Cert.InDxIdeal.Prod

namespace Cert.Proof

open Idealize.ShloMosaic Idealize.ShloMosaic.TcCoe Idealize.SL.Sem Cert.Prod

/-- The kernel's product and the reference's gradient are one sum. -/
theorem algebraic_in_dx : Cert.algebraic_InDxIdeal_InDxRefIdeal := by
  intro m g m' g' _ he
  refine ⟨_, Cert.InDxIdeal.Value.run_blocks m g, ?_⟩
  refine (θ_run Cert.InDxRefIdeal.defs _ _).mono (fun r h c => ?_) (Cert.InDxRefIdeal.Value.run (F := Ideal) m' g')
  obtain ⟨e0, e1⟩ := he c
  refine ⟨(h c).1.trans (funext fun i => ?_), (h c).2⟩
  rw [e0, e1, Cert.InDxRefIdeal.Read.val_main_v4_eq, Cert.InDxIdeal.Prod.arr]
  refine (Cert.InDxRefIdeal.Read.val_main_v4_apply _ _ _).trans (Finset.sum_congr rfl fun k _ => ?_)
  exact congrArg₂ (· * ·) (el_at (Cert.InDxIdeal.Prod.lhs m c) _ rfl rfl) (el_at (Cert.InDxIdeal.Prod.rhs m c) _ rfl rfl)

end Cert.Proof

end
-- ==== Proof.InDw.lean ====
/-
  The gradient of the input projection's weight: the columns of the activations against the columns of the gradient, the rows gathered in five blocks.
-/
module

public import proofs.«01_k».proof.Proof.Prod
public import proofs.«01_k».proof.Proof.Gen.InDwIdeal.Value
public import proofs.«01_k».proof.Proof.Gen.InDwRefIdeal.Read
public import proofs.«01_k».proof.Defs
public import Idealize.ShloMosaic.Lib.Pipeline.ValueKit
public import Idealize.ShloMosaic.Lib.Pipeline.Covers

@[expose] public section

set_option maxRecDepth 16384

noncomputable section

namespace Cert.InDwIdeal.Prod

open Cert.InDwIdeal Cert.InDwIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1024 .bf16) (h3 : a3.IsWhole) (a4 : Memref sig .tc .vmem S1664x1408 .bf16) (h4 : a4.IsWhole)
  (a5 : Memref sig .tc .vmem S1024x1408 .bf16) (h5 : a5.IsWhole) (a6 : Memref sig .tc .vmem S1024x1408 .f32) (h6 : a6.IsWhole)
  (x : Vec F S1664x1024 .bf16) (y : Vec F S1664x1408 .bf16) (s : Vec F S1024x1408 .f32)

/-- The first point of a column of blocks sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1024) origin, View.ld_unit_zero (S := S1664x1408) origin, shapeCast_self]

/-- The points between add to it. -/
theorem middle (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1024) origin, View.ld_unit_zero (S := S1664x1408) origin, View.ld_unit_zero (S := S1024x1408) origin, shapeCast_self]

/-- The last adds to it, -/
theorem last (h0 : ¬cond0_0 i) (h1 : cond0_1 i) (h2 : cond0_2 i) :
    sout0_C_0 c i a3 h3 a4 h4 a5 h5 a6 h6 h0 h1 h2 x y s = addf s (k0_pay1 x y) := by
  unfold sout0_C_0
  rw [View.read_writes_eq_canon _ _ _ (scover0_C_0 c i a3 h3 a4 h4 a5 h5 a6 h6 h0 h1 h2 x y s)]
  unfold kernelRun0_C
  dsimp only
  sl_unfold_words
  rw [View.canon_unit_zero origin]
  unfold k0_pay3
  simp only [View.readAt_eq_ld, h3.read_unread, h4.read_unread, h6.read_unread, View.ld_unit_zero (S := S1664x1024) origin, View.ld_unit_zero (S := S1664x1408) origin, View.ld_unit_zero (S := S1024x1408) origin, shapeCast_self]

/-- and leaves it rounded in the result. -/
theorem stored (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero origin, View.readCov_unit_zero (S := S1024x1408) _ origin]
  unfold k0_pay3
  simp only [View.readAt_eq_ld, h3.read_unread, h4.read_unread, h6.read_unread, View.ld_unit_zero (S := S1664x1024) origin, View.ld_unit_zero (S := S1664x1408) origin, View.ld_unit_zero (S := S1024x1408) origin, shapeCast_self]

end Cases

/-! ## The sum over the rows -/

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![8320, 4224]⟩ : Shape).Idx → EReal := m ((c : Thread nD τ).loc main_arg1)

theorem at0 : ∀ t : Fin cfg0.N, win0_0.index t = ![t.val % 5, 0] := (by decide +kernel : ∀ t : Fin grid0.N, win0_0.index t = ![t.val % 5, 0])
theorem at1 : ∀ t : Fin cfg0.N, win0_1.index t = ![t.val % 5, t.val / 5] := (by decide +kernel : ∀ t : Fin grid0.N, win0_1.index t = ![t.val % 5, t.val / 5])
theorem at2 : ∀ t : Fin cfg0.N, win0_2.index t = ![0, t.val / 5] := (by decide +kernel : ∀ t : Fin grid0.N, win0_2.index t = ![0, t.val / 5])

/-- The `k`-th term of an element of the result's `a`-th block. -/
def term (a k : ℕ) (y : S1024x1408.Idx) : EReal := el (lhs m c) k (y 0).val * el (rhs m c) k (a * 1408 + (y 1).val)

/-- What a point brings. -/
theorem part (t : Fin cfg0.N) (y : S1024x1408.Idx) :
    k0_pay1 (F := Ideal) (iblk m c 0 t) (iblk m c 1 t) y = ∑ k : Fin 1664, term m c (t.val / 5) (t.val % 5 * 1664 + k.val) y := by
  refine (dot_sum (φ₁ := .bf16) (φ₂ := .bf16) (K := 1664) dot_S1664x1024_S1664x1408_S1024x1408_0_0_1_1_n_n rfl rfl _ _ y
    (fun k => ix2 (k : Fin 1664) (⟨(y 0).val, (y 0).isLt⟩ : Fin 1024)) (fun k => ix2 (k : Fin 1664) (⟨(y 1).val, (y 1).isLt⟩ : Fin 1408))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

/-- The sum after the last of the five points. -/
theorem sum_at (t : Fin cfg0.N) (ht : t.val % 5 = 4) (y : S1024x1408.Idx) : (outsAt0 m c t.val t.isLt).2 y = ∑ k : Fin 8320, term m c (t.val / 5) k.val y :=
  gathered (w := 5) (K := 1664) (fun n h => (outsAt0 m c n h).2) (term m c)
    (fun n h h0 y => by
      rw [outsAt0_A m c ⟨n, h⟩ h0 (by dsimp only; omega) (by dsimp only; omega)]
      dsimp only
      rw [first, part])
    (fun n h h0 y => by
      by_cases h4 : n % 5 = 4
      · rw [outsAt0_C m c ⟨n, h⟩ h0 (by dsimp only; omega) h4]
        dsimp only
        rw [last, addf_apply, part]; rfl
      · rw [outsAt0_B m c ⟨n, h⟩ h0 (by dsimp only; omega) h4]
        dsimp only
        rw [middle, addf_apply, part]; rfl)
    t.val t.isLt (by omega) y

theorem arr (i : S1024x4224.Idx) : (dats m 0 c).arrAt 2 cfg0.N i = tn 8320 (lhs m c) (rhs m c) (i 0).val (i 1).val := by
  refine congrFun ((dats m 0 c).arrAt_eq_of_covers 2 (fun i : S1024x4224.Idx => tn 8320 (lhs m c) (rhs m c) (i 0).val (i 1).val) (by decide +kernel) fun t hf y => ?_) i
  have ht := (flush0_2 t).mp hf
  have e0 : ((((cfg0.win 2).blk t).view.emb y) 0).val = (y 0).val := by blk_simp [at2 t]
  have e1 : ((((cfg0.win 2).blk t).view.emb y) 1).val = t.val / 5 * 1408 + (y 1).val := by blk_simp [at2 t]
  have e : (dats m 0 c).flushed 2 t = (outsAt0 m c t.val t.isLt).2 := by
    rw [Value.flushed2_C m c t (by omega) (by omega) ht, stored, outsAt0_C m c t (by omega) (by omega) ht]
    dsimp only
    rw [last]
    rfl
  refine (congrFun e y).trans ((sum_at m c t ht y).trans ?_)
  show _ = tn 8320 (lhs m c) (rhs m c) ((((cfg0.win 2).blk t).view.emb y) 0).val ((((cfg0.win 2).blk t).view.emb y) 1).val
  rw [e0, e1]
  rfl

end Cert.InDwIdeal.Prod

namespace Cert.Proof

open Idealize.ShloMosaic Idealize.ShloMosaic.TcCoe Idealize.SL.Sem Cert.Prod

/-- The kernel's product and the reference's gradient are one sum. -/
theorem algebraic_in_dw : Cert.algebraic_InDwIdeal_InDwRefIdeal := by
  intro m g m' g' _ he
  refine ⟨_, Cert.InDwIdeal.Value.run_blocks m g, ?_⟩
  refine (θ_run Cert.InDwRefIdeal.defs _ _).mono (fun r h c => ?_) (Cert.InDwRefIdeal.Value.run (F := Ideal) m' g')
  obtain ⟨e0, e1⟩ := he c
  refine ⟨(h c).1.trans (funext fun i => ?_), (h c).2⟩
  rw [e0, e1, Cert.InDwRefIdeal.Read.val_main_v6_eq, Cert.InDwIdeal.Prod.arr, Cert.InDwRefIdeal.Read.val_main_v6_apply, Cert.InDwRefIdeal.Read.val_main_v5_apply]
  refine (Cert.InDwRefIdeal.Read.val_main_v4_apply _ _ _).trans (Finset.sum_congr rfl fun k _ => ?_)
  rw [mul_comm]
  exact congrArg₂ (· * ·) (el_at (Cert.InDwIdeal.Prod.lhs m c) _ rfl rfl) (el_at (Cert.InDwIdeal.Prod.rhs m c) _ rfl rfl)

end Cert.Proof

end
-- ==== Proof.OutDx.lean ====
/-
  The gradient of the output projection's rows: the rows of the gradient against the rows of the weight.
-/
module

public import proofs.«01_k».proof.Proof.Prod
public import proofs.«01_k».proof.Proof.Gen.OutDxIdeal.Value
public import proofs.«01_k».proof.Proof.Gen.OutDxRefIdeal.Read
public import proofs.«01_k».proof.Defs
public import Idealize.ShloMosaic.Lib.Pipeline.Covers

@[expose] public section

set_option maxRecDepth 16384

noncomputable section

namespace Cert.OutDxIdeal.Prod

open Cert.OutDxIdeal Cert.OutDxIdeal.Gen Cert.Prod
open Idealize.ShloMosaic Idealize.ShloMosaic.TcCoe Idealize.SL.Sem

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![1024, 1024]⟩ : Shape).Idx → EReal := m ((c : Thread nD τ).loc main_arg1)

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![t.val, 0] := (by decide +kernel : ∀ t : Fin grid0.N, win0_2.index t = ![t.val, 0])

/-- What a point computes. -/
theorem point (t : Fin cfg0.N) (y : S1664x1024.Idx) :
    out0_2 (F := Ideal) (iblk m c 0 t) (iblk m c 1 t) y = nt 1024 (lhs m c) (rhs m c) (t.val * 1664 + (y 0).val) ((y 1).val) := by
  unfold out0_2
  rw [View.canon_unit_zero origin, View.ld_unit_zero (S := S1664x1024) origin, View.ld_unit_zero (S := S1024x1024) origin]
  refine (dot_sum (φ₁ := .bf16) (φ₂ := .bf16) dot_S1664x1024_S1024x1024_S1664x1024_1_1_0_0_n_n (K := 1024) rfl rfl _ _ y
    (fun k => ix2 (⟨(y 0).val, (y 0).isLt⟩ : Fin 1664) (k : Fin 1024)) (fun k => ix2 (⟨(y 1).val, (y 1).isLt⟩ : Fin 1024) (k : Fin 1024))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

theorem arr (i : S8320x1024.Idx) : (dats m 0 c).arrAt 2 cfg0.N i = nt 1024 (lhs m c) (rhs m c) (i 0).val (i 1).val := by
  refine congrFun ((dats m 0 c).arrAt_eq_of_covers 2 (fun i : S8320x1024.Idx => nt 1024 (lhs m c) (rhs m c) (i 0).val (i 1).val) (by decide +kernel) fun t hf y => ?_) i
  have e0 : ((((cfg0.win 2).blk t).view.emb y) 0).val = t.val * 1664 + (y 0).val := by blk_simp [at2 t]
  have e1 : ((((cfg0.win 2).blk t).view.emb y) 1).val = (y 1).val := by blk_simp [at2 t]
  refine (congrFun (Value.flushed2 m c t) y).trans ((point m c t y).trans ?_)
  show _ = nt 1024 (lhs m c) (rhs m c) ((((cfg0.win 2).blk t).view.emb y) 0).val ((((cfg0.win 2).blk t).view.emb y) 1).val
  rw [e0, e1]

end Cert.OutDxIdeal.Prod

namespace Cert.Proof

open Idealize.ShloMosaic Idealize.ShloMosaic.TcCoe Idealize.SL.Sem Cert.Prod

/-- The kernel's product and the reference's gradient are one sum. -/
theorem algebraic_out_dx : Cert.algebraic_OutDxIdeal_OutDxRefIdeal := by
  intro m g m' g' _ he
  refine ⟨_, Cert.OutDxIdeal.Value.run_blocks m g, ?_⟩
  refine (θ_run Cert.OutDxRefIdeal.defs _ _).mono (fun r h c => ?_) (Cert.OutDxRefIdeal.Value.run (F := Ideal) m' g')
  obtain ⟨e0, e1⟩ := he c
  refine ⟨(h c).1.trans (funext fun i => ?_), (h c).2⟩
  rw [e0, e1, Cert.OutDxRefIdeal.Read.val_main_v3_eq, Cert.OutDxIdeal.Prod.arr]
  refine (Cert.OutDxRefIdeal.Read.val_main_v3_apply _ _ _).trans (Finset.sum_congr rfl fun k _ => ?_)
  exact congrArg₂ (· * ·) (el_at (Cert.OutDxIdeal.Prod.lhs m c) _ rfl rfl) (el_at (Cert.OutDxIdeal.Prod.rhs m c) _ rfl rfl)

end Cert.Proof

end
-- ==== Proof.OutDw.lean ====
/-
  The gradient of the output projection's weight: the columns of the activations against the columns of the gradient, the rows gathered in five blocks.
-/
module

public import proofs.«01_k».proof.Proof.Prod
public import proofs.«01_k».proof.Proof.Gen.OutDwIdeal.Value
public import proofs.«01_k».proof.Proof.Gen.OutDwRefIdeal.Read
public import proofs.«01_k».proof.Defs
public import Idealize.ShloMosaic.Lib.Pipeline.ValueKit
public import Idealize.ShloMosaic.Lib.Pipeline.Covers

@[expose] public section

set_option maxRecDepth 16384

noncomputable section

namespace Cert.OutDwIdeal.Prod

open Cert.OutDwIdeal Cert.OutDwIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1024 .bf16) (h3 : a3.IsWhole) (a4 : Memref sig .tc .vmem S1664x1024 .f32) (h4 : a4.IsWhole)
  (a5 : Memref sig .tc .vmem S1024x1024 .bf16) (h5 : a5.IsWhole) (a6 : Memref sig .tc .vmem S1024x1024 .f32) (h6 : a6.IsWhole)
  (x : Vec F S1664x1024 .bf16) (y : Vec F S1664x1024 .f32) (s : Vec F S1024x1024 .f32)

/-- The first point sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1024) origin, shapeCast_self]

/-- The points between add to it. -/
theorem middle (h0 : ¬cond0_0 i) (h1 : cond0_1 i) (h2 : ¬cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1024) origin, View.ld_unit_zero (S := S1024x1024) origin, shapeCast_self]

/-- The last adds to it, -/
theorem last (h0 : ¬cond0_0 i) (h1 : cond0_1 i) (h2 : cond0_2 i) :
    sout0_C_0 c i a3 h3 a4 h4 a5 h5 a6 h6 h0 h1 h2 x y s = addf s (k0_pay1 x y) := by
  unfold sout0_C_0
  rw [View.read_writes_eq_canon _ _ _ (scover0_C_0 c i a3 h3 a4 h4 a5 h5 a6 h6 h0 h1 h2 x y s)]
  unfold kernelRun0_C
  dsimp only
  sl_unfold_words
  rw [View.canon_unit_zero origin]
  unfold k0_pay3
  simp only [View.readAt_eq_ld, h3.read_unread, h4.read_unread, h6.read_unread, View.ld_unit_zero (S := S1664x1024) origin, View.ld_unit_zero (S := S1024x1024) origin, shapeCast_self]

/-- and leaves it rounded in the result. -/
theorem stored (h0 : ¬cond0_0 i) (h1 : cond0_1 i) (h2 : cond0_2 i) :
    out0_C_2 c i a3 h3 a4 h4 a5 h5 a6 h6 h0 h1 h2 x y s = k0_pay4 (addf s (k0_pay1 x y)) := by
  unfold out0_C_2
  rw [View.read_writes_eq_canon _ _ _ (cover0_C_2 c i a3 h3 a4 h4 a5 h5 a6 h6 h0 h1 h2 x y s)]
  unfold kernelRun0_C
  dsimp only
  sl_unfold_words
  rw [View.canon_unit_zero origin, View.readCov_unit_zero (S := S1024x1024) _ origin]
  unfold k0_pay3
  simp only [View.readAt_eq_ld, h3.read_unread, h4.read_unread, h6.read_unread, View.ld_unit_zero (S := S1664x1024) origin, View.ld_unit_zero (S := S1024x1024) origin, shapeCast_self]

end Cases

/-! ## The sum over the rows -/

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![8320, 1024]⟩ : Shape).Idx → EReal := m ((c : Thread nD τ).loc main_arg1)

theorem at0 : ∀ t : Fin cfg0.N, win0_0.index t = ![t.val % 5, 0] := (by decide +kernel : ∀ t : Fin grid0.N, win0_0.index t = ![t.val % 5, 0])
theorem at1 : ∀ t : Fin cfg0.N, win0_1.index t = ![t.val % 5, 0] := (by decide +kernel : ∀ t : Fin grid0.N, win0_1.index t = ![t.val % 5, 0])
theorem at2 : ∀ t : Fin cfg0.N, win0_2.index t = ![0, 0] := (by decide +kernel : ∀ t : Fin grid0.N, win0_2.index t = ![0, 0])

/-- The `k`-th term of an element of the result's `a`-th block. -/
def term (a k : ℕ) (y : S1024x1024.Idx) : EReal := el (lhs m c) k (y 0).val * el (rhs m c) k (y 1).val

/-- What a point brings. -/
theorem part (t : Fin cfg0.N) (y : S1024x1024.Idx) :
    k0_pay1 (F := Ideal) (iblk m c 0 t) (iblk m c 1 t) y = ∑ k : Fin 1664, term m c (t.val / 5) (t.val % 5 * 1664 + k.val) y := by
  refine (dot_sum (φ₁ := .bf16) (φ₂ := .bf16) (K := 1664) dot_S1664x1024_S1664x1024_S1024x1024_0_0_1_1_n_n rfl rfl _ _ y
    (fun k => ix2 (k : Fin 1664) (⟨(y 0).val, (y 0).isLt⟩ : Fin 1024)) (fun k => ix2 (k : Fin 1664) (⟨(y 1).val, (y 1).isLt⟩ : Fin 1024))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

theorem points : cfg0.N = 5 := by decide +kernel

/-- The sum after the last of the five points. -/
theorem sum_at (t : Fin cfg0.N) (ht : t.val % 5 = 4) (y : S1024x1024.Idx) : (outsAt0 m c t.val t.isLt).2 y = ∑ k : Fin 8320, term m c (t.val / 5) k.val y :=
  gathered (w := 5) (K := 1664) (fun n h => (outsAt0 m c n h).2) (term m c)
    (fun n h h0 y => by
      have hn := h.trans_eq points
      rw [outsAt0_A m c ⟨n, h⟩ h0 (by dsimp only; omega) (by dsimp only; omega)]
      dsimp only
      rw [first, part])
    (fun n h h0 y => by
      have hn := h.trans_eq points
      by_cases h4 : n % 5 = 4
      · rw [outsAt0_C m c ⟨n, h⟩ h0 (by dsimp only; omega) h4]
        dsimp only
        rw [last, addf_apply, part]; rfl
      · rw [outsAt0_B m c ⟨n, h⟩ h0 (by dsimp only; omega) h4]
        dsimp only
        rw [middle, addf_apply, part]; rfl)
    t.val t.isLt (by omega) y

theorem arr (i : S1024x1024.Idx) : (dats m 0 c).arrAt 2 cfg0.N i = tn 8320 (lhs m c) (rhs m c) (i 0).val (i 1).val := by
  refine congrFun ((dats m 0 c).arrAt_eq_of_covers 2 (fun i : S1024x1024.Idx => tn 8320 (lhs m c) (rhs m c) (i 0).val (i 1).val) (by decide +kernel) fun t hf y => ?_) i
  have ht := (flush0_2 t).mp hf
  have hn := t.isLt.trans_eq points
  have e0 : ((((cfg0.win 2).blk t).view.emb y) 0).val = (y 0).val := by blk_simp [at2 t]
  have e1 : ((((cfg0.win 2).blk t).view.emb y) 1).val = (y 1).val := by blk_simp [at2 t]
  have e : (dats m 0 c).flushed 2 t = (outsAt0 m c t.val t.isLt).2 := by
    rw [Value.flushed2_C m c t (by omega) (by omega) ht, stored, outsAt0_C m c t (by omega) (by omega) ht]
    dsimp only
    rw [last]
    rfl
  refine (congrFun e y).trans ((sum_at m c t ht y).trans ?_)
  show _ = tn 8320 (lhs m c) (rhs m c) ((((cfg0.win 2).blk t).view.emb y) 0).val ((((cfg0.win 2).blk t).view.emb y) 1).val
  rw [e0, e1]
  rfl

end Cert.OutDwIdeal.Prod

namespace Cert.Proof

open Idealize.ShloMosaic Idealize.ShloMosaic.TcCoe Idealize.SL.Sem Cert.Prod

/-- The kernel's product and the reference's gradient are one sum. -/
theorem algebraic_out_dw : Cert.algebraic_OutDwIdeal_OutDwRefIdeal := by
  intro m g m' g' _ he
  refine ⟨_, Cert.OutDwIdeal.Value.run_blocks m g, ?_⟩
  refine (θ_run Cert.OutDwRefIdeal.defs _ _).mono (fun r h c => ?_) (Cert.OutDwRefIdeal.Value.run (F := Ideal) m' g')
  obtain ⟨e0, e1⟩ := he c
  refine ⟨(h c).1.trans (funext fun i => ?_), (h c).2⟩
  rw [e0, e1, Cert.OutDwRefIdeal.Read.val_main_v5_eq, Cert.OutDwIdeal.Prod.arr, Cert.OutDwRefIdeal.Read.val_main_v5_apply, Cert.OutDwRefIdeal.Read.val_main_v4_apply]
  refine (Cert.OutDwRefIdeal.Read.val_main_v3_apply _ _ _).trans (Finset.sum_congr rfl fun k _ => ?_)
  rw [mul_comm]
  exact congrArg₂ (· * ·) (el_at (Cert.OutDwIdeal.Prod.lhs m c) _ rfl rfl) (el_at (Cert.OutDwIdeal.Prod.rhs m c) _ rfl rfl)

end Cert.Proof

end
-- ==== Proof.UpFwd.lean ====
/-
  The up projection: the rows against the columns of the weight.
-/
module

public import proofs.«01_k».proof.Proof.Prod
public import proofs.«01_k».proof.Proof.Gen.UpFwdIdeal.Value
public import proofs.«01_k».proof.Proof.Gen.UpFwdRefIdeal.Read
public import proofs.«01_k».proof.Defs
public import Idealize.ShloMosaic.Lib.Pipeline.Covers

@[expose] public section

set_option maxRecDepth 16384

noncomputable section

namespace Cert.UpFwdIdeal.Prod

open Cert.UpFwdIdeal Cert.UpFwdIdeal.Gen Cert.Prod
open Idealize.ShloMosaic Idealize.ShloMosaic.TcCoe Idealize.SL.Sem

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![1024, 5632]⟩ : Shape).Idx → EReal := m ((c : Thread nD τ).loc main_arg1)

theorem at0 : ∀ t : Fin cfg0.N, win0_0.index t = ![t.val / 4, 0] := (by decide +kernel : ∀ t : Fin grid0.N, win0_0.index t = ![t.val / 4, 0])
theorem at1 : ∀ t : Fin cfg0.N, win0_1.index t = ![0, t.val % 4] := (by decide +kernel : ∀ t : Fin grid0.N, win0_1.index t = ![0, t.val % 4])
theorem at2 : ∀ t : Fin cfg0.N, win0_2.index t = ![t.val / 4, t.val % 4] := (by decide +kernel : ∀ t : Fin grid0.N, win0_2.index t = ![t.val / 4, t.val % 4])

/-- What a point computes. -/
theorem point (t : Fin cfg0.N) (y : S1664x1408.Idx) :
    out0_2 (F := Ideal) (iblk m c 0 t) (iblk m c 1 t) y = nn 1024 (lhs m c) (rhs m c) (t.val / 4 * 1664 + (y 0).val) (t.val % 4 * 1408 + (y 1).val) := by
  unfold out0_2
  rw [View.canon_unit_zero origin, View.ld_unit_zero (S := S1664x1024) origin, View.ld_unit_zero (S := S1024x1408) origin]
  refine (dot_sum (φ₁ := .bf16) (φ₂ := .bf16) dot_S1664x1024_S1024x1408_S1664x1408_1_0_0_1_n_n (K := 1024) rfl rfl _ _ y
    (fun k => ix2 (⟨(y 0).val, (y 0).isLt⟩ : Fin 1664) (k : Fin 1024)) (fun k => ix2 (k : Fin 1024) (⟨(y 1).val, (y 1).isLt⟩ : Fin 1408))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

theorem arr (i : S8320x5632.Idx) : (dats m 0 c).arrAt 2 cfg0.N i = nn 1024 (lhs m c) (rhs m c) (i 0).val (i 1).val := by
  refine congrFun ((dats m 0 c).arrAt_eq_of_covers 2 (fun i : S8320x5632.Idx => nn 1024 (lhs m c) (rhs m c) (i 0).val (i 1).val) (by decide +kernel) fun t hf y => ?_) i
  have e0 : ((((cfg0.win 2).blk t).view.emb y) 0).val = t.val / 4 * 1664 + (y 0).val := by blk_simp [at2 t]
  have e1 : ((((cfg0.win 2).blk t).view.emb y) 1).val = t.val % 4 * 1408 + (y 1).val := by blk_simp [at2 t]
  refine (congrFun (Value.flushed2 m c t) y).trans ((point m c t y).trans ?_)
  show _ = nn 1024 (lhs m c) (rhs m c) ((((cfg0.win 2).blk t).view.emb y) 0).val ((((cfg0.win 2).blk t).view.emb y) 1).val
  rw [e0, e1]

end Cert.UpFwdIdeal.Prod

namespace Cert.Proof

open Idealize.ShloMosaic Idealize.ShloMosaic.TcCoe Idealize.SL.Sem Cert.Prod

/-- The kernel's product and the reference's are one sum. -/
theorem algebraic_up : Cert.algebraic_UpFwdIdeal_UpFwdRefIdeal := by
  intro m g m' g' _ he
  refine ⟨_, Cert.UpFwdIdeal.Value.run_blocks m g, ?_⟩
  refine (θ_run Cert.UpFwdRefIdeal.defs _ _).mono (fun r h c => ?_) (Cert.UpFwdRefIdeal.Value.run (F := Ideal) m' g')
  obtain ⟨e0, e1⟩ := he c
  refine ⟨(h c).1.trans (funext fun i => ?_), (h c).2⟩
  rw [e0, e1, Cert.UpFwdRefIdeal.Read.val_main_v3_eq, Cert.UpFwdIdeal.Prod.arr, Cert.UpFwdRefIdeal.Read.val_main_v3_apply]
  refine (Cert.UpFwdRefIdeal.Read.val_main_v2_apply _ _ _).trans (Finset.sum_congr rfl fun k _ => ?_)
  exact congrArg₂ (· * ·) (el_at (Cert.UpFwdIdeal.Prod.lhs m c) _ rfl rfl) (el_at (Cert.UpFwdIdeal.Prod.rhs m c) _ rfl rfl)

end Cert.Proof

end
-- ==== Proof.DownFwd.lean ====
/-
  The down projection: the rows against the columns of the weight, the columns of the rows gathered in two blocks.
-/
module

public import proofs.«01_k».proof.Proof.Prod
public import proofs.«01_k».proof.Proof.Gen.DownFwdIdeal.Value
public import proofs.«01_k».proof.Proof.Gen.DownFwdRefIdeal.Read
public import proofs.«01_k».proof.Defs
public import Idealize.ShloMosaic.Lib.Pipeline.ValueKit
public import Idealize.ShloMosaic.Lib.Pipeline.Covers

@[expose] public section

set_option maxRecDepth 16384

noncomputable section

namespace Cert.DownFwdIdeal.Prod

open Cert.DownFwdIdeal Cert.DownFwdIdeal.Gen Cert.Prod
open Idealize.ShloMosaic Idealize.ShloMosaic.TcCoe Idealize.SL.Sem

/-! ## What one point computes -/

section Cases

variable {F : FTy → Type} [FloatOps F] (c : Dev nD) (i : grid0.Coords) (a3 : Memref sig .tc .vmem S1664x1408 .bf16) (h3 : a3.IsWhole) (a4 : Memref sig .tc .vmem S1408x1024 .bf16) (h4 : a4.IsWhole)
  (a5 : Memref sig .tc .vmem S1664x1024 .f32) (h5 : a5.IsWhole) (a6 : Memref sig .tc .vmem S1664x1024 .f32) (h6 : a6.IsWhole)
  (x : Vec F S1664x1408 .bf16) (y : Vec F S1408x1024 .bf16) (s : Vec F S1664x1024 .f32)

/-- The first of two points sets the sum. -/
theorem first (h0 : cond0_0 i) (h1 : ¬cond0_1 i) (h2 : ¬cond0_2 i) :
    sout0_A_0 c i a3 h3 a4 h4 a5 h5 a6 h6 h0 h1 h2 x y = k0_pay1 x y := by
  unfold sout0_A_0
  rw [View.read_writes_eq_canon _ _ _ (scover0_A_0 c i a3 h3 a4 h4 a5 h5 a6 h6 h0 h1 h2 x y)]
  unfold kernelRun0_A
  dsimp only
  sl_unfold_words
  rw [View.canon_unit_zero origin]
  unfold k0_pay2
  simp only [View.readAt_eq_ld, h3.read_unread, h4.read_unread, View.ld_unit_zero (S := S1664x1408) origin, View.ld_unit_zero (S := S1408x1024) origin, shapeCast_self]

/-- The second adds to it, -/
theorem last (h0 : ¬cond0_0 i) (h1 : cond0_1 i) (h2 : cond0_2 i) :
    sout0_B_0 c i a3 h3 a4 h4 a5 h5 a6 h6 h0 h1 h2 x y s = addf s (k0_pay1 x y) := by
  unfold sout0_B_0
  rw [View.read_writes_eq_canon _ _ _ (scover0_B_0 c i a3 h3 a4 h4 a5 h5 a6 h6 h0 h1 h2 x y s)]
  unfold kernelRun0_B
  dsimp only
  sl_unfold_words
  rw [View.canon_unit_zero origin]
  unfold k0_pay3
  simp only [View.readAt_eq_ld, h3.read_unread, h4.read_unread, h6.read_unread, View.ld_unit_zero (S := S1664x1408) origin, View.ld_unit_zero (S := S1408x1024) origin, View.ld_unit_zero (S := S1664x1024) origin, shapeCast_self]

/-- and leaves it in the result. -/
theorem stored (h0 : ¬cond0_0 i) (h1 : cond0_1 i) (h2 : cond0_2 i) :
    out0_B_2 c i a3 h3 a4 h4 a5 h5 a6 h6 h0 h1 h2 x y s = addf s (k0_pay1 x y) := by
  unfold out0_B_2
  rw [View.read_writes_eq_canon _ _ _ (cover0_B_2 c i a3 h3 a4 h4 a5 h5 a6 h6 h0 h1 h2 x y s)]
  unfold kernelRun0_B
  dsimp only
  sl_unfold_words
  rw [View.canon_unit_zero origin, View.readCov_unit_zero (S := S1664x1024) _ origin]
  unfold k0_pay3
  simp only [View.readAt_eq_ld, h3.read_unread, h4.read_unread, h6.read_unread, View.ld_unit_zero (S := S1664x1408) origin, View.ld_unit_zero (S := S1408x1024) origin, View.ld_unit_zero (S := S1664x1024) origin, shapeCast_self]

end Cases

/-! ## The sum over the columns -/

variable (m : (ℓ : Loc nD τ sig) → Buf (Elt Ideal) ℓ) (c : Dev nD)

abbrev lhs : (⟨2, ![8320, 2816]⟩ : Shape).Idx → EReal := m ((c : Thread nD τ).loc main_arg0)
abbrev rhs : (⟨2, ![2816, 1024]⟩ : Shape).Idx → EReal := m ((c : Thread nD τ).loc main_arg1)

theorem at0 : ∀ t : Fin cfg0.N, win0_0.index t = ![t.val / 2, t.val % 2] := (by decide +kernel : ∀ t : Fin grid0.N, win0_0.index t = ![t.val / 2, t.val % 2])
theorem at1 : ∀ t : Fin cfg0.N, win0_1.index t = ![t.val % 2, 0] := (by decide +kernel : ∀ t : Fin grid0.N, win0_1.index t = ![t.val % 2, 0])
theorem at2 : ∀ t : Fin cfg0.N, win0_2.index t = ![t.val / 2, 0] := (by decide +kernel : ∀ t : Fin grid0.N, win0_2.index t = ![t.val / 2, 0])

/-- The `k`-th term of an element of the result's `a`-th block. -/
def term (a k : ℕ) (y : S1664x1024.Idx) : EReal := el (lhs m c) (a * 1664 + (y 0).val) k * el (rhs m c) k (y 1).val

/-- What a point brings. -/
theorem part (t : Fin cfg0.N) (y : S1664x1024.Idx) :
    k0_pay1 (F := Ideal) (iblk m c 0 t) (iblk m c 1 t) y = ∑ k : Fin 1408, term m c (t.val / 2) (t.val % 2 * 1408 + k.val) y := by
  refine (dot_sum (φ₁ := .bf16) (φ₂ := .bf16) (K := 1408) dot_S1664x1408_S1408x1024_S1664x1024_1_0_0_1_n_n rfl rfl _ _ y
    (fun k => ix2 (⟨(y 0).val, (y 0).isLt⟩ : Fin 1664) (k : Fin 1408)) (fun k => ix2 (k : Fin 1408) (⟨(y 1).val, (y 1).isLt⟩ : Fin 1024))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

/-- The sum after the second point. -/
theorem sum_at (t : Fin cfg0.N) (ht : t.val % 2 = 1) (y : S1664x1024.Idx) : (outsAt0 m c t.val t.isLt).2 y = ∑ k : Fin 2816, term m c (t.val / 2) k.val y :=
  gathered (w := 2) (K := 1408) (fun n h => (outsAt0 m c n h).2) (term m c)
    (fun n h h0 y => by
      rw [outsAt0_A m c ⟨n, h⟩ h0 (by dsimp only; omega) (by dsimp only; omega)]
      dsimp only
      rw [first, part])
    (fun n h h0 y => by
      rw [outsAt0_B m c ⟨n, h⟩ h0 (by dsimp only; omega) (by dsimp only; omega)]
      dsimp only
      rw [last, addf_apply, part]; rfl)
    t.val t.isLt (by omega) y

theorem arr (i : S8320x1024.Idx) : (dats m 0 c).arrAt 2 cfg0.N i = nn 2816 (lhs m c) (rhs m c) (i 0).val (i 1).val := by
  refine congrFun ((dats m 0 c).arrAt_eq_of_covers 2 (fun i : S8320x1024.Idx => nn 2816 (lhs m c) (rhs m c) (i 0).val (i 1).val) (by decide +kernel) fun t hf y => ?_) i
  have ht := (flush0_2 t).mp hf
  have e0 : ((((cfg0.win 2).blk t).view.emb y) 0).val = t.val / 2 * 1664 + (y 0).val := by blk_simp [at2 t]
  have e1 : ((((cfg0.win 2).blk t).view.emb y) 1).val = (y 1).val := by blk_simp [at2 t]
  have e : (dats m 0 c).flushed 2 t = (outsAt0 m c t.val t.isLt).2 := by
    rw [Value.flushed2_B m c t (by omega) ht ht, stored, outsAt0_B m c t (by omega) ht ht]
    dsimp only
    rw [last]
    rfl
  refine (congrFun e y).trans ((sum_at m c t ht y).trans ?_)
  show _ = nn 2816 (lhs m c) (rhs m c) ((((cfg0.win 2).blk t).view.emb y) 0).val ((((cfg0.win 2).blk t).view.emb y) 1).val
  rw [e0, e1]
  rfl

end Cert.DownFwdIdeal.Prod

namespace Cert.Proof

open Idealize.ShloMosaic Idealize.ShloMosaic.TcCoe Idealize.SL.Sem Cert.Prod

/-- The kernel's product and the reference's are one sum. -/
theorem algebraic_down : Cert.algebraic_DownFwdIdeal_DownFwdRefIdeal := by
  intro m g m' g' _ he
  refine ⟨_, Cert.DownFwdIdeal.Value.run_blocks m g, ?_⟩
  refine (θ_run Cert.DownFwdRefIdeal.defs _ _).mono (fun r h c => ?_) (Cert.DownFwdRefIdeal.Value.run (F := Ideal) m' g')
  obtain ⟨e0, e1⟩ := he c
  refine ⟨(h c).1.trans (funext fun i => ?_), (h c).2⟩
  rw [e0, e1, Cert.DownFwdRefIdeal.Read.val_main_v2_eq, Cert.DownFwdIdeal.Prod.arr]
  refine (Cert.DownFwdRefIdeal.Read.val_main_v2_apply _ _ _).trans (Finset.sum_congr rfl fun k _ => ?_)
  exact congrArg₂ (· * ·) (el_at (Cert.DownFwdIdeal.Prod.lhs m c) _ rfl rfl) (el_at (Cert.DownFwdIdeal.Prod.rhs m c) _ rfl rfl)

end Cert.Proof

end
-- ==== Proof.InFwd.lean ====
/-
  The input projection: the rows against the columns of the weight.
-/
module

public import proofs.«01_k».proof.Proof.Prod
public import proofs.«01_k».proof.Proof.Gen.InFwdIdeal.Value
public import proofs.«01_k».proof.Proof.Gen.InFwdRefIdeal.Read
public import proofs.«01_k».proof.Defs
public import Idealize.ShloMosaic.Lib.Pipeline.Covers

@[expose] public section

set_option maxRecDepth 16384

noncomputable section

namespace Cert.InFwdIdeal.Prod

open Cert.InFwdIdeal Cert.InFwdIdeal.Gen Cert.Prod
open Idealize.ShloMosaic Idealize.ShloMosaic.TcCoe Idealize.SL.Sem

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![1024, 4224]⟩ : Shape).Idx → EReal := m ((c : Thread nD τ).loc main_arg1)

theorem at0 : ∀ t : Fin cfg0.N, win0_0.index t = ![t.val / 3, 0] := (by decide +kernel : ∀ t : Fin grid0.N, win0_0.index t = ![t.val / 3, 0])
theorem at1 : ∀ t : Fin cfg0.N, win0_1.index t = ![0, t.val % 3] := (by decide +kernel : ∀ t : Fin grid0.N, win0_1.index t = ![0, t.val % 3])
theorem at2 : ∀ t : Fin cfg0.N, win0_2.index t = ![t.val / 3, t.val % 3] := (by decide +kernel : ∀ t : Fin grid0.N, win0_2.index t = ![t.val / 3, t.val % 3])

/-- What a point computes. -/
theorem point (t : Fin cfg0.N) (y : S1664x1408.Idx) :
    out0_2 (F := Ideal) (iblk m c 0 t) (iblk m c 1 t) y = nn 1024 (lhs m c) (rhs m c) (t.val / 3 * 1664 + (y 0).val) (t.val % 3 * 1408 + (y 1).val) := by
  unfold out0_2
  rw [View.canon_unit_zero origin, View.ld_unit_zero (S := S1664x1024) origin, View.ld_unit_zero (S := S1024x1408) origin]
  refine (dot_sum (φ₁ := .bf16) (φ₂ := .bf16) dot_S1664x1024_S1024x1408_S1664x1408_1_0_0_1_n_n (K := 1024) rfl rfl _ _ y
    (fun k => ix2 (⟨(y 0).val, (y 0).isLt⟩ : Fin 1664) (k : Fin 1024)) (fun k => ix2 (k : Fin 1024) (⟨(y 1).val, (y 1).isLt⟩ : Fin 1408))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

theorem arr (i : S8320x4224.Idx) : (dats m 0 c).arrAt 2 cfg0.N i = nn 1024 (lhs m c) (rhs m c) (i 0).val (i 1).val := by
  refine congrFun ((dats m 0 c).arrAt_eq_of_covers 2 (fun i : S8320x4224.Idx => nn 1024 (lhs m c) (rhs m c) (i 0).val (i 1).val) (by decide +kernel) fun t hf y => ?_) i
  have e0 : ((((cfg0.win 2).blk t).view.emb y) 0).val = t.val / 3 * 1664 + (y 0).val := by blk_simp [at2 t]
  have e1 : ((((cfg0.win 2).blk t).view.emb y) 1).val = t.val % 3 * 1408 + (y 1).val := by blk_simp [at2 t]
  refine (congrFun (Value.flushed2 m c t) y).trans ((point m c t y).trans ?_)
  show _ = nn 1024 (lhs m c) (rhs m c) ((((cfg0.win 2).blk t).view.emb y) 0).val ((((cfg0.win 2).blk t).view.emb y) 1).val
  rw [e0, e1]

end Cert.InFwdIdeal.Prod

namespace Cert.Proof

open Idealize.ShloMosaic Idealize.ShloMosaic.TcCoe Idealize.SL.Sem Cert.Prod

/-- The kernel's product and the reference's are one sum. -/
theorem algebraic_in : Cert.algebraic_InFwdIdeal_InFwdRefIdeal := by
  intro m g m' g' _ he
  refine ⟨_, Cert.InFwdIdeal.Value.run_blocks m g, ?_⟩
  refine (θ_run Cert.InFwdRefIdeal.defs _ _).mono (fun r h c => ?_) (Cert.InFwdRefIdeal.Value.run (F := Ideal) m' g')
  obtain ⟨e0, e1⟩ := he c
  refine ⟨(h c).1.trans (funext fun i => ?_), (h c).2⟩
  rw [e0, e1, Cert.InFwdRefIdeal.Read.val_main_v2_eq, Cert.InFwdIdeal.Prod.arr]
  refine (Cert.InFwdRefIdeal.Read.val_main_v2_apply _ _ _).trans (Finset.sum_congr rfl fun k _ => ?_)
  exact congrArg₂ (· * ·) (el_at (Cert.InFwdIdeal.Prod.lhs m c) _ rfl rfl) (el_at (Cert.InFwdIdeal.Prod.rhs m c) _ rfl rfl)

end Cert.Proof

end
-- ==== Proof.OutFwd.lean ====
/-
  The output projection: the rows against the columns of the weight.
-/
module

public import proofs.«01_k».proof.Proof.Prod
public import proofs.«01_k».proof.Proof.Gen.OutFwdIdeal.Value
public import proofs.«01_k».proof.Proof.Gen.OutFwdRefIdeal.Read
public import proofs.«01_k».proof.Defs
public import Idealize.ShloMosaic.Lib.Pipeline.Covers

@[expose] public section

set_option maxRecDepth 16384

noncomputable section

namespace Cert.OutFwdIdeal.Prod

open Cert.OutFwdIdeal Cert.OutFwdIdeal.Gen Cert.Prod
open Idealize.ShloMosaic Idealize.ShloMosaic.TcCoe Idealize.SL.Sem

variable (m : (ℓ : Loc nD τ sig) → Buf (Elt Ideal) ℓ) (c : Dev nD)

abbrev lhs : (⟨2, ![8320, 1024]⟩ : Shape).Idx → EReal := m ((c : Thread nD τ).loc main_arg0)
abbrev rhs : (⟨2, ![1024, 1024]⟩ : Shape).Idx → EReal := m ((c : Thread nD τ).loc main_arg1)

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![t.val, 0] := (by decide +kernel : ∀ t : Fin grid0.N, win0_2.index t = ![t.val, 0])

/-- What a point computes. -/
theorem point (t : Fin cfg0.N) (y : S1664x1024.Idx) :
    out0_2 (F := Ideal) (iblk m c 0 t) (iblk m c 1 t) y = nn 1024 (lhs m c) (rhs m c) (t.val * 1664 + (y 0).val) ((y 1).val) := by
  unfold out0_2
  rw [View.canon_unit_zero origin, View.ld_unit_zero (S := S1664x1024) origin, View.ld_unit_zero (S := S1024x1024) origin]
  refine (dot_sum (φ₁ := .bf16) (φ₂ := .bf16) dot_S1664x1024_S1024x1024_S1664x1024_1_0_0_1_n_n (K := 1024) rfl rfl _ _ y
    (fun k => ix2 (⟨(y 0).val, (y 0).isLt⟩ : Fin 1664) (k : Fin 1024)) (fun k => ix2 (k : Fin 1024) (⟨(y 1).val, (y 1).isLt⟩ : Fin 1024))
    (fun k => by simp only [pointwise]) (fun k => by simp only [pointwise])).trans ?_
  exact Finset.sum_congr rfl fun k _ => congrArg₂ (· * ·)
    (el_at (lhs m c) (((cfg0.win 0).blk t).view.emb _) (by blk_simp [at0 t]) (by blk_simp [at0 t]))
    (el_at (rhs m c) (((cfg0.win 1).blk t).view.emb _) (by blk_simp [at1 t]) (by blk_simp [at1 t]))

theorem arr (i : S8320x1024.Idx) : (dats m 0 c).arrAt 2 cfg0.N i = nn 1024 (lhs m c) (rhs m c) (i 0).val (i 1).val := by
  refine congrFun ((dats m 0 c).arrAt_eq_of_covers 2 (fun i : S8320x1024.Idx => nn 1024 (lhs m c) (rhs m c) (i 0).val (i 1).val) (by decide +kernel) fun t hf y => ?_) i
  have e0 : ((((cfg0.win 2).blk t).view.emb y) 0).val = t.val * 1664 + (y 0).val := by blk_simp [at2 t]
  have e1 : ((((cfg0.win 2).blk t).view.emb y) 1).val = (y 1).val := by blk_simp [at2 t]
  refine (congrFun (Value.flushed2 m c t) y).trans ((point m c t y).trans ?_)
  show _ = nn 1024 (lhs m c) (rhs m c) ((((cfg0.win 2).blk t).view.emb y) 0).val ((((cfg0.win 2).blk t).view.emb y) 1).val
  rw [e0, e1]

end Cert.OutFwdIdeal.Prod

namespace Cert.Proof

open Idealize.ShloMosaic Idealize.ShloMosaic.TcCoe Idealize.SL.Sem Cert.Prod

/-- The kernel's product and the reference's are one sum. -/
theorem algebraic_out : Cert.algebraic_OutFwdIdeal_OutFwdRefIdeal := by
  intro m g m' g' _ he
  refine ⟨_, Cert.OutFwdIdeal.Value.run_blocks m g, ?_⟩
  refine (θ_run Cert.OutFwdRefIdeal.defs _ _).mono (fun r h c => ?_) (Cert.OutFwdRefIdeal.Value.run (F := Ideal) m' g')
  obtain ⟨e0, e1⟩ := he c
  refine ⟨(h c).1.trans (funext fun i => ?_), (h c).2⟩
  rw [e0, e1, Cert.OutFwdRefIdeal.Read.val_main_v2_eq, Cert.OutFwdIdeal.Prod.arr]
  refine (Cert.OutFwdRefIdeal.Read.val_main_v2_apply _ _ _).trans (Finset.sum_congr rfl fun k _ => ?_)
  exact congrArg₂ (· * ·) (el_at (Cert.OutFwdIdeal.Prod.lhs m c) _ rfl rfl) (el_at (Cert.OutFwdIdeal.Prod.rhs m c) _ rfl rfl)

end Cert.Proof

end
-- ==== Proof.References.lean ====
/-
  The references of the products run to their end and leave their arguments as they were.
-/
module

public import proofs.«01_k».proof.Defs
public import proofs.«01_k».proof.Proof.Gen.DownDxRefIdeal
public import proofs.«01_k».proof.Proof.Gen.DownDxRefIdeal.Run
public import proofs.«01_k».proof.Proof.Gen.DownDwRefIdeal
public import proofs.«01_k».proof.Proof.Gen.DownDwRefIdeal.Run
public import proofs.«01_k».proof.Proof.Gen.UpDxRefIdeal
public import proofs.«01_k».proof.Proof.Gen.UpDxRefIdeal.Run
public import proofs.«01_k».proof.Proof.Gen.UpDwRefIdeal
public import proofs.«01_k».proof.Proof.Gen.UpDwRefIdeal.Run
public import proofs.«01_k».proof.Proof.Gen.InDxRefIdeal
public import proofs.«01_k».proof.Proof.Gen.InDxRefIdeal.Run
public import proofs.«01_k».proof.Proof.Gen.InDwRefIdeal
public import proofs.«01_k».proof.Proof.Gen.InDwRefIdeal.Run
public import proofs.«01_k».proof.Proof.Gen.OutDxRefIdeal
public import proofs.«01_k».proof.Proof.Gen.OutDxRefIdeal.Run
public import proofs.«01_k».proof.Proof.Gen.OutDwRefIdeal
public import proofs.«01_k».proof.Proof.Gen.OutDwRefIdeal.Run
public import proofs.«01_k».proof.Proof.Gen.UpFwdRefIdeal
public import proofs.«01_k».proof.Proof.Gen.UpFwdRefIdeal.Run
public import proofs.«01_k».proof.Proof.Gen.DownFwdRefIdeal
public import proofs.«01_k».proof.Proof.Gen.DownFwdRefIdeal.Run
public import proofs.«01_k».proof.Proof.Gen.InFwdRefIdeal
public import proofs.«01_k».proof.Proof.Gen.InFwdRefIdeal.Run
public import proofs.«01_k».proof.Proof.Gen.OutFwdRefIdeal
public import proofs.«01_k».proof.Proof.Gen.OutFwdRefIdeal.Run
public import Idealize.ShloMosaic.Lib.Quiescent
public import Idealize.ShloMosaic.Adequacy
public import Idealize.ShloMosaic.Init

@[expose] public section

noncomputable section

open Idealize.ShloMosaic Idealize.SL.Sem

namespace Cert.Proof

theorem frame_down_dx_reference : Cert.quiescent_DownDxRefIdeal := fun m ρ _ =>
  (θ_run Cert.DownDxRefIdeal.defs _ _).mono (fun r h => ⟨fun c => (h c).2, sem_eq_zero_of_no_sems (by decide) r.2⟩) (Cert.DownDxRefIdeal.Value.run (F := Ideal) m ρ)

theorem frame_down_dw_reference : Cert.quiescent_DownDwRefIdeal := fun m ρ _ =>
  (θ_run Cert.DownDwRefIdeal.defs _ _).mono (fun r h => ⟨fun c => (h c).2, sem_eq_zero_of_no_sems (by decide) r.2⟩) (Cert.DownDwRefIdeal.Value.run (F := Ideal) m ρ)

theorem frame_up_dx_reference : Cert.quiescent_UpDxRefIdeal := fun m ρ _ =>
  (θ_run Cert.UpDxRefIdeal.defs _ _).mono (fun r h => ⟨fun c => (h c).2, sem_eq_zero_of_no_sems (by decide) r.2⟩) (Cert.UpDxRefIdeal.Value.run (F := Ideal) m ρ)

theorem frame_up_dw_reference : Cert.quiescent_UpDwRefIdeal := fun m ρ _ =>
  (θ_run Cert.UpDwRefIdeal.defs _ _).mono (fun r h => ⟨fun c => (h c).2, sem_eq_zero_of_no_sems (by decide) r.2⟩) (Cert.UpDwRefIdeal.Value.run (F := Ideal) m ρ)

theorem frame_in_dx_reference : Cert.quiescent_InDxRefIdeal := fun m ρ _ =>
  (θ_run Cert.InDxRefIdeal.defs _ _).mono (fun r h => ⟨fun c => (h c).2, sem_eq_zero_of_no_sems (by decide) r.2⟩) (Cert.InDxRefIdeal.Value.run (F := Ideal) m ρ)

theorem frame_in_dw_reference : Cert.quiescent_InDwRefIdeal := fun m ρ _ =>
  (θ_run Cert.InDwRefIdeal.defs _ _).mono (fun r h => ⟨fun c => (h c).2, sem_eq_zero_of_no_sems (by decide) r.2⟩) (Cert.InDwRefIdeal.Value.run (F := Ideal) m ρ)

theorem frame_out_dx_reference : Cert.quiescent_OutDxRefIdeal := fun m ρ _ =>
  (θ_run Cert.OutDxRefIdeal.defs _ _).mono (fun r h => ⟨fun c => (h c).2, sem_eq_zero_of_no_sems (by decide) r.2⟩) (Cert.OutDxRefIdeal.Value.run (F := Ideal) m ρ)

theorem frame_out_dw_reference : Cert.quiescent_OutDwRefIdeal := fun m ρ _ =>
  (θ_run Cert.OutDwRefIdeal.defs _ _).mono (fun r h => ⟨fun c => (h c).2, sem_eq_zero_of_no_sems (by decide) r.2⟩) (Cert.OutDwRefIdeal.Value.run (F := Ideal) m ρ)

theorem frame_up_reference : Cert.quiescent_UpFwdRefIdeal := fun m ρ _ =>
  (θ_run Cert.UpFwdRefIdeal.defs _ _).mono (fun r h => ⟨fun c => (h c).2, sem_eq_zero_of_no_sems (by decide) r.2⟩) (Cert.UpFwdRefIdeal.Value.run (F := Ideal) m ρ)

theorem frame_down_reference : Cert.quiescent_DownFwdRefIdeal := fun m ρ _ =>
  (θ_run Cert.DownFwdRefIdeal.defs _ _).mono (fun r h => ⟨fun c => (h c).2, sem_eq_zero_of_no_sems (by decide) r.2⟩) (Cert.DownFwdRefIdeal.Value.run (F := Ideal) m ρ)

theorem frame_in_reference : Cert.quiescent_InFwdRefIdeal := fun m ρ _ =>
  (θ_run Cert.InFwdRefIdeal.defs _ _).mono (fun r h => ⟨fun c => (h c).2, sem_eq_zero_of_no_sems (by decide) r.2⟩) (Cert.InFwdRefIdeal.Value.run (F := Ideal) m ρ)

theorem frame_out_reference : Cert.quiescent_OutFwdRefIdeal := fun m ρ _ =>
  (θ_run Cert.OutFwdRefIdeal.defs _ _).mono (fun r h => ⟨fun c => (h c).2, sem_eq_zero_of_no_sems (by decide) r.2⟩) (Cert.OutFwdRefIdeal.Value.run (F := Ideal) m ρ)

end Cert.Proof

end
-- ==== Proof.lean ====
/- The claims of this certificate joined: every frame, the preservations, and the exact-real equalities. The
   frames of the attention's backward pass are one run (Proof/Run.lean; Proof/Same.lean), those of its forward pass another (Proof/FwdRun.lean; Proof/FwdSame.lean), taken at the machine's bits and at the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.Reference.Run
public import proofs.«01_k».proof.Proof.Gen.Reference
public import proofs.«01_k».proof.Proof.Same
public import proofs.«01_k».proof.Proof.Gen.Pre_finite
public import proofs.«01_k».proof.Proof.Algebraic
public import proofs.«01_k».proof.Proof.Gen.Fwd
public import proofs.«01_k».proof.Proof.Gen.FwdIdeal
public import proofs.«01_k».proof.Proof.Gen.FwdRefIdeal
public import proofs.«01_k».proof.Proof.Gen.FwdRefIdeal.Read
public import proofs.«01_k».proof.Proof.Gen.Pre_finite_fwd
public import proofs.«01_k».proof.Proof.FwdSame
public import proofs.«01_k».proof.Proof.FwdAlgebraic
public import proofs.«01_k».proof.Proof.Gen.DownDx
public import proofs.«01_k».proof.Proof.Gen.DownDx.Frame
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Read
public import proofs.«01_k».proof.Proof.DownDx
public import proofs.«01_k».proof.Proof.Gen.DownDw
public import proofs.«01_k».proof.Proof.Gen.DownDw.Frame
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Read
public import proofs.«01_k».proof.Proof.DownDw
public import proofs.«01_k».proof.Proof.Gen.UpDx
public import proofs.«01_k».proof.Proof.Gen.UpDx.Frame
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Read
public import proofs.«01_k».proof.Proof.UpDx
public import proofs.«01_k».proof.Proof.Gen.UpDw
public import proofs.«01_k».proof.Proof.Gen.UpDw.Frame
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Read
public import proofs.«01_k».proof.Proof.UpDw
public import proofs.«01_k».proof.Proof.Gen.InDx
public import proofs.«01_k».proof.Proof.Gen.InDx.Frame
public import proofs.«01_k».proof.Proof.Gen.InDxIdeal
public import proofs.«01_k».proof.Proof.Gen.InDxIdeal.Value
public import proofs.«01_k».proof.Proof.Gen.InDxRefIdeal
public import proofs.«01_k».proof.Proof.Gen.InDxRefIdeal.Read
public import proofs.«01_k».proof.Proof.InDx
public import proofs.«01_k».proof.Proof.Gen.InDw
public import proofs.«01_k».proof.Proof.Gen.InDw.Frame
public import proofs.«01_k».proof.Proof.Gen.InDwIdeal
public import proofs.«01_k».proof.Proof.Gen.InDwIdeal.Value
public import proofs.«01_k».proof.Proof.Gen.InDwRefIdeal
public import proofs.«01_k».proof.Proof.Gen.InDwRefIdeal.Read
public import proofs.«01_k».proof.Proof.InDw
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Read
public import proofs.«01_k».proof.Proof.OutDx
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Read
public import proofs.«01_k».proof.Proof.OutDw
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Value
public import proofs.«01_k».proof.Proof.Gen.UpFwdRefIdeal
public import proofs.«01_k».proof.Proof.Gen.UpFwdRefIdeal.Read
public import proofs.«01_k».proof.Proof.UpFwd
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Value
public import proofs.«01_k».proof.Proof.Gen.DownFwdRefIdeal
public import proofs.«01_k».proof.Proof.Gen.DownFwdRefIdeal.Read
public import proofs.«01_k».proof.Proof.DownFwd
public import proofs.«01_k».proof.Proof.Gen.InFwd
public import proofs.«01_k».proof.Proof.Gen.InFwd.Frame
public import proofs.«01_k».proof.Proof.Gen.InFwdIdeal
public import proofs.«01_k».proof.Proof.Gen.InFwdIdeal.Value
public import proofs.«01_k».proof.Proof.Gen.InFwdRefIdeal
public import proofs.«01_k».proof.Proof.Gen.InFwdRefIdeal.Read
public import proofs.«01_k».proof.Proof.InFwd
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Value
public import proofs.«01_k».proof.Proof.Gen.OutFwdRefIdeal
public import proofs.«01_k».proof.Proof.Gen.OutFwdRefIdeal.Read
public import proofs.«01_k».proof.Proof.OutFwd
public import proofs.«01_k».proof.Proof.References
public import Idealize.ShloMosaic.Adequacy
public import Idealize.ShloMosaic.Init

@[expose] public section

noncomputable section

open Idealize.ShloMosaic Idealize.SL.Sem

namespace Cert.Proof

/-- The kernel at the extended reals. -/
theorem frame_ideal : Cert.quiescent_KernelIdeal := fun m ρ _ => Cert.KernelIdeal.Hand.quiescent (F := Ideal) m ρ

/-- The reference at the extended reals: no operation writes an argument and it declares no counter. -/
theorem frame_reference_ideal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference at the machine's floats, likewise. -/
theorem frame_reference : Cert.quiescent_Reference := fun m ρ _ =>
  (θ_run Cert.Reference.defs _ _).mono (fun r h => ⟨fun c => (h c).2.2.2.2, sem_eq_zero_of_no_sems (by decide) r.2⟩)
    (Cert.Reference.Value.run (F := Bits) m ρ)

/-- The kernel's frame where the arguments are finite. -/
theorem frame_ideal_finite : Cert.quiescent_KernelIdeal_pre_finite := fun m ρ _ => Cert.KernelIdeal.Hand.quiescent (F := Ideal) m ρ

/-- The reference's frame where the arguments are finite. -/
theorem frame_reference_finite : Cert.quiescent_ReferenceIdeal_pre_finite := fun m ρ _ => frame_reference_ideal m ρ trivial

theorem claim : Cert.Claim :=
  ⟨Cert.Kernel.Gen.facts, Cert.KernelIdeal.Gen.facts, Cert.ReferenceIdeal.Gen.facts, Cert.Reference.Gen.facts,
   Cert.Fwd.Gen.facts, Cert.FwdIdeal.Gen.facts, Cert.FwdRefIdeal.Gen.facts,
   Cert.DownDx.Gen.facts, Cert.DownDxIdeal.Gen.facts, Cert.DownDxRefIdeal.Gen.facts,
   Cert.DownDw.Gen.facts, Cert.DownDwIdeal.Gen.facts, Cert.DownDwRefIdeal.Gen.facts,
   Cert.UpDx.Gen.facts, Cert.UpDxIdeal.Gen.facts, Cert.UpDxRefIdeal.Gen.facts,
   Cert.UpDw.Gen.facts, Cert.UpDwIdeal.Gen.facts, Cert.UpDwRefIdeal.Gen.facts,
   Cert.InDx.Gen.facts, Cert.InDxIdeal.Gen.facts, Cert.InDxRefIdeal.Gen.facts,
   Cert.InDw.Gen.facts, Cert.InDwIdeal.Gen.facts, Cert.InDwRefIdeal.Gen.facts,
   Cert.OutDx.Gen.facts, Cert.OutDxIdeal.Gen.facts, Cert.OutDxRefIdeal.Gen.facts,
   Cert.OutDw.Gen.facts, Cert.OutDwIdeal.Gen.facts, Cert.OutDwRefIdeal.Gen.facts,
   Cert.UpFwd.Gen.facts, Cert.UpFwdIdeal.Gen.facts, Cert.UpFwdRefIdeal.Gen.facts,
   Cert.DownFwd.Gen.facts, Cert.DownFwdIdeal.Gen.facts, Cert.DownFwdRefIdeal.Gen.facts,
   Cert.InFwd.Gen.facts, Cert.InFwdIdeal.Gen.facts, Cert.InFwdRefIdeal.Gen.facts,
   Cert.OutFwd.Gen.facts, Cert.OutFwdIdeal.Gen.facts, Cert.OutFwdRefIdeal.Gen.facts,
   Cert.Pre_finite.Gen.facts, Cert.Pre_finite_fwd.Gen.facts,
   frame_kernel, frame_ideal, frame_ideal_finite, frame_reference_ideal, frame_reference_finite, frame_reference,
   frame_fwd, frame_fwd_ideal, frame_fwd_ideal_finite, frame_fwd_reference, frame_fwd_reference_finite,
   fun m ρ _ => Cert.DownDx.Gen.frame m ρ, fun m ρ _ => Cert.DownDxIdeal.Gen.frame m ρ, frame_down_dx_reference,
   fun m ρ _ => Cert.DownDw.Gen.frame m ρ, fun m ρ _ => Cert.DownDwIdeal.Gen.frame m ρ, frame_down_dw_reference,
   fun m ρ _ => Cert.UpDx.Gen.frame m ρ, fun m ρ _ => Cert.UpDxIdeal.Gen.frame m ρ, frame_up_dx_reference,
   fun m ρ _ => Cert.UpDw.Gen.frame m ρ, fun m ρ _ => Cert.UpDwIdeal.Gen.frame m ρ, frame_up_dw_reference,
   fun m ρ _ => Cert.InDx.Gen.frame m ρ, fun m ρ _ => Cert.InDxIdeal.Gen.frame m ρ, frame_in_dx_reference,
   fun m ρ _ => Cert.InDw.Gen.frame m ρ, fun m ρ _ => Cert.InDwIdeal.Gen.frame m ρ, frame_in_dw_reference,
   fun m ρ _ => Cert.OutDx.Gen.frame m ρ, fun m ρ _ => Cert.OutDxIdeal.Gen.frame m ρ, frame_out_dx_reference,
   fun m ρ _ => Cert.OutDw.Gen.frame m ρ, fun m ρ _ => Cert.OutDwIdeal.Gen.frame m ρ, frame_out_dw_reference,
   fun m ρ _ => Cert.UpFwd.Gen.frame m ρ, fun m ρ _ => Cert.UpFwdIdeal.Gen.frame m ρ, frame_up_reference,
   fun m ρ _ => Cert.DownFwd.Gen.frame m ρ, fun m ρ _ => Cert.DownFwdIdeal.Gen.frame m ρ, frame_down_reference,
   fun m ρ _ => Cert.InFwd.Gen.frame m ρ, fun m ρ _ => Cert.InFwdIdeal.Gen.frame m ρ, frame_in_reference,
   fun m ρ _ => Cert.OutFwd.Gen.frame m ρ, fun m ρ _ => Cert.OutFwdIdeal.Gen.frame m ρ, frame_out_reference,
   trivial, trivial, Cert.Proof.algebraic,
   trivial, algebraic_fwd,
   trivial, algebraic_down_dx,
   trivial, algebraic_down_dw,
   trivial, algebraic_up_dx,
   trivial, algebraic_up_dw,
   trivial, algebraic_in_dx,
   trivial, algebraic_in_dw,
   trivial, algebraic_out_dx,
   trivial, algebraic_out_dw,
   trivial, algebraic_up,
   trivial, algebraic_down,
   trivial, algebraic_in,
   trivial, algebraic_out⟩

end Cert.Proof

end
